-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gradients [hPre_finite_gradients : Cert.Pre_finite_gradients.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gradients.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite_gradients.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite_gradients.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite_gradients.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite_gradients.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite_gradients.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite_gradients.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gradients [hPre_finite_gradients : Cert.Pre_finite_gradients.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gradients.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite_gradients.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite_gradients.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite_gradients.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite_gradients.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite_gradients.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite_gradients.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_gradients [hKernel2Ideal : Cert.Kernel2Ideal.Facts] [hPre_finite_gradients : Cert.Pre_finite_gradients.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gradients m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_gradients [hReference2Ideal : Cert.Reference2Ideal.Facts] [hPre_finite_gradients : Cert.Pre_finite_gradients.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gradients m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_gradients [hKernel2Ideal : Cert.Kernel2Ideal.Facts] [hReference2Ideal : Cert.Reference2Ideal.Facts] [hPre_finite_gradients : Cert.Pre_finite_gradients.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gradients m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_v82) = v2 c
          ∧ r.2.mem ((c.tc : Thread Cert.Reference2Ideal.nD Cert.Reference2Ideal.τ).loc Cert.Reference2Ideal.main_v83) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v2_1)) (v2 : (c : Dev Cert.Kernel19Ideal.nD) → Buf (Elt Ideal) ((c.tc : Thread Cert.Kernel19Ideal.nD Cert.Kernel19Ideal.τ).loc Cert.Kernel19Ideal.main_v2_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v2_1) = v1 c
          ∧ r.2.mem ((c.tc : Thread Cert.Kernel19Ideal.nD Cert.Kernel19Ideal.τ).loc Cert.Kernel19Ideal.main_v2_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_v29) = v1 c
          ∧ r.2.mem ((c.tc : Thread Cert.Reference19Ideal.nD Cert.Reference19Ideal.τ).loc Cert.Reference19Ideal.main_v30) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)) (v3 : (c : Dev Cert.Kernel20Ideal.nD) → Buf (Elt Ideal) ((c.tc : Thread Cert.Kernel20Ideal.nD Cert.Kernel20Ideal.τ).loc Cert.Kernel20Ideal.main_v3_3)) (v4 : (c : Dev Cert.Kernel20Ideal.nD) → Buf (Elt Ideal) ((c.tc : Thread Cert.Kernel20Ideal.nD Cert.Kernel20Ideal.τ).loc Cert.Kernel20Ideal.main_v3_4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_v3_3) = v3 c
          ∧ r.2.mem ((c.tc : Thread Cert.Kernel20Ideal.nD Cert.Kernel20Ideal.τ).loc Cert.Kernel20Ideal.main_v3_4) = v4 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v21) = v0 c
          ∧ r.2.mem ((c.tc : Thread Cert.Reference20Ideal.nD Cert.Reference20Ideal.τ).loc Cert.Reference20Ideal.main_v45) = v1 c
          ∧ r.2.mem ((c.tc : Thread Cert.Reference20Ideal.nD Cert.Reference20Ideal.τ).loc Cert.Reference20Ideal.main_v46) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_v13) = v4 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite_gradients : Cert.Pre_finite_gradients.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_gradients (hKernel2Ideal := hKernel2Ideal) (hPre_finite_gradients := hPre_finite_gradients)
    ∧ quiescent_Reference2Ideal (hReference2Ideal := hReference2Ideal)
    ∧ quiescent_Reference2Ideal_pre_finite_gradients (hReference2Ideal := hReference2Ideal) (hPre_finite_gradients := hPre_finite_gradients)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_gradients (hKernel2Ideal := hKernel2Ideal) (hReference2Ideal := hReference2Ideal) (hPre_finite_gradients := hPre_finite_gradients)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite_gradients.lean ====
abbrev S4096x1024 : Shape := ⟨2, ![4096, 1024]⟩
abbrev S4096x2816 : Shape := ⟨2, ![4096, 2816]⟩
abbrev S1024x1024 : Shape := ⟨2, ![1024, 1024]⟩
abbrev S1024x5632 : Shape := ⟨2, ![1024, 5632]⟩
abbrev S1024 : Shape := ⟨1, ![1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S1024x1024 : S_.BroadcastsInDim S1024x1024 (![] : Fin 0 → Fin S1024x1024.rank)
  bcast_S_S1024x5632 : S_.BroadcastsInDim S1024x5632 (![] : Fin 0 → Fin S1024x5632.rank)
  bcast_S_S1024 : S_.BroadcastsInDim S1024 (![] : Fin 0 → Fin S1024.rank)

variable [Facts]

def fn_part1 {F : FTy → Type} [FloatOps F] (main_arg5 : FVec F S1024x5632 .bf16) (main_arg7 : FVec F S1024 .f32) (main_v3 : IVec S4096x1024 1) (main_v7 : IVec S4096x2816 1) (main_v11 : IVec S4096x2816 1) (main_v14 : IVec S4096x1024 1) (main_v18 : IVec S1024x1024 1) : IVec S4096x1024 1 × IVec S4096x2816 1 × IVec S4096x2816 1 × IVec S4096x1024 1 × IVec S1024x1024 1 × IVec S1024x5632 1 × IVec S1024 1 :=
  let main_v19 : FVec F S1024x5632 .f32 := (extf .f32 · bitsLt_bf16_f32) main_arg5
  let main_v20 : FVec F S1024x5632 .f32 := Host.absf main_v19
  let main_cst_4 : FVec F S_ .f32 := constant S_ .f32 0x7F800000#32
  let main_v21 : FVec F S1024x5632 .f32 := broadcastInDim S1024x5632 ![] bcast_S_S1024x5632 main_cst_4
  let main_v22 : IVec S1024x5632 1 := cmpf .olt main_v20 main_v21
  let main_v23 : FVec F S1024 .f32 := Host.absf main_arg7
  let main_cst_5 : FVec F S_ .f32 := constant S_ .f32 0x7F800000#32
  let main_v24 : FVec F S1024 .f32 := broadcastInDim S1024 ![] bcast_S_S1024 main_cst_5
  let main_v25 : IVec S1024 1 := cmpf .olt main_v23 main_v24
  (main_v3, main_v7, main_v11, main_v14, main_v18, main_v22, main_v25)

def fn {F : FTy → Type} [FloatOps F] (main_arg0 : FVec F S4096x1024 .bf16) (main_arg1 : FVec F S4096x2816 .bf16) (main_arg2 : FVec F S4096x2816 .bf16) (main_arg3 : FVec F S4096x1024 .f32) (main_arg4 : FVec F S1024x1024 .bf16) (main_arg5 : FVec F S1024x5632 .bf16) (main_arg6 : FVec F S4096x1024 .f32) (main_arg7 : FVec F S1024 .f32) : IVec S4096x1024 1 × IVec S4096x2816 1 × IVec S4096x2816 1 × IVec S4096x1024 1 × IVec S1024x1024 1 × IVec S1024x5632 1 × IVec S1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_v8 : FVec F S4096x2816 .f32 := (extf .f32 · bitsLt_bf16_f32) main_arg2
  let main_v9 : FVec F S4096x2816 .f32 := Host.absf main_v8
  let main_cst_1 : FVec F S_ .f32 := constant S_ .f32 0x7F800000#32
  let main_v10 : FVec F S4096x2816 .f32 := broadcastInDim S4096x2816 ![] bcast_S_S4096x2816 main_cst_1
  let main_v11 : IVec S4096x2816 1 := cmpf .olt main_v9 main_v10
  let main_v12 : FVec F S4096x1024 .f32 := Host.absf main_arg3
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_v15 : FVec F S1024x1024 .f32 := (extf .f32 · bitsLt_bf16_f32) main_arg4
  let main_v16 : FVec F S1024x1024 .f32 := Host.absf main_v15
  let main_cst_3 : FVec F S_ .f32 := constant S_ .f32 0x7F800000#32
  let main_v17 : FVec F S1024x1024 .f32 := broadcastInDim S1024x1024 ![] bcast_S_S1024x1024 main_cst_3
  let main_v18 : IVec S1024x1024 1 := cmpf .olt main_v16 main_v17
  fn_part1 (F := F) main_arg5 main_arg7 main_v3 main_v7 main_v11 main_v14 main_v18
-- ==== Kernel.lean ====
abbrev S4096x3072 : Shape := ⟨2, ![4096, 3072]⟩
abbrev S16x513 : Shape := ⟨2, ![16, 513]⟩
abbrev S4096x1024 : Shape := ⟨2, ![4096, 1024]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S1x256x768 : Shape := ⟨3, ![1, 256, 768]⟩
abbrev S256x768x1 : Shape := ⟨3, ![256, 768, 1]⟩
abbrev S16x256x768 : Shape := ⟨3, ![16, 256, 768]⟩
abbrev S256x256 : Shape := ⟨2, ![256, 256]⟩
abbrev S4096x256 : Shape := ⟨2, ![4096, 256]⟩
abbrev S4x256x768 : Shape := ⟨3, ![4, 256, 768]⟩
abbrev S4608x256 : Shape := ⟨2, ![4608, 256]⟩
abbrev S512x256 : Shape := ⟨2, ![512, 256]⟩
abbrev S768x256 : Shape := ⟨2, ![768, 256]⟩
abbrev S1x256 : Shape := ⟨2, ![1, 256]⟩
abbrev S32x768 : Shape := ⟨2, ![32, 768]⟩
abbrev S1x32x768 : Shape := ⟨3, ![1, 32, 768]⟩
abbrev S32 : Shape := ⟨1, ![32]⟩
abbrev S32x1 : Shape := ⟨2, ![32, 1]⟩

abbrev nBuf : Space → Nat
  | .hbm => 99
  | .vmem => 24
  | .smem => 0
  | _ => 0

abbrev bufTy : (tb : Table) → Fin (tcTables nBuf tb) → BufTy
  | .hbm, ⟨0, _⟩ => ⟨S4096x3072, .bf16⟩
  | .hbm, ⟨1, _⟩ => ⟨S16x513, .f32⟩
  | .hbm, ⟨2, _⟩ => ⟨S4096x1024, .bf16⟩
  | .hbm, ⟨3, _⟩ => ⟨S256, .i32⟩
  | .hbm, ⟨4, _⟩ => ⟨S256x1, .i32⟩
  | .hbm, ⟨5, _⟩ => ⟨S768, .i32⟩
  | .hbm, ⟨6, _⟩ => ⟨S1x768, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x768, .i32⟩
  | .hbm, ⟨11, _⟩ => ⟨S256x768, .i32⟩
  | .hbm, ⟨12, _⟩ => ⟨S256x768, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S256x768, .i32⟩
  | .hbm, ⟨17, _⟩ => ⟨S256x768, .i32⟩
  | .hbm, ⟨18, _⟩ => ⟨S_, .i32⟩
  | .hbm, ⟨19, _⟩ => ⟨S256x768, .i32⟩
  | .hbm, ⟨20, _⟩ => ⟨S256x768, .i32⟩
  | .hbm, ⟨21, _⟩ => ⟨S_, .i32⟩
  | .hbm, ⟨22, _⟩ => ⟨S256x768, .i32⟩
  | .hbm, ⟨23, _⟩ => ⟨S256x768, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S256x1, .i32⟩
  | .hbm, ⟨31, _⟩ => ⟨S256x1, .i32⟩
  | .hbm, ⟨32, _⟩ => ⟨S_, .i32⟩
  | .hbm, ⟨33, _⟩ => ⟨S256x1, .i32⟩
  | .hbm, ⟨34, _⟩ => ⟨S256x1, .i1⟩
  | .hbm, ⟨35, _⟩ => ⟨S_, .i32⟩
  | .hbm, ⟨36, _⟩ => ⟨S256x1, .i32⟩
  | .hbm, ⟨37, _⟩ => ⟨S256x1, .i1⟩
  | .hbm, ⟨38, _⟩ => ⟨S_, .i32⟩
  | .hbm, ⟨39, _⟩ => ⟨S_, .i1⟩
  | .hbm, ⟨40, _⟩ => ⟨S256x1, .i1⟩
  | .hbm, ⟨41, _⟩ => ⟨S256x1, .i1⟩
  | .hbm, ⟨42, _⟩ => ⟨S256x1, .i1⟩
  | .hbm, ⟨43, _⟩ => ⟨S256x1, .i32⟩
  | .hbm, ⟨44, _⟩ => ⟨S256x1, .i32⟩
  | .hbm, ⟨45, _⟩ => ⟨S256x1, .i32⟩
  | .hbm, ⟨46, _⟩ => ⟨S256x1, .i32⟩
  | .hbm, ⟨47, _⟩ => ⟨S256x768, .i32⟩
  | .hbm, ⟨48, _⟩ => ⟨S256x768, .i32⟩
  | .hbm, ⟨49, _⟩ => ⟨S256x768, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S256x1, .i32⟩
  | .hbm, ⟨57, _⟩ => ⟨S256x1, .i32⟩
  | .hbm, ⟨58, _⟩ => ⟨S_, .i32⟩
  | .hbm, ⟨59, _⟩ => ⟨S256x1, .i32⟩
  | .hbm, ⟨60, _⟩ => ⟨S256x1, .i1⟩
  | .hbm, ⟨61, _⟩ => ⟨S_, .i32⟩
  | .hbm, ⟨62, _⟩ => ⟨S256x1, .i32⟩
  | .hbm, ⟨63, _⟩ => ⟨S256x1, .i1⟩
  | .hbm, ⟨64, _⟩ => ⟨S_, .i32⟩
  | .hbm, ⟨65, _⟩ => ⟨S_, .i1⟩
  | .hbm, ⟨66, _⟩ => ⟨S256x1, .i1⟩
  | .hbm, ⟨67, _⟩ => ⟨S256x1, .i1⟩
  | .hbm, ⟨68, _⟩ => ⟨S256x1, .i1⟩
  | .hbm, ⟨69, _⟩ => ⟨S256x1, .i32⟩
  | .hbm, ⟨70, _⟩ => ⟨S256x1, .i32⟩
  | .hbm, ⟨71, _⟩ => ⟨S256x1, .i32⟩
  | .hbm, ⟨72, _⟩ => ⟨S256x1, .i32⟩
  | .hbm, ⟨73, _⟩ => ⟨S_, .i32⟩
  | .hbm, ⟨74, _⟩ => ⟨S256x1, .i32⟩
  | .hbm, ⟨75, _⟩ => ⟨S256x1, .i32⟩
  | .hbm, ⟨76, _⟩ => ⟨S256x768, .i32⟩
  | .hbm, ⟨77, _⟩ => ⟨S256x768, .i32⟩
  | .hbm, ⟨78, _⟩ => ⟨S256x768, .i1⟩
  | .hbm, ⟨79, _⟩ => ⟨S256x768, .i1⟩
  | .hbm, ⟨80, _⟩ => ⟨S1x256x768, .i1⟩
  | .hbm, ⟨81, _⟩ => ⟨S_, .i32⟩
  | .hbm, ⟨82, _⟩ => ⟨S256x768, .i32⟩
  | .hbm, ⟨83, _⟩ => ⟨S256x768, .i1⟩
  | .hbm, ⟨84, _⟩ => ⟨S_, .i32⟩
  | .hbm, ⟨85, _⟩ => ⟨S256x768, .i32⟩
  | .hbm, ⟨86, _⟩ => ⟨S256x768, .i32⟩
  | .hbm, ⟨87, _⟩ => ⟨S256x768, .i32⟩
  | .hbm, ⟨88, _⟩ => ⟨S256x768x1, .i32⟩
  | .hbm, ⟨89, _⟩ => ⟨S16x256x768, .f32⟩
  | .hbm, ⟨90, _⟩ => ⟨S_, .f32⟩
  | .hbm, ⟨91, _⟩ => ⟨S_, .f32⟩
  | .hbm, ⟨92, _⟩ => ⟨S16x256x768, .i1⟩
  | .hbm, ⟨93, _⟩ => ⟨S16x256x768, .f32⟩
  | .hbm, ⟨94, _⟩ => ⟨S16x256x768, .f32⟩
  | .hbm, ⟨95, _⟩ => ⟨S4096x1024, .bf16⟩
  | .hbm, ⟨96, _⟩ => ⟨S4096x1024, .bf16⟩
  | .hbm, ⟨97, _⟩ => ⟨S4096x1024, .bf16⟩
  | .hbm, ⟨98, _⟩ => ⟨S16x256x768, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4x256x768, .f32⟩
  | .local _ .vmem, ⟨7, _⟩ => ⟨S4x256x768, .f32⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4x256x768, .f32⟩
  | .local _ .vmem, ⟨17, _⟩ => ⟨S4x256x768, .f32⟩
  | .local _ .vmem, ⟨18, _⟩ => ⟨S4608x256, .bf16⟩
  | .local _ .vmem, ⟨19, _⟩ => ⟨S4608x256, .bf16⟩
  | .local _ .vmem, ⟨20, _⟩ => ⟨S4608x256, .f32⟩
  | .local _ .vmem, ⟨21, _⟩ => ⟨S4608x256, .f32⟩
  | .local _ .vmem, ⟨22, _⟩ => ⟨S4x256x768, .bf16⟩
  | .local _ .vmem, ⟨23, _⟩ => ⟨S4x256x768, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_4 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v17 : Ref sig .tc := ⟨.hbm, 71, rfl⟩
abbrev main_v18 : Ref sig .tc := ⟨.hbm, 72, rfl⟩
abbrev main_c_5 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_c_6 : Ref sig .tc := ⟨.hbm, 81, rfl⟩
abbrev main_v26 : Ref sig .tc := ⟨.hbm, 82, rfl⟩
abbrev main_v27 : Ref sig .tc := ⟨.hbm, 83, rfl⟩
abbrev main_c_7 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_cst : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v33 : Ref sig .tc := ⟨.hbm, 94, rfl⟩
abbrev main_v34_0 : Ref sig .tc := ⟨.hbm, 95, rfl⟩
abbrev main_v34_1 : Ref sig .tc := ⟨.hbm, 96, rfl⟩
abbrev main_v34_2 : Ref sig .tc := ⟨.hbm, 97, rfl⟩
abbrev main_v34_3 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v6 : BitVec 32 := Scalar.muli arg1 c256_i32
  v6
def k0_off1 (i : grid0.Coords) : Fin 2 → Nat :=
  let arg1 : BitVec 32 := BitVec.ofNat 32 (i 1).val
  let c256_i32 : BitVec 32 := 256#32
  let v6 : BitVec 32 := Scalar.muli arg1 c256_i32
  let v7 : BitVec 32 := v6
  let v8 : Index := Scalar.indexCast v7
  let c0 : Index := 0#32
  ![v8.toNat, 0]
def k0_cond3 (i : grid0.Coords) : BitVec 1 :=
  let arg1 : BitVec 32 := BitVec.ofNat 32 (i 1).val
  let c15_i32 : BitVec 32 := 15#32
  let v1654 : BitVec 1 := Scalar.cmpi .eq arg1 c15_i32
  let v1655 : BitVec 32 := Scalar.extui v1654
  let c0_i32_789 : BitVec 32 := 0#32
  let v1656 : BitVec 1 := Scalar.cmpi .ne v1655 c0_i32_789
  v1656

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x3072 : Shape := ⟨2, ![4096, 3072]⟩
abbrev S16x513 : Shape := ⟨2, ![16, 513]⟩
abbrev S4096x1024 : Shape := ⟨2, ![4096, 1024]⟩
abbrev S4096x16x64 : Shape := ⟨3, ![4096, 16, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S16x4096x4096 : Shape := ⟨3, ![16, 4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x4096x64 : Shape := ⟨3, ![16, 4096, 64]⟩

abbrev nBuf : Space → Nat
  | .hbm => 197
  | .vmem => 0
  | .smem => 0
  | _ => 0

abbrev hbmTy0_0 (i : Nat) : BufTy := match i % 128 with
  | 0 => ⟨S4096x3072, .bf16⟩
  | 1 => ⟨S16x513, .f32⟩
  | 2 => ⟨S4096x1024, .bf16⟩
  | 3 => ⟨S4096x3072, .f32⟩
  | 4 => ⟨S4096x1024, .f32⟩
  | 5 => ⟨S4096x1024, .f32⟩
  | 6 => ⟨S4096x1024, .f32⟩
  | 7 => ⟨S4096x16x64, .f32⟩
  | 8 => ⟨S4096x16x64, .f32⟩
  | 9 => ⟨S4096x16x64, .f32⟩
  | 10 => ⟨S4096, .i32⟩
  | 11 => ⟨S4096x1, .i32⟩
  | 12 => ⟨S4096, .i32⟩
  | 13 => ⟨S1x4096, .i32⟩
  | 14 => ⟨S4096x4096, .i32⟩
  | 15 => ⟨S4096x4096, .i32⟩
  | 16 => ⟨S4096x4096, .i32⟩
  | 17 => ⟨S_, .i32⟩
  | 18 => ⟨S_, .i32⟩
  | 19 => ⟨S_, .i32⟩
  | 20 => ⟨S4096x4096, .i32⟩
  | 21 => ⟨S4096x4096, .i32⟩
  | 22 => ⟨S_, .i32⟩
  | 23 => ⟨S4096x4096, .i32⟩
  | 24 => ⟨S4096x4096, .i32⟩
  | 25 => ⟨S_, .i32⟩
  | 26 => ⟨S4096x4096, .i32⟩
  | 27 => ⟨S4096x4096, .i32⟩
  | 28 => ⟨S_, .i32⟩
  | 29 => ⟨S4096x4096, .i32⟩
  | 30 => ⟨S4096x4096, .i1⟩
  | 31 => ⟨S_, .i32⟩
  | 32 => ⟨S4096x4096, .i32⟩
  | 33 => ⟨S4096x4096, .i32⟩
  | 34 => ⟨S4096x4096, .i32⟩
  | 35 => ⟨S4096x4096x1, .i32⟩
  | 36 => ⟨S16x4096x4096, .f32⟩
  | 37 => ⟨S_, .i32⟩
  | 38 => ⟨S_, .i32⟩
  | 39 => ⟨S1x4096, .i32⟩
  | 40 => ⟨S1x4096, .i32⟩
  | 41 => ⟨S1x4096, .i32⟩
  | 42 => ⟨S_, .i32⟩
  | 43 => ⟨S1x4096, .i32⟩
  | 44 => ⟨S1x4096, .i1⟩
  | 45 => ⟨S1x4096, .i32⟩
  | 46 => ⟨S1x4096, .i32⟩
  | 47 => ⟨S_, .i32⟩
  | 48 => ⟨S1x4096, .i32⟩
  | 49 => ⟨S1x4096, .i1⟩
  | 50 => ⟨S1x4096, .i1⟩
  | 51 => ⟨S_, .i32⟩
  | 52 => ⟨S1x4096, .i32⟩
  | 53 => ⟨S1x4096, .i32⟩
  | 54 => ⟨S1x4096, .i32⟩
  | 55 => ⟨S_, .i32⟩
  | 56 => ⟨S_, .i32⟩
  | 57 => ⟨S4096x1, .i32⟩
  | 58 => ⟨S4096x1, .i32⟩
  | 59 => ⟨S4096x1, .i32⟩
  | 60 => ⟨S_, .i32⟩
  | 61 => ⟨S4096x1, .i32⟩
  | 62 => ⟨S4096x1, .i1⟩
  | 63 => ⟨S4096x1, .i32⟩
  | 64 => ⟨S4096x1, .i32⟩
  | 65 => ⟨S_, .i32⟩
  | 66 => ⟨S4096x1, .i32⟩
  | 67 => ⟨S4096x1, .i1⟩
  | 68 => ⟨S4096x1, .i1⟩
  | 69 => ⟨S_, .i32⟩
  | 70 => ⟨S4096x1, .i32⟩
  | 71 => ⟨S4096x1, .i32⟩
  | 72 => ⟨S4096x1, .i32⟩
  | 73 => ⟨S4096x4096, .i32⟩
  | 74 => ⟨S4096x4096, .i32⟩
  | 75 => ⟨S4096x4096, .i1⟩
  | 76 => ⟨S_, .i32⟩
  | 77 => ⟨S_, .i32⟩
  | 78 => ⟨S1x4096, .i32⟩
  | 79 => ⟨S1x4096, .i32⟩
  | 80 => ⟨S1x4096, .i32⟩
  | 81 => ⟨S_, .i32⟩
  | 82 => ⟨S1x4096, .i32⟩
  | 83 => ⟨S1x4096, .i1⟩
  | 84 => ⟨S1x4096, .i32⟩
  | 85 => ⟨S1x4096, .i32⟩
  | 86 => ⟨S_, .i32⟩
  | 87 => ⟨S1x4096, .i32⟩
  | 88 => ⟨S1x4096, .i1⟩
  | 89 => ⟨S1x4096, .i1⟩
  | 90 => ⟨S_, .i32⟩
  | 91 => ⟨S1x4096, .i32⟩
  | 92 => ⟨S1x4096, .i32⟩
  | 93 => ⟨S1x4096, .i32⟩
  | 94 => ⟨S_, .i32⟩
  | 95 => ⟨S1x4096, .i32⟩
  | 96 => ⟨S1x4096, .i32⟩
  | 97 => ⟨S_, .i32⟩
  | 98 => ⟨S_, .i32⟩
  | 99 => ⟨S4096x1, .i32⟩
  | 100 => ⟨S4096x1, .i32⟩
  | 101 => ⟨S4096x1, .i32⟩
  | 102 => ⟨S_, .i32⟩
  | 103 => ⟨S4096x1, .i32⟩
  | 104 => ⟨S4096x1, .i1⟩
  | 105 => ⟨S4096x1, .i32⟩
  | 106 => ⟨S4096x1, .i32⟩
  | 107 => ⟨S_, .i32⟩
  | 108 => ⟨S4096x1, .i32⟩
  | 109 => ⟨S4096x1, .i1⟩
  | 110 => ⟨S4096x1, .i1⟩
  | 111 => ⟨S_, .i32⟩
  | 112 => ⟨S4096x1, .i32⟩
  | 113 => ⟨S4096x1, .i32⟩
  | 114 => ⟨S4096x1, .i32⟩
  | 115 => ⟨S4096x4096, .i32⟩
  | 116 => ⟨S4096x4096, .i32⟩
  | 117 => ⟨S4096x4096, .i1⟩
  | 118 => ⟨S4096x4096, .i1⟩
  | 119 => ⟨S16x4096x4096, .f32⟩
  | 120 => ⟨S_, .f32⟩
  | 121 => ⟨S16x4096x4096, .f32⟩
  | 122 => ⟨S16x4096x4096, .f32⟩
  | 123 => ⟨S16x4096x4096, .f32⟩
  | 124 => ⟨S1x4096x4096, .i1⟩
  | 125 => ⟨S_, .f32⟩
  | 126 => ⟨S_, .f32⟩
  | 127 => ⟨S16x4096x4096, .i1⟩
  | _ => ⟨S4096x3072, .bf16⟩

abbrev hbmTy0_1 (i : Nat) : BufTy := match i % 128 with
  | 0 => ⟨S16x4096x4096, .f32⟩
  | 1 => ⟨S16x4096x4096, .f32⟩
  | 2 => ⟨S_, .f32⟩
  | 3 => ⟨S16x4096x4096, .f32⟩
  | 4 => ⟨S_, .f32⟩
  | 5 => ⟨S16x4096, .f32⟩
  | 6 => ⟨S16x4096x1, .f32⟩
  | 7 => ⟨S16x4096x4096, .f32⟩
  | 8 => ⟨S16x4096x4096, .i1⟩
  | 9 => ⟨S16x4096x4096, .f32⟩
  | 10 => ⟨S_, .f32⟩
  | 11 => ⟨S16x4096, .f32⟩
  | 12 => ⟨S16x4096x1, .f32⟩
  | 13 => ⟨S16x4096x4096, .f32⟩
  | 14 => ⟨S16x4096x4096, .f32⟩
  | 15 => ⟨S16x4096x4096, .f32⟩
  | 16 => ⟨S_, .f32⟩
  | 17 => ⟨S16x4096, .f32⟩
  | 18 => ⟨S16x4096x1, .f32⟩
  | 19 => ⟨S_, .f32⟩
  | 20 => ⟨S16x4096x1, .f32⟩
  | 21 => ⟨S16x4096x1, .f32⟩
  | 22 => ⟨S16x4096x1, .f32⟩
  | 23 => ⟨S_, .f32⟩
  | 24 => ⟨S16x4096x1, .f32⟩
  | 25 => ⟨S16x4096x1, .f32⟩
  | 26 => ⟨S16x4096x4096, .f32⟩
  | 27 => ⟨S16x4096x4096, .f32⟩
  | 28 => ⟨S16x64x4096, .f32⟩
  | 29 => ⟨S4096x16x64, .f32⟩
  | 30 => ⟨S4096x1024, .f32⟩
  | 31 => ⟨S4096x1024, .f32⟩
  | 32 => ⟨S4096x16x64, .f32⟩
  | 33 => ⟨S16x64x4096, .f32⟩
  | 34 => ⟨S16x4096x4096, .f32⟩
  | 35 => ⟨S16x64x4096, .f32⟩
  | 36 => ⟨S4096x16x64, .f32⟩
  | 37 => ⟨S16x4096x4096, .f32⟩
  | 38 => ⟨S_, .f32⟩
  | 39 => ⟨S16x4096, .f32⟩
  | 40 => ⟨S16x4096x1, .f32⟩
  | 41 => ⟨S16x4096x4096, .f32⟩
  | 42 => ⟨S16x4096x4096, .f32⟩
  | 43 => ⟨S16x4096x1, .f32⟩
  | 44 => ⟨S_, .f32⟩
  | 45 => ⟨S16x4096x1, .f32⟩
  | 46 => ⟨S16x4096x1, .f32⟩
  | 47 => ⟨S16x4096x1, .f32⟩
  | 48 => ⟨S_, .f32⟩
  | 49 => ⟨S16x4096, .f32⟩
  | 50 => ⟨S16x4096x4096, .f32⟩
  | 51 => ⟨S16x4096x4096, .f32⟩
  | 52 => ⟨S16x4096x4096, .f32⟩
  | 53 => ⟨S_, .f32⟩
  | 54 => ⟨S16x4096x4096, .f32⟩
  | 55 => ⟨S16x4096x4096, .f32⟩
  | 56 => ⟨S_, .f32⟩
  | 57 => ⟨S16x4096x4096, .f32⟩
  | 58 => ⟨S16x4096x4096, .f32⟩
  | 59 => ⟨S16x4096x64, .f32⟩
  | 60 => ⟨S4096x16x64, .f32⟩
  | 61 => ⟨S16x4096x64, .f32⟩
  | 62 => ⟨S4096x16x64, .f32⟩
  | 63 => ⟨S4096x1024, .f32⟩
  | 64 => ⟨S4096x1024, .f32⟩
  | 65 => ⟨S4096x1024, .f32⟩
  | 66 => ⟨S4096x1024, .bf16⟩
  | 67 => ⟨S4096x1024, .bf16⟩
  | 68 => ⟨S4096x1024, .bf16⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v24 : Ref sig .tc := ⟨.hbm, 54, rfl⟩
abbrev main_c_5 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_c_6 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v29 : Ref sig .tc := ⟨.hbm, 93, rfl⟩
abbrev main_c_7 : Ref sig .tc := ⟨.hbm, 94, rfl⟩
abbrev main_v30 : Ref sig .tc := ⟨.hbm, 95, rfl⟩
abbrev main_v31 : Ref sig .tc := ⟨.hbm, 96, rfl⟩
abbrev main_c_8 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_c : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_0 : Ref sig .tc := ⟨.hbm, 111, rfl⟩
abbrev main_call4_v12 : Ref sig .tc := ⟨.hbm, 112, rfl⟩
abbrev main_call4_v13 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_cst : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_cst_9 : Ref sig .tc := ⟨.hbm, 125, rfl⟩
abbrev main_call5_v0 : Ref sig .tc := ⟨.hbm, 126, rfl⟩
abbrev main_v42_1 : Ref sig .tc := ⟨.hbm, 127, rfl⟩
abbrev main_call5_v2 : Ref sig .tc := ⟨.hbm, 128, rfl⟩
abbrev main_v42_0 : Ref sig .tc := ⟨.hbm, 129, rfl⟩
abbrev main_call5_cst : Ref sig .tc := ⟨.hbm, 130, rfl⟩
abbrev main_v42_2 : Ref sig .tc := ⟨.hbm, 131, rfl⟩
abbrev main_cst_10 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_cst_11 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_cst_12 : Ref sig .tc := ⟨.hbm, 144, rfl⟩
abbrev main_v53 : Ref sig .tc := ⟨.hbm, 145, rfl⟩
abbrev main_v54 : Ref sig .tc := ⟨.hbm, 146, rfl⟩
abbrev main_cst_13 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_cst_14 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_cst_15 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_cst_16 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_cst_17 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_call6_cst : Ref sig .tc := ⟨.hbm, 181, rfl⟩
abbrev main_call6_v0 : Ref sig .tc := ⟨.hbm, 182, rfl⟩
abbrev main_v84 : Ref sig .tc := ⟨.hbm, 183, rfl⟩
abbrev main_cst_18 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩

abbrev nD : Nat := 1
abbrev τ : Topo := Topo.v7x

variable {F : FTy → Type} [FloatOps F]
-- ==== Kernel2.lean ====
abbrev S4096x1024 : Shape := ⟨2, ![4096, 1024]⟩
abbrev S4096x2816 : Shape := ⟨2, ![4096, 2816]⟩
abbrev S1024x1024 : Shape := ⟨2, ![1024, 1024]⟩
abbrev S1024x5632 : Shape := ⟨2, ![1024, 5632]⟩
abbrev S1024 : Shape := ⟨1, ![1024]⟩
abbrev S5632x1024 : Shape := ⟨2, ![5632, 1024]⟩
abbrev S1x1024 : Shape := ⟨2, ![1, 1024]⟩
abbrev S512x1024 : Shape := ⟨2, ![512, 1024]⟩
abbrev S512x2816 : Shape := ⟨2, ![512, 2816]⟩
abbrev S2816x1024 : Shape := ⟨2, ![2816, 1024]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S2x8x1024 : Shape := ⟨3, ![2, 8, 1024]⟩

abbrev nBuf : Space → Nat
  | .hbm => 15
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x1024, .f32⟩
  | .hbm, ⟨4, _⟩ => ⟨S1024x1024, .bf16⟩
  | .hbm, ⟨5, _⟩ => ⟨S1024x5632, .bf16⟩
  | .hbm, ⟨6, _⟩ => ⟨S4096x1024, .f32⟩
  | .hbm, ⟨7, _⟩ => ⟨S1024, .f32⟩
  | .hbm, ⟨8, _⟩ => ⟨S5632x1024, .bf16⟩
  | .hbm, ⟨9, _⟩ => ⟨S5632x1024, .bf16⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x2816, .bf16⟩
  | .local _ .vmem, ⟨7, _⟩ => ⟨S512x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S4096x1024 : Shape := ⟨2, ![4096, 1024]⟩
abbrev S4096x2816 : Shape := ⟨2, ![4096, 2816]⟩
abbrev S1024x1024 : Shape := ⟨2, ![1024, 1024]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x1024, .f32⟩
  | .hbm, ⟨4, _⟩ => ⟨S1024x1024, .bf16⟩
  | .hbm, ⟨5, _⟩ => ⟨S1024x5632, .bf16⟩
  | .hbm, ⟨6, _⟩ => ⟨S4096x1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024x1024, .f32⟩
  | .hbm, ⟨11, _⟩ => ⟨S1024x5632, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x5632, .f32⟩
  | .hbm, ⟨49, _⟩ => ⟨S4096x2816, .f32⟩
  | .hbm, ⟨50, _⟩ => ⟨S4096x2816, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x2816, .f32⟩
  | .hbm, ⟨57, _⟩ => ⟨S4096x2816, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x5632, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x1024, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S4096, .f32⟩
  | .hbm, ⟨108, _⟩ => ⟨S4096x1024, .f32⟩
  | .hbm, ⟨109, _⟩ => ⟨S4096x1024, .f32⟩
  | .hbm, ⟨110, _⟩ => ⟨S4096x1024, .bf16⟩
  | .hbm, ⟨111, _⟩ => ⟨S1x1024, .f32⟩
  | .hbm, ⟨112, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_v67 : Ref sig .tc := ⟨.hbm, 92, rfl⟩
abbrev main_cst_16 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_18 : Ref sig .tc := ⟨.hbm, 103, rfl⟩
abbrev main_v76 : Ref sig .tc := ⟨.hbm, 104, rfl⟩
abbrev main_v77 : Ref sig .tc := ⟨.hbm, 105, rfl⟩
abbrev main_cst_19 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S5632x1024 : Shape := ⟨2, ![5632, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S2816x1024, .bf16⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x5632 : Shape := ⟨2, ![1024, 5632]⟩
abbrev S5632x1024 : Shape := ⟨2, ![5632, 1024]⟩
abbrev S4096x2816 : Shape := ⟨2, ![4096, 2816]⟩
abbrev S512x1024 : Shape := ⟨2, ![512, 1024]⟩
abbrev S2816x1024 : Shape := ⟨2, ![2816, 1024]⟩
abbrev S512x2816 : Shape := ⟨2, ![512, 2816]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S5632x1024, .bf16⟩
  | .hbm, ⟨3, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024x5632 : Shape := ⟨2, ![1024, 5632]⟩
abbrev S5632x1024 : Shape := ⟨2, ![5632, 1024]⟩
abbrev S4096x2816 : Shape := ⟨2, ![4096, 2816]⟩
abbrev S512x1024 : Shape := ⟨2, ![512, 1024]⟩
abbrev S2816x1024 : Shape := ⟨2, ![2816, 1024]⟩
abbrev S512x2816 : Shape := ⟨2, ![512, 2816]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S5632x1024, .bf16⟩
  | .hbm, ⟨3, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1536 : Shape := ⟨2, ![4096, 1536]⟩
abbrev S1024x1536 : Shape := ⟨2, ![1024, 1536]⟩
abbrev S4096x1024 : Shape := ⟨2, ![4096, 1024]⟩
abbrev S1536x1024 : Shape := ⟨2, ![1536, 1024]⟩
abbrev S512x1536 : Shape := ⟨2, ![512, 1536]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1536x1024, .bf16⟩
  | .hbm, ⟨4, _⟩ => ⟨S4096x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x1536 : Shape := ⟨2, ![4096, 1536]⟩
abbrev S1024x1536 : Shape := ⟨2, ![1024, 1536]⟩
abbrev S4096x1024 : Shape := ⟨2, ![4096, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1536, .f32⟩
  | .hbm, ⟨6, _⟩ => ⟨S4096x1536, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1536, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel13.lean ====
abbrev S4096x1536 : Shape := ⟨2, ![4096, 1536]⟩
abbrev S4096x1024 : Shape := ⟨2, ![4096, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1536 : Shape := ⟨2, ![4096, 1536]⟩
abbrev S4096x1024 : Shape := ⟨2, ![4096, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1536x1024, .f32⟩
  | .hbm, ⟨10, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4096x1024 : Shape := ⟨2, ![4096, 1024]⟩
abbrev S4096x3072 : Shape := ⟨2, ![4096, 3072]⟩
abbrev S8x1024x384 : Shape := ⟨3, ![8, 1024, 384]⟩
abbrev S2048x1024 : Shape := ⟨2, ![2048, 1024]⟩
abbrev S2048x768 : Shape := ⟨2, ![2048, 768]⟩
abbrev S2x1024x384 : Shape := ⟨3, ![2, 1024, 384]⟩
abbrev S1024x768 : Shape := ⟨2, ![1024, 768]⟩
abbrev S1024x384 : Shape := ⟨2, ![1024, 384]⟩
abbrev S1x1024x384 : Shape := ⟨3, ![1, 1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S8x1024x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S2x1024x384, .bf16⟩
  | .local _ .vmem, ⟨5, _⟩ => ⟨S2x1024x384, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S1024x8x384, .bf16⟩
  | .hbm, ⟨11, _⟩ => ⟨S8x1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S4096x256 : Shape := ⟨2, ![4096, 256]⟩
abbrev S4096x1024 : Shape := ⟨2, ![4096, 1024]⟩
abbrev S8x256x128 : Shape := ⟨3, ![8, 256, 128]⟩
abbrev S2048x256 : Shape := ⟨2, ![2048, 256]⟩
abbrev S2048x1024 : Shape := ⟨2, ![2048, 1024]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S8x256x128, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S8x256x128, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S256x8x128, .bf16⟩
  | .hbm, ⟨11, _⟩ => ⟨S8x256x128, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel16.lean ====
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S1024x1536 : Shape := ⟨2, ![1024, 1536]⟩
abbrev S1536x1024 : Shape := ⟨2, ![1536, 1024]⟩
abbrev S4096x1536 : Shape := ⟨2, ![4096, 1536]⟩
abbrev S512x1024 : Shape := ⟨2, ![512, 1024]⟩
abbrev S512x1536 : Shape := ⟨2, ![512, 1536]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S1536x1024, .bf16⟩
  | .hbm, ⟨3, _⟩ => ⟨S4096x1536, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S512x1536, .f32⟩
  | .local _ .vmem, ⟨4, _⟩ => ⟨S512x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel20.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S1024x1024 : Shape := ⟨2, ![1024, 1024]⟩
abbrev S4096x256 : Shape := ⟨2, ![4096, 256]⟩
abbrev S256x1024 : Shape := ⟨2, ![256, 1024]⟩
abbrev S1x1024 : Shape := ⟨2, ![1, 1024]⟩
abbrev S512x1024 : Shape := ⟨2, ![512, 1024]⟩
abbrev S512x2816 : Shape := ⟨2, ![512, 2816]⟩
abbrev S512x256 : Shape := ⟨2, ![512, 256]⟩
abbrev S16x1024 : Shape := ⟨2, ![16, 1024]⟩
abbrev S16 : Shape := ⟨1, ![16]⟩
abbrev S16x1 : Shape := ⟨2, ![16, 1]⟩

abbrev nBuf : Space → Nat
  | .hbm => 17
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1024, .f32⟩
  | .hbm, ⟨7, _⟩ => ⟨S4096x256, .bf16⟩
  | .hbm, ⟨8, _⟩ => ⟨S256x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S512x256, .bf16⟩
  | .local _ .vmem, ⟨10, _⟩ => ⟨S512x256, .bf16⟩
  | .local _ .vmem, ⟨11, _⟩ => ⟨S256x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference20Ideal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S1024x1024 : Shape := ⟨2, ![1024, 1024]⟩
abbrev S4096x256 : Shape := ⟨2, ![4096, 256]⟩
abbrev S256x1024 : Shape := ⟨2, ![256, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1024, .f32⟩
  | .hbm, ⟨7, _⟩ => ⟨S4096x256, .bf16⟩
  | .hbm, ⟨8, _⟩ => ⟨S256x1024, .bf16⟩
  | .hbm, ⟨9, _⟩ => ⟨S1024x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x256, .f32⟩
  | .hbm, ⟨23, _⟩ => ⟨S256x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S2816x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel21.lean ====
abbrev S4096x2816 : Shape := ⟨2, ![4096, 2816]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2816 : Shape := ⟨2, ![4096, 2816]⟩
abbrev S4096x1024 : Shape := ⟨2, ![4096, 1024]⟩
abbrev S5632x1024 : Shape := ⟨2, ![5632, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Softmax.lean ====
/-
  The row arithmetic of the attention's gradient over the extended reals: a row of scores, its weights, and the
  gradient of its scores, with a product that distributes because every weight is a finite nonnegative number or
  the whole row vanishes.
-/
module

public import Idealize.ShloMosaic.PureOps.Ideal.Laws
public import Idealize.ShloMosaic.Lib.Pointwise

@[expose] public section

noncomputable section

namespace Cert.Attn

open Idealize.ShloMosaic

/-- A finite nonnegative factor distributes over a sum of any extended reals. -/
theorem mul_sum_of_nonneg {ι : Type*} (s : Finset ι) {c : EReal} (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- The same with the factor on the right. -/
theorem sum_mul_of_nonneg {ι : Type*} (s : Finset ι) {c : EReal} (h0 : 0 ≤ c) (ht : c ≠ ⊤) (f : ι → EReal) :
    (∑ i ∈ s, f i) * c = ∑ i ∈ s, f i * c := by
  rw [mul_comm, mul_sum_of_nonneg s h0 ht]; exact Finset.sum_congr rfl fun i _ => mul_comm _ _

/-- The greatest entry of a row (−∞ for an empty one). -/
def top {ι : Type*} [Fintype ι] (x : ι → EReal) : EReal := Finset.univ.fold max ⊥ x

theorem le_top' {ι : Type*} [Fintype ι] (x : ι → EReal) (t : ι) : x t ≤ top x :=
  (Finset.le_fold_max (x t)).mpr (Or.inr ⟨t, Finset.mem_univ t, le_rfl⟩)

theorem top_le {ι : Type*} [Fintype ι] (x : ι → EReal) (b : EReal) (h : ∀ t, x t ≤ b) : top x ≤ b :=
  (Finset.fold_max_le b).mpr ⟨bot_le, fun t _ => h t⟩

theorem top_attained {ι : Type*} [Fintype ι] (x : ι → EReal) (h : top x ≠ ⊥) : ∃ t, x t = top x := by
  have h2 := (Finset.le_fold_max (s := Finset.univ) (f := x) (b := ⊥) (top x)).mp le_rfl
  rcases h2 with h2 | ⟨t, _, ht⟩
  · exact absurd (le_bot_iff.mp h2) h
  · exact ⟨t, le_antisymm (le_top' x t) ht⟩

/-- An entry's exponential after the row's greatest entry is taken off. -/
def ex {ι : Type*} [Fintype ι] (x : ι → EReal) (t : ι) : EReal := Ideal.exp (x t - top x)

/-- The row's normaliser. -/
def nrm {ι : Type*} [Fintype ι] (x : ι → EReal) : EReal := ∑ t, ex x t

/-- The row's weights. -/
def pr {ι : Type*} [Fintype ι] (x : ι → EReal) (t : ι) : EReal := ex x t * Ideal.div 1 (nrm x)

/-- The gradient of the row's scores, from the gradient `g` of its weights. -/
def ds {ι : Type*} [Fintype ι] (x g : ι → EReal) (t : ι) : EReal := pr x t * (g t - ∑ u, pr x u * g u)

theorem sub_bot_bot : (⊥ : EReal) - ⊥ = ⊥ := by rw [sub_eq_add_neg]; rfl

/-- Where an entry is −∞ its exponential is zero. -/
theorem ex_of_bot {ι : Type*} [Fintype ι] (x : ι → EReal) (t : ι) (h : x t = ⊥) : ex x t = 0 := by
  unfold ex
  rw [h, sub_eq_add_neg, EReal.bot_add]; exact Ideal.exp_bot

/-- A row's exponentials all vanish, or they are finite and nonnegative with a positive finite sum. -/
theorem ex_cases {ι : Type*} [Fintype ι] (x : ι → EReal) :
    (∀ t, ex x t = 0) ∨ ∃ (e : ι → ℝ) (z : ℝ), (∀ t, ex x t = (e t : EReal)) ∧ (∀ t, 0 ≤ e t) ∧ 0 < z ∧ nrm x = (z : EReal) := by
  by_cases hb : top x = ⊥
  · exact Or.inl fun t => ex_of_bot x t (le_bot_iff.mp (hb ▸ le_top' x t))
  by_cases ht : top x = ⊤
  · refine Or.inl fun t => ?_
    unfold ex
    rw [ht, sub_eq_add_neg, EReal.neg_top, EReal.add_bot]; exact Ideal.exp_bot
  · obtain ⟨m, hm⟩ : ∃ m : ℝ, top x = (m : EReal) := ⟨(top x).toReal, (EReal.coe_toReal ht hb).symm⟩
    have he : ∀ t, ∃ e : ℝ, ex x t = (e : EReal) ∧ 0 ≤ e := by
      intro t
      by_cases h : x t = ⊥
      · exact ⟨0, by rw [ex_of_bot x t h]; rfl, le_rfl⟩
      · have h' : x t ≠ ⊤ := fun h' => by
          have := le_top' x t; rw [h', hm] at this; exact absurd (top_le_iff.mp this) (EReal.coe_ne_top m)
        obtain ⟨y, hy⟩ : ∃ y : ℝ, x t = (y : EReal) := ⟨(x t).toReal, (EReal.coe_toReal h' h).symm⟩
        exact ⟨Real.exp (y - m), by unfold ex; rw [hy, hm, ← EReal.coe_sub]; exact Ideal.exp_coe _, (Real.exp_pos _).le⟩
    choose e he he0 using he
    refine Or.inr ⟨e, ∑ t, e t, he, he0, ?_, ?_⟩
    · obtain ⟨t, htt⟩ := top_attained x hb
      have h1 : ex x t = ((1 : ℝ) : EReal) := by
        unfold ex; rw [htt, hm, ← EReal.coe_sub, sub_self]; rw [Ideal.exp_coe, Real.exp_zero]
      rw [he t] at h1
      have h1 : e t = 1 := by exact_mod_cast h1
      calc (0 : ℝ) < e t := by rw [h1]; exact one_pos
        _ ≤ _ := Finset.single_le_sum (fun i _ => he0 i) (Finset.mem_univ t)
    · unfold nrm
      rw [Finset.sum_congr rfl fun t _ => he t]
      exact (map_sum (⟨⟨fun r : ℝ => (r : EReal), rfl⟩, EReal.coe_add⟩ : ℝ →+ EReal) e Finset.univ).symm

theorem ex_nonneg {ι : Type*} [Fintype ι] (x : ι → EReal) (t : ι) : 0 ≤ ex x t := by
  rcases ex_cases x with h | ⟨e, z, he, h0, _⟩
  · rw [h]
  · rw [he]; exact_mod_cast h0 t

theorem pr_of_bot {ι : Type*} [Fintype ι] (x : ι → EReal) (t : ι) (h : x t = ⊥) : pr x t = 0 := by
  unfold pr; rw [ex_of_bot x t h, zero_mul]

theorem ds_of_bot {ι : Type*} [Fintype ι] (x g : ι → EReal) (t : ι) (h : x t = ⊥) : ds x g t = 0 := by
  unfold ds; rw [pr_of_bot x t h, zero_mul]

/-- The gradient as the chain rule writes it, weight by normaliser, is `ds`. -/
theorem ds_eq {ι : Type*} [Fintype ι] (x g : ι → EReal) (t : ι) :
    (g t * Ideal.div 1 (nrm x) + -((∑ u, ex x u * g u) * Ideal.div 1 (nrm x * nrm x))) * ex x t = ds x g t := by
  rcases ex_cases x with h | ⟨e, z, he, h0, hz, hn⟩
  · unfold ds pr; rw [h t]; simp
  · have hzz : z * z ≠ 0 := (mul_pos hz hz).ne'
    have d1 : Ideal.div 1 (nrm x) = ((1 / z : ℝ) : EReal) := by rw [hn, Ideal.div_coe hz.ne', one_mul]
    have d2 : Ideal.div 1 (nrm x * nrm x) = ((1 / z : ℝ) : EReal) * ((1 / z : ℝ) : EReal) := by
      rw [hn, ← EReal.coe_mul, Ideal.div_coe hzz, one_mul, ← EReal.coe_mul]; congr 1; field_simp
    unfold ds pr
    rw [d1, d2]
    set c : EReal := ((1 / z : ℝ) : EReal) with hc
    have c0 : 0 ≤ c := by rw [hc]; exact_mod_cast (by positivity : (0 : ℝ) ≤ 1 / z)
    have ct : c ≠ ⊤ := EReal.coe_ne_top _
    have hs : (∑ u, ex x u * c * g u) = c * ∑ u, ex x u * g u := by
      rw [mul_sum_of_nonneg _ c0 ct]
      exact Finset.sum_congr rfl fun u _ => by rw [mul_comm (ex x u) c, mul_assoc]
    have e0 : 0 ≤ ex x t := ex_nonneg x t
    have et : ex x t ≠ ⊤ := by rw [he]; exact EReal.coe_ne_top _
    have ec0 : 0 ≤ ex x t * c := mul_nonneg e0 c0
    have ect : ex x t * c ≠ ⊤ := by rw [he, hc, ← EReal.coe_mul]; exact EReal.coe_ne_top _
    rw [hs, sub_eq_add_neg, EReal.left_distrib_of_nonneg_of_ne_top ec0 ect, mul_comm _ (ex x t),
      EReal.left_distrib_of_nonneg_of_ne_top e0 et]
    congr 1
    · rw [mul_comm (g t) c, mul_assoc]
    · rw [mul_neg, mul_neg, mul_comm _ (c * c), mul_assoc c c, ← mul_assoc]

/-! ## A row read through a window

A row indexed by all its columns, and the same row read through a window of `a` columns from `o` on, both laid out in
one line of `b + p` places whose first `p` are padding. -/

section Window

variable {a b o p : ℕ}

/-- A sum over the window is the sum over all columns when nothing outside the window counts. -/
theorem sum_window {M : Type*} [AddCommMonoid M] (hab : o + a ≤ b + p) (F : ℕ → M)
    (hF : ∀ q, ¬(p ≤ q ∧ o ≤ q ∧ q < o + a) → F q = 0) : ∑ k : Fin a, F (o + k) = ∑ t : Fin b, F (t + p) := by
  rw [Fin.sum_univ_eq_sum_range (fun k => F (o + k)) a, Fin.sum_univ_eq_sum_range (fun t => F (t + p)) b]
  have h1 : ∑ k ∈ Finset.range a, F (o + k) = ∑ q ∈ Finset.Ico o (o + a), F q := by
    rw [Finset.sum_Ico_eq_sum_range]; simp
  have h2 : ∑ t ∈ Finset.range b, F (t + p) = ∑ q ∈ Finset.Ico p (p + b), F q := by
    rw [Finset.sum_Ico_eq_sum_range]; simp [add_comm]
  have h3 : ∑ q ∈ Finset.Ico o (o + a), F q = ∑ q ∈ Finset.range (b + p), F q :=
    Finset.sum_subset (fun q hq => by simp only [Finset.mem_Ico, Finset.mem_range] at *; omega)
      fun q _ hq => hF q fun h => hq (by simp only [Finset.mem_Ico]; omega)
  have h4 : ∑ q ∈ Finset.Ico p (p + b), F q = ∑ q ∈ Finset.range (b + p), F q :=
    Finset.sum_subset (fun q hq => by simp only [Finset.mem_Ico, Finset.mem_range] at *; omega)
      fun q hq' hq => hF q fun h => hq (by simp only [Finset.mem_Ico, Finset.mem_range] at *; omega)
  rw [h1, h2, h3, h4]

variable {X : ℕ → EReal} (hab : o + a ≤ b + p) (hX : ∀ q, ¬(p ≤ q ∧ o ≤ q ∧ q < o + a) → X q = ⊥)
include hab hX

theorem top_window : top (fun k : Fin a => X (o + k)) = top (fun t : Fin b => X (t + p)) := by
  refine le_antisymm (top_le _ _ fun k => ?_) (top_le _ _ fun t => ?_)
  · by_cases h : p ≤ o + k.val
    · have := le_top' (fun t : Fin b => X (t + p)) ⟨o + k.val - p, by have := k.isLt; omega⟩
      simpa only [Nat.sub_add_cancel h] using this
    · rw [hX _ (by omega)]; exact bot_le
  · by_cases h : o ≤ t.val + p ∧ t.val + p < o + a
    · have := le_top' (fun k : Fin a => X (o + k)) ⟨t.val + p - o, by omega⟩
      simpa only [Nat.add_sub_cancel' h.1] using this
    · rw [hX _ (by omega)]; exact bot_le

theorem ex_window {k : Fin a} {t : Fin b} (h : o + k.val = t.val + p) :
    ex (fun k : Fin a => X (o + k)) k = ex (fun t : Fin b => X (t + p)) t := by
  unfold ex; rw [top_window hab hX]; beta_reduce; rw [h]

theorem nrm_window : nrm (fun k : Fin a => X (o + k)) = nrm (fun t : Fin b => X (t + p)) := by
  unfold nrm ex
  rw [top_window hab hX]
  refine sum_window hab (fun q => Ideal.exp (X q - top fun t : Fin b => X (t + p))) fun q hq => ?_
  rw [hX q hq, sub_eq_add_neg, EReal.bot_add]; exact Ideal.exp_bot

theorem pr_window {k : Fin a} {t : Fin b} (h : o + k.val = t.val + p) :
    pr (fun k : Fin a => X (o + k)) k = pr (fun t : Fin b => X (t + p)) t := by
  unfold pr; rw [ex_window hab hX h, nrm_window hab hX]

theorem ds_window {G : ℕ → EReal} {k : Fin a} {t : Fin b} (h : o + k.val = t.val + p) :
    ds (fun k : Fin a => X (o + k)) (fun k => G (o + k)) k = ds (fun t : Fin b => X (t + p)) (fun t => G (t + p)) t := by
  unfold ds
  rw [pr_window hab hX h]; beta_reduce; rw [h]
  congr 2
  unfold pr ex
  rw [nrm_window hab hX, top_window hab hX]
  refine sum_window hab (fun q => Ideal.exp (X q - top fun t : Fin b => X (t + p)) * _ * G q) fun q hq => ?_
  rw [hX q hq, sub_eq_add_neg, EReal.bot_add, Ideal.exp_bot, zero_mul, zero_mul]

end Window

end Cert.Attn

end
-- ==== Proof.Model.lean ====
/-
  The gradient of the chunked attention, written over the entries of its arguments: which keys a query sees, a row of
  scores, and the gradients of the queries, the keys and the values as sums over all rows of the sequence.
-/
module

public import proofs.«01_k».proof.Proof.Softmax
public import Idealize.ShloMosaic.Lib.ValueIdx

@[expose] public section

noncomputable section

namespace Cert.Attn

open Idealize.ShloMosaic

/-- An entry of a matrix at natural coordinates, zero outside it. -/
def at2 {R C : ℕ} (A : (⟨2, ![R, C]⟩ : Shape).Idx → EReal) (r c : ℕ) : EReal :=
  if h : r < R ∧ c < C then A (ValueIdx.ix2 ⟨r, h.1⟩ ⟨c, h.2⟩) else 0

theorem at2_of {R C : ℕ} (A : (⟨2, ![R, C]⟩ : Shape).Idx → EReal) (i : (⟨2, ![R, C]⟩ : Shape).Idx) (r c : ℕ)
    (hr : (i 0).val = r) (hc : (i 1).val = c) : A i = at2 A r c := by
  have h : r < R ∧ c < C := ⟨hr ▸ (i 0).isLt, hc ▸ (i 1).isLt⟩
  unfold at2
  rw [dif_pos h]
  congr 1
  funext a
  match a with
  | ⟨0, _⟩ => exact Fin.ext hr
  | ⟨1, _⟩ => exact Fin.ext hc

/-- The attention's arguments: queries, keys, values, the output's gradient (row, column), and the relative bias
    (head, distance). -/
structure Inp where
  Q : ℕ → ℕ → EReal
  K : ℕ → ℕ → EReal
  V : ℕ → ℕ → EReal
  G : ℕ → ℕ → EReal
  B : ℕ → ℕ → EReal

/-- The arguments as the programs take them: one matrix of queries, keys and values side by side. -/
def inp (x0 : (⟨2, ![4096, 3072]⟩ : Shape).Idx → EReal) (x1 : (⟨2, ![16, 513]⟩ : Shape).Idx → EReal)
    (x2 : (⟨2, ![4096, 1024]⟩ : Shape).Idx → EReal) : Inp where
  Q r c := at2 x0 r c
  K r c := at2 x0 r (1024 + c)
  V r c := at2 x0 r (2048 + c)
  G r c := at2 x2 r c
  B r c := at2 x1 r c

/-- A query sees its own chunk of 64 and the eight before it. -/
abbrev Seen (s t : ℕ) : Prop := t / 64 ≤ s / 64 ∧ s / 64 ≤ t / 64 + 8

/-- The place of a clipped distance in the bias table. -/
def rel (s t : ℕ) : ℕ := if t + 256 ≤ s then 512 else if s + 256 ≤ t then 0 else s + 256 - t

/-- The scores' scale. -/
def eighth : EReal := ((1 / 8 : ℝ) : EReal)

theorem eighth_nonneg : 0 ≤ eighth := by unfold eighth; exact_mod_cast (by norm_num : (0 : ℝ) ≤ 1 / 8)
theorem eighth_ne_top : eighth ≠ ⊤ := EReal.coe_ne_top _
theorem ofBits_eighth_f32 : Ideal.ofBits .f32 0x3E000000#32 = eighth := by
  unfold eighth
  simp [Ideal.ofBits, Ideal.ieee]
  rw [← EReal.coe_mul]; norm_num
theorem ofBits_eighth_bf16 : Ideal.ofBits .bf16 0x3E00#16 = eighth := by
  unfold eighth
  simp [Ideal.ofBits, Ideal.ieee]
  rw [← EReal.coe_mul]; norm_num

/-- A head's product of two rows. -/
def dot64 (A B : ℕ → ℕ → EReal) (h s t : ℕ) : EReal := ∑ d : Fin 64, A s (64 * h + d) * B t (64 * h + d)

namespace Inp
variable (I : Inp)

/-- A score, −∞ where the key is not seen. -/
def score (h s t : ℕ) : EReal :=
  if Seen s t then dot64 I.Q I.K h s t * eighth + I.B h (rel s t) else ⊥

/-- A weight. -/
def P (h s : ℕ) (t : Fin 4096) : EReal := pr (fun t : Fin 4096 => I.score h s t) t

/-- The gradient of a score. -/
def DS (h s : ℕ) (t : Fin 4096) : EReal :=
  ds (fun t : Fin 4096 => I.score h s t) (fun t : Fin 4096 => dot64 I.G I.V h s t) t

/-- The gradient of the queries. -/
def dq (s c : ℕ) : EReal := ∑ t : Fin 4096, I.DS (c / 64) s t * eighth * I.K t c

/-- The gradient of the keys. -/
def dk (t : Fin 4096) (c : ℕ) : EReal := ∑ s : Fin 4096, I.DS (c / 64) s t * eighth * I.Q s c

/-- The gradient of the values. -/
def dv (t : Fin 4096) (c : ℕ) : EReal := ∑ s : Fin 4096, I.G s c * I.P (c / 64) s t

end Inp

end Cert.Attn

end
-- ==== Proof.Gather.lean ====
/-
  A gather of columns: a matrix of `H` rows read at an array of column numbers, every row at once.
-/
module

public import Idealize.ShloMosaic.Lib.ValueIdx

@[expose] public section

noncomputable section

namespace Cert.Attn

open Idealize.ShloMosaic

variable {α : Type}

/-- The dimension numbers of `x[:, idx]` for `x : [H, N]` and `idx : [R, C]`. -/
abbrev colDims (H N R C : Nat)
    (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- The place of a result element's column number. -/
abbrev colIdx {H R C : Nat} (y : (⟨3, ![H, R, C]⟩ : Shape).Idx) : (⟨3, ![R, C, 1]⟩ : Shape).Idx :=
  fun a => match a with
    | ⟨0, _⟩ => ⟨(y 1).val, (y 1).isLt⟩
    | ⟨1, _⟩ => ⟨(y 2).val, (y 2).isLt⟩
    | ⟨2, _⟩ => ⟨0, Nat.one_pos⟩

theorem gather_col_apply {H N R C w : Nat} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (y : (⟨3, ![H, R, C]⟩ : Shape).Idx) :
    Host.gather (colDims H N R C wf) x idx y
      = x (ValueIdx.ix2 ⟨(y 0).val, (y 0).isLt⟩ ⟨min (idx (colIdx y)).toInt.toNat (N - 1), by omega⟩) := by
  unfold Host.gather
  congr 1
  funext a
  refine Fin.ext ?_
  show (colDims H N R C wf).start y idx a + (colDims H N R C wf).batchCoord y a + (colDims H N R C wf).offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (show ¬(0 : Fin 2) ∈ (colDims H N R C wf).startIndexMap by simp)]
    simp only [Nat.zero_add, Nat.add_zero]
    unfold GatherDims.offCoord
    rw [dif_pos ((GatherDims.mem_sKept _ _).mpr ⟨by simp, by simp⟩)]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims H N R C wf).startIndexMap from List.mem_singleton.mpr rfl)]
    have hsi : (colDims H N R C wf).siIdx y ⟨List.idxOf (1 : Fin 2) (colDims H N R C wf).startIndexMap,
        List.idxOf_lt_length_iff.2 (List.mem_singleton.mpr rfl)⟩ = colIdx y := by
      funext b; refine Fin.ext ?_
      match b with
      | ⟨0, _⟩ => rfl
      | ⟨1, _⟩ => rfl
      | ⟨2, _⟩ => rfl
    rw [hsi]
    rfl

end Cert.Attn

end
-- ==== Proof.RefMask.lean ====
/-
  The reference's scores at an index: its mask, its gathered bias and its scaled products.
-/
module

public import proofs.«01_k».proof.Proof.Model
public import proofs.«01_k».proof.Proof.Gather
public import proofs.«01_k».proof.Proof.Gen.ReferenceIdeal.Read
public import Idealize.ShloMosaic.Lib.Pointwise

@[expose] public section

noncomputable section

namespace Cert.ReferenceIdeal.Attn

open Cert.ReferenceIdeal Cert.ReferenceIdeal.Gen Cert.ReferenceIdeal.Read Idealize.ShloMosaic
open Cert.Attn

/-! ## The mask and the distance words -/

/-- The printed sign. -/
def sgn (x : BitVec 32) : BitVec 32 := if x = 0 then 0 else if x.msb = true then -1 else 1

/-- The printed quotient by 64, rounded down. -/
def fdiv (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

set_option maxRecDepth 16384 in
theorem fdiv_word : ∀ s : Fin 4096, fdiv (BitVec.ofNat 32 s.val) = BitVec.ofNat 32 (s.val / 64) := by decide +kernel

set_option maxRecDepth 16384 in
theorem seen_word : ∀ a b : Fin 64, IntOp.andi (IntOp.cmpi .sle (BitVec.ofNat 32 b.val) (BitVec.ofNat 32 a.val))
    (IntOp.cmpi .sge (IntOp.addi (BitVec.ofNat 32 b.val) 8#32) (BitVec.ofNat 32 a.val))
    = if b.val ≤ a.val ∧ a.val ≤ b.val + 8 then 1#1 else 0#1 := by decide +kernel

/-- The printed clipped distance. -/
def clipw (x : BitVec 32) : BitVec 32 :=
  let y := IntOp.addi (IntOp.minsi 256#32 (IntOp.maxsi 4294967040#32 x)) 256#32
  Scalar.select (IntOp.cmpi .slt y 0#32) (IntOp.addi y 513#32) y

set_option maxRecDepth 16384 in
theorem clipw_pos : ∀ d : Fin 4096, min (clipw (BitVec.ofNat 32 d.val)).toInt.toNat 512 = if 256 ≤ d.val then 512 else d.val + 256 := by
  decide +kernel

set_option maxRecDepth 16384 in
theorem clipw_neg : ∀ d : Fin 4096, min (clipw (0#32 - BitVec.ofNat 32 d.val)).toInt.toNat 512 = if 256 ≤ d.val then 0 else 256 - d.val := by
  decide +kernel

theorem clipw_sub (s t : ℕ) (hs : s < 4096) (ht : t < 4096) :
    min (clipw (IntOp.subi (BitVec.ofNat 32 s) (BitVec.ofNat 32 t))).toInt.toNat 512 = rel s t := by
  unfold rel
  by_cases h : t ≤ s
  · have e : IntOp.subi (BitVec.ofNat 32 s) (BitVec.ofNat 32 t) = BitVec.ofNat 32 (s - t) := by
      show BitVec.ofNat 32 s - BitVec.ofNat 32 t = _
      apply BitVec.eq_of_toNat_eq
      simp only [BitVec.toNat_sub, BitVec.toNat_ofNat]
      omega
    rw [e, clipw_pos ⟨s - t, by omega⟩]
    dsimp only
    split_ifs <;> omega
  · have e : IntOp.subi (BitVec.ofNat 32 s) (BitVec.ofNat 32 t) = 0#32 - BitVec.ofNat 32 (t - s) := by
      show BitVec.ofNat 32 s - BitVec.ofNat 32 t = _
      apply BitVec.eq_of_toNat_eq
      simp only [BitVec.toNat_sub, BitVec.toNat_ofNat]
      omega
    rw [e, clipw_neg ⟨t - s, by omega⟩]
    dsimp only
    split_ifs <;> omega

theorem v24_word (i : S1x4096.Idx) : val_main_v24 (F := Ideal) i = BitVec.ofNat 32 ((i 1).val / 64) := by
  rw [← fdiv_word ⟨(i 1).val, (i 1).isLt⟩]
  simp only [val_main_v24_apply, val_main_call1_v0_apply, val_main_call1_v1_apply, val_main_call1_v2_apply, val_main_call1_v3, signi_apply, val_main_call1_v4, val_main_call1_v5_apply, val_main_call1_v6_apply, val_main_call1_v7_apply, val_main_call1_v8_apply, val_main_call1_c_apply, val_main_call1_v9_apply, val_main_call1_v10_apply, val_main_call1_v11_apply, val_main_call1_c_0_apply, val_main_call1_v12_apply, val_main_call1_v13_apply, val_main_c_4_apply, val_main_v10_apply, val_main_v9_apply]
  rfl

theorem v25_word (i : S4096x1.Idx) : val_main_v25 (F := Ideal) i = BitVec.ofNat 32 ((i 0).val / 64) := by
  rw [← fdiv_word ⟨(i 0).val, (i 0).isLt⟩]
  simp only [val_main_v25_apply, val_main_call2_v0_apply, val_main_call2_v1_apply, val_main_call2_v2_apply, val_main_call2_v3, signi_apply, val_main_call2_v4, val_main_call2_v5_apply, val_main_call2_v6_apply, val_main_call2_v7_apply, val_main_call2_v8_apply, val_main_call2_c_apply, val_main_call2_v9_apply, val_main_call2_v10_apply, val_main_call2_v11_apply, val_main_call2_c_0_apply, val_main_call2_v12_apply, val_main_call2_v13_apply, val_main_c_5_apply, val_main_v8_apply, val_main_v7_apply]
  rfl

theorem v29_word (i : S1x4096.Idx) : val_main_v29 (F := Ideal) i = BitVec.ofNat 32 ((i 1).val / 64) := by
  rw [← fdiv_word ⟨(i 1).val, (i 1).isLt⟩]
  simp only [val_main_v29_apply, val_main_call3_v0_apply, val_main_call3_v1_apply, val_main_call3_v2_apply, val_main_call3_v3, signi_apply, val_main_call3_v4, val_main_call3_v5_apply, val_main_call3_v6_apply, val_main_call3_v7_apply, val_main_call3_v8_apply, val_main_call3_c_apply, val_main_call3_v9_apply, val_main_call3_v10_apply, val_main_call3_v11_apply, val_main_call3_c_0_apply, val_main_call3_v12_apply, val_main_call3_v13_apply, val_main_c_6_apply, val_main_v10_apply, val_main_v9_apply]
  rfl

theorem v32_word (i : S4096x1.Idx) : val_main_v32 (F := Ideal) i = BitVec.ofNat 32 ((i 0).val / 64) := by
  rw [← fdiv_word ⟨(i 0).val, (i 0).isLt⟩]
  simp only [val_main_v32_apply, val_main_call4_v0_apply, val_main_call4_v1_apply, val_main_call4_v2_apply, val_main_call4_v3, signi_apply, val_main_call4_v4, val_main_call4_v5_apply, val_main_call4_v6_apply, val_main_call4_v7_apply, val_main_call4_v8_apply, val_main_call4_c_apply, val_main_call4_v9_apply, val_main_call4_v10_apply, val_main_call4_v11_apply, val_main_call4_c_0_apply, val_main_call4_v12_apply, val_main_call4_v13_apply, val_main_c_8_apply, val_main_v8_apply, val_main_v7_apply]
  rfl

theorem v36_word (i : S4096x4096.Idx) :
    val_main_v36 (F := Ideal) i = if Seen (i 0).val (i 1).val then 1#1 else 0#1 := by
  have h0 : (i 0).val < 4096 := (i 0).isLt
  have h1 : (i 1).val < 4096 := (i 1).isLt
  have h := seen_word ⟨(i 0).val / 64, by omega⟩ ⟨(i 1).val / 64, by omega⟩
  rw [← h]
  simp only [val_main_v36_apply, val_main_v28_apply, val_main_v26_apply, val_main_v27_apply, val_main_v35_apply,
    val_main_v33_apply, val_main_v31_apply, val_main_v30_apply, val_main_c_7_apply, val_main_v34_apply, v24_word, v25_word, v29_word, v32_word]

theorem v21_word (i : S4096x4096.Idx) :
    min (val_main_v21 (F := Ideal) i).toInt.toNat 512 = rel (i 0).val (i 1).val := by
  rw [← clipw_sub _ _ (i 0).isLt (i 1).isLt]
  simp only [val_main_v21_apply, val_main_v18_apply, val_main_v20_apply, val_main_v16_apply, val_main_v17_apply, val_main_v19_apply,
    val_main_v14_apply, val_main_v15_apply, val_main_call0_v4_apply, val_main_call0_v3_apply, val_main_call0_v2_apply,
    val_main_call0_v1_apply, val_main_call0_v0_apply, val_main_v13_apply, val_main_v11_apply, val_main_v12_apply, val_main_v10_apply,
    val_main_v9_apply, val_main_v8_apply, val_main_v7_apply, val_main_c_apply, val_main_c_0_apply, val_main_c_1_apply,
    val_main_c_2_apply, val_main_c_3_apply]
  rfl

/-! ## The scores -/

variable (x0 : (⟨S4096x3072, .bf16⟩ : BufTy).Contents (Elt Ideal)) (x1 : (⟨S16x513, .f32⟩ : BufTy).Contents (Elt Ideal))
  (x2 : (⟨S4096x1024, .bf16⟩ : BufTy).Contents (Elt Ideal))

/-- The arguments. -/
abbrev J : Inp := inp x0 x1 x2

theorem v4_at (i : S4096x16x64.Idx) : val_main_v4 (F := Ideal) x0 i = (J x0 x1 x2).Q (i 0).val (64 * (i 1).val + (i 2).val) := by
  have h1 : (i 1).val < 16 := (i 1).isLt
  have h2 : (i 2).val < 64 := (i 2).isLt
  rw [val_main_v4_apply, val_main_v1_apply, val_main_v0_apply]
  exact at2_of x0 _ _ _ (by show (((i 0).val * 16 + (i 1).val) * 64 + (i 2).val) / 1024 = _; omega)
    (by show (((i 0).val * 16 + (i 1).val) * 64 + (i 2).val) % 1024 = _; omega)

theorem v5_at (i : S4096x16x64.Idx) : val_main_v5 (F := Ideal) x0 i = (J x0 x1 x2).K (i 0).val (64 * (i 1).val + (i 2).val) := by
  have h1 : (i 1).val < 16 := (i 1).isLt
  have h2 : (i 2).val < 64 := (i 2).isLt
  rw [val_main_v5_apply, val_main_v2_apply, val_main_v0_apply]
  exact at2_of x0 _ _ _ (by show (((i 0).val * 16 + (i 1).val) * 64 + (i 2).val) / 1024 = _; omega)
    (by show 1024 + (((i 0).val * 16 + (i 1).val) * 64 + (i 2).val) % 1024 = _; omega)

theorem v6_at (i : S4096x16x64.Idx) : val_main_v6 (F := Ideal) x0 i = (J x0 x1 x2).V (i 0).val (64 * (i 1).val + (i 2).val) := by
  have h1 : (i 1).val < 16 := (i 1).isLt
  have h2 : (i 2).val < 64 := (i 2).isLt
  rw [val_main_v6_apply, val_main_v3_apply, val_main_v0_apply]
  exact at2_of x0 _ _ _ (by show (((i 0).val * 16 + (i 1).val) * 64 + (i 2).val) / 1024 = _; omega)
    (by show 2048 + (((i 0).val * 16 + (i 1).val) * 64 + (i 2).val) % 1024 = _; omega)

theorem v67_at (i : S16x64x4096.Idx) : val_main_v67 (F := Ideal) x2 i = (J x0 x1 x2).G (i 2).val (64 * (i 0).val + (i 1).val) := by
  have h1 : (i 0).val < 16 := (i 0).isLt
  have h2 : (i 1).val < 64 := (i 1).isLt
  rw [val_main_v67_apply, val_main_v66_apply, val_main_v65_apply]
  exact at2_of x2 _ _ _ (by show (((i 2).val * 16 + (i 0).val) * 64 + (i 1).val) / 1024 = _; omega)
    (by show (((i 2).val * 16 + (i 0).val) * 64 + (i 1).val) % 1024 = _; omega)

theorem v23_at (i : S16x4096x4096.Idx) :
    val_main_v23 (F := Ideal) x1 i = (J x0 x1 x2).B (i 0).val (rel (i 1).val (i 2).val) := by
  unfold val_main_v23
  refine (gather_col_apply (by decide) gather_S16x513_S4096x4096x1_S16x4096x4096_0_1_n_n_1_2_161_wf x1 _ i).trans ?_
  refine at2_of x1 _ _ _ rfl ?_
  show min (val_main_v22 (F := Ideal) (colIdx i)).toInt.toNat 512 = _
  rw [val_main_v22_apply]
  exact v21_word _

theorem select_seen (p : Prop) [Decidable p] (a b : EReal) :
    Scalar.select (α := EReal) (if p then 1#1 else 0#1) a b = if p then a else b := by
  by_cases h : p
  · rw [if_pos h, if_pos h]; rfl
  · rw [if_neg h, if_neg h]; rfl

theorem v42_1_at (i : S16x4096x4096.Idx) : val_main_v42_1 (F := Ideal) i = if Seen (i 1).val (i 2).val then 1#1 else 0#1 := by
  rw [val_main_v42_1_apply, val_main_v41_apply, v36_word]

theorem ofBits_neg_inf : Ideal.ofBits .f32 0xFF800000#32 = ⊥ := by simp [Ideal.ofBits, Ideal.ieee]

theorem v42_at (i : S16x4096x4096.Idx) :
    val_main_v42_0 (F := Ideal) x0 x1 i = (J x0 x1 x2).score (i 0).val (i 1).val (i 2).val := by
  rw [val_main_v42_0_apply, v42_1_at, val_main_v40_apply, val_main_v39_apply, val_main_v37_apply, v23_at x0 x1 x2,
    val_main_v38_apply, val_main_cst_apply, val_main_call5_v2_apply, val_main_call5_v0_apply, val_main_cst_9_apply]
  simp only [v4_at x0 x1 x2, v5_at x0 x1 x2]
  refine (select_seen _ _ _).trans ?_
  unfold Inp.score dot64
  rw [← ofBits_eighth_f32, ← ofBits_neg_inf]
  rfl

end Cert.ReferenceIdeal.Attn

end
-- ==== Proof.RefValue.lean ====
/-
  The reference's results at an index: the gradients of the queries, the keys and the values.
-/
module

public import proofs.«01_k».proof.Proof.RefMask
public import proofs.«01_k».proof.Proof.Gen.ReferenceIdeal.Read
public import Idealize.ShloMosaic.Lib.Pointwise

@[expose] public section

noncomputable section

namespace Cert.ReferenceIdeal.Attn

open Cert.ReferenceIdeal Cert.ReferenceIdeal.Gen Cert.ReferenceIdeal.Read Idealize.ShloMosaic
open Cert.Attn

/-! ## The weights -/

variable (x0 : (⟨S4096x3072, .bf16⟩ : BufTy).Contents (Elt Ideal)) (x1 : (⟨S16x513, .f32⟩ : BufTy).Contents (Elt Ideal))
  (x2 : (⟨S4096x1024, .bf16⟩ : BufTy).Contents (Elt Ideal))

/-- A row of scores. -/
abbrev row (h s : ℕ) : Fin 4096 → EReal := fun t => (J x0 x1 x2).score h s t.val

theorem v43_at (i : S16x4096.Idx) :
    val_main_v43 (F := Ideal) x0 x1 i = top (row x0 x1 x2 (i 0).val (i 1).val) := by
  unfold val_main_v43
  have h : S16x4096x4096.Reduces [2] S16x4096 := by decide
  refine (Host.reduce_eq_fold_single (FloatOps.maximumf (F := Ideal) (φ := .f32)) _ _ _ h _ i).trans ?_
  unfold top
  rw [← ofBits_neg_inf]
  refine congrArg (fun f => Finset.fold max _ f Finset.univ) ?_
  funext t
  exact (v42_at x0 x1 x2 _).trans rfl

theorem v50_at (i : S16x4096x4096.Idx) :
    val_main_v50 (F := Ideal) x0 x1 i = top (row x0 x1 x2 (i 0).val (i 1).val) := by
  rw [val_main_v50_apply, val_main_v49_apply, v43_at x0 x1 x2]

theorem v52_at (i : S16x4096x4096.Idx) :
    val_main_v52 (F := Ideal) x0 x1 i = ex (row x0 x1 x2 (i 0).val (i 1).val) ⟨(i 2).val, (i 2).isLt⟩ := by
  rw [val_main_v52_apply, val_main_v51_apply, v42_at x0 x1 x2, v50_at x0 x1 x2]
  rfl

theorem v53_at (i : S16x4096.Idx) :
    val_main_v53 (F := Ideal) x0 x1 i = nrm (row x0 x1 x2 (i 0).val (i 1).val) := by
  rw [val_main_v53_apply, val_main_cst_12_apply]
  simp only [v52_at x0 x1 x2]
  refine (congrArg (· + _) Ideal.ofBits_zero_f32).trans ((zero_add _).trans ?_)
  rfl

theorem v54_at (i : S16x4096x1.Idx) :
    val_main_v54 (F := Ideal) x0 x1 i = nrm (row x0 x1 x2 (i 0).val (i 1).val) := by
  rw [val_main_v54_apply, v53_at x0 x1 x2]

theorem v56_at (i : S16x4096x1.Idx) :
    val_main_v56 (F := Ideal) x0 x1 i = Ideal.div 1 (nrm (row x0 x1 x2 (i 0).val (i 1).val)) := by
  rw [val_main_v56_apply, v54_at x0 x1 x2, val_main_v55_apply, val_main_cst_13_apply]
  exact congrArg (Ideal.div · _) Ideal.ofBits_one_f32

theorem v59_at (i : S16x4096x1.Idx) :
    val_main_v59 (F := Ideal) x0 x1 i
      = Ideal.div 1 (nrm (row x0 x1 x2 (i 0).val (i 1).val) * nrm (row x0 x1 x2 (i 0).val (i 1).val)) := by
  rw [val_main_v59_apply, val_main_v57_apply, v54_at x0 x1 x2, val_main_v58_apply, val_main_cst_14_apply]
  exact congrArg (Ideal.div · _) Ideal.ofBits_one_f32

theorem v61_at (i : S16x4096x4096.Idx) :
    val_main_v61 (F := Ideal) x0 x1 i = (J x0 x1 x2).P (i 0).val (i 1).val ⟨(i 2).val, (i 2).isLt⟩ := by
  rw [val_main_v61_apply, v52_at x0 x1 x2, val_main_v60_apply, v56_at x0 x1 x2]
  rfl

/-! ## The gradients of the weights and of the scores -/

theorem v68_at (i : S16x4096x4096.Idx) :
    val_main_v68 (F := Ideal) x0 x2 i = dot64 (J x0 x1 x2).G (J x0 x1 x2).V (i 0).val (i 1).val (i 2).val := by
  rw [val_main_v68_apply]
  simp only [v67_at x0 x1 x2, v6_at x0 x1 x2]
  rfl

theorem v72_at (i : S16x4096.Idx) :
    val_main_v72 (F := Ideal) x0 x1 x2 i
      = ∑ u : Fin 4096, ex (row x0 x1 x2 (i 0).val (i 1).val) u * dot64 (J x0 x1 x2).G (J x0 x1 x2).V (i 0).val (i 1).val u.val := by
  rw [val_main_v72_apply, val_main_cst_15_apply]
  simp only [val_main_v71_apply, v52_at x0 x1 x2, v68_at x0 x1 x2]
  refine (congrArg (· + _) Ideal.ofBits_zero_f32).trans ((zero_add _).trans ?_)
  rfl

theorem v73_at (i : S16x4096x1.Idx) :
    val_main_v73 (F := Ideal) x0 x1 x2 i
      = ∑ u : Fin 4096, ex (row x0 x1 x2 (i 0).val (i 1).val) u * dot64 (J x0 x1 x2).G (J x0 x1 x2).V (i 0).val (i 1).val u.val := by
  have h0 : (i 0).val < 16 := (i 0).isLt
  have h1 : (i 1).val < 4096 := (i 1).isLt
  have h2 : (i 2).val < 1 := (i 2).isLt
  have e0 : (((i 0).val * 4096 + (i 1).val) * 1 + (i 2).val) / 4096 = (i 0).val := by omega
  have e1 : (((i 0).val * 4096 + (i 1).val) * 1 + (i 2).val) % 4096 = (i 1).val := by omega
  rw [val_main_v73_apply, v72_at]
  simp only [e0, e1]

theorem v80_at (i : S16x4096.Idx) :
    val_main_v80 (F := Ideal) x0 x1 x2 i
      = -((∑ u : Fin 4096, ex (row x0 x1 x2 (i 0).val (i 1).val) u * dot64 (J x0 x1 x2).G (J x0 x1 x2).V (i 0).val (i 1).val u.val)
        * Ideal.div 1 (nrm (row x0 x1 x2 (i 0).val (i 1).val) * nrm (row x0 x1 x2 (i 0).val (i 1).val))) := by
  rw [val_main_v80_apply, val_main_cst_17_apply, Fin.sum_univ_one, val_main_v79_apply, val_main_v78_apply, val_main_v76_apply,
    v73_at, v59_at x0 x1 x2, val_main_v77_apply, val_main_cst_16_apply]
  refine (congrArg (· + _) Ideal.ofBits_zero_f32).trans ((zero_add _).trans ?_)
  show -(_ * Ideal.ofBits .f32 0x3F800000#32) = _
  rw [Ideal.ofBits_one_f32, mul_one]
  rfl

theorem v84_at (i : S16x4096x4096.Idx) :
    val_main_v84 (F := Ideal) x0 x1 x2 i = (J x0 x1 x2).DS (i 0).val (i 1).val ⟨(i 2).val, (i 2).isLt⟩ := by
  rw [val_main_v84_apply, v42_1_at]
  refine (select_seen _ _ _).trans ?_
  split_ifs with h
  · rw [val_main_v83_apply, val_main_v82_apply, val_main_v75_apply, v68_at x0 x1 x2, val_main_v74_apply, v56_at x0 x1 x2,
      val_main_v81_apply, v80_at, v52_at x0 x1 x2]
    exact ds_eq (row x0 x1 x2 (i 0).val (i 1).val) (fun t : Fin 4096 => dot64 (J x0 x1 x2).G (J x0 x1 x2).V (i 0).val (i 1).val t.val)
      ⟨(i 2).val, (i 2).isLt⟩
  · rw [val_main_call6_v0_apply, val_main_call6_cst_apply]
    refine Eq.trans Ideal.ofBits_zero_f32 (ds_of_bot _ _ _ ?_).symm
    exact if_neg h

theorem v86_at (i : S16x4096x4096.Idx) :
    val_main_v86 (F := Ideal) x0 x1 x2 i = (J x0 x1 x2).DS (i 0).val (i 1).val ⟨(i 2).val, (i 2).isLt⟩ * eighth := by
  rw [val_main_v86_apply, v84_at, val_main_v85_apply, val_main_cst_18_apply, ← ofBits_eighth_f32]
  rfl

/-! ## The results -/

theorem unflat (r c : ℕ) (hc : c < 1024) :
    (r * 1024 + c) / 1024 = r ∧ (r * 1024 + c) / 64 % 16 = c / 64 ∧ 64 * (c / 64) + (r * 1024 + c) % 64 = c := by
  omega

theorem dq_at (i : S4096x1024.Idx) :
    val_main_v94 (F := Ideal) x0 x1 x2 i = (J x0 x1 x2).dq (i 0).val (i 1).val := by
  have hc : (i 1).val < 1024 := (i 1).isLt
  obtain ⟨e0, e1, e2⟩ := unflat (i 0).val (i 1).val hc
  rw [val_main_v94_apply, val_main_v93_apply, val_main_v90_apply, val_main_v89_apply]
  simp only [v86_at, v5_at x0 x1 x2, e0, e1, e2]
  rfl

theorem dk_at (i : S4096x1024.Idx) :
    val_main_v95 (F := Ideal) x0 x1 x2 i = (J x0 x1 x2).dk ⟨(i 0).val, (i 0).isLt⟩ (i 1).val := by
  have hc : (i 1).val < 1024 := (i 1).isLt
  obtain ⟨e0, e1, e2⟩ := unflat (i 0).val (i 1).val hc
  rw [val_main_v95_apply, val_main_v92_apply, val_main_v88_apply, val_main_v87_apply]
  simp only [v86_at, v4_at x0 x1 x2, e0, e1, e2]
  rfl

theorem dv_at (i : S4096x1024.Idx) :
    val_main_v96 (F := Ideal) x0 x1 x2 i = (J x0 x1 x2).dv ⟨(i 0).val, (i 0).isLt⟩ (i 1).val := by
  have hc : (i 1).val < 1024 := (i 1).isLt
  obtain ⟨e0, e1, e2⟩ := unflat (i 0).val (i 1).val hc
  rw [val_main_v96_apply, val_main_v91_apply, val_main_v70_apply, val_main_v69_apply]
  simp only [v67_at x0 x1 x2, v61_at x0 x1 x2, e0, e1, e2]
  rfl

end Cert.ReferenceIdeal.Attn

end
-- ==== Proof.Mat.lean ====
/-
  Products of matrices: what the calls that multiply have in common.
-/
module

public import Idealize.ShloMosaic.Lib.Pipeline.Value
public import Idealize.ShloMosaic.Lib.ValueIdx
public import Idealize.ShloMosaic.Lib.VecWindow
public import Idealize.ShloMosaic.Lib.Pointwise
public import Idealize.ShloMosaic.PureOps.Ideal

@[expose] public section

noncomputable section

namespace Cert.Mat

open Idealize.ShloMosaic

theorem zero2 : ∀ a : Fin 2, (![0, 0] : Fin 2 → ℕ) a = 0 := by decide

theorem zeros2 : (![0, 0] : Fin 2 → ℕ) = fun _ => 0 := funext zero2

/-- A whole load of a whole reference. -/
theorem read_whole {sig : RefSig} {s : Shape} {e : EltTy} (arg : Memref sig .tc .vmem s e) (harg : arg.IsWhole) (x : Vec Ideal s e)
    (off : Fin s.rank → ℕ) (hoff : ∀ a, off a = 0) (inb : ∀ a, off a + s.size a ≤ s.size a) :
    arg.view.readAt (Elt Ideal) (Rect.unit off s.size inb).toLoadRect (harg.unread x) = x := by
  funext y
  refine (congrFun (harg.read_unread x) _).trans (congrArg x (funext fun a => Fin.ext ?_))
  show off a + 1 * (y a).val = (y a).val
  rw [hoff a]
  omega

/-- A sum over 4096 rows, by its halves. -/
theorem sum_halves (f : Fin 4096 → EReal) :
    (0 + ∑ k : Fin 2048, f ⟨k.val, by omega⟩) + ∑ k : Fin 2048, f ⟨2048 + k.val, by omega⟩ = ∑ k : Fin 4096, f k := by
  rw [zero_add]
  exact (Fin.sum_univ_add (a := 2048) (b := 2048) f).symm

theorem sum_ext {n : ℕ} {f g : Fin n → EReal} (h : ∀ k, f k = g k) : ∑ k, f k = ∑ k, g k :=
  Finset.sum_congr rfl fun k _ => h k

theorem zero_word : Ideal.ofBits .f32 0x00000000#32 = 0 := by simp [Ideal.ofBits, Ideal.ieee]

end Cert.Mat

end
-- ==== Proof.Wgrad4.lean ====
/-
  The gradient of the channel mixer's down-projection.
-/
module

public import proofs.«01_k».proof.Defs
public import proofs.«01_k».proof.Proof.Mat
public import proofs.«01_k».proof.Proof.Gen.Kernel4Ideal.Value
public import proofs.«01_k».proof.Proof.Gen.Reference4Ideal.Run
public import proofs.«01_k».proof.Proof.Gen.Reference4Ideal.Read
public import Idealize.ShloMosaic.Lib.Quiescent
public import Idealize.ShloMosaic.Lib.Tactic

@[expose] public section

set_option maxRecDepth 16384

noncomputable section

namespace Cert.Kernel4Ideal.Wgrad

open Cert.Kernel4Ideal Cert.Kernel4Ideal.Gen Cert.Kernel4Ideal.Value Idealize.ShloMosaic Idealize.ShloMosaic.TcCoe

/-- Columns against columns. -/
def prod (a : S4096x2816.Idx → EReal) (b : S4096x1024.Idx → EReal) (i : S2816x1024.Idx) : EReal :=
  ∑ k : Fin 4096, a (ix2 k (⟨(i 0).val, (i 0).isLt⟩ : Fin 2816)) * b (ix2 k (⟨(i 1).val, (i 1).isLt⟩ : Fin 1024))

theorem pay1_at (r : Fin 1408) (j : Fin 1024) : k0_pay1 (F := Ideal) (ix2 r j) = 0 := by
  unfold k0_pay1
  pointwise

theorem pay2_at (a : Vec Ideal S1408x1024 .f32) (x0 : Vec Ideal S2048x1408 .bf16) (x1 : Vec Ideal S2048x1024 .bf16) (r : Fin 1408) (j : Fin 1024) :
    k0_pay2 (F := Ideal) a x0 x1 (ix2 r j) = a (ix2 r j) + ∑ k : Fin 2048, x0 (ix2 k r) * x1 (ix2 k j) := by
  unfold k0_pay2
  pointwise

section Run

variable (c : Dev nD) (i : grid0.Coords)
  (arg3 : Memref sig .tc .vmem S2048x1408 .bf16) (harg3 : arg3.IsWhole) (arg4 : Memref sig .tc .vmem S2048x1024 .bf16) (harg4 : arg4.IsWhole)
  (arg5 : Memref sig .tc .vmem S1408x1024 .bf16) (harg5 : arg5.IsWhole) (arg6 : Memref sig .tc .vmem S1408x1024 .f32) (harg6 : arg6.IsWhole)
  (x0 : Vec Ideal S2048x1408 .bf16) (x1 : Vec Ideal S2048x1024 .bf16)

theorem first_store (hc0 : cond0_0 i) (hc1 : ¬cond0_1 i) : (kernelRun0_A (F := Ideal) c i arg3 harg3 arg4 harg4 arg5 harg5 arg6 harg6 hc0 hc1 x0 x1).2.1
    = [⟨Rect.unit ![0, 0] S1408x1024.size inb_S1408x1024_S1408x1024_0_0, k0_pay2 (F := Ideal)
        (arg6.view.readCov (Val := Elt Ideal) [⟨Rect.unit ![0, 0] S1408x1024.size inb_S1408x1024_S1408x1024_0_0, k0_pay1 (F := Ideal)⟩] (Rect.unit ![0, 0] S1408x1024.size inb_S1408x1024_S1408x1024_0_0).toLoadRect)
        (arg3.view.readAt (Elt Ideal) (Rect.unit ![0, 0] S2048x1408.size inb_S2048x1408_S2048x1408_0_0).toLoadRect (harg3.unread x0))
        (arg4.view.readAt (Elt Ideal) (Rect.unit ![0, 0] S2048x1024.size inb_S2048x1024_S2048x1024_0_0).toLoadRect (harg4.unread x1))⟩,
      ⟨Rect.unit ![0, 0] S1408x1024.size inb_S1408x1024_S1408x1024_0_0, k0_pay1 (F := Ideal)⟩] := by
  sl_kernel_rfl

theorem last_store (hc0 : ¬cond0_0 i) (hc1 : cond0_1 i) (a : Vec Ideal S1408x1024 .f32) :
    (kernelRun0_B (F := Ideal) c i arg3 harg3 arg4 harg4 arg5 harg5 arg6 harg6 hc0 hc1 x0 x1 a).1
    = [⟨Rect.unit ![0, 0] S1408x1024.size inb_S1408x1024_S1408x1024_0_0, k0_pay3 (F := Ideal)
        (arg6.view.readCov (Val := Elt Ideal) [⟨Rect.unit ![0, 0] S1408x1024.size inb_S1408x1024_S1408x1024_0_0, k0_pay2 (F := Ideal)
          (arg6.view.readAt (Elt Ideal) (Rect.unit ![0, 0] S1408x1024.size inb_S1408x1024_S1408x1024_0_0).toLoadRect (harg6.unread a))
          (arg3.view.readAt (Elt Ideal) (Rect.unit ![0, 0] S2048x1408.size inb_S2048x1408_S2048x1408_0_0).toLoadRect (harg3.unread x0))
          (arg4.view.readAt (Elt Ideal) (Rect.unit ![0, 0] S2048x1024.size inb_S2048x1024_S2048x1024_0_0).toLoadRect (harg4.unread x1))⟩]
        (Rect.unit ![0, 0] S1408x1024.size inb_S1408x1024_S1408x1024_0_0).toLoadRect)⟩] := by
  sl_kernel_rfl

theorem first_val (hc0 : cond0_0 i) (hc1 : ¬cond0_1 i) :
    sout0_A_0 (F := Ideal) c i arg3 harg3 arg4 harg4 arg5 harg5 arg6 harg6 hc0 hc1 x0 x1 = k0_pay2 (F := Ideal) (k0_pay1 (F := Ideal)) x0 x1 := by
  unfold sout0_A_0
  rw [first_store, View.read_writes_full VS0_0 _ inb_S1408x1024_S1408x1024_0_0, View.readCov_full _ inb_S1408x1024_S1408x1024_0_0,
    Mat.read_whole arg3 harg3 x0 _ Mat.zero2, Mat.read_whole arg4 harg4 x1 _ Mat.zero2]

theorem last_val (hc0 : ¬cond0_0 i) (hc1 : cond0_1 i) (a : Vec Ideal S1408x1024 .f32) :
    out0_B_2 (F := Ideal) c i arg3 harg3 arg4 harg4 arg5 harg5 arg6 harg6 hc0 hc1 x0 x1 a = k0_pay3 (F := Ideal) (k0_pay2 (F := Ideal) a x0 x1) := by
  unfold out0_B_2
  rw [last_store, View.read_writes_full VO0_2 _ inb_S1408x1024_S1408x1024_0_0, View.readCov_full _ inb_S1408x1024_S1408x1024_0_0,
    Mat.read_whole arg3 harg3 x0 _ Mat.zero2, Mat.read_whole arg4 harg4 x1 _ Mat.zero2, Mat.read_whole arg6 harg6 a _ Mat.zero2]

end Run

variable (m : (l : Loc nD τ sig) → Buf (Elt Ideal) l) (c : Dev nD) (t : Fin cfg0.N)

theorem place0 : ∀ t : Fin cfg0.N, win0_0.index t (0 : Fin 2) = t.val % 2 ∧ win0_0.index t (1 : Fin 2) = t.val / 2 :=
  (by decide +kernel : ∀ t : Fin grid0.N, _)
theorem place1 : ∀ t : Fin cfg0.N, win0_1.index t (0 : Fin 2) = t.val % 2 ∧ win0_1.index t (1 : Fin 2) = 0 :=
  (by decide +kernel : ∀ t : Fin grid0.N, _)
theorem place2 : ∀ t : Fin cfg0.N, win0_2.index t (0 : Fin 2) = t.val / 2 ∧ win0_2.index t (1 : Fin 2) = 0 :=
  (by decide +kernel : ∀ t : Fin grid0.N, _)

/-- A row of a point's half, in the array. -/
def row (k : Fin 2048) : Fin 4096 := ⟨2048 * (t.val % 2) + k.val, by omega⟩

/-- A column of a point's block, in the array. -/
def col (r : Fin 1408) : Fin 2816 := ⟨1408 * (t.val / 2) + r.val, by have := t.isLt; have hN : cfg0.N = 4 := N_0; omega⟩

theorem iblk0_at (k : Fin 2048) (r : Fin 1408) :
    (iblk m c 0 t : S2048x1408.Idx → EReal) (ix2 k r) = (m ((c : Thread nD τ).loc main_arg0) : S4096x2816.Idx → EReal) (ix2 (row t k) (col t r)) := by
  obtain ⟨e0, e1⟩ := place0 t
  have hi : (((cfg0.win 0).blk t).view.emb (ix2 k r : S2048x1408.Idx) : S4096x2816.Idx) = ix2 (row t k) (col t r) := by
    funext a
    match a with
    | ⟨0, _⟩ => exact Fin.ext (show win0_0.index t (0 : Fin 2) * 2048 + 1 * k.val = 2048 * (t.val % 2) + k.val by rw [e0]; omega)
    | ⟨1, _⟩ => exact Fin.ext (show win0_0.index t (1 : Fin 2) * 1408 + 1 * r.val = 1408 * (t.val / 2) + r.val by rw [e1]; omega)
  exact (congrFun (V_main_arg0 m c) _).trans (congrArg (m ((c : Thread nD τ).loc main_arg0) : S4096x2816.Idx → EReal) hi)

theorem iblk1_at (k : Fin 2048) (j : Fin 1024) :
    (iblk m c 1 t : S2048x1024.Idx → EReal) (ix2 k j) = (m ((c : Thread nD τ).loc main_arg1) : S4096x1024.Idx → EReal) (ix2 (row t k) j) := by
  obtain ⟨e0, e1⟩ := place1 t
  have hi : (((cfg0.win 1).blk t).view.emb (ix2 k j : S2048x1024.Idx) : S4096x1024.Idx) = ix2 (row t k) j := by
    funext a
    match a with
    | ⟨0, _⟩ => exact Fin.ext (show win0_1.index t (0 : Fin 2) * 2048 + 1 * k.val = 2048 * (t.val % 2) + k.val by rw [e0]; omega)
    | ⟨1, _⟩ => exact Fin.ext (show win0_1.index t (1 : Fin 2) * 1024 + 1 * j.val = j.val by rw [e1]; omega)
  exact (congrFun (V_main_arg1 m c) _).trans (congrArg (m ((c : Thread nD τ).loc main_arg1) : S4096x1024.Idx → EReal) hi)

/-- The product of the launch's arguments. -/
def G : S2816x1024.Idx → EReal := prod (m ((c : Thread nD τ).loc main_arg0)) (m ((c : Thread nD τ).loc main_arg1))

/-- What the second point of a pair writes, by the pair's halves. -/
theorem pair_at (s : Fin cfg0.N) (h0 : s.val % 2 = 0) (hs : t.val = s.val + 1) (r : Fin 1408) (j : Fin 1024) :
    k0_pay3 (F := Ideal) (k0_pay2 (F := Ideal) (k0_pay2 (F := Ideal) (k0_pay1 (F := Ideal)) (iblk m c 0 s) (iblk m c 1 s)) (iblk m c 0 t) (iblk m c 1 t)) (ix2 r j)
      = G m c (ix2 (col t r) j) := by
  refine (pay2_at _ _ _ r j).trans ?_
  rw [pay2_at, pay1_at]
  unfold G prod
  rw [← Mat.sum_halves]
  refine congrArg₂ (· + ·) (congrArg (0 + ·) (Mat.sum_ext fun k => ?_)) (Mat.sum_ext fun k => ?_)
  · rw [iblk0_at, iblk1_at]
    have hr : row s k = ⟨k.val, by omega⟩ := Fin.ext (show 2048 * (s.val % 2) + k.val = k.val by omega)
    have hc : col s r = col t r := Fin.ext (show 1408 * (s.val / 2) + r.val = 1408 * (t.val / 2) + r.val by omega)
    rw [hr, hc]
    rfl
  · rw [iblk0_at, iblk1_at]
    have hr : row t k = ⟨2048 + k.val, by omega⟩ := Fin.ext (show 2048 * (t.val % 2) + k.val = 2048 + k.val by omega)
    rw [hr]
    rfl

theorem flushed_eq (h1 : t.val % 2 = 1) : (dats m 0 c).flushed 2 t = ((cfg0.win 2).blk t).view.read (Elt Ideal) (G m c) := by
  have h0 : ¬t.val % 2 = 0 := by omega
  have hs : t.val - 1 < cfg0.N := Nat.lt_of_le_of_lt (Nat.sub_le _ _) t.isLt
  have hs0 : (⟨t.val - 1, hs⟩ : Fin cfg0.N).val % 2 = 0 := show (t.val - 1) % 2 = 0 by omega
  rw [flushed2_B m c t h0 h1, last_val, outsAt0_A m c ⟨t.val - 1, hs⟩ hs0 (by omega), first_val]
  obtain ⟨e0, e1⟩ := place2 t
  funext y
  have hy0 : (y 0).val < 1408 := (y 0).isLt
  have hy1 : (y 1).val < 1024 := (y 1).isLt
  have hy : ((cfg0.win 2).xinj (grid0.coords t) y : S1408x1024.Idx) = ix2 (⟨(y 0).val, hy0⟩ : Fin 1408) (⟨(y 1).val, hy1⟩ : Fin 1024) := by
    funext a
    match a with
    | ⟨0, _⟩ => rfl
    | ⟨1, _⟩ => rfl
  refine (congrArg (k0_pay3 (F := Ideal) _) hy).trans ((pair_at m c t ⟨t.val - 1, hs⟩ hs0 (show t.val = t.val - 1 + 1 by omega) _ _).trans ?_)
  refine congrArg (G m c) (funext fun a => ?_)
  match a with
  | ⟨0, _⟩ => exact Fin.ext (show 1408 * (t.val / 2) + (y 0).val = win0_2.index t (0 : Fin 2) * 1408 + 1 * (y 0).val by rw [e0]; omega)
  | ⟨1, _⟩ => exact Fin.ext (show (y 1).val = win0_2.index t (1 : Fin 2) * 1024 + 1 * (y 1).val by rw [e1]; omega)

theorem array_eq : (dats m 0 c).arrAt 2 cfg0.N = G m c := by
  refine (dats m 0 c).arrAt_eq_of_cover 2 _ (fun t hf => flushed_eq m c t ((flush0_2 t).mp hf)) fun i => ?_
  have h0 : (i 0).val < 2816 := (i 0).isLt
  have h1 : (i 1).val < 1024 := (i 1).isLt
  have hN : cfg0.N = 4 := N_0
  have ht : 2 * ((i 0).val / 1408) + 1 < cfg0.N := by omega
  refine ⟨⟨2 * ((i 0).val / 1408) + 1, ht⟩, (flush0_2 _).mpr (show (2 * ((i 0).val / 1408) + 1) % 2 = 1 by omega), ?_⟩
  obtain ⟨e0, e1⟩ := place2 ⟨2 * ((i 0).val / 1408) + 1, ht⟩
  show i ∈ ((View.whole main_v0).slice (win0_2.rect ⟨2 * ((i 0).val / 1408) + 1, ht⟩)).set
  rw [View.set_slice_whole, Rect.mem_set_unit]
  intro a
  match a with
  | ⟨0, _⟩ =>
    show win0_2.index _ (0 : Fin 2) * 1408 ≤ (i 0).val ∧ (i 0).val < win0_2.index _ (0 : Fin 2) * 1408 + 1408
    rw [e0]
    dsimp only
    omega
  | ⟨1, _⟩ =>
    show win0_2.index _ (1 : Fin 2) * 1024 ≤ (i 1).val ∧ (i 1).val < win0_2.index _ (1 : Fin 2) * 1024 + 1024
    rw [e1]
    omega

end Cert.Kernel4Ideal.Wgrad

namespace Cert.Wgrad4

open Idealize.ShloMosaic Idealize.ShloMosaic.StableHlo Idealize.SL.Sem

theorem ref_eq (a : FVec Ideal Cert.Reference4Ideal.S4096x2816 .bf16) (b : FVec Ideal Cert.Reference4Ideal.S4096x1024 .bf16) :
    Cert.Reference4Ideal.Read.val_main_v6 (F := Ideal) a b = Cert.Kernel4Ideal.Wgrad.prod a b := by
  funext i
  rw [Cert.Reference4Ideal.Read.val_main_v6_apply]
  refine (Cert.Reference4Ideal.Read.val_main_v5_apply (F := Ideal) a b i).trans ?_
  refine (Cert.Reference4Ideal.Read.val_main_v4_apply a b _).trans (Finset.sum_congr rfl fun k _ => ?_)
  rw [Cert.Reference4Ideal.Read.val_main_v3_apply, Cert.Reference4Ideal.Read.val_main_v1_apply]
  refine (mul_comm _ _).trans (congrArg₂ (· * ·) (congrArg a ?_) (congrArg b ?_))
  · funext x
    match x with
    | ⟨0, _⟩ => rfl
    | ⟨1, _⟩ => rfl
  · funext x
    match x with
    | ⟨0, _⟩ => rfl
    | ⟨1, _⟩ => rfl

theorem facts_Kernel4 : Cert.Kernel4.Facts := by
  have h := Cert.Kernel4Ideal.Gen.facts₀
  cases h
  refine { toFacts₀ := ?_ }
  constructor <;> assumption

theorem frame_Kernel4 : Cert.quiescent_Kernel4 (hKernel4 := facts_Kernel4) := fun m g _ => by
  refine cast ?_ (Cert.Kernel4Ideal.Gen.frame (F := Bits) m g)
  sl_kernel_rfl

theorem frame_Kernel4Ideal : Cert.quiescent_Kernel4Ideal := fun m g _ => Cert.Kernel4Ideal.Gen.frame (F := Ideal) m g

theorem frame_Reference4Ideal : Cert.quiescent_Reference4Ideal := fun m g _ =>
  (θ_run _ _ _).mono (fun r h => ⟨fun c => (h c).2, Idealize.ShloMosaic.sem_eq_zero_of_no_sems (by decide) r.2⟩)
    (Cert.Reference4Ideal.Value.run m g)

theorem algebraic : Cert.algebraic_Kernel4Ideal_Reference4Ideal := by
  intro m g m' g' _ hagree
  refine ⟨fun c => Cert.Kernel4Ideal.Wgrad.G m c, ?_, ?_⟩
  · exact (θ_run _ _ _).mono (fun r h c => ⟨(h c).1.trans (Cert.Kernel4Ideal.Wgrad.array_eq m c), (h c).2⟩) (Cert.Kernel4Ideal.Value.run_blocks m g)
  · refine (θ_run _ _ _).mono (fun r h c => ⟨?_, (h c).2⟩) (Cert.Reference4Ideal.Value.run m' g')
    obtain ⟨a0, a1⟩ := hagree c
    refine (h c).1.trans ((Cert.Reference4Ideal.Read.val_main_v6_eq _ _).trans ((ref_eq _ _).trans ?_))
    exact congrArg₂ Cert.Kernel4Ideal.Wgrad.prod a0 a1

end Cert.Wgrad4

end
-- ==== Proof.Wgrad3.lean ====
/-
  The gradient of the up-projection's value half, written beside the gate half's.
-/
module

public import proofs.«01_k».proof.Defs
public import proofs.«01_k».proof.Proof.Wgrad4
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent
public import Idealize.ShloMosaic.Lib.Tactic

@[expose] public section

set_option maxRecDepth 16384

noncomputable section

namespace Cert.Kernel3Ideal.Wgrad

open Cert.Kernel3Ideal Cert.Kernel3Ideal.Gen Cert.Kernel3Ideal.Value Idealize.ShloMosaic Idealize.ShloMosaic.TcCoe

/-- Columns against columns, below what was there. -/
def prod (a : S4096x2816.Idx → EReal) (b : S4096x1024.Idx → EReal) (u : S5632x1024.Idx → EReal) (i : S5632x1024.Idx) : EReal :=
  if h : (i 0).val < 2816 then u i
  else Kernel4Ideal.Wgrad.prod a b (ix2 (⟨(i 0).val - 2816, by have h0 : (i 0).val < 5632 := (i 0).isLt; omega⟩ : Fin 2816) (⟨(i 1).val, (i 1).isLt⟩ : Fin 1024))

theorem prod_above {a : S4096x2816.Idx → EReal} {b : S4096x1024.Idx → EReal} {u : S5632x1024.Idx → EReal} {i : S5632x1024.Idx} (h : (i 0).val < 2816) :
    prod a b u i = u i := dif_pos h

theorem prod_below {a : S4096x2816.Idx → EReal} {b : S4096x1024.Idx → EReal} {u : S5632x1024.Idx → EReal} {i : S5632x1024.Idx} (r : Fin 2816)
    (h : (i 0).val = 2816 + r.val) : prod a b u i = Kernel4Ideal.Wgrad.prod a b (ix2 r (⟨(i 1).val, (i 1).isLt⟩ : Fin 1024)) := by
  refine (dif_neg (by omega)).trans (congrArg (fun q : Fin 2816 => Kernel4Ideal.Wgrad.prod a b (ix2 q (⟨(i 1).val, (i 1).isLt⟩ : Fin 1024))) (Fin.ext ?_))
  show (i 0).val - 2816 = r.val
  omega

section Run

variable (c : Dev nD) (i : grid0.Coords)
  (arg3 : Memref sig .tc .vmem S2048x1408 .bf16) (harg3 : arg3.IsWhole) (arg4 : Memref sig .tc .vmem S2048x1024 .bf16) (harg4 : arg4.IsWhole)
  (arg6 : Memref sig .tc .vmem S1408x1024 .bf16) (harg6 : arg6.IsWhole) (arg7 : Memref sig .tc .vmem S1408x1024 .f32) (harg7 : arg7.IsWhole)
  (x0 : Vec Ideal S2048x1408 .bf16) (x1 : Vec Ideal S2048x1024 .bf16)

theorem first_store (hc0 : cond0_0 i) (hc1 : ¬cond0_1 i) : (kernelRun0_A (F := Ideal) c i arg3 harg3 arg4 harg4 arg6 harg6 arg7 harg7 hc0 hc1 x0 x1).2.1
    = [⟨Rect.unit ![0, 0] S1408x1024.size inb_S1408x1024_S1408x1024_0_0, k0_pay2 (F := Ideal)
        (arg7.view.readCov (Val := Elt Ideal) [⟨Rect.unit ![0, 0] S1408x1024.size inb_S1408x1024_S1408x1024_0_0, k0_pay1 (F := Ideal)⟩] (Rect.unit ![0, 0] S1408x1024.size inb_S1408x1024_S1408x1024_0_0).toLoadRect)
        (arg3.view.readAt (Elt Ideal) (Rect.unit ![0, 0] S2048x1408.size inb_S2048x1408_S2048x1408_0_0).toLoadRect (harg3.unread x0))
        (arg4.view.readAt (Elt Ideal) (Rect.unit ![0, 0] S2048x1024.size inb_S2048x1024_S2048x1024_0_0).toLoadRect (harg4.unread x1))⟩,
      ⟨Rect.unit ![0, 0] S1408x1024.size inb_S1408x1024_S1408x1024_0_0, k0_pay1 (F := Ideal)⟩] := by
  sl_kernel_rfl

theorem last_store (hc0 : ¬cond0_0 i) (hc1 : cond0_1 i) (a : Vec Ideal S1408x1024 .f32) :
    (kernelRun0_B (F := Ideal) c i arg3 harg3 arg4 harg4 arg6 harg6 arg7 harg7 hc0 hc1 x0 x1 a).1
    = [⟨Rect.unit ![0, 0] S1408x1024.size inb_S1408x1024_S1408x1024_0_0, k0_pay3 (F := Ideal)
        (arg7.view.readCov (Val := Elt Ideal) [⟨Rect.unit ![0, 0] S1408x1024.size inb_S1408x1024_S1408x1024_0_0, k0_pay2 (F := Ideal)
          (arg7.view.readAt (Elt Ideal) (Rect.unit ![0, 0] S1408x1024.size inb_S1408x1024_S1408x1024_0_0).toLoadRect (harg7.unread a))
          (arg3.view.readAt (Elt Ideal) (Rect.unit ![0, 0] S2048x1408.size inb_S2048x1408_S2048x1408_0_0).toLoadRect (harg3.unread x0))
          (arg4.view.readAt (Elt Ideal) (Rect.unit ![0, 0] S2048x1024.size inb_S2048x1024_S2048x1024_0_0).toLoadRect (harg4.unread x1))⟩]
        (Rect.unit ![0, 0] S1408x1024.size inb_S1408x1024_S1408x1024_0_0).toLoadRect)⟩] := by
  sl_kernel_rfl

theorem first_val (hc0 : cond0_0 i) (hc1 : ¬cond0_1 i) :
    sout0_A_0 (F := Ideal) c i arg3 harg3 arg4 harg4 arg6 harg6 arg7 harg7 hc0 hc1 x0 x1 = k0_pay2 (F := Ideal) (k0_pay1 (F := Ideal)) x0 x1 := by
  unfold sout0_A_0
  rw [first_store, View.read_writes_full VS0_0 _ inb_S1408x1024_S1408x1024_0_0, View.readCov_full _ inb_S1408x1024_S1408x1024_0_0,
    Mat.read_whole arg3 harg3 x0 _ Mat.zero2, Mat.read_whole arg4 harg4 x1 _ Mat.zero2]

theorem last_val (hc0 : ¬cond0_0 i) (hc1 : cond0_1 i) (a : Vec Ideal S1408x1024 .f32) :
    out0_B_2 (F := Ideal) c i arg3 harg3 arg4 harg4 arg6 harg6 arg7 harg7 hc0 hc1 x0 x1 a = k0_pay3 (F := Ideal) (k0_pay2 (F := Ideal) a x0 x1) := by
  unfold out0_B_2
  rw [last_store, View.read_writes_full VO0_2 _ inb_S1408x1024_S1408x1024_0_0, View.readCov_full _ inb_S1408x1024_S1408x1024_0_0,
    Mat.read_whole arg3 harg3 x0 _ Mat.zero2, Mat.read_whole arg4 harg4 x1 _ Mat.zero2, Mat.read_whole arg7 harg7 a _ Mat.zero2]

end Run

variable (m : (l : Loc nD τ sig) → Buf (Elt Ideal) l) (c : Dev nD) (t : Fin cfg0.N)

theorem place0 : ∀ t : Fin cfg0.N, win0_0.index t (0 : Fin 2) = t.val % 2 ∧ win0_0.index t (1 : Fin 2) = t.val / 2 :=
  (by decide +kernel : ∀ t : Fin grid0.N, _)
theorem place1 : ∀ t : Fin cfg0.N, win0_1.index t (0 : Fin 2) = t.val % 2 ∧ win0_1.index t (1 : Fin 2) = 0 :=
  (by decide +kernel : ∀ t : Fin grid0.N, _)
theorem place2 : ∀ t : Fin cfg0.N, win0_2.index t (0 : Fin 2) = 2 + t.val / 2 ∧ win0_2.index t (1 : Fin 2) = 0 :=
  (by decide +kernel : ∀ t : Fin grid0.N, _)

/-- A row of a point's half, in the array. -/
def row (k : Fin 2048) : Fin 4096 := ⟨2048 * (t.val % 2) + k.val, by omega⟩

/-- A column of a point's block, in the array. -/
def col (r : Fin 1408) : Fin 2816 := ⟨1408 * (t.val / 2) + r.val, by have := t.isLt; have hN : cfg0.N = 4 := N_0; omega⟩

theorem iblk0_at (k : Fin 2048) (r : Fin 1408) :
    (iblk m c 0 t : S2048x1408.Idx → EReal) (ix2 k r) = (m ((c : Thread nD τ).loc main_arg0) : S4096x2816.Idx → EReal) (ix2 (row t k) (col t r)) := by
  obtain ⟨e0, e1⟩ := place0 t
  have hi : (((cfg0.win 0).blk t).view.emb (ix2 k r : S2048x1408.Idx) : S4096x2816.Idx) = ix2 (row t k) (col t r) := by
    funext a
    match a with
    | ⟨0, _⟩ => exact Fin.ext (show win0_0.index t (0 : Fin 2) * 2048 + 1 * k.val = 2048 * (t.val % 2) + k.val by rw [e0]; omega)
    | ⟨1, _⟩ => exact Fin.ext (show win0_0.index t (1 : Fin 2) * 1408 + 1 * r.val = 1408 * (t.val / 2) + r.val by rw [e1]; omega)
  exact (congrFun (V_main_arg0 m c) _).trans (congrArg (m ((c : Thread nD τ).loc main_arg0) : S4096x2816.Idx → EReal) hi)

theorem iblk1_at (k : Fin 2048) (j : Fin 1024) :
    (iblk m c 1 t : S2048x1024.Idx → EReal) (ix2 k j) = (m ((c : Thread nD τ).loc main_arg1) : S4096x1024.Idx → EReal) (ix2 (row t k) j) := by
  obtain ⟨e0, e1⟩ := place1 t
  have hi : (((cfg0.win 1).blk t).view.emb (ix2 k j : S2048x1024.Idx) : S4096x1024.Idx) = ix2 (row t k) j := by
    funext a
    match a with
    | ⟨0, _⟩ => exact Fin.ext (show win0_1.index t (0 : Fin 2) * 2048 + 1 * k.val = 2048 * (t.val % 2) + k.val by rw [e0]; omega)
    | ⟨1, _⟩ => exact Fin.ext (show win0_1.index t (1 : Fin 2) * 1024 + 1 * j.val = j.val by rw [e1]; omega)
  exact (congrFun (V_main_arg1 m c) _).trans (congrArg (m ((c : Thread nD τ).loc main_arg1) : S4096x1024.Idx → EReal) hi)

/-- The product of the launch's arguments, below the third. -/
def G : S5632x1024.Idx → EReal :=
  prod (m ((c : Thread nD τ).loc main_arg0)) (m ((c : Thread nD τ).loc main_arg1)) (m ((c : Thread nD τ).loc main_arg2))

/-- What the second point of a pair writes, by the pair's halves. -/
theorem pair_at (s : Fin cfg0.N) (h0 : s.val % 2 = 0) (hs : t.val = s.val + 1) (r : Fin 1408) (j : Fin 1024) :
    k0_pay3 (F := Ideal) (k0_pay2 (F := Ideal) (k0_pay2 (F := Ideal) (k0_pay1 (F := Ideal)) (iblk m c 0 s) (iblk m c 1 s)) (iblk m c 0 t) (iblk m c 1 t)) (ix2 r j)
      = Kernel4Ideal.Wgrad.prod (m ((c : Thread nD τ).loc main_arg0)) (m ((c : Thread nD τ).loc main_arg1)) (ix2 (col t r) j) := by
  refine (Kernel4Ideal.Wgrad.pay2_at _ _ _ r j).trans ((congrArg (· + _) ((Kernel4Ideal.Wgrad.pay2_at _ _ _ r j).trans
    (congrArg (· + _) (Kernel4Ideal.Wgrad.pay1_at r j)))).trans ?_)
  unfold Kernel4Ideal.Wgrad.prod
  rw [← Mat.sum_halves]
  refine congrArg₂ (· + ·) (congrArg (0 + ·) (Mat.sum_ext fun k => ?_)) (Mat.sum_ext fun k => ?_)
  · rw [iblk0_at, iblk1_at]
    have hr : row s k = ⟨k.val, by omega⟩ := Fin.ext (show 2048 * (s.val % 2) + k.val = k.val by omega)
    have hc : col s r = col t r := Fin.ext (show 1408 * (s.val / 2) + r.val = 1408 * (t.val / 2) + r.val by omega)
    rw [hr, hc]
    rfl
  · rw [iblk0_at, iblk1_at]
    have hr : row t k = ⟨2048 + k.val, by omega⟩ := Fin.ext (show 2048 * (t.val % 2) + k.val = 2048 + k.val by omega)
    rw [hr]
    rfl

theorem flushed_eq (h1 : t.val % 2 = 1) : (dats m 0 c).flushed 2 t = ((cfg0.win 2).blk t).view.read (Elt Ideal) (G m c) := by
  have h0 : ¬t.val % 2 = 0 := by omega
  have hs : t.val - 1 < cfg0.N := Nat.lt_of_le_of_lt (Nat.sub_le _ _) t.isLt
  have hs0 : (⟨t.val - 1, hs⟩ : Fin cfg0.N).val % 2 = 0 := show (t.val - 1) % 2 = 0 by omega
  rw [flushed2_B m c t h0 h1, last_val, outsAt0_A m c ⟨t.val - 1, hs⟩ hs0 (by omega), first_val]
  obtain ⟨e0, e1⟩ := place2 t
  funext y
  have hy0 : (y 0).val < 1408 := (y 0).isLt
  have hy1 : (y 1).val < 1024 := (y 1).isLt
  have hy : ((cfg0.win 2).xinj (grid0.coords t) y : S1408x1024.Idx) = ix2 (⟨(y 0).val, hy0⟩ : Fin 1408) (⟨(y 1).val, hy1⟩ : Fin 1024) := by
    funext a
    match a with
    | ⟨0, _⟩ => rfl
    | ⟨1, _⟩ => rfl
  refine (congrArg (k0_pay3 (F := Ideal) _) hy).trans ((pair_at m c t ⟨t.val - 1, hs⟩ hs0 (show t.val = t.val - 1 + 1 by omega) _ _).trans ?_)
  have z0 : ((((cfg0.win 2).blk t).view.emb y : S5632x1024.Idx) 0).val = 2816 + (1408 * (t.val / 2) + (y 0).val) :=
    show win0_2.index t (0 : Fin 2) * 1408 + 1 * (y 0).val = _ by rw [e0]; omega
  have z1 : ((((cfg0.win 2).blk t).view.emb y : S5632x1024.Idx) 1).val = (y 1).val :=
    show win0_2.index t (1 : Fin 2) * 1024 + 1 * (y 1).val = _ by rw [e1]; omega
  refine Eq.trans ?_ (prod_below (i := (((cfg0.win 2).blk t).view.emb y : S5632x1024.Idx)) (col t ⟨(y 0).val, hy0⟩) z0).symm
  exact congrArg (fun j : Fin 1024 => Kernel4Ideal.Wgrad.prod _ _ (ix2 (col t ⟨(y 0).val, hy0⟩) j)) (Fin.ext z1.symm)

theorem mem_rows (t : Fin cfg0.N) (i : S5632x1024.Idx) :
    i ∈ ((cfg0.win 2).blk t).view.set ↔ (2 + t.val / 2) * 1408 ≤ (i 0).val ∧ (i 0).val < (2 + t.val / 2) * 1408 + 1408 := by
  have h1 : (i 1).val < 1024 := (i 1).isLt
  obtain ⟨e0, e1⟩ := place2 t
  show i ∈ ((View.whole main_v0).slice (win0_2.rect t)).set ↔ _
  rw [View.set_slice_whole, Rect.mem_set_unit]
  constructor
  · intro h
    have h0 : win0_2.index t (0 : Fin 2) * 1408 ≤ (i 0).val ∧ (i 0).val < win0_2.index t (0 : Fin 2) * 1408 + 1408 := h 0
    rwa [e0] at h0
  · intro h a
    match a with
    | ⟨0, _⟩ =>
      show win0_2.index t (0 : Fin 2) * 1408 ≤ (i 0).val ∧ (i 0).val < win0_2.index t (0 : Fin 2) * 1408 + 1408
      rwa [e0]
    | ⟨1, _⟩ =>
      show win0_2.index t (1 : Fin 2) * 1024 ≤ (i 1).val ∧ (i 1).val < win0_2.index t (1 : Fin 2) * 1024 + 1024
      rw [e1, Nat.zero_mul, Nat.zero_add]
      exact ⟨Nat.zero_le _, h1⟩

theorem V0_term : (V m c main_v0 : S5632x1024.Idx → EReal) = m ((c : Thread nD τ).loc main_arg2) := by
  sl_kernel_rfl

theorem array_eq : (dats m 0 c).arrAt 2 cfg0.N = G m c := by
  funext i
  have hN : cfg0.N = 4 := N_0
  have h0 : (i 0).val < 5632 := (i 0).isLt
  by_cases h : (i 0).val < 2816
  · refine (entry2 m c i fun t _ hm => ?_).trans ((congrFun (V0_term m c) i).trans (prod_above h).symm)
    have := (mem_rows t i).mp hm
    omega
  · have ht : 2 * (((i 0).val - 2816) / 1408) + 1 < cfg0.N := by omega
    refine (dats m 0 c).arrAt_apply_of_mem 2 (G m c) (fun t hf => flushed_eq m c t ((flush0_2 t).mp hf)) cfg0.N
      ⟨2 * (((i 0).val - 2816) / 1408) + 1, ht⟩ i ht ((flush0_2 _).mpr (show (2 * (((i 0).val - 2816) / 1408) + 1) % 2 = 1 by omega)) ((mem_rows _ i).mpr ?_)
    show (2 + (2 * (((i 0).val - 2816) / 1408) + 1) / 2) * 1408 ≤ (i 0).val ∧ (i 0).val < (2 + (2 * (((i 0).val - 2816) / 1408) + 1) / 2) * 1408 + 1408
    omega

end Cert.Kernel3Ideal.Wgrad

namespace Cert.Wgrad3

open Idealize.ShloMosaic Idealize.ShloMosaic.StableHlo Idealize.SL.Sem

section Ref

variable (a : FVec Ideal Cert.Reference3Ideal.S4096x2816 .bf16) (b : FVec Ideal Cert.Reference3Ideal.S4096x1024 .bf16)
  (u : FVec Ideal Cert.Reference3Ideal.S5632x1024 .bf16)

theorem new_eq : Cert.Reference3Ideal.Read.val_main_v8 (F := Ideal) a b = Cert.Kernel4Ideal.Wgrad.prod a b := by
  funext i
  rw [Cert.Reference3Ideal.Read.val_main_v8_apply]
  refine (Cert.Reference3Ideal.Read.val_main_v7_apply (F := Ideal) a b i).trans ?_
  refine (Cert.Reference3Ideal.Read.val_main_v6_apply (F := Ideal) a b _).trans ?_
  refine (Cert.Reference3Ideal.Read.val_main_v5_apply a b _).trans (Finset.sum_congr rfl fun k _ => ?_)
  rw [Cert.Reference3Ideal.Read.val_main_v4_apply, Cert.Reference3Ideal.Read.val_main_v1_apply]
  refine congrArg₂ (· * ·) (congrArg a ?_) (congrArg b ?_)
  · funext x
    match x with
    | ⟨0, _⟩ => rfl
    | ⟨1, _⟩ => rfl
  · funext x
    match x with
    | ⟨0, _⟩ => rfl
    | ⟨1, _⟩ => rfl

theorem ref_eq : Cert.Reference3Ideal.Read.val_main_v9 (F := Ideal) a b u = Cert.Kernel3Ideal.Wgrad.prod a b u := by
  funext i
  have h0 : (i 0).val < 5632 := (i 0).isLt
  unfold Cert.Reference3Ideal.Read.val_main_v9
  by_cases h : (i 0).val < 2816
  · refine (concatenate_pair_apply_left (s₁ := Cert.Reference3Ideal.S2816x1024) (s₂ := Cert.Reference3Ideal.S2816x1024) 0 _ _ _ i rfl
      (ix2 (⟨(i 0).val, h⟩ : Fin 2816) (⟨(i 1).val, (i 1).isLt⟩ : Fin 1024)) fun b => ?_).trans (Eq.trans ?_ (Cert.Kernel3Ideal.Wgrad.prod_above h).symm)
    · match b with
      | ⟨0, _⟩ => rfl
      | ⟨1, _⟩ => rfl
    · rw [Cert.Reference3Ideal.Read.val_main_v3_apply]
      refine congrArg u (funext fun x => ?_)
      match x with
      | ⟨0, _⟩ => rfl
      | ⟨1, _⟩ => rfl
  · refine (concatenate_pair_apply_right (s₁ := Cert.Reference3Ideal.S2816x1024) (s₂ := Cert.Reference3Ideal.S2816x1024) 0 _ _ _ i rfl rfl
      (ix2 (⟨(i 0).val - 2816, by omega⟩ : Fin 2816) (⟨(i 1).val, (i 1).isLt⟩ : Fin 1024)) (fun b hb => ?_) ?_).trans (Eq.trans ?_ (Cert.Kernel3Ideal.Wgrad.prod_below ⟨(i 0).val - 2816, by omega⟩ (show (i 0).val = 2816 + ((i 0).val - 2816) by omega)).symm)
    · match b with
      | ⟨0, _⟩ => exact absurd rfl hb
      | ⟨1, _⟩ => rfl
    · show (i 0).val - 2816 + 2816 = (i 0).val
      omega
    · exact congrFun (new_eq a b) _

end Ref

theorem facts_Kernel3 : Cert.Kernel3.Facts := by
  have h := Cert.Kernel3Ideal.Gen.facts₀
  cases h
  refine { toFacts₀ := ?_ }
  constructor <;> assumption

theorem frame_Kernel3 : Cert.quiescent_Kernel3 (hKernel3 := facts_Kernel3) := fun m g _ => by
  refine cast ?_ (Cert.Kernel3Ideal.Gen.frame (F := Bits) m g)
  sl_kernel_rfl

theorem frame_Kernel3Ideal : Cert.quiescent_Kernel3Ideal := fun m g _ => Cert.Kernel3Ideal.Gen.frame (F := Ideal) m g

theorem frame_Reference3Ideal : Cert.quiescent_Reference3Ideal := fun m g _ =>
  (θ_run _ _ _).mono (fun r h => ⟨fun c => (h c).2, Idealize.ShloMosaic.sem_eq_zero_of_no_sems (by decide) r.2⟩)
    (Cert.Reference3Ideal.Value.run m g)

theorem algebraic : Cert.algebraic_Kernel3Ideal_Reference3Ideal := by
  intro m g m' g' _ hagree
  refine ⟨fun c => Cert.Kernel3Ideal.Wgrad.G m c, ?_, ?_⟩
  · exact (θ_run _ _ _).mono (fun r h c => ⟨(h c).1.trans (Cert.Kernel3Ideal.Wgrad.array_eq m c), (h c).2⟩) (Cert.Kernel3Ideal.Value.run_blocks m g)
  · refine (θ_run _ _ _).mono (fun r h c => ⟨?_, (h c).2⟩) (Cert.Reference3Ideal.Value.run m' g')
    obtain ⟨a0, a1, a2⟩ := hagree c
    refine (h c).1.trans ((Cert.Reference3Ideal.Read.val_main_v9_eq _ _ _).trans ((ref_eq _ _ _).trans ?_))
    show Cert.Kernel3Ideal.Wgrad.prod _ _ _ = Cert.Kernel3Ideal.Wgrad.prod _ _ _
    rw [a0, a1, a2]

end Cert.Wgrad3

end
-- ==== Proof.Rows5.lean ====
/-
  The product that the channel mixer's backward pass begins with: the gradient of its hidden layer.
-/
module

public import proofs.«01_k».proof.Defs
public import proofs.«01_k».proof.Proof.Mat
public import proofs.«01_k».proof.Proof.Gen.Kernel5Ideal.Value
public import proofs.«01_k».proof.Proof.Gen.Reference5Ideal.Run
public import proofs.«01_k».proof.Proof.Gen.Reference5Ideal.Read
public import Idealize.ShloMosaic.Lib.Quiescent
public import Idealize.ShloMosaic.Lib.Tactic

@[expose] public section

set_option maxRecDepth 16384

noncomputable section

namespace Cert.Kernel5Ideal.Rows

open Cert.Kernel5Ideal Cert.Kernel5Ideal.Gen Cert.Kernel5Ideal.Value Idealize.ShloMosaic Idealize.ShloMosaic.TcCoe

/-- Rows against rows. -/
def prod (a : S4096x1024.Idx → EReal) (b : S2816x1024.Idx → EReal) (i : S4096x2816.Idx) : EReal :=
  ∑ k : Fin 1024, a (ix2 (⟨(i 0).val, (i 0).isLt⟩ : Fin 4096) k) * b (ix2 (⟨(i 1).val, (i 1).isLt⟩ : Fin 2816) k)

theorem pay_at (x0 : Vec Ideal S512x1024 .bf16) (x1 : Vec Ideal S2816x1024 .bf16) (r : Fin 512) (j : Fin 2816) :
    k0_pay1 (F := Ideal) x0 x1 (ix2 r j) = ∑ k : Fin 1024, x0 (ix2 r k) * x1 (ix2 j k) := by
  unfold k0_pay1
  pointwise

theorem out_eq (x0 : Vec Ideal S512x1024 .bf16) (x1 : Vec Ideal S2816x1024 .bf16) : out0_2 (F := Ideal) x0 x1 = k0_pay1 (F := Ideal) x0 x1 := by
  unfold out0_2
  rw [View.ld_unit_zero Mat.zeros2, View.ld_unit_zero Mat.zeros2]
  exact View.canon_cons_unit_zero Mat.zeros2 _ _ _

variable (m : (l : Loc nD τ sig) → Buf (Elt Ideal) l) (c : Dev nD) (t : Fin cfg0.N)

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)

/-- A row of a point's block, in the array. -/
def row (r : Fin 512) : Fin 4096 := ⟨512 * t.val + r.val, by have := t.isLt; have hN : cfg0.N = 8 := N_0; omega⟩

theorem iblk0_at (r : Fin 512) (k : Fin 1024) :
    (iblk m c 0 t : S512x1024.Idx → EReal) (ix2 r k) = (m ((c : Thread nD τ).loc main_arg0) : S4096x1024.Idx → EReal) (ix2 (row t r) k) := by
  obtain ⟨e0, e1⟩ := place0 t
  have hi : (((cfg0.win 0).blk t).view.emb (ix2 r k : S512x1024.Idx) : S4096x1024.Idx) = ix2 (row t r) k := by
    funext a
    match a with
    | ⟨0, _⟩ => exact Fin.ext (show win0_0.index t (0 : Fin 2) * 512 + 1 * r.val = 512 * t.val + r.val by rw [e0]; omega)
    | ⟨1, _⟩ => exact Fin.ext (show win0_0.index t (1 : Fin 2) * 1024 + 1 * k.val = k.val by rw [e1]; omega)
  exact (congrFun (V_main_arg0 m c) _).trans (congrArg (m ((c : Thread nD τ).loc main_arg0) : S4096x1024.Idx → EReal) hi)

theorem iblk1_at (r : Fin 2816) (k : Fin 1024) :
    (iblk m c 1 t : S2816x1024.Idx → EReal) (ix2 r k) = (m ((c : Thread nD τ).loc main_arg1) : S2816x1024.Idx → EReal) (ix2 r k) := by
  obtain ⟨e0, e1⟩ := place1 t
  have hi : (((cfg0.win 1).blk t).view.emb (ix2 r k : S2816x1024.Idx) : S2816x1024.Idx) = ix2 r k := by
    funext a
    match a with
    | ⟨0, _⟩ => exact Fin.ext (show win0_1.index t (0 : Fin 2) * 2816 + 1 * r.val = r.val by rw [e0]; omega)
    | ⟨1, _⟩ => exact Fin.ext (show win0_1.index t (1 : Fin 2) * 1024 + 1 * k.val = k.val by rw [e1]; omega)
  exact (congrFun (V_main_arg1 m c) _).trans (congrArg (m ((c : Thread nD τ).loc main_arg1) : S2816x1024.Idx → EReal) hi)

/-- The product of the launch's arguments. -/
def G : S4096x2816.Idx → EReal := prod (m ((c : Thread nD τ).loc main_arg0)) (m ((c : Thread nD τ).loc main_arg1))

theorem flushed_eq : (dats m 0 c).flushed 2 t = ((cfg0.win 2).blk t).view.read (Elt Ideal) (G m c) := by
  rw [flushed2, out_eq]
  obtain ⟨e0, e1⟩ := place2 t
  funext y
  have hy0 : (y 0).val < 512 := (y 0).isLt
  have hy1 : (y 1).val < 2816 := (y 1).isLt
  have hy : ((cfg0.win 2).xinj (grid0.coords t) y : S512x2816.Idx) = ix2 (⟨(y 0).val, hy0⟩ : Fin 512) (⟨(y 1).val, hy1⟩ : Fin 2816) := by
    funext a
    match a with
    | ⟨0, _⟩ => rfl
    | ⟨1, _⟩ => rfl
  refine (congrArg (k0_pay1 (F := Ideal) (iblk m c 0 t) (iblk m c 1 t)) hy).trans ((pay_at _ _ _ _).trans ?_)
  show _ = prod _ _ ((((cfg0.win 2).blk t).view.emb y : S4096x2816.Idx))
  unfold prod
  refine Mat.sum_ext fun k => ?_
  rw [iblk0_at, iblk1_at]
  refine congrArg₂ (· * ·) (congrArg _ ?_) (congrArg _ ?_)
  · refine congrArg (fun r : Fin 4096 => (ix2 r k : S4096x1024.Idx)) (Fin.ext ?_)
    show 512 * t.val + (y 0).val = win0_2.index t (0 : Fin 2) * 512 + 1 * (y 0).val
    rw [e0]
    omega
  · refine congrArg (fun r : Fin 2816 => (ix2 r k : S2816x1024.Idx)) (Fin.ext ?_)
    show (y 1).val = win0_2.index t (1 : Fin 2) * 2816 + 1 * (y 1).val
    rw [e1]
    omega

theorem array_eq : (dats m 0 c).arrAt 2 cfg0.N = G m c := by
  refine (dats m 0 c).arrAt_eq_of_cover 2 _ (fun t _ => flushed_eq m c t) fun i => ?_
  have h0 : (i 0).val < 4096 := (i 0).isLt
  have h1 : (i 1).val < 2816 := (i 1).isLt
  have hN : cfg0.N = 8 := N_0
  have ht : (i 0).val / 512 < cfg0.N := by omega
  refine ⟨⟨(i 0).val / 512, ht⟩, flush0_2 _, ?_⟩
  obtain ⟨e0, e1⟩ := place2 ⟨(i 0).val / 512, ht⟩
  show i ∈ ((View.whole main_v0).slice (win0_2.rect ⟨(i 0).val / 512, ht⟩)).set
  rw [View.set_slice_whole, Rect.mem_set_unit]
  intro a
  match a with
  | ⟨0, _⟩ =>
    show win0_2.index _ (0 : Fin 2) * 512 ≤ (i 0).val ∧ (i 0).val < win0_2.index _ (0 : Fin 2) * 512 + 512
    rw [e0]
    dsimp only
    omega
  | ⟨1, _⟩ =>
    show win0_2.index _ (1 : Fin 2) * 2816 ≤ (i 1).val ∧ (i 1).val < win0_2.index _ (1 : Fin 2) * 2816 + 2816
    rw [e1]
    omega

end Cert.Kernel5Ideal.Rows

namespace Cert.Rows5

open Idealize.ShloMosaic Idealize.ShloMosaic.StableHlo Idealize.SL.Sem

theorem ref_eq (a : FVec Ideal Cert.Reference5Ideal.S4096x1024 .bf16) (b : FVec Ideal Cert.Reference5Ideal.S2816x1024 .bf16) :
    Cert.Reference5Ideal.Read.val_main_v5 (F := Ideal) a b = Cert.Kernel5Ideal.Rows.prod a b := by
  funext i
  rw [Cert.Reference5Ideal.Read.val_main_v5_apply]
  refine (Cert.Reference5Ideal.Read.val_main_v4_apply a b i).trans (Finset.sum_congr rfl fun k _ => ?_)
  rw [Cert.Reference5Ideal.Read.val_main_v3_apply, Cert.Reference5Ideal.Read.val_main_v1_apply]
  refine congrArg₂ (· * ·) (congrArg a ?_) (congrArg b ?_)
  · funext x
    match x with
    | ⟨0, _⟩ => rfl
    | ⟨1, _⟩ => rfl
  · funext x
    match x with
    | ⟨0, _⟩ => rfl
    | ⟨1, _⟩ => rfl

theorem facts_Kernel5 : Cert.Kernel5.Facts := by
  have h := Cert.Kernel5Ideal.Gen.facts₀
  cases h
  refine { toFacts₀ := ?_ }
  constructor <;> assumption

theorem frame_Kernel5 : Cert.quiescent_Kernel5 (hKernel5 := facts_Kernel5) := fun m g _ => by
  refine cast ?_ (Cert.Kernel5Ideal.Gen.frame (F := Bits) m g)
  sl_kernel_rfl

theorem frame_Kernel5Ideal : Cert.quiescent_Kernel5Ideal := fun m g _ => Cert.Kernel5Ideal.Gen.frame (F := Ideal) m g

theorem frame_Reference5Ideal : Cert.quiescent_Reference5Ideal := fun m g _ =>
  (θ_run _ _ _).mono (fun r h => ⟨fun c => (h c).2, Idealize.ShloMosaic.sem_eq_zero_of_no_sems (by decide) r.2⟩)
    (Cert.Reference5Ideal.Value.run m g)

theorem algebraic : Cert.algebraic_Kernel5Ideal_Reference5Ideal := by
  intro m g m' g' _ hagree
  refine ⟨fun c => Cert.Kernel5Ideal.Rows.G m c, ?_, ?_⟩
  · exact (θ_run _ _ _).mono (fun r h c => ⟨(h c).1.trans (Cert.Kernel5Ideal.Rows.array_eq m c), (h c).2⟩) (Cert.Kernel5Ideal.Value.run_blocks m g)
  · refine (θ_run _ _ _).mono (fun r h c => ⟨?_, (h c).2⟩) (Cert.Reference5Ideal.Value.run m' g')
    obtain ⟨a0, a1⟩ := hagree c
    refine (h c).1.trans ((Cert.Reference5Ideal.Read.val_main_v5_eq _ _).trans ((ref_eq _ _).trans ?_))
    exact congrArg₂ Cert.Kernel5Ideal.Rows.prod a0 a1

end Cert.Rows5

end
-- ==== Proof.Wgrad6.lean ====
/-
  The gradient of a weight of 1024 rows and as many columns.
-/
module

public import proofs.«01_k».proof.Defs
public import proofs.«01_k».proof.Proof.Mat
public import proofs.«01_k».proof.Proof.Gen.Kernel6Ideal.Value
public import proofs.«01_k».proof.Proof.Gen.Reference6Ideal.Run
public import proofs.«01_k».proof.Proof.Gen.Reference6Ideal.Read
public import Idealize.ShloMosaic.Lib.Quiescent
public import Idealize.ShloMosaic.Lib.Tactic

@[expose] public section

set_option maxRecDepth 16384

noncomputable section

namespace Cert.Kernel6Ideal.Wgrad

open Cert.Kernel6Ideal Cert.Kernel6Ideal.Gen Cert.Kernel6Ideal.Value Idealize.ShloMosaic Idealize.ShloMosaic.TcCoe

/-- Columns against columns. -/
def prod (a : S4096x1024.Idx → EReal) (b : S4096x1024.Idx → EReal) (i : S1024x1024.Idx) : EReal :=
  ∑ k : Fin 4096, a (ix2 k (⟨(i 0).val, (i 0).isLt⟩ : Fin 1024)) * b (ix2 k (⟨(i 1).val, (i 1).isLt⟩ : Fin 1024))

theorem pay1_at (r : Fin 1024) (j : Fin 1024) : k0_pay1 (F := Ideal) (ix2 r j) = 0 := by
  unfold k0_pay1
  pointwise

theorem pay2_at (a : Vec Ideal S1024x1024 .f32) (x0 : Vec Ideal S2048x1024 .bf16) (x1 : Vec Ideal S2048x1024 .bf16) (r : Fin 1024) (j : Fin 1024) :
    k0_pay2 (F := Ideal) a x0 x1 (ix2 r j) = a (ix2 r j) + ∑ k : Fin 2048, x0 (ix2 k r) * x1 (ix2 k j) := by
  unfold k0_pay2
  pointwise

section Run

variable (c : Dev nD) (i : grid0.Coords)
  (arg3 : Memref sig .tc .vmem S2048x1024 .bf16) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .bf16)

theorem first_store (hc0 : cond0_0 i) (hc1 : ¬cond0_1 i) : (kernelRun0_A (F := Ideal) c i arg3 harg3 arg4 harg4 arg5 harg5 arg6 harg6 hc0 hc1 x0 x1).2.1
    = [⟨Rect.unit ![0, 0] S1024x1024.size inb_S1024x1024_S1024x1024_0_0, k0_pay2 (F := Ideal)
        (arg6.view.readCov (Val := Elt Ideal) [⟨Rect.unit ![0, 0] S1024x1024.size inb_S1024x1024_S1024x1024_0_0, k0_pay1 (F := Ideal)⟩] (Rect.unit ![0, 0] S1024x1024.size inb_S1024x1024_S1024x1024_0_0).toLoadRect)
        (arg3.view.readAt (Elt Ideal) (Rect.unit ![0, 0] S2048x1024.size inb_S2048x1024_S2048x1024_0_0).toLoadRect (harg3.unread x0))
        (arg4.view.readAt (Elt Ideal) (Rect.unit ![0, 0] S2048x1024.size inb_S2048x1024_S2048x1024_0_0).toLoadRect (harg4.unread x1))⟩,
      ⟨Rect.unit ![0, 0] S1024x1024.size inb_S1024x1024_S1024x1024_0_0, k0_pay1 (F := Ideal)⟩] := by
  sl_kernel_rfl

theorem last_store (hc0 : ¬cond0_0 i) (hc1 : cond0_1 i) (a : Vec Ideal S1024x1024 .f32) :
    (kernelRun0_B (F := Ideal) c i arg3 harg3 arg4 harg4 arg5 harg5 arg6 harg6 hc0 hc1 x0 x1 a).1
    = [⟨Rect.unit ![0, 0] S1024x1024.size inb_S1024x1024_S1024x1024_0_0, k0_pay3 (F := Ideal)
        (arg6.view.readCov (Val := Elt Ideal) [⟨Rect.unit ![0, 0] S1024x1024.size inb_S1024x1024_S1024x1024_0_0, k0_pay2 (F := Ideal)
          (arg6.view.readAt (Elt Ideal) (Rect.unit ![0, 0] S1024x1024.size inb_S1024x1024_S1024x1024_0_0).toLoadRect (harg6.unread a))
          (arg3.view.readAt (Elt Ideal) (Rect.unit ![0, 0] S2048x1024.size inb_S2048x1024_S2048x1024_0_0).toLoadRect (harg3.unread x0))
          (arg4.view.readAt (Elt Ideal) (Rect.unit ![0, 0] S2048x1024.size inb_S2048x1024_S2048x1024_0_0).toLoadRect (harg4.unread x1))⟩]
        (Rect.unit ![0, 0] S1024x1024.size inb_S1024x1024_S1024x1024_0_0).toLoadRect)⟩] := by
  sl_kernel_rfl

theorem first_val (hc0 : cond0_0 i) (hc1 : ¬cond0_1 i) :
    sout0_A_0 (F := Ideal) c i arg3 harg3 arg4 harg4 arg5 harg5 arg6 harg6 hc0 hc1 x0 x1 = k0_pay2 (F := Ideal) (k0_pay1 (F := Ideal)) x0 x1 := by
  unfold sout0_A_0
  rw [first_store, View.read_writes_full VS0_0 _ inb_S1024x1024_S1024x1024_0_0, View.readCov_full _ inb_S1024x1024_S1024x1024_0_0,
    Mat.read_whole arg3 harg3 x0 _ Mat.zero2, Mat.read_whole arg4 harg4 x1 _ Mat.zero2]

theorem last_val (hc0 : ¬cond0_0 i) (hc1 : cond0_1 i) (a : Vec Ideal S1024x1024 .f32) :
    out0_B_2 (F := Ideal) c i arg3 harg3 arg4 harg4 arg5 harg5 arg6 harg6 hc0 hc1 x0 x1 a = k0_pay3 (F := Ideal) (k0_pay2 (F := Ideal) a x0 x1) := by
  unfold out0_B_2
  rw [last_store, View.read_writes_full VO0_2 _ inb_S1024x1024_S1024x1024_0_0, View.readCov_full _ inb_S1024x1024_S1024x1024_0_0,
    Mat.read_whole arg3 harg3 x0 _ Mat.zero2, Mat.read_whole arg4 harg4 x1 _ Mat.zero2, Mat.read_whole arg6 harg6 a _ Mat.zero2]

end Run

variable (m : (l : Loc nD τ sig) → Buf (Elt Ideal) l) (c : Dev nD) (t : Fin cfg0.N)

theorem place0 : ∀ t : Fin cfg0.N, win0_0.index t (0 : Fin 2) = t.val % 2 ∧ win0_0.index t (1 : Fin 2) = t.val / 2 :=
  (by decide +kernel : ∀ t : Fin grid0.N, _)
theorem place1 : ∀ t : Fin cfg0.N, win0_1.index t (0 : Fin 2) = t.val % 2 ∧ win0_1.index t (1 : Fin 2) = 0 :=
  (by decide +kernel : ∀ t : Fin grid0.N, _)
theorem place2 : ∀ t : Fin cfg0.N, win0_2.index t (0 : Fin 2) = t.val / 2 ∧ win0_2.index t (1 : Fin 2) = 0 :=
  (by decide +kernel : ∀ t : Fin grid0.N, _)

/-- A row of a point's half, in the array. -/
def row (k : Fin 2048) : Fin 4096 := ⟨2048 * (t.val % 2) + k.val, by omega⟩

/-- A column of a point's block, in the array. -/
def col (r : Fin 1024) : Fin 1024 := ⟨1024 * (t.val / 2) + r.val, by have := t.isLt; have hN : cfg0.N = 2 := N_0; omega⟩

theorem iblk0_at (k : Fin 2048) (r : Fin 1024) :
    (iblk m c 0 t : S2048x1024.Idx → EReal) (ix2 k r) = (m ((c : Thread nD τ).loc main_arg0) : S4096x1024.Idx → EReal) (ix2 (row t k) (col t r)) := by
  obtain ⟨e0, e1⟩ := place0 t
  have hi : (((cfg0.win 0).blk t).view.emb (ix2 k r : S2048x1024.Idx) : S4096x1024.Idx) = ix2 (row t k) (col t r) := by
    funext a
    match a with
    | ⟨0, _⟩ => exact Fin.ext (show win0_0.index t (0 : Fin 2) * 2048 + 1 * k.val = 2048 * (t.val % 2) + k.val by rw [e0]; omega)
    | ⟨1, _⟩ => exact Fin.ext (show win0_0.index t (1 : Fin 2) * 1024 + 1 * r.val = 1024 * (t.val / 2) + r.val by rw [e1]; omega)
  exact (congrFun (V_main_arg0 m c) _).trans (congrArg (m ((c : Thread nD τ).loc main_arg0) : S4096x1024.Idx → EReal) hi)

theorem iblk1_at (k : Fin 2048) (j : Fin 1024) :
    (iblk m c 1 t : S2048x1024.Idx → EReal) (ix2 k j) = (m ((c : Thread nD τ).loc main_arg1) : S4096x1024.Idx → EReal) (ix2 (row t k) j) := by
  obtain ⟨e0, e1⟩ := place1 t
  have hi : (((cfg0.win 1).blk t).view.emb (ix2 k j : S2048x1024.Idx) : S4096x1024.Idx) = ix2 (row t k) j := by
    funext a
    match a with
    | ⟨0, _⟩ => exact Fin.ext (show win0_1.index t (0 : Fin 2) * 2048 + 1 * k.val = 2048 * (t.val % 2) + k.val by rw [e0]; omega)
    | ⟨1, _⟩ => exact Fin.ext (show win0_1.index t (1 : Fin 2) * 1024 + 1 * j.val = j.val by rw [e1]; omega)
  exact (congrFun (V_main_arg1 m c) _).trans (congrArg (m ((c : Thread nD τ).loc main_arg1) : S4096x1024.Idx → EReal) hi)

/-- The product of the launch's arguments. -/
def G : S1024x1024.Idx → EReal := prod (m ((c : Thread nD τ).loc main_arg0)) (m ((c : Thread nD τ).loc main_arg1))

/-- What the second point of a pair writes, by the pair's halves. -/
theorem pair_at (s : Fin cfg0.N) (h0 : s.val % 2 = 0) (hs : t.val = s.val + 1) (r : Fin 1024) (j : Fin 1024) :
    k0_pay3 (F := Ideal) (k0_pay2 (F := Ideal) (k0_pay2 (F := Ideal) (k0_pay1 (F := Ideal)) (iblk m c 0 s) (iblk m c 1 s)) (iblk m c 0 t) (iblk m c 1 t)) (ix2 r j)
      = G m c (ix2 (col t r) j) := by
  refine (pay2_at _ _ _ r j).trans ?_
  rw [pay2_at, pay1_at]
  unfold G prod
  rw [← Mat.sum_halves]
  refine congrArg₂ (· + ·) (congrArg (0 + ·) (Mat.sum_ext fun k => ?_)) (Mat.sum_ext fun k => ?_)
  · rw [iblk0_at, iblk1_at]
    have hr : row s k = ⟨k.val, by omega⟩ := Fin.ext (show 2048 * (s.val % 2) + k.val = k.val by omega)
    have hc : col s r = col t r := Fin.ext (show 1024 * (s.val / 2) + r.val = 1024 * (t.val / 2) + r.val by omega)
    rw [hr, hc]
    rfl
  · rw [iblk0_at, iblk1_at]
    have hr : row t k = ⟨2048 + k.val, by omega⟩ := Fin.ext (show 2048 * (t.val % 2) + k.val = 2048 + k.val by omega)
    rw [hr]
    rfl

theorem flushed_eq (h1 : t.val % 2 = 1) : (dats m 0 c).flushed 2 t = ((cfg0.win 2).blk t).view.read (Elt Ideal) (G m c) := by
  have h0 : ¬t.val % 2 = 0 := by omega
  have hs : t.val - 1 < cfg0.N := Nat.lt_of_le_of_lt (Nat.sub_le _ _) t.isLt
  have hs0 : (⟨t.val - 1, hs⟩ : Fin cfg0.N).val % 2 = 0 := show (t.val - 1) % 2 = 0 by omega
  rw [flushed2_B m c t h0 h1, last_val, outsAt0_A m c ⟨t.val - 1, hs⟩ hs0 (by omega), first_val]
  obtain ⟨e0, e1⟩ := place2 t
  funext y
  have hy0 : (y 0).val < 1024 := (y 0).isLt
  have hy1 : (y 1).val < 1024 := (y 1).isLt
  have hy : ((cfg0.win 2).xinj (grid0.coords t) y : S1024x1024.Idx) = ix2 (⟨(y 0).val, hy0⟩ : Fin 1024) (⟨(y 1).val, hy1⟩ : Fin 1024) := by
    funext a
    match a with
    | ⟨0, _⟩ => rfl
    | ⟨1, _⟩ => rfl
  refine (congrArg (k0_pay3 (F := Ideal) _) hy).trans ((pair_at m c t ⟨t.val - 1, hs⟩ hs0 (show t.val = t.val - 1 + 1 by omega) _ _).trans ?_)
  refine congrArg (G m c) (funext fun a => ?_)
  match a with
  | ⟨0, _⟩ => exact Fin.ext (show 1024 * (t.val / 2) + (y 0).val = win0_2.index t (0 : Fin 2) * 1024 + 1 * (y 0).val by rw [e0]; omega)
  | ⟨1, _⟩ => exact Fin.ext (show (y 1).val = win0_2.index t (1 : Fin 2) * 1024 + 1 * (y 1).val by rw [e1]; omega)

theorem array_eq : (dats m 0 c).arrAt 2 cfg0.N = G m c := by
  refine (dats m 0 c).arrAt_eq_of_cover 2 _ (fun t hf => flushed_eq m c t ((flush0_2 t).mp hf)) fun i => ?_
  have h0 : (i 0).val < 1024 := (i 0).isLt
  have h1 : (i 1).val < 1024 := (i 1).isLt
  have hN : cfg0.N = 2 := N_0
  have ht : 2 * ((i 0).val / 1024) + 1 < cfg0.N := by omega
  refine ⟨⟨2 * ((i 0).val / 1024) + 1, ht⟩, (flush0_2 _).mpr (show (2 * ((i 0).val / 1024) + 1) % 2 = 1 by omega), ?_⟩
  obtain ⟨e0, e1⟩ := place2 ⟨2 * ((i 0).val / 1024) + 1, ht⟩
  show i ∈ ((View.whole main_v0).slice (win0_2.rect ⟨2 * ((i 0).val / 1024) + 1, ht⟩)).set
  rw [View.set_slice_whole, Rect.mem_set_unit]
  intro a
  match a with
  | ⟨0, _⟩ =>
    show win0_2.index _ (0 : Fin 2) * 1024 ≤ (i 0).val ∧ (i 0).val < win0_2.index _ (0 : Fin 2) * 1024 + 1024
    rw [e0]
    dsimp only
    omega
  | ⟨1, _⟩ =>
    show win0_2.index _ (1 : Fin 2) * 1024 ≤ (i 1).val ∧ (i 1).val < win0_2.index _ (1 : Fin 2) * 1024 + 1024
    rw [e1]
    omega

end Cert.Kernel6Ideal.Wgrad

namespace Cert.Wgrad6

open Idealize.ShloMosaic Idealize.ShloMosaic.StableHlo Idealize.SL.Sem

theorem ref_eq (a : FVec Ideal Cert.Reference6Ideal.S4096x1024 .bf16) (b : FVec Ideal Cert.Reference6Ideal.S4096x1024 .bf16) :
    Cert.Reference6Ideal.Read.val_main_v6 (F := Ideal) a b = Cert.Kernel6Ideal.Wgrad.prod a b := by
  funext i
  rw [Cert.Reference6Ideal.Read.val_main_v6_apply]
  refine (Cert.Reference6Ideal.Read.val_main_v5_apply (F := Ideal) a b i).trans ?_
  refine (Cert.Reference6Ideal.Read.val_main_v4_apply a b _).trans (Finset.sum_congr rfl fun k _ => ?_)
  rw [Cert.Reference6Ideal.Read.val_main_v3_apply, Cert.Reference6Ideal.Read.val_main_v1_apply]
  refine (mul_comm _ _).trans (congrArg₂ (· * ·) (congrArg a ?_) (congrArg b ?_))
  · funext x
    match x with
    | ⟨0, _⟩ => rfl
    | ⟨1, _⟩ => rfl
  · funext x
    match x with
    | ⟨0, _⟩ => rfl
    | ⟨1, _⟩ => rfl

theorem facts_Kernel6 : Cert.Kernel6.Facts := by
  have h := Cert.Kernel6Ideal.Gen.facts₀
  cases h
  refine { toFacts₀ := ?_ }
  constructor <;> assumption

theorem frame_Kernel6 : Cert.quiescent_Kernel6 (hKernel6 := facts_Kernel6) := fun m g _ => by
  refine cast ?_ (Cert.Kernel6Ideal.Gen.frame (F := Bits) m g)
  sl_kernel_rfl

theorem frame_Kernel6Ideal : Cert.quiescent_Kernel6Ideal := fun m g _ => Cert.Kernel6Ideal.Gen.frame (F := Ideal) m g

theorem frame_Reference6Ideal : Cert.quiescent_Reference6Ideal := fun m g _ =>
  (θ_run _ _ _).mono (fun r h => ⟨fun c => (h c).2, Idealize.ShloMosaic.sem_eq_zero_of_no_sems (by decide) r.2⟩)
    (Cert.Reference6Ideal.Value.run m g)

theorem algebraic : Cert.algebraic_Kernel6Ideal_Reference6Ideal := by
  intro m g m' g' _ hagree
  refine ⟨fun c => Cert.Kernel6Ideal.Wgrad.G m c, ?_, ?_⟩
  · exact (θ_run _ _ _).mono (fun r h c => ⟨(h c).1.trans (Cert.Kernel6Ideal.Wgrad.array_eq m c), (h c).2⟩) (Cert.Kernel6Ideal.Value.run_blocks m g)
  · refine (θ_run _ _ _).mono (fun r h c => ⟨?_, (h c).2⟩) (Cert.Reference6Ideal.Value.run m' g')
    obtain ⟨a0, a1⟩ := hagree c
    refine (h c).1.trans ((Cert.Reference6Ideal.Read.val_main_v6_eq _ _).trans ((ref_eq _ _).trans ?_))
    exact congrArg₂ Cert.Kernel6Ideal.Wgrad.prod a0 a1

end Cert.Wgrad6

end
-- ==== Proof.Rows8.lean ====
/-
  The channel mixer's up-projection: the gate half.
-/
module

public import proofs.«01_k».proof.Defs
public import proofs.«01_k».proof.Proof.Mat
public import proofs.«01_k».proof.Proof.Gen.Kernel8Ideal.Value
public import proofs.«01_k».proof.Proof.Gen.Reference8Ideal.Run
public import proofs.«01_k».proof.Proof.Gen.Reference8Ideal.Read
public import Idealize.ShloMosaic.Lib.Quiescent
public import Idealize.ShloMosaic.Lib.Tactic

@[expose] public section

set_option maxRecDepth 16384

noncomputable section

namespace Cert.Kernel8Ideal.Rows

open Cert.Kernel8Ideal Cert.Kernel8Ideal.Gen Cert.Kernel8Ideal.Value Idealize.ShloMosaic Idealize.ShloMosaic.TcCoe

/-- A column of the half, in the weight. -/
def half (r : Fin 2816) : Fin 5632 := ⟨r.val, by omega⟩

/-- Rows against the half's columns. -/
def prod (a : S4096x1024.Idx → EReal) (b : S1024x5632.Idx → EReal) (i : S4096x2816.Idx) : EReal :=
  ∑ k : Fin 1024, a (ix2 (⟨(i 0).val, (i 0).isLt⟩ : Fin 4096) k) * b (ix2 k (half ⟨(i 1).val, (i 1).isLt⟩))

theorem pay_at (x0 : Vec Ideal S512x1024 .bf16) (x1 : Vec Ideal S2816x1024 .bf16) (r : Fin 512) (j : Fin 2816) :
    k0_pay1 (F := Ideal) x0 x1 (ix2 r j) = ∑ k : Fin 1024, x0 (ix2 r k) * x1 (ix2 j k) := by
  unfold k0_pay1
  pointwise

theorem out_eq (x0 : Vec Ideal S512x1024 .bf16) (x1 : Vec Ideal S2816x1024 .bf16) : out0_2 (F := Ideal) x0 x1 = k0_pay1 (F := Ideal) x0 x1 := by
  unfold out0_2
  rw [View.ld_unit_zero Mat.zeros2, View.ld_unit_zero Mat.zeros2]
  exact View.canon_cons_unit_zero Mat.zeros2 _ _ _

variable (m : (l : Loc nD τ sig) → Buf (Elt Ideal) l) (c : Dev nD) (t : Fin cfg0.N)

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)

/-- A row of a point's block, in the array. -/
def row (r : Fin 512) : Fin 4096 := ⟨512 * t.val + r.val, by have := t.isLt; have hN : cfg0.N = 8 := N_0; omega⟩

theorem iblk0_at (r : Fin 512) (k : Fin 1024) :
    (iblk m c 0 t : S512x1024.Idx → EReal) (ix2 r k) = (m ((c : Thread nD τ).loc main_arg0) : S4096x1024.Idx → EReal) (ix2 (row t r) k) := by
  obtain ⟨e0, e1⟩ := place0 t
  have hi : (((cfg0.win 0).blk t).view.emb (ix2 r k : S512x1024.Idx) : S4096x1024.Idx) = ix2 (row t r) k := by
    funext a
    match a with
    | ⟨0, _⟩ => exact Fin.ext (show win0_0.index t (0 : Fin 2) * 512 + 1 * r.val = 512 * t.val + r.val by rw [e0]; omega)
    | ⟨1, _⟩ => exact Fin.ext (show win0_0.index t (1 : Fin 2) * 1024 + 1 * k.val = k.val by rw [e1]; omega)
  exact (congrFun (V_main_arg0 m c) _).trans (congrArg (m ((c : Thread nD τ).loc main_arg0) : S4096x1024.Idx → EReal) hi)

theorem V0_term : (V m c main_v0 : S5632x1024.Idx → EReal)
    = transpose S5632x1024 [1, 0] (m ((c : Thread nD τ).loc main_arg1) : FVec Ideal S1024x5632 .bf16) transposes_S1024x5632_S5632x1024_1_0 := by
  sl_kernel_rfl

theorem iblk1_at (r : Fin 2816) (k : Fin 1024) :
    (iblk m c 1 t : S2816x1024.Idx → EReal) (ix2 r k)
      = (m ((c : Thread nD τ).loc main_arg1) : S1024x5632.Idx → EReal) (ix2 k (half r)) := by
  obtain ⟨e0, e1⟩ := place1 t
  have hi : (((cfg0.win 1).blk t).view.emb (ix2 r k : S2816x1024.Idx) : S5632x1024.Idx) = ix2 (half r) k := by
    funext a
    match a with
    | ⟨0, _⟩ => exact Fin.ext (show win0_1.index t (0 : Fin 2) * 2816 + 1 * r.val = r.val by rw [e0]; omega)
    | ⟨1, _⟩ => exact Fin.ext (show win0_1.index t (1 : Fin 2) * 1024 + 1 * k.val = k.val by rw [e1]; omega)
  refine (congrArg (V m c main_v0 : S5632x1024.Idx → EReal) hi).trans ?_
  rw [V0_term]
  exact transpose_apply _ _ _ _ _ (fun a => match a with
    | ⟨0, _⟩ => rfl
    | ⟨1, _⟩ => rfl)

/-- The product of the launch's arguments. -/
def G : S4096x2816.Idx → EReal := prod (m ((c : Thread nD τ).loc main_arg0)) (m ((c : Thread nD τ).loc main_arg1))

theorem flushed_eq : (dats m 0 c).flushed 2 t = ((cfg0.win 2).blk t).view.read (Elt Ideal) (G m c) := by
  rw [flushed2, out_eq]
  obtain ⟨e0, e1⟩ := place2 t
  funext y
  have hy0 : (y 0).val < 512 := (y 0).isLt
  have hy1 : (y 1).val < 2816 := (y 1).isLt
  have hy : ((cfg0.win 2).xinj (grid0.coords t) y : S512x2816.Idx) = ix2 (⟨(y 0).val, hy0⟩ : Fin 512) (⟨(y 1).val, hy1⟩ : Fin 2816) := by
    funext a
    match a with
    | ⟨0, _⟩ => rfl
    | ⟨1, _⟩ => rfl
  refine (congrArg (k0_pay1 (F := Ideal) (iblk m c 0 t) (iblk m c 1 t)) hy).trans ((pay_at _ _ _ _).trans ?_)
  show _ = prod _ _ ((((cfg0.win 2).blk t).view.emb y : S4096x2816.Idx))
  unfold prod
  refine Mat.sum_ext fun k => ?_
  rw [iblk0_at, iblk1_at]
  refine congrArg₂ (· * ·) (congrArg _ ?_) (congrArg _ ?_)
  · refine congrArg (fun r : Fin 4096 => (ix2 r k : S4096x1024.Idx)) (Fin.ext ?_)
    show 512 * t.val + (y 0).val = win0_2.index t (0 : Fin 2) * 512 + 1 * (y 0).val
    rw [e0]
    omega
  · refine congrArg (fun r : Fin 2816 => (ix2 k (half r) : S1024x5632.Idx)) (Fin.ext ?_)
    show (y 1).val = win0_2.index t (1 : Fin 2) * 2816 + 1 * (y 1).val
    rw [e1]
    omega

theorem array_eq : (dats m 0 c).arrAt 2 cfg0.N = G m c := by
  refine (dats m 0 c).arrAt_eq_of_cover 2 _ (fun t _ => flushed_eq m c t) fun i => ?_
  have h0 : (i 0).val < 4096 := (i 0).isLt
  have h1 : (i 1).val < 2816 := (i 1).isLt
  have hN : cfg0.N = 8 := N_0
  have ht : (i 0).val / 512 < cfg0.N := by omega
  refine ⟨⟨(i 0).val / 512, ht⟩, flush0_2 _, ?_⟩
  obtain ⟨e0, e1⟩ := place2 ⟨(i 0).val / 512, ht⟩
  show i ∈ ((View.whole main_v1).slice (win0_2.rect ⟨(i 0).val / 512, ht⟩)).set
  rw [View.set_slice_whole, Rect.mem_set_unit]
  intro a
  match a with
  | ⟨0, _⟩ =>
    show win0_2.index _ (0 : Fin 2) * 512 ≤ (i 0).val ∧ (i 0).val < win0_2.index _ (0 : Fin 2) * 512 + 512
    rw [e0]
    dsimp only
    omega
  | ⟨1, _⟩ =>
    show win0_2.index _ (1 : Fin 2) * 2816 ≤ (i 1).val ∧ (i 1).val < win0_2.index _ (1 : Fin 2) * 2816 + 2816
    rw [e1]
    omega

end Cert.Kernel8Ideal.Rows

namespace Cert.Rows8

open Idealize.ShloMosaic Idealize.ShloMosaic.StableHlo Idealize.SL.Sem

theorem ref_eq (a : FVec Ideal Cert.Reference8Ideal.S4096x1024 .bf16) (b : FVec Ideal Cert.Reference8Ideal.S1024x5632 .bf16) :
    Cert.Reference8Ideal.Read.val_main_v5 (F := Ideal) a b = Cert.Kernel8Ideal.Rows.prod a b := by
  funext i
  rw [Cert.Reference8Ideal.Read.val_main_v5_apply]
  refine (Cert.Reference8Ideal.Read.val_main_v3_apply (F := Ideal) a b i).trans ?_
  refine (Cert.Reference8Ideal.Read.val_main_v2_apply a b _).trans (Finset.sum_congr rfl fun k _ => ?_)
  rw [Cert.Reference8Ideal.Read.val_main_v0_apply, Cert.Reference8Ideal.Read.val_main_v1_apply]
  refine congrArg₂ (· * ·) (congrArg a ?_) (congrArg b ?_)
  · funext x
    match x with
    | ⟨0, _⟩ => rfl
    | ⟨1, _⟩ => rfl
  · funext x
    match x with
    | ⟨0, _⟩ => rfl
    | ⟨1, _⟩ => exact Fin.ext (show (i 1).val = (i 1).val from rfl)

theorem facts_Kernel8 : Cert.Kernel8.Facts := by
  have h := Cert.Kernel8Ideal.Gen.facts₀
  cases h
  refine { toFacts₀ := ?_ }
  constructor <;> assumption

theorem frame_Kernel8 : Cert.quiescent_Kernel8 (hKernel8 := facts_Kernel8) := fun m g _ => by
  refine cast ?_ (Cert.Kernel8Ideal.Gen.frame (F := Bits) m g)
  sl_kernel_rfl

theorem frame_Kernel8Ideal : Cert.quiescent_Kernel8Ideal := fun m g _ => Cert.Kernel8Ideal.Gen.frame (F := Ideal) m g

theorem frame_Reference8Ideal : Cert.quiescent_Reference8Ideal := fun m g _ =>
  (θ_run _ _ _).mono (fun r h => ⟨fun c => (h c).2, Idealize.ShloMosaic.sem_eq_zero_of_no_sems (by decide) r.2⟩)
    (Cert.Reference8Ideal.Value.run m g)

theorem algebraic : Cert.algebraic_Kernel8Ideal_Reference8Ideal := by
  intro m g m' g' _ hagree
  refine ⟨fun c => Cert.Kernel8Ideal.Rows.G m c, ?_, ?_⟩
  · exact (θ_run _ _ _).mono (fun r h c => ⟨(h c).1.trans (Cert.Kernel8Ideal.Rows.array_eq m c), (h c).2⟩) (Cert.Kernel8Ideal.Value.run_blocks m g)
  · refine (θ_run _ _ _).mono (fun r h c => ⟨?_, (h c).2⟩) (Cert.Reference8Ideal.Value.run m' g')
    obtain ⟨a0, a1⟩ := hagree c
    refine (h c).1.trans ((Cert.Reference8Ideal.Read.val_main_v5_eq _ _).trans ((ref_eq _ _).trans ?_))
    exact congrArg₂ Cert.Kernel8Ideal.Rows.prod a0 a1

end Cert.Rows8

end
-- ==== Proof.Rows9.lean ====
/-
  The channel mixer's up-projection: the value half.
-/
module

public import proofs.«01_k».proof.Defs
public import proofs.«01_k».proof.Proof.Mat
public import proofs.«01_k».proof.Proof.Gen.Kernel9Ideal.Value
public import proofs.«01_k».proof.Proof.Gen.Reference9Ideal.Run
public import proofs.«01_k».proof.Proof.Gen.Reference9Ideal.Read
public import Idealize.ShloMosaic.Lib.Quiescent
public import Idealize.ShloMosaic.Lib.Tactic

@[expose] public section

set_option maxRecDepth 16384

noncomputable section

namespace Cert.Kernel9Ideal.Rows

open Cert.Kernel9Ideal Cert.Kernel9Ideal.Gen Cert.Kernel9Ideal.Value Idealize.ShloMosaic Idealize.ShloMosaic.TcCoe

/-- A column of the half, in the weight. -/
def half (r : Fin 2816) : Fin 5632 := ⟨2816 + r.val, by omega⟩

/-- Rows against the half's columns. -/
def prod (a : S4096x1024.Idx → EReal) (b : S1024x5632.Idx → EReal) (i : S4096x2816.Idx) : EReal :=
  ∑ k : Fin 1024, a (ix2 (⟨(i 0).val, (i 0).isLt⟩ : Fin 4096) k) * b (ix2 k (half ⟨(i 1).val, (i 1).isLt⟩))

theorem pay_at (x0 : Vec Ideal S512x1024 .bf16) (x1 : Vec Ideal S2816x1024 .bf16) (r : Fin 512) (j : Fin 2816) :
    k0_pay1 (F := Ideal) x0 x1 (ix2 r j) = ∑ k : Fin 1024, x0 (ix2 r k) * x1 (ix2 j k) := by
  unfold k0_pay1
  pointwise

theorem out_eq (x0 : Vec Ideal S512x1024 .bf16) (x1 : Vec Ideal S2816x1024 .bf16) : out0_2 (F := Ideal) x0 x1 = k0_pay1 (F := Ideal) x0 x1 := by
  unfold out0_2
  rw [View.ld_unit_zero Mat.zeros2, View.ld_unit_zero Mat.zeros2]
  exact View.canon_cons_unit_zero Mat.zeros2 _ _ _

variable (m : (l : Loc nD τ sig) → Buf (Elt Ideal) l) (c : Dev nD) (t : Fin cfg0.N)

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 1 ∧ win0_1.index t (1 : Fin 2) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)

/-- A row of a point's block, in the array. -/
def row (r : Fin 512) : Fin 4096 := ⟨512 * t.val + r.val, by have := t.isLt; have hN : cfg0.N = 8 := N_0; omega⟩

theorem iblk0_at (r : Fin 512) (k : Fin 1024) :
    (iblk m c 0 t : S512x1024.Idx → EReal) (ix2 r k) = (m ((c : Thread nD τ).loc main_arg0) : S4096x1024.Idx → EReal) (ix2 (row t r) k) := by
  obtain ⟨e0, e1⟩ := place0 t
  have hi : (((cfg0.win 0).blk t).view.emb (ix2 r k : S512x1024.Idx) : S4096x1024.Idx) = ix2 (row t r) k := by
    funext a
    match a with
    | ⟨0, _⟩ => exact Fin.ext (show win0_0.index t (0 : Fin 2) * 512 + 1 * r.val = 512 * t.val + r.val by rw [e0]; omega)
    | ⟨1, _⟩ => exact Fin.ext (show win0_0.index t (1 : Fin 2) * 1024 + 1 * k.val = k.val by rw [e1]; omega)
  exact (congrFun (V_main_arg0 m c) _).trans (congrArg (m ((c : Thread nD τ).loc main_arg0) : S4096x1024.Idx → EReal) hi)

theorem V0_term : (V m c main_v0 : S5632x1024.Idx → EReal)
    = transpose S5632x1024 [1, 0] (m ((c : Thread nD τ).loc main_arg1) : FVec Ideal S1024x5632 .bf16) transposes_S1024x5632_S5632x1024_1_0 := by
  sl_kernel_rfl

theorem iblk1_at (r : Fin 2816) (k : Fin 1024) :
    (iblk m c 1 t : S2816x1024.Idx → EReal) (ix2 r k)
      = (m ((c : Thread nD τ).loc main_arg1) : S1024x5632.Idx → EReal) (ix2 k (half r)) := by
  obtain ⟨e0, e1⟩ := place1 t
  have hi : (((cfg0.win 1).blk t).view.emb (ix2 r k : S2816x1024.Idx) : S5632x1024.Idx) = ix2 (half r) k := by
    funext a
    match a with
    | ⟨0, _⟩ => exact Fin.ext (show win0_1.index t (0 : Fin 2) * 2816 + 1 * r.val = 2816 + r.val by rw [e0]; omega)
    | ⟨1, _⟩ => exact Fin.ext (show win0_1.index t (1 : Fin 2) * 1024 + 1 * k.val = k.val by rw [e1]; omega)
  refine (congrArg (V m c main_v0 : S5632x1024.Idx → EReal) hi).trans ?_
  rw [V0_term]
  exact transpose_apply _ _ _ _ _ (fun a => match a with
    | ⟨0, _⟩ => rfl
    | ⟨1, _⟩ => rfl)

/-- The product of the launch's arguments. -/
def G : S4096x2816.Idx → EReal := prod (m ((c : Thread nD τ).loc main_arg0)) (m ((c : Thread nD τ).loc main_arg1))

theorem flushed_eq : (dats m 0 c).flushed 2 t = ((cfg0.win 2).blk t).view.read (Elt Ideal) (G m c) := by
  rw [flushed2, out_eq]
  obtain ⟨e0, e1⟩ := place2 t
  funext y
  have hy0 : (y 0).val < 512 := (y 0).isLt
  have hy1 : (y 1).val < 2816 := (y 1).isLt
  have hy : ((cfg0.win 2).xinj (grid0.coords t) y : S512x2816.Idx) = ix2 (⟨(y 0).val, hy0⟩ : Fin 512) (⟨(y 1).val, hy1⟩ : Fin 2816) := by
    funext a
    match a with
    | ⟨0, _⟩ => rfl
    | ⟨1, _⟩ => rfl
  refine (congrArg (k0_pay1 (F := Ideal) (iblk m c 0 t) (iblk m c 1 t)) hy).trans ((pay_at _ _ _ _).trans ?_)
  show _ = prod _ _ ((((cfg0.win 2).blk t).view.emb y : S4096x2816.Idx))
  unfold prod
  refine Mat.sum_ext fun k => ?_
  rw [iblk0_at, iblk1_at]
  refine congrArg₂ (· * ·) (congrArg _ ?_) (congrArg _ ?_)
  · refine congrArg (fun r : Fin 4096 => (ix2 r k : S4096x1024.Idx)) (Fin.ext ?_)
    show 512 * t.val + (y 0).val = win0_2.index t (0 : Fin 2) * 512 + 1 * (y 0).val
    rw [e0]
    omega
  · refine congrArg (fun r : Fin 2816 => (ix2 k (half r) : S1024x5632.Idx)) (Fin.ext ?_)
    show (y 1).val = win0_2.index t (1 : Fin 2) * 2816 + 1 * (y 1).val
    rw [e1]
    omega

theorem array_eq : (dats m 0 c).arrAt 2 cfg0.N = G m c := by
  refine (dats m 0 c).arrAt_eq_of_cover 2 _ (fun t _ => flushed_eq m c t) fun i => ?_
  have h0 : (i 0).val < 4096 := (i 0).isLt
  have h1 : (i 1).val < 2816 := (i 1).isLt
  have hN : cfg0.N = 8 := N_0
  have ht : (i 0).val / 512 < cfg0.N := by omega
  refine ⟨⟨(i 0).val / 512, ht⟩, flush0_2 _, ?_⟩
  obtain ⟨e0, e1⟩ := place2 ⟨(i 0).val / 512, ht⟩
  show i ∈ ((View.whole main_v1).slice (win0_2.rect ⟨(i 0).val / 512, ht⟩)).set
  rw [View.set_slice_whole, Rect.mem_set_unit]
  intro a
  match a with
  | ⟨0, _⟩ =>
    show win0_2.index _ (0 : Fin 2) * 512 ≤ (i 0).val ∧ (i 0).val < win0_2.index _ (0 : Fin 2) * 512 + 512
    rw [e0]
    dsimp only
    omega
  | ⟨1, _⟩ =>
    show win0_2.index _ (1 : Fin 2) * 2816 ≤ (i 1).val ∧ (i 1).val < win0_2.index _ (1 : Fin 2) * 2816 + 2816
    rw [e1]
    omega

end Cert.Kernel9Ideal.Rows

namespace Cert.Rows9

open Idealize.ShloMosaic Idealize.ShloMosaic.StableHlo Idealize.SL.Sem

theorem ref_eq (a : FVec Ideal Cert.Reference9Ideal.S4096x1024 .bf16) (b : FVec Ideal Cert.Reference9Ideal.S1024x5632 .bf16) :
    Cert.Reference9Ideal.Read.val_main_v5 (F := Ideal) a b = Cert.Kernel9Ideal.Rows.prod a b := by
  funext i
  rw [Cert.Reference9Ideal.Read.val_main_v5_apply]
  refine (Cert.Reference9Ideal.Read.val_main_v4_apply (F := Ideal) a b i).trans ?_
  refine (Cert.Reference9Ideal.Read.val_main_v2_apply a b _).trans (Finset.sum_congr rfl fun k _ => ?_)
  rw [Cert.Reference9Ideal.Read.val_main_v0_apply, Cert.Reference9Ideal.Read.val_main_v1_apply]
  refine congrArg₂ (· * ·) (congrArg a ?_) (congrArg b ?_)
  · funext x
    match x with
    | ⟨0, _⟩ => rfl
    | ⟨1, _⟩ => rfl
  · funext x
    match x with
    | ⟨0, _⟩ => rfl
    | ⟨1, _⟩ => exact Fin.ext (show 2816 + (i 1).val = 2816 + (i 1).val from rfl)

theorem facts_Kernel9 : Cert.Kernel9.Facts := by
  have h := Cert.Kernel9Ideal.Gen.facts₀
  cases h
  refine { toFacts₀ := ?_ }
  constructor <;> assumption

theorem frame_Kernel9 : Cert.quiescent_Kernel9 (hKernel9 := facts_Kernel9) := fun m g _ => by
  refine cast ?_ (Cert.Kernel9Ideal.Gen.frame (F := Bits) m g)
  sl_kernel_rfl

theorem frame_Kernel9Ideal : Cert.quiescent_Kernel9Ideal := fun m g _ => Cert.Kernel9Ideal.Gen.frame (F := Ideal) m g

theorem frame_Reference9Ideal : Cert.quiescent_Reference9Ideal := fun m g _ =>
  (θ_run _ _ _).mono (fun r h => ⟨fun c => (h c).2, Idealize.ShloMosaic.sem_eq_zero_of_no_sems (by decide) r.2⟩)
    (Cert.Reference9Ideal.Value.run m g)

theorem algebraic : Cert.algebraic_Kernel9Ideal_Reference9Ideal := by
  intro m g m' g' _ hagree
  refine ⟨fun c => Cert.Kernel9Ideal.Rows.G m c, ?_, ?_⟩
  · exact (θ_run _ _ _).mono (fun r h c => ⟨(h c).1.trans (Cert.Kernel9Ideal.Rows.array_eq m c), (h c).2⟩) (Cert.Kernel9Ideal.Value.run_blocks m g)
  · refine (θ_run _ _ _).mono (fun r h c => ⟨?_, (h c).2⟩) (Cert.Reference9Ideal.Value.run m' g')
    obtain ⟨a0, a1⟩ := hagree c
    refine (h c).1.trans ((Cert.Reference9Ideal.Read.val_main_v5_eq _ _).trans ((ref_eq _ _).trans ?_))
    exact congrArg₂ Cert.Kernel9Ideal.Rows.prod a0 a1

end Cert.Rows9

end
-- ==== Proof.Rows10.lean ====
/-
  The gradient of the attention's output, through its output projection.
-/
module

public import proofs.«01_k».proof.Defs
public import proofs.«01_k».proof.Proof.Mat
public import proofs.«01_k».proof.Proof.Gen.Kernel10Ideal.Value
public import proofs.«01_k».proof.Proof.Gen.Reference10Ideal.Run
public import proofs.«01_k».proof.Proof.Gen.Reference10Ideal.Read
public import Idealize.ShloMosaic.Lib.Quiescent
public import Idealize.ShloMosaic.Lib.Tactic

@[expose] public section

set_option maxRecDepth 16384

noncomputable section

namespace Cert.Kernel10Ideal.Rows

open Cert.Kernel10Ideal Cert.Kernel10Ideal.Gen Cert.Kernel10Ideal.Value Idealize.ShloMosaic Idealize.ShloMosaic.TcCoe

/-- Rows against rows. -/
def prod (a : S4096x1024.Idx → EReal) (b : S1024x1024.Idx → EReal) (i : S4096x1024.Idx) : EReal :=
  ∑ k : Fin 1024, a (ix2 (⟨(i 0).val, (i 0).isLt⟩ : Fin 4096) k) * b (ix2 (⟨(i 1).val, (i 1).isLt⟩ : Fin 1024) k)

theorem pay_at (x0 : Vec Ideal S512x1024 .bf16) (x1 : Vec Ideal S1024x1024 .bf16) (r : Fin 512) (j : Fin 1024) :
    k0_pay1 (F := Ideal) x0 x1 (ix2 r j) = ∑ k : Fin 1024, x0 (ix2 r k) * x1 (ix2 j k) := by
  unfold k0_pay1
  pointwise

theorem out_eq (x0 : Vec Ideal S512x1024 .bf16) (x1 : Vec Ideal S1024x1024 .bf16) : out0_2 (F := Ideal) x0 x1 = k0_pay1 (F := Ideal) x0 x1 := by
  unfold out0_2
  rw [View.ld_unit_zero Mat.zeros2, View.ld_unit_zero Mat.zeros2]
  exact View.canon_cons_unit_zero Mat.zeros2 _ _ _

variable (m : (l : Loc nD τ sig) → Buf (Elt Ideal) l) (c : Dev nD) (t : Fin cfg0.N)

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)

/-- A row of a point's block, in the array. -/
def row (r : Fin 512) : Fin 4096 := ⟨512 * t.val + r.val, by have := t.isLt; have hN : cfg0.N = 8 := N_0; omega⟩

theorem iblk0_at (r : Fin 512) (k : Fin 1024) :
    (iblk m c 0 t : S512x1024.Idx → EReal) (ix2 r k) = (m ((c : Thread nD τ).loc main_arg0) : S4096x1024.Idx → EReal) (ix2 (row t r) k) := by
  obtain ⟨e0, e1⟩ := place0 t
  have hi : (((cfg0.win 0).blk t).view.emb (ix2 r k : S512x1024.Idx) : S4096x1024.Idx) = ix2 (row t r) k := by
    funext a
    match a with
    | ⟨0, _⟩ => exact Fin.ext (show win0_0.index t (0 : Fin 2) * 512 + 1 * r.val = 512 * t.val + r.val by rw [e0]; omega)
    | ⟨1, _⟩ => exact Fin.ext (show win0_0.index t (1 : Fin 2) * 1024 + 1 * k.val = k.val by rw [e1]; omega)
  exact (congrFun (V_main_arg0 m c) _).trans (congrArg (m ((c : Thread nD τ).loc main_arg0) : S4096x1024.Idx → EReal) hi)

theorem iblk1_at (r : Fin 1024) (k : Fin 1024) :
    (iblk m c 1 t : S1024x1024.Idx → EReal) (ix2 r k) = (m ((c : Thread nD τ).loc main_arg1) : S1024x1024.Idx → EReal) (ix2 r k) := by
  obtain ⟨e0, e1⟩ := place1 t
  have hi : (((cfg0.win 1).blk t).view.emb (ix2 r k : S1024x1024.Idx) : S1024x1024.Idx) = ix2 r k := by
    funext a
    match a with
    | ⟨0, _⟩ => exact Fin.ext (show win0_1.index t (0 : Fin 2) * 1024 + 1 * r.val = r.val by rw [e0]; omega)
    | ⟨1, _⟩ => exact Fin.ext (show win0_1.index t (1 : Fin 2) * 1024 + 1 * k.val = k.val by rw [e1]; omega)
  exact (congrFun (V_main_arg1 m c) _).trans (congrArg (m ((c : Thread nD τ).loc main_arg1) : S1024x1024.Idx → EReal) hi)

/-- The product of the launch's arguments. -/
def G : S4096x1024.Idx → EReal := prod (m ((c : Thread nD τ).loc main_arg0)) (m ((c : Thread nD τ).loc main_arg1))

theorem flushed_eq : (dats m 0 c).flushed 2 t = ((cfg0.win 2).blk t).view.read (Elt Ideal) (G m c) := by
  rw [flushed2, out_eq]
  obtain ⟨e0, e1⟩ := place2 t
  funext y
  have hy0 : (y 0).val < 512 := (y 0).isLt
  have hy1 : (y 1).val < 1024 := (y 1).isLt
  have hy : ((cfg0.win 2).xinj (grid0.coords t) y : S512x1024.Idx) = ix2 (⟨(y 0).val, hy0⟩ : Fin 512) (⟨(y 1).val, hy1⟩ : Fin 1024) := by
    funext a
    match a with
    | ⟨0, _⟩ => rfl
    | ⟨1, _⟩ => rfl
  refine (congrArg (k0_pay1 (F := Ideal) (iblk m c 0 t) (iblk m c 1 t)) hy).trans ((pay_at _ _ _ _).trans ?_)
  show _ = prod _ _ ((((cfg0.win 2).blk t).view.emb y : S4096x1024.Idx))
  unfold prod
  refine Mat.sum_ext fun k => ?_
  rw [iblk0_at, iblk1_at]
  refine congrArg₂ (· * ·) (congrArg _ ?_) (congrArg _ ?_)
  · refine congrArg (fun r : Fin 4096 => (ix2 r k : S4096x1024.Idx)) (Fin.ext ?_)
    show 512 * t.val + (y 0).val = win0_2.index t (0 : Fin 2) * 512 + 1 * (y 0).val
    rw [e0]
    omega
  · refine congrArg (fun r : Fin 1024 => (ix2 r k : S1024x1024.Idx)) (Fin.ext ?_)
    show (y 1).val = win0_2.index t (1 : Fin 2) * 1024 + 1 * (y 1).val
    rw [e1]
    omega

theorem array_eq : (dats m 0 c).arrAt 2 cfg0.N = G m c := by
  refine (dats m 0 c).arrAt_eq_of_cover 2 _ (fun t _ => flushed_eq m c t) fun i => ?_
  have h0 : (i 0).val < 4096 := (i 0).isLt
  have h1 : (i 1).val < 1024 := (i 1).isLt
  have hN : cfg0.N = 8 := N_0
  have ht : (i 0).val / 512 < cfg0.N := by omega
  refine ⟨⟨(i 0).val / 512, ht⟩, flush0_2 _, ?_⟩
  obtain ⟨e0, e1⟩ := place2 ⟨(i 0).val / 512, ht⟩
  show i ∈ ((View.whole main_v0).slice (win0_2.rect ⟨(i 0).val / 512, ht⟩)).set
  rw [View.set_slice_whole, Rect.mem_set_unit]
  intro a
  match a with
  | ⟨0, _⟩ =>
    show win0_2.index _ (0 : Fin 2) * 512 ≤ (i 0).val ∧ (i 0).val < win0_2.index _ (0 : Fin 2) * 512 + 512
    rw [e0]
    dsimp only
    omega
  | ⟨1, _⟩ =>
    show win0_2.index _ (1 : Fin 2) * 1024 ≤ (i 1).val ∧ (i 1).val < win0_2.index _ (1 : Fin 2) * 1024 + 1024
    rw [e1]
    omega

end Cert.Kernel10Ideal.Rows

namespace Cert.Rows10

open Idealize.ShloMosaic Idealize.ShloMosaic.StableHlo Idealize.SL.Sem

theorem ref_eq (a : FVec Ideal Cert.Reference10Ideal.S4096x1024 .bf16) (b : FVec Ideal Cert.Reference10Ideal.S1024x1024 .bf16) :
    Cert.Reference10Ideal.Read.val_main_v5 (F := Ideal) a b = Cert.Kernel10Ideal.Rows.prod a b := by
  funext i
  rw [Cert.Reference10Ideal.Read.val_main_v5_apply]
  refine (Cert.Reference10Ideal.Read.val_main_v4_apply a b i).trans (Finset.sum_congr rfl fun k _ => ?_)
  rw [Cert.Reference10Ideal.Read.val_main_v3_apply, Cert.Reference10Ideal.Read.val_main_v1_apply]
  refine congrArg₂ (· * ·) (congrArg a ?_) (congrArg b ?_)
  · funext x
    match x with
    | ⟨0, _⟩ => rfl
    | ⟨1, _⟩ => rfl
  · funext x
    match x with
    | ⟨0, _⟩ => rfl
    | ⟨1, _⟩ => rfl

theorem facts_Kernel10 : Cert.Kernel10.Facts := by
  have h := Cert.Kernel10Ideal.Gen.facts₀
  cases h
  refine { toFacts₀ := ?_ }
  constructor <;> assumption

theorem frame_Kernel10 : Cert.quiescent_Kernel10 (hKernel10 := facts_Kernel10) := fun m g _ => by
  refine cast ?_ (Cert.Kernel10Ideal.Gen.frame (F := Bits) m g)
  sl_kernel_rfl

theorem frame_Kernel10Ideal : Cert.quiescent_Kernel10Ideal := fun m g _ => Cert.Kernel10Ideal.Gen.frame (F := Ideal) m g

theorem frame_Reference10Ideal : Cert.quiescent_Reference10Ideal := fun m g _ =>
  (θ_run _ _ _).mono (fun r h => ⟨fun c => (h c).2, Idealize.ShloMosaic.sem_eq_zero_of_no_sems (by decide) r.2⟩)
    (Cert.Reference10Ideal.Value.run m g)

theorem algebraic : Cert.algebraic_Kernel10Ideal_Reference10Ideal := by
  intro m g m' g' _ hagree
  refine ⟨fun c => Cert.Kernel10Ideal.Rows.G m c, ?_, ?_⟩
  · exact (θ_run _ _ _).mono (fun r h c => ⟨(h c).1.trans (Cert.Kernel10Ideal.Rows.array_eq m c), (h c).2⟩) (Cert.Kernel10Ideal.Value.run_blocks m g)
  · refine (θ_run _ _ _).mono (fun r h c => ⟨?_, (h c).2⟩) (Cert.Reference10Ideal.Value.run m' g')
    obtain ⟨a0, a1⟩ := hagree c
    refine (h c).1.trans ((Cert.Reference10Ideal.Read.val_main_v5_eq _ _).trans ((ref_eq _ _).trans ?_))
    exact congrArg₂ Cert.Kernel10Ideal.Rows.prod a0 a1

end Cert.Rows10

end
-- ==== Proof.Rows11.lean ====
/-
  The gradient of the pooling mixer's two head groups, through its output projection.
-/
module

public import proofs.«01_k».proof.Defs
public import proofs.«01_k».proof.Proof.Mat
public import proofs.«01_k».proof.Proof.Gen.Kernel11Ideal.Value
public import proofs.«01_k».proof.Proof.Gen.Reference11Ideal.Run
public import proofs.«01_k».proof.Proof.Gen.Reference11Ideal.Read
public import Idealize.ShloMosaic.Lib.Quiescent
public import Idealize.ShloMosaic.Lib.Tactic

@[expose] public section

set_option maxRecDepth 16384

noncomputable section

namespace Cert.Kernel11Ideal.Rows

open Cert.Kernel11Ideal Cert.Kernel11Ideal.Gen Cert.Kernel11Ideal.Value Idealize.ShloMosaic Idealize.ShloMosaic.TcCoe

/-- Rows against rows. -/
def prod (a : S4096x1024.Idx → EReal) (b : S1024x1024.Idx → EReal) (i : S4096x1024.Idx) : EReal :=
  ∑ k : Fin 1024, a (ix2 (⟨(i 0).val, (i 0).isLt⟩ : Fin 4096) k) * b (ix2 (⟨(i 1).val, (i 1).isLt⟩ : Fin 1024) k)

theorem pay_at (x0 : Vec Ideal S512x1024 .bf16) (x1 : Vec Ideal S1024x1024 .bf16) (r : Fin 512) (j : Fin 1024) :
    k0_pay1 (F := Ideal) x0 x1 (ix2 r j) = ∑ k : Fin 1024, x0 (ix2 r k) * x1 (ix2 j k) := by
  unfold k0_pay1
  pointwise

theorem out_eq (x0 : Vec Ideal S512x1024 .bf16) (x1 : Vec Ideal S1024x1024 .bf16) : out0_2 (F := Ideal) x0 x1 = k0_pay1 (F := Ideal) x0 x1 := by
  unfold out0_2
  rw [View.ld_unit_zero Mat.zeros2, View.ld_unit_zero Mat.zeros2]
  exact View.canon_cons_unit_zero Mat.zeros2 _ _ _

variable (m : (l : Loc nD τ sig) → Buf (Elt Ideal) l) (c : Dev nD) (t : Fin cfg0.N)

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)

/-- A row of a point's block, in the array. -/
def row (r : Fin 512) : Fin 4096 := ⟨512 * t.val + r.val, by have := t.isLt; have hN : cfg0.N = 8 := N_0; omega⟩

theorem iblk0_at (r : Fin 512) (k : Fin 1024) :
    (iblk m c 0 t : S512x1024.Idx → EReal) (ix2 r k) = (m ((c : Thread nD τ).loc main_arg0) : S4096x1024.Idx → EReal) (ix2 (row t r) k) := by
  obtain ⟨e0, e1⟩ := place0 t
  have hi : (((cfg0.win 0).blk t).view.emb (ix2 r k : S512x1024.Idx) : S4096x1024.Idx) = ix2 (row t r) k := by
    funext a
    match a with
    | ⟨0, _⟩ => exact Fin.ext (show win0_0.index t (0 : Fin 2) * 512 + 1 * r.val = 512 * t.val + r.val by rw [e0]; omega)
    | ⟨1, _⟩ => exact Fin.ext (show win0_0.index t (1 : Fin 2) * 1024 + 1 * k.val = k.val by rw [e1]; omega)
  exact (congrFun (V_main_arg0 m c) _).trans (congrArg (m ((c : Thread nD τ).loc main_arg0) : S4096x1024.Idx → EReal) hi)

theorem iblk1_at (r : Fin 1024) (k : Fin 1024) :
    (iblk m c 1 t : S1024x1024.Idx → EReal) (ix2 r k) = (m ((c : Thread nD τ).loc main_arg1) : S1024x1024.Idx → EReal) (ix2 r k) := by
  obtain ⟨e0, e1⟩ := place1 t
  have hi : (((cfg0.win 1).blk t).view.emb (ix2 r k : S1024x1024.Idx) : S1024x1024.Idx) = ix2 r k := by
    funext a
    match a with
    | ⟨0, _⟩ => exact Fin.ext (show win0_1.index t (0 : Fin 2) * 1024 + 1 * r.val = r.val by rw [e0]; omega)
    | ⟨1, _⟩ => exact Fin.ext (show win0_1.index t (1 : Fin 2) * 1024 + 1 * k.val = k.val by rw [e1]; omega)
  exact (congrFun (V_main_arg1 m c) _).trans (congrArg (m ((c : Thread nD τ).loc main_arg1) : S1024x1024.Idx → EReal) hi)

/-- The product of the launch's arguments. -/
def G : S4096x1024.Idx → EReal := prod (m ((c : Thread nD τ).loc main_arg0)) (m ((c : Thread nD τ).loc main_arg1))

theorem flushed_eq : (dats m 0 c).flushed 2 t = ((cfg0.win 2).blk t).view.read (Elt Ideal) (G m c) := by
  rw [flushed2, out_eq]
  obtain ⟨e0, e1⟩ := place2 t
  funext y
  have hy0 : (y 0).val < 512 := (y 0).isLt
  have hy1 : (y 1).val < 1024 := (y 1).isLt
  have hy : ((cfg0.win 2).xinj (grid0.coords t) y : S512x1024.Idx) = ix2 (⟨(y 0).val, hy0⟩ : Fin 512) (⟨(y 1).val, hy1⟩ : Fin 1024) := by
    funext a
    match a with
    | ⟨0, _⟩ => rfl
    | ⟨1, _⟩ => rfl
  refine (congrArg (k0_pay1 (F := Ideal) (iblk m c 0 t) (iblk m c 1 t)) hy).trans ((pay_at _ _ _ _).trans ?_)
  show _ = prod _ _ ((((cfg0.win 2).blk t).view.emb y : S4096x1024.Idx))
  unfold prod
  refine Mat.sum_ext fun k => ?_
  rw [iblk0_at, iblk1_at]
  refine congrArg₂ (· * ·) (congrArg _ ?_) (congrArg _ ?_)
  · refine congrArg (fun r : Fin 4096 => (ix2 r k : S4096x1024.Idx)) (Fin.ext ?_)
    show 512 * t.val + (y 0).val = win0_2.index t (0 : Fin 2) * 512 + 1 * (y 0).val
    rw [e0]
    omega
  · refine congrArg (fun r : Fin 1024 => (ix2 r k : S1024x1024.Idx)) (Fin.ext ?_)
    show (y 1).val = win0_2.index t (1 : Fin 2) * 1024 + 1 * (y 1).val
    rw [e1]
    omega

theorem array_eq : (dats m 0 c).arrAt 2 cfg0.N = G m c := by
  refine (dats m 0 c).arrAt_eq_of_cover 2 _ (fun t _ => flushed_eq m c t) fun i => ?_
  have h0 : (i 0).val < 4096 := (i 0).isLt
  have h1 : (i 1).val < 1024 := (i 1).isLt
  have hN : cfg0.N = 8 := N_0
  have ht : (i 0).val / 512 < cfg0.N := by omega
  refine ⟨⟨(i 0).val / 512, ht⟩, flush0_2 _, ?_⟩
  obtain ⟨e0, e1⟩ := place2 ⟨(i 0).val / 512, ht⟩
  show i ∈ ((View.whole main_v0).slice (win0_2.rect ⟨(i 0).val / 512, ht⟩)).set
  rw [View.set_slice_whole, Rect.mem_set_unit]
  intro a
  match a with
  | ⟨0, _⟩ =>
    show win0_2.index _ (0 : Fin 2) * 512 ≤ (i 0).val ∧ (i 0).val < win0_2.index _ (0 : Fin 2) * 512 + 512
    rw [e0]
    dsimp only
    omega
  | ⟨1, _⟩ =>
    show win0_2.index _ (1 : Fin 2) * 1024 ≤ (i 1).val ∧ (i 1).val < win0_2.index _ (1 : Fin 2) * 1024 + 1024
    rw [e1]
    omega

end Cert.Kernel11Ideal.Rows

namespace Cert.Rows11

open Idealize.ShloMosaic Idealize.ShloMosaic.StableHlo Idealize.SL.Sem

theorem ref_eq (a : FVec Ideal Cert.Reference11Ideal.S4096x1024 .bf16) (b : FVec Ideal Cert.Reference11Ideal.S1024x1024 .bf16) :
    Cert.Reference11Ideal.Read.val_main_v4 (F := Ideal) a b = Cert.Kernel11Ideal.Rows.prod a b := by
  funext i
  refine (Cert.Reference11Ideal.Read.val_main_v4_apply a b i).trans (Finset.sum_congr rfl fun k _ => ?_)
  rw [Cert.Reference11Ideal.Read.val_main_v3_apply, Cert.Reference11Ideal.Read.val_main_v1_apply]
  refine congrArg₂ (· * ·) (congrArg a ?_) (congrArg b ?_)
  · funext x
    match x with
    | ⟨0, _⟩ => rfl
    | ⟨1, _⟩ => rfl
  · funext x
    match x with
    | ⟨0, _⟩ => rfl
    | ⟨1, _⟩ => rfl

theorem facts_Kernel11 : Cert.Kernel11.Facts := by
  have h := Cert.Kernel11Ideal.Gen.facts₀
  cases h
  refine { toFacts₀ := ?_ }
  constructor <;> assumption

theorem frame_Kernel11 : Cert.quiescent_Kernel11 (hKernel11 := facts_Kernel11) := fun m g _ => by
  refine cast ?_ (Cert.Kernel11Ideal.Gen.frame (F := Bits) m g)
  sl_kernel_rfl

theorem frame_Kernel11Ideal : Cert.quiescent_Kernel11Ideal := fun m g _ => Cert.Kernel11Ideal.Gen.frame (F := Ideal) m g

theorem frame_Reference11Ideal : Cert.quiescent_Reference11Ideal := fun m g _ =>
  (θ_run _ _ _).mono (fun r h => ⟨fun c => (h c).2, Idealize.ShloMosaic.sem_eq_zero_of_no_sems (by decide) r.2⟩)
    (Cert.Reference11Ideal.Value.run m g)

theorem algebraic : Cert.algebraic_Kernel11Ideal_Reference11Ideal := by
  intro m g m' g' _ hagree
  refine ⟨fun c => Cert.Kernel11Ideal.Rows.G m c, ?_, ?_⟩
  · exact (θ_run _ _ _).mono (fun r h c => ⟨(h c).1.trans (Cert.Kernel11Ideal.Rows.array_eq m c), (h c).2⟩) (Cert.Kernel11Ideal.Value.run_blocks m g)
  · refine (θ_run _ _ _).mono (fun r h c => ⟨?_, (h c).2⟩) (Cert.Reference11Ideal.Value.run m' g')
    obtain ⟨a0, a1⟩ := hagree c
    refine (h c).1.trans ((Cert.Reference11Ideal.Read.val_main_v4_eq _ _).trans ((ref_eq _ _).trans ?_))
    exact congrArg₂ Cert.Kernel11Ideal.Rows.prod a0 a1

end Cert.Rows11

end
-- ==== Proof.Rows12.lean ====
/-
  The gradient of the step's input: through the pooling mixer's input projection, and through the residual.
-/
module

public import proofs.«01_k».proof.Defs
public import proofs.«01_k».proof.Proof.Mat
public import proofs.«01_k».proof.Proof.Gen.Kernel12Ideal.Value
public import proofs.«01_k».proof.Proof.Gen.Reference12Ideal.Run
public import proofs.«01_k».proof.Proof.Gen.Reference12Ideal.Read
public import Idealize.ShloMosaic.Lib.Quiescent
public import Idealize.ShloMosaic.Lib.Tactic

@[expose] public section

set_option maxRecDepth 16384

noncomputable section

namespace Cert.Kernel12Ideal.Rows

open Cert.Kernel12Ideal Cert.Kernel12Ideal.Gen Cert.Kernel12Ideal.Value Idealize.ShloMosaic Idealize.ShloMosaic.TcCoe

/-- The weight of the residual. -/
def alpha : EReal := Ideal.ofBits .f32 0x3FB504F3#32

/-- Rows against rows, and the residual's share. -/
def grad (a : S4096x1536.Idx → EReal) (b : S1024x1536.Idx → EReal) (d : S4096x1024.Idx → EReal) (i : S4096x1024.Idx) : EReal :=
  (∑ k : Fin 1536, a (ix2 (⟨(i 0).val, (i 0).isLt⟩ : Fin 4096) k) * b (ix2 (⟨(i 1).val, (i 1).isLt⟩ : Fin 1024) k)) + alpha * d i

theorem pay_at (x0 : Vec Ideal S512x1536 .bf16) (x1 : Vec Ideal S1536x1024 .bf16) (x2 : Vec Ideal S512x1024 .f32) (r : Fin 512) (j : Fin 1024) :
    k0_pay1 (F := Ideal) x0 x1 x2 (ix2 r j) = (∑ k : Fin 1536, x0 (ix2 r k) * x1 (ix2 k j)) + alpha * x2 (ix2 r j) := by
  unfold k0_pay1 alpha
  pointwise

theorem out_eq (x0 : Vec Ideal S512x1536 .bf16) (x1 : Vec Ideal S1536x1024 .bf16) (x2 : Vec Ideal S512x1024 .f32) :
    out0_3 (F := Ideal) x0 x1 x2 = k0_pay1 (F := Ideal) x0 x1 x2 := by
  unfold out0_3
  rw [View.ld_unit_zero Mat.zeros2, View.ld_unit_zero Mat.zeros2, View.ld_unit_zero Mat.zeros2]
  exact View.canon_cons_unit_zero Mat.zeros2 _ _ _

variable (m : (l : Loc nD τ sig) → Buf (Elt Ideal) l) (c : Dev nD) (t : Fin cfg0.N)

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)
theorem place3 : ∀ t : Fin cfg0.N, win0_3.index t (0 : Fin 2) = t.val ∧ win0_3.index t (1 : Fin 2) = 0 :=
  (by decide +kernel : ∀ t : Fin grid0.N, _)

/-- A row of a point's block, in the array. -/
def row (r : Fin 512) : Fin 4096 := ⟨512 * t.val + r.val, by have := t.isLt; have hN : cfg0.N = 8 := N_0; omega⟩

theorem iblk0_at (r : Fin 512) (k : Fin 1536) :
    (iblk m c 0 t : S512x1536.Idx → EReal) (ix2 r k) = (m ((c : Thread nD τ).loc main_arg0) : S4096x1536.Idx → EReal) (ix2 (row t r) k) := by
  obtain ⟨e0, e1⟩ := place0 t
  have hi : (((cfg0.win 0).blk t).view.emb (ix2 r k : S512x1536.Idx) : S4096x1536.Idx) = ix2 (row t r) k := by
    funext a
    match a with
    | ⟨0, _⟩ => exact Fin.ext (show win0_0.index t (0 : Fin 2) * 512 + 1 * r.val = 512 * t.val + r.val by rw [e0]; omega)
    | ⟨1, _⟩ => exact Fin.ext (show win0_0.index t (1 : Fin 2) * 1536 + 1 * k.val = k.val by rw [e1]; omega)
  exact (congrFun (V_main_arg0 m c) _).trans (congrArg (m ((c : Thread nD τ).loc main_arg0) : S4096x1536.Idx → EReal) hi)

theorem V0_term : (V m c main_v0 : S1536x1024.Idx → EReal)
    = transpose S1536x1024 [1, 0] (m ((c : Thread nD τ).loc main_arg1) : FVec Ideal S1024x1536 .bf16) transposes_S1024x1536_S1536x1024_1_0 := by
  sl_kernel_rfl

theorem iblk1_at (k : Fin 1536) (j : Fin 1024) :
    (iblk m c 1 t : S1536x1024.Idx → EReal) (ix2 k j) = (m ((c : Thread nD τ).loc main_arg1) : S1024x1536.Idx → EReal) (ix2 j k) := by
  obtain ⟨e0, e1⟩ := place1 t
  have hi : (((cfg0.win 1).blk t).view.emb (ix2 k j : S1536x1024.Idx) : S1536x1024.Idx) = ix2 k j := by
    funext a
    match a with
    | ⟨0, _⟩ => exact Fin.ext (show win0_1.index t (0 : Fin 2) * 1536 + 1 * k.val = k.val by rw [e0]; omega)
    | ⟨1, _⟩ => exact Fin.ext (show win0_1.index t (1 : Fin 2) * 1024 + 1 * j.val = j.val by rw [e1]; omega)
  refine (congrArg (V m c main_v0 : S1536x1024.Idx → EReal) hi).trans ?_
  rw [V0_term]
  exact transpose_apply _ _ _ _ _ (fun a => match a with
    | ⟨0, _⟩ => rfl
    | ⟨1, _⟩ => rfl)

theorem iblk2_at (r : Fin 512) (j : Fin 1024) :
    (iblk m c 2 t : S512x1024.Idx → EReal) (ix2 r j) = (m ((c : Thread nD τ).loc main_arg2) : S4096x1024.Idx → EReal) (ix2 (row t r) j) := by
  obtain ⟨e0, e1⟩ := place2 t
  have hi : (((cfg0.win 2).blk t).view.emb (ix2 r j : S512x1024.Idx) : S4096x1024.Idx) = ix2 (row t r) j := by
    funext a
    match a with
    | ⟨0, _⟩ => exact Fin.ext (show win0_2.index t (0 : Fin 2) * 512 + 1 * r.val = 512 * t.val + r.val by rw [e0]; omega)
    | ⟨1, _⟩ => exact Fin.ext (show win0_2.index t (1 : Fin 2) * 1024 + 1 * j.val = j.val by rw [e1]; omega)
  exact (congrFun (V_main_arg2 m c) _).trans (congrArg (m ((c : Thread nD τ).loc main_arg2) : S4096x1024.Idx → EReal) hi)

/-- The gradient of the launch's arguments. -/
def G : S4096x1024.Idx → EReal :=
  grad (m ((c : Thread nD τ).loc main_arg0)) (m ((c : Thread nD τ).loc main_arg1)) (m ((c : Thread nD τ).loc main_arg2))

theorem point_at (r : Fin 512) (j : Fin 1024) :
    k0_pay1 (F := Ideal) (iblk m c 0 t) (iblk m c 1 t) (iblk m c 2 t) (ix2 r j) = G m c (ix2 (row t r) j) := by
  refine (pay_at _ _ _ r j).trans ?_
  rw [iblk2_at]
  unfold G grad
  refine congrArg (· + _) (Mat.sum_ext fun k => ?_)
  rw [iblk0_at, iblk1_at]
  rfl

theorem flushed_eq : (dats m 0 c).flushed 3 t = ((cfg0.win 3).blk t).view.read (Elt Ideal) (G m c) := by
  rw [flushed3, out_eq]
  obtain ⟨e0, e1⟩ := place3 t
  funext y
  have hy0 : (y 0).val < 512 := (y 0).isLt
  have hy1 : (y 1).val < 1024 := (y 1).isLt
  have hy : ((cfg0.win 3).xinj (grid0.coords t) y : S512x1024.Idx) = ix2 (⟨(y 0).val, hy0⟩ : Fin 512) (⟨(y 1).val, hy1⟩ : Fin 1024) := by
    funext a
    match a with
    | ⟨0, _⟩ => rfl
    | ⟨1, _⟩ => rfl
  refine (congrArg (k0_pay1 (F := Ideal) (iblk m c 0 t) (iblk m c 1 t) (iblk m c 2 t)) hy).trans ((point_at m c t _ _).trans ?_)
  refine congrArg (G m c) (funext fun a => ?_)
  match a with
  | ⟨0, _⟩ => exact Fin.ext (show 512 * t.val + (y 0).val = win0_3.index t (0 : Fin 2) * 512 + 1 * (y 0).val by rw [e0]; omega)
  | ⟨1, _⟩ => exact Fin.ext (show (y 1).val = win0_3.index t (1 : Fin 2) * 1024 + 1 * (y 1).val by rw [e1]; omega)

theorem array_eq : (dats m 0 c).arrAt 3 cfg0.N = G m c := by
  refine (dats m 0 c).arrAt_eq_of_cover 3 _ (fun t _ => flushed_eq m c t) fun i => ?_
  have h0 : (i 0).val < 4096 := (i 0).isLt
  have h1 : (i 1).val < 1024 := (i 1).isLt
  have hN : cfg0.N = 8 := N_0
  have ht : (i 0).val / 512 < cfg0.N := by omega
  refine ⟨⟨(i 0).val / 512, ht⟩, flush0_3 _, ?_⟩
  obtain ⟨e0, e1⟩ := place3 ⟨(i 0).val / 512, ht⟩
  show i ∈ ((View.whole main_v1).slice (win0_3.rect ⟨(i 0).val / 512, ht⟩)).set
  rw [View.set_slice_whole, Rect.mem_set_unit]
  intro a
  match a with
  | ⟨0, _⟩ =>
    show win0_3.index _ (0 : Fin 2) * 512 ≤ (i 0).val ∧ (i 0).val < win0_3.index _ (0 : Fin 2) * 512 + 512
    rw [e0]
    dsimp only
    omega
  | ⟨1, _⟩ =>
    show win0_3.index _ (1 : Fin 2) * 1024 ≤ (i 1).val ∧ (i 1).val < win0_3.index _ (1 : Fin 2) * 1024 + 1024
    rw [e1]
    omega

end Cert.Kernel12Ideal.Rows

namespace Cert.Rows12

open Idealize.ShloMosaic Idealize.ShloMosaic.StableHlo Idealize.SL.Sem

theorem ref_eq (a : FVec Ideal Cert.Reference12Ideal.S4096x1536 .bf16) (b : FVec Ideal Cert.Reference12Ideal.S1024x1536 .bf16)
    (d : FVec Ideal Cert.Reference12Ideal.S4096x1024 .f32) :
    Cert.Reference12Ideal.Read.val_main_v9 (F := Ideal) a b d = Cert.Kernel12Ideal.Rows.grad a b d := by
  funext i
  rw [Cert.Reference12Ideal.Read.val_main_v9_apply, Cert.Reference12Ideal.Read.val_main_v7_apply, Cert.Reference12Ideal.Read.val_main_v6_apply]
  refine (add_comm _ _).trans (congrArg₂ (· + ·) ?_ rfl)
  refine (Cert.Reference12Ideal.Read.val_main_v8_apply a b i).trans (Finset.sum_congr rfl fun k _ => ?_)
  rw [Cert.Reference12Ideal.Read.val_main_v5_apply, Cert.Reference12Ideal.Read.val_main_v1_apply]
  refine congrArg₂ (· * ·) (congrArg a ?_) (congrArg b ?_)
  · funext x
    match x with
    | ⟨0, _⟩ => rfl
    | ⟨1, _⟩ => rfl
  · funext x
    match x with
    | ⟨0, _⟩ => rfl
    | ⟨1, _⟩ => rfl

theorem facts_Kernel12 : Cert.Kernel12.Facts := by
  have h := Cert.Kernel12Ideal.Gen.facts₀
  cases h
  refine { toFacts₀ := ?_ }
  constructor <;> assumption

theorem frame_Kernel12 : Cert.quiescent_Kernel12 (hKernel12 := facts_Kernel12) := fun m g _ => by
  refine cast ?_ (Cert.Kernel12Ideal.Gen.frame (F := Bits) m g)
  sl_kernel_rfl

theorem frame_Kernel12Ideal : Cert.quiescent_Kernel12Ideal := fun m g _ => Cert.Kernel12Ideal.Gen.frame (F := Ideal) m g

theorem frame_Reference12Ideal : Cert.quiescent_Reference12Ideal := fun m g _ =>
  (θ_run _ _ _).mono (fun r h => ⟨fun c => (h c).2, Idealize.ShloMosaic.sem_eq_zero_of_no_sems (by decide) r.2⟩)
    (Cert.Reference12Ideal.Value.run m g)

theorem algebraic : Cert.algebraic_Kernel12Ideal_Reference12Ideal := by
  intro m g m' g' _ hagree
  refine ⟨fun c => Cert.Kernel12Ideal.Rows.G m c, ?_, ?_⟩
  · exact (θ_run _ _ _).mono (fun r h c => ⟨(h c).1.trans (Cert.Kernel12Ideal.Rows.array_eq m c), (h c).2⟩) (Cert.Kernel12Ideal.Value.run_blocks m g)
  · refine (θ_run _ _ _).mono (fun r h c => ⟨?_, (h c).2⟩) (Cert.Reference12Ideal.Value.run m' g')
    obtain ⟨a0, a1, a2⟩ := hagree c
    refine (h c).1.trans ((Cert.Reference12Ideal.Read.val_main_v9_eq _ _ _).trans ((ref_eq _ _ _).trans ?_))
    exact congr (congrArg₂ Cert.Kernel12Ideal.Rows.grad a0 a1) a2

end Cert.Rows12

end
-- ==== Proof.Wgrad13.lean ====
/-
  The gradient of the pooling mixer's input projection, transposed.
-/
module

public import proofs.«01_k».proof.Defs
public import proofs.«01_k».proof.Proof.Mat
public import proofs.«01_k».proof.Proof.Gen.Kernel13Ideal.Value
public import proofs.«01_k».proof.Proof.Gen.Reference13Ideal.Run
public import proofs.«01_k».proof.Proof.Gen.Reference13Ideal.Read
public import Idealize.ShloMosaic.Lib.Quiescent
public import Idealize.ShloMosaic.Lib.Tactic

@[expose] public section

set_option maxRecDepth 16384

noncomputable section

namespace Cert.Kernel13Ideal.Wgrad

open Cert.Kernel13Ideal Cert.Kernel13Ideal.Gen Cert.Kernel13Ideal.Value Idealize.ShloMosaic Idealize.ShloMosaic.TcCoe

/-- Columns against columns. -/
def prod (a : S4096x1536.Idx → EReal) (b : S4096x1024.Idx → EReal) (i : S1536x1024.Idx) : EReal :=
  ∑ k : Fin 4096, a (ix2 k (⟨(i 0).val, (i 0).isLt⟩ : Fin 1536)) * b (ix2 k (⟨(i 1).val, (i 1).isLt⟩ : Fin 1024))

theorem pay1_at (r : Fin 768) (j : Fin 1024) : k0_pay1 (F := Ideal) (ix2 r j) = 0 := by
  unfold k0_pay1
  pointwise

theorem pay2_at (a : Vec Ideal S768x1024 .f32) (x0 : Vec Ideal S2048x768 .bf16) (x1 : Vec Ideal S2048x1024 .bf16) (r : Fin 768) (j : Fin 1024) :
    k0_pay2 (F := Ideal) a x0 x1 (ix2 r j) = a (ix2 r j) + ∑ k : Fin 2048, x0 (ix2 k r) * x1 (ix2 k j) := by
  unfold k0_pay2
  pointwise

section Run

variable (c : Dev nD) (i : grid0.Coords)
  (arg3 : Memref sig .tc .vmem S2048x768 .bf16) (harg3 : arg3.IsWhole) (arg4 : Memref sig .tc .vmem S2048x1024 .bf16) (harg4 : arg4.IsWhole)
  (arg5 : Memref sig .tc .vmem S768x1024 .bf16) (harg5 : arg5.IsWhole) (arg6 : Memref sig .tc .vmem S768x1024 .f32) (harg6 : arg6.IsWhole)
  (x0 : Vec Ideal S2048x768 .bf16) (x1 : Vec Ideal S2048x1024 .bf16)

theorem first_store (hc0 : cond0_0 i) (hc1 : ¬cond0_1 i) : (kernelRun0_A (F := Ideal) c i arg3 harg3 arg4 harg4 arg5 harg5 arg6 harg6 hc0 hc1 x0 x1).2.1
    = [⟨Rect.unit ![0, 0] S768x1024.size inb_S768x1024_S768x1024_0_0, k0_pay2 (F := Ideal)
        (arg6.view.readCov (Val := Elt Ideal) [⟨Rect.unit ![0, 0] S768x1024.size inb_S768x1024_S768x1024_0_0, k0_pay1 (F := Ideal)⟩] (Rect.unit ![0, 0] S768x1024.size inb_S768x1024_S768x1024_0_0).toLoadRect)
        (arg3.view.readAt (Elt Ideal) (Rect.unit ![0, 0] S2048x768.size inb_S2048x768_S2048x768_0_0).toLoadRect (harg3.unread x0))
        (arg4.view.readAt (Elt Ideal) (Rect.unit ![0, 0] S2048x1024.size inb_S2048x1024_S2048x1024_0_0).toLoadRect (harg4.unread x1))⟩,
      ⟨Rect.unit ![0, 0] S768x1024.size inb_S768x1024_S768x1024_0_0, k0_pay1 (F := Ideal)⟩] := by
  sl_kernel_rfl

theorem last_store (hc0 : ¬cond0_0 i) (hc1 : cond0_1 i) (a : Vec Ideal S768x1024 .f32) :
    (kernelRun0_B (F := Ideal) c i arg3 harg3 arg4 harg4 arg5 harg5 arg6 harg6 hc0 hc1 x0 x1 a).1
    = [⟨Rect.unit ![0, 0] S768x1024.size inb_S768x1024_S768x1024_0_0, k0_pay3 (F := Ideal)
        (arg6.view.readCov (Val := Elt Ideal) [⟨Rect.unit ![0, 0] S768x1024.size inb_S768x1024_S768x1024_0_0, k0_pay2 (F := Ideal)
          (arg6.view.readAt (Elt Ideal) (Rect.unit ![0, 0] S768x1024.size inb_S768x1024_S768x1024_0_0).toLoadRect (harg6.unread a))
          (arg3.view.readAt (Elt Ideal) (Rect.unit ![0, 0] S2048x768.size inb_S2048x768_S2048x768_0_0).toLoadRect (harg3.unread x0))
          (arg4.view.readAt (Elt Ideal) (Rect.unit ![0, 0] S2048x1024.size inb_S2048x1024_S2048x1024_0_0).toLoadRect (harg4.unread x1))⟩]
        (Rect.unit ![0, 0] S768x1024.size inb_S768x1024_S768x1024_0_0).toLoadRect)⟩] := by
  sl_kernel_rfl

theorem first_val (hc0 : cond0_0 i) (hc1 : ¬cond0_1 i) :
    sout0_A_0 (F := Ideal) c i arg3 harg3 arg4 harg4 arg5 harg5 arg6 harg6 hc0 hc1 x0 x1 = k0_pay2 (F := Ideal) (k0_pay1 (F := Ideal)) x0 x1 := by
  unfold sout0_A_0
  rw [first_store, View.read_writes_full VS0_0 _ inb_S768x1024_S768x1024_0_0, View.readCov_full _ inb_S768x1024_S768x1024_0_0,
    Mat.read_whole arg3 harg3 x0 _ Mat.zero2, Mat.read_whole arg4 harg4 x1 _ Mat.zero2]

theorem last_val (hc0 : ¬cond0_0 i) (hc1 : cond0_1 i) (a : Vec Ideal S768x1024 .f32) :
    out0_B_2 (F := Ideal) c i arg3 harg3 arg4 harg4 arg5 harg5 arg6 harg6 hc0 hc1 x0 x1 a = k0_pay3 (F := Ideal) (k0_pay2 (F := Ideal) a x0 x1) := by
  unfold out0_B_2
  rw [last_store, View.read_writes_full VO0_2 _ inb_S768x1024_S768x1024_0_0, View.readCov_full _ inb_S768x1024_S768x1024_0_0,
    Mat.read_whole arg3 harg3 x0 _ Mat.zero2, Mat.read_whole arg4 harg4 x1 _ Mat.zero2, Mat.read_whole arg6 harg6 a _ Mat.zero2]

end Run

variable (m : (l : Loc nD τ sig) → Buf (Elt Ideal) l) (c : Dev nD) (t : Fin cfg0.N)

theorem place0 : ∀ t : Fin cfg0.N, win0_0.index t (0 : Fin 2) = t.val % 2 ∧ win0_0.index t (1 : Fin 2) = t.val / 2 :=
  (by decide +kernel : ∀ t : Fin grid0.N, _)
theorem place1 : ∀ t : Fin cfg0.N, win0_1.index t (0 : Fin 2) = t.val % 2 ∧ win0_1.index t (1 : Fin 2) = 0 :=
  (by decide +kernel : ∀ t : Fin grid0.N, _)
theorem place2 : ∀ t : Fin cfg0.N, win0_2.index t (0 : Fin 2) = t.val / 2 ∧ win0_2.index t (1 : Fin 2) = 0 :=
  (by decide +kernel : ∀ t : Fin grid0.N, _)

/-- A row of a point's half, in the array. -/
def row (k : Fin 2048) : Fin 4096 := ⟨2048 * (t.val % 2) + k.val, by omega⟩

/-- A column of a point's block, in the array. -/
def col (r : Fin 768) : Fin 1536 := ⟨768 * (t.val / 2) + r.val, by have := t.isLt; have hN : cfg0.N = 4 := N_0; omega⟩

theorem iblk0_at (k : Fin 2048) (r : Fin 768) :
    (iblk m c 0 t : S2048x768.Idx → EReal) (ix2 k r) = (m ((c : Thread nD τ).loc main_arg0) : S4096x1536.Idx → EReal) (ix2 (row t k) (col t r)) := by
  obtain ⟨e0, e1⟩ := place0 t
  have hi : (((cfg0.win 0).blk t).view.emb (ix2 k r : S2048x768.Idx) : S4096x1536.Idx) = ix2 (row t k) (col t r) := by
    funext a
    match a with
    | ⟨0, _⟩ => exact Fin.ext (show win0_0.index t (0 : Fin 2) * 2048 + 1 * k.val = 2048 * (t.val % 2) + k.val by rw [e0]; omega)
    | ⟨1, _⟩ => exact Fin.ext (show win0_0.index t (1 : Fin 2) * 768 + 1 * r.val = 768 * (t.val / 2) + r.val by rw [e1]; omega)
  exact (congrFun (V_main_arg0 m c) _).trans (congrArg (m ((c : Thread nD τ).loc main_arg0) : S4096x1536.Idx → EReal) hi)

theorem iblk1_at (k : Fin 2048) (j : Fin 1024) :
    (iblk m c 1 t : S2048x1024.Idx → EReal) (ix2 k j) = (m ((c : Thread nD τ).loc main_arg1) : S4096x1024.Idx → EReal) (ix2 (row t k) j) := by
  obtain ⟨e0, e1⟩ := place1 t
  have hi : (((cfg0.win 1).blk t).view.emb (ix2 k j : S2048x1024.Idx) : S4096x1024.Idx) = ix2 (row t k) j := by
    funext a
    match a with
    | ⟨0, _⟩ => exact Fin.ext (show win0_1.index t (0 : Fin 2) * 2048 + 1 * k.val = 2048 * (t.val % 2) + k.val by rw [e0]; omega)
    | ⟨1, _⟩ => exact Fin.ext (show win0_1.index t (1 : Fin 2) * 1024 + 1 * j.val = j.val by rw [e1]; omega)
  exact (congrFun (V_main_arg1 m c) _).trans (congrArg (m ((c : Thread nD τ).loc main_arg1) : S4096x1024.Idx → EReal) hi)

/-- The product of the launch's arguments. -/
def G : S1536x1024.Idx → EReal := prod (m ((c : Thread nD τ).loc main_arg0)) (m ((c : Thread nD τ).loc main_arg1))

/-- What the second point of a pair writes, by the pair's halves. -/
theorem pair_at (s : Fin cfg0.N) (h0 : s.val % 2 = 0) (hs : t.val = s.val + 1) (r : Fin 768) (j : Fin 1024) :
    k0_pay3 (F := Ideal) (k0_pay2 (F := Ideal) (k0_pay2 (F := Ideal) (k0_pay1 (F := Ideal)) (iblk m c 0 s) (iblk m c 1 s)) (iblk m c 0 t) (iblk m c 1 t)) (ix2 r j)
      = G m c (ix2 (col t r) j) := by
  refine (pay2_at _ _ _ r j).trans ?_
  rw [pay2_at, pay1_at]
  unfold G prod
  rw [← Mat.sum_halves]
  refine congrArg₂ (· + ·) (congrArg (0 + ·) (Mat.sum_ext fun k => ?_)) (Mat.sum_ext fun k => ?_)
  · rw [iblk0_at, iblk1_at]
    have hr : row s k = ⟨k.val, by omega⟩ := Fin.ext (show 2048 * (s.val % 2) + k.val = k.val by omega)
    have hc : col s r = col t r := Fin.ext (show 768 * (s.val / 2) + r.val = 768 * (t.val / 2) + r.val by omega)
    rw [hr, hc]
    rfl
  · rw [iblk0_at, iblk1_at]
    have hr : row t k = ⟨2048 + k.val, by omega⟩ := Fin.ext (show 2048 * (t.val % 2) + k.val = 2048 + k.val by omega)
    rw [hr]
    rfl

theorem flushed_eq (h1 : t.val % 2 = 1) : (dats m 0 c).flushed 2 t = ((cfg0.win 2).blk t).view.read (Elt Ideal) (G m c) := by
  have h0 : ¬t.val % 2 = 0 := by omega
  have hs : t.val - 1 < cfg0.N := Nat.lt_of_le_of_lt (Nat.sub_le _ _) t.isLt
  have hs0 : (⟨t.val - 1, hs⟩ : Fin cfg0.N).val % 2 = 0 := show (t.val - 1) % 2 = 0 by omega
  rw [flushed2_B m c t h0 h1, last_val, outsAt0_A m c ⟨t.val - 1, hs⟩ hs0 (by omega), first_val]
  obtain ⟨e0, e1⟩ := place2 t
  funext y
  have hy0 : (y 0).val < 768 := (y 0).isLt
  have hy1 : (y 1).val < 1024 := (y 1).isLt
  have hy : ((cfg0.win 2).xinj (grid0.coords t) y : S768x1024.Idx) = ix2 (⟨(y 0).val, hy0⟩ : Fin 768) (⟨(y 1).val, hy1⟩ : Fin 1024) := by
    funext a
    match a with
    | ⟨0, _⟩ => rfl
    | ⟨1, _⟩ => rfl
  refine (congrArg (k0_pay3 (F := Ideal) _) hy).trans ((pair_at m c t ⟨t.val - 1, hs⟩ hs0 (show t.val = t.val - 1 + 1 by omega) _ _).trans ?_)
  refine congrArg (G m c) (funext fun a => ?_)
  match a with
  | ⟨0, _⟩ => exact Fin.ext (show 768 * (t.val / 2) + (y 0).val = win0_2.index t (0 : Fin 2) * 768 + 1 * (y 0).val by rw [e0]; omega)
  | ⟨1, _⟩ => exact Fin.ext (show (y 1).val = win0_2.index t (1 : Fin 2) * 1024 + 1 * (y 1).val by rw [e1]; omega)

theorem array_eq : (dats m 0 c).arrAt 2 cfg0.N = G m c := by
  refine (dats m 0 c).arrAt_eq_of_cover 2 _ (fun t hf => flushed_eq m c t ((flush0_2 t).mp hf)) fun i => ?_
  have h0 : (i 0).val < 1536 := (i 0).isLt
  have h1 : (i 1).val < 1024 := (i 1).isLt
  have hN : cfg0.N = 4 := N_0
  have ht : 2 * ((i 0).val / 768) + 1 < cfg0.N := by omega
  refine ⟨⟨2 * ((i 0).val / 768) + 1, ht⟩, (flush0_2 _).mpr (show (2 * ((i 0).val / 768) + 1) % 2 = 1 by omega), ?_⟩
  obtain ⟨e0, e1⟩ := place2 ⟨2 * ((i 0).val / 768) + 1, ht⟩
  show i ∈ ((View.whole main_v0).slice (win0_2.rect ⟨2 * ((i 0).val / 768) + 1, ht⟩)).set
  rw [View.set_slice_whole, Rect.mem_set_unit]
  intro a
  match a with
  | ⟨0, _⟩ =>
    show win0_2.index _ (0 : Fin 2) * 768 ≤ (i 0).val ∧ (i 0).val < win0_2.index _ (0 : Fin 2) * 768 + 768
    rw [e0]
    dsimp only
    omega
  | ⟨1, _⟩ =>
    show win0_2.index _ (1 : Fin 2) * 1024 ≤ (i 1).val ∧ (i 1).val < win0_2.index _ (1 : Fin 2) * 1024 + 1024
    rw [e1]
    omega

end Cert.Kernel13Ideal.Wgrad

namespace Cert.Wgrad13

open Idealize.ShloMosaic Idealize.ShloMosaic.StableHlo Idealize.SL.Sem

theorem ref_eq (a : FVec Ideal Cert.Reference13Ideal.S4096x1536 .bf16) (b : FVec Ideal Cert.Reference13Ideal.S4096x1024 .bf16) :
    Cert.Reference13Ideal.Read.val_main_v7 (F := Ideal) a b = Cert.Kernel13Ideal.Wgrad.prod a b := by
  funext i
  rw [Cert.Reference13Ideal.Read.val_main_v7_apply]
  refine (Cert.Reference13Ideal.Read.val_main_v6_apply (F := Ideal) a b i).trans ?_
  refine (Cert.Reference13Ideal.Read.val_main_v5_apply (F := Ideal) a b _).trans ?_
  refine (Cert.Reference13Ideal.Read.val_main_v4_apply a b _).trans (Finset.sum_congr rfl fun k _ => ?_)
  rw [Cert.Reference13Ideal.Read.val_main_v3_apply, Cert.Reference13Ideal.Read.val_main_v1_apply]
  refine congrArg₂ (· * ·) (congrArg a ?_) (congrArg b ?_)
  · funext x
    match x with
    | ⟨0, _⟩ => rfl
    | ⟨1, _⟩ => rfl
  · funext x
    match x with
    | ⟨0, _⟩ => rfl
    | ⟨1, _⟩ => rfl

theorem facts_Kernel13 : Cert.Kernel13.Facts := by
  have h := Cert.Kernel13Ideal.Gen.facts₀
  cases h
  refine { toFacts₀ := ?_ }
  constructor <;> assumption

theorem frame_Kernel13 : Cert.quiescent_Kernel13 (hKernel13 := facts_Kernel13) := fun m g _ => by
  refine cast ?_ (Cert.Kernel13Ideal.Gen.frame (F := Bits) m g)
  sl_kernel_rfl

theorem frame_Kernel13Ideal : Cert.quiescent_Kernel13Ideal := fun m g _ => Cert.Kernel13Ideal.Gen.frame (F := Ideal) m g

theorem frame_Reference13Ideal : Cert.quiescent_Reference13Ideal := fun m g _ =>
  (θ_run _ _ _).mono (fun r h => ⟨fun c => (h c).2, Idealize.ShloMosaic.sem_eq_zero_of_no_sems (by decide) r.2⟩)
    (Cert.Reference13Ideal.Value.run m g)

theorem algebraic : Cert.algebraic_Kernel13Ideal_Reference13Ideal := by
  intro m g m' g' _ hagree
  refine ⟨fun c => Cert.Kernel13Ideal.Wgrad.G m c, ?_, ?_⟩
  · exact (θ_run _ _ _).mono (fun r h c => ⟨(h c).1.trans (Cert.Kernel13Ideal.Wgrad.array_eq m c), (h c).2⟩) (Cert.Kernel13Ideal.Value.run_blocks m g)
  · refine (θ_run _ _ _).mono (fun r h c => ⟨?_, (h c).2⟩) (Cert.Reference13Ideal.Value.run m' g')
    obtain ⟨a0, a1⟩ := hagree c
    refine (h c).1.trans ((Cert.Reference13Ideal.Read.val_main_v7_eq _ _).trans ((ref_eq _ _).trans ?_))
    exact congrArg₂ Cert.Kernel13Ideal.Wgrad.prod a0 a1

end Cert.Wgrad13

end
-- ==== Proof.Wgrad14.lean ====
/-
  The gradient of the attention's input projection, one head after another.
-/
module

public import proofs.«01_k».proof.Defs
public import proofs.«01_k».proof.Proof.Mat
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ReadBack
public import Idealize.ShloMosaic.Lib.Quiescent
public import Idealize.ShloMosaic.Lib.Tactic

@[expose] public section

set_option maxRecDepth 16384

noncomputable section

namespace Cert.Kernel14Ideal.Wgrad

open Cert.Kernel14Ideal Cert.Kernel14Ideal.Gen Cert.Kernel14Ideal.Value Idealize.ShloMosaic Idealize.ShloMosaic.TcCoe

/-- Columns against columns. -/
def prod (a : S4096x1024.Idx → EReal) (b : S4096x3072.Idx → EReal) (i : Shape.Idx ⟨2, ![1024, 3072]⟩) : EReal :=
  ∑ k : Fin 4096, a (ix2 k (⟨(i 0).val, (i 0).isLt⟩ : Fin 1024)) * b (ix2 k (⟨(i 1).val, (i 1).isLt⟩ : Fin 3072))

/-- The product's columns, 384 to a head. -/
def heads (a : S4096x1024.Idx → EReal) (b : S4096x3072.Idx → EReal) (i : S8x1024x384.Idx) : EReal :=
  prod a b (ix2 (⟨(i 1).val, (i 1).isLt⟩ : Fin 1024) (⟨384 * (i 0).val + (i 2).val, by
    have h0 : (i 0).val < 8 := (i 0).isLt
    have h2 : (i 2).val < 384 := (i 2).isLt
    omega⟩ : Fin 3072))

theorem pay1_at (r : Fin 1024) (j : Fin 768) : k0_pay1 (F := Ideal) (ix2 r j) = 0 := by
  unfold k0_pay1
  pointwise

theorem pay2_at (a : Vec Ideal S1024x768 .f32) (x0 : Vec Ideal S2048x1024 .bf16) (x1 : Vec Ideal S2048x768 .bf16) (r : Fin 1024) (j : Fin 768) :
    k0_pay2 (F := Ideal) a x0 x1 (ix2 r j) = a (ix2 r j) + ∑ k : Fin 2048, x0 (ix2 k r) * x1 (ix2 k j) := by
  unfold k0_pay2
  pointwise

theorem pay3_at (a : Vec Ideal S1024x384 .f32) (r : Fin 1024) (j : Fin 384) : k0_pay3 (F := Ideal) a (ix3 (0 : Fin 1) r j) = a (ix2 r j) := by
  unfold k0_pay3
  pointwise

theorem pay4_at (a : Vec Ideal S1024x384 .f32) (r : Fin 1024) (j : Fin 384) : k0_pay4 (F := Ideal) a (ix3 (0 : Fin 1) r j) = a (ix2 r j) := by
  unfold k0_pay4
  pointwise

/-- Two heads of a block of columns, one after the other. -/
def split (a : S1024x768.Idx → EReal) (i : S2x1024x384.Idx) : EReal :=
  a (ix2 (⟨(i 1).val, (i 1).isLt⟩ : Fin 1024) (⟨384 * (i 0).val + (i 2).val, by
    have h0 : (i 0).val < 2 := (i 0).isLt
    have h2 : (i 2).val < 384 := (i 2).isLt
    omega⟩ : Fin 768))

/-- A head's columns of the block. -/
theorem cols_at (v : View sig .tc .vmem S1024x768 .f32) (a : Vec Ideal S1024x768 .f32) (h : ℕ) (hh : h < 2)
    (inb : ∀ d, (![0, 384 * h] : Fin 2 → ℕ) d + S1024x384.size d ≤ S1024x768.size d) (r : Fin 1024) (j : Fin 384) :
    v.readCov (Val := Elt Ideal) [⟨Rect.unit ![0, 0] S1024x768.size inb_S1024x768_S1024x768_0_0, a⟩] (Rect.unit (s := S1024x768) ![0, 384 * h] S1024x384.size inb).toLoadRect (ix2 r j)
      = a (ix2 r (⟨384 * h + j.val, by omega⟩ : Fin 768)) := by
  rw [View.readCov_eq_canon', View.canon_cons_unit_zero Mat.zeros2]
  refine congrArg a (funext fun d => ?_)
  match d with
  | ⟨0, _⟩ => exact Fin.ext (show 0 + 1 * r.val = r.val by omega)
  | ⟨1, _⟩ => exact Fin.ext (show 384 * h + 1 * j.val = 384 * h + j.val by omega)

/-- A piece's index, by its coordinates. -/
theorem piece_ix (x : S1x1024x384.Idx) :
    x = ix3 (0 : Fin 1) (⟨(x 1).val, (x 1).isLt⟩ : Fin 1024) (⟨(x 2).val, (x 2).isLt⟩ : Fin 384) := by
  funext d
  match d with
  | ⟨0, _⟩ => exact Fin.ext (show (x 0).val = 0 by have h : (x 0).val < 1 := (x 0).isLt; omega)
  | ⟨1, _⟩ => rfl
  | ⟨2, _⟩ => rfl

/-- Where a head's piece stands in the two. -/
theorem split_at (a : Vec Ideal S1024x768 .f32) (h : ℕ) (hh : h < 2)
    (inb : ∀ d, (![h, 0, 0] : Fin 3 → ℕ) d + S1x1024x384.size d ≤ S2x1024x384.size d) (x : S1x1024x384.Idx) :
    split a ((Rect.unit (s := S2x1024x384) ![h, 0, 0] S1x1024x384.size inb).emb x)
      = a (ix2 (⟨(x 1).val, (x 1).isLt⟩ : Fin 1024) (⟨384 * h + (x 2).val, by have h2 : (x 2).val < 384 := (x 2).isLt; omega⟩ : Fin 768)) := by
  have h0 : (x 0).val < 1 := (x 0).isLt
  refine congrArg a (funext fun d => ?_)
  match d with
  | ⟨0, _⟩ => exact Fin.ext (show 0 + 1 * (x 1).val = (x 1).val by omega)
  | ⟨1, _⟩ => exact Fin.ext (show 384 * (h + 1 * (x 0).val) + (0 + 1 * (x 2).val) = 384 * h + (x 2).val by omega)

section Run

variable (c : Dev nD) (i : grid0.Coords)
  (arg3 : Memref sig .tc .vmem S2048x1024 .bf16) (harg3 : arg3.IsWhole) (arg4 : Memref sig .tc .vmem S2048x768 .bf16) (harg4 : arg4.IsWhole)
  (arg5 : Memref sig .tc .vmem S2x1024x384 .bf16) (harg5 : arg5.IsWhole) (arg6 : Memref sig .tc .vmem S1024x768 .f32) (harg6 : arg6.IsWhole)
  (x0 : Vec Ideal S2048x1024 .bf16) (x1 : Vec Ideal S2048x768 .bf16)

theorem first_store (hc0 : cond0_0 i) (hc1 : ¬cond0_1 i) : (kernelRun0_A (F := Ideal) c i arg3 harg3 arg4 harg4 arg5 harg5 arg6 harg6 hc0 hc1 x0 x1).2.1
    = [⟨Rect.unit ![0, 0] S1024x768.size inb_S1024x768_S1024x768_0_0, k0_pay2 (F := Ideal)
        (arg6.view.readCov (Val := Elt Ideal) [⟨Rect.unit ![0, 0] S1024x768.size inb_S1024x768_S1024x768_0_0, k0_pay1 (F := Ideal)⟩] (Rect.unit ![0, 0] S1024x768.size inb_S1024x768_S1024x768_0_0).toLoadRect)
        (arg3.view.readAt (Elt Ideal) (Rect.unit ![0, 0] S2048x1024.size inb_S2048x1024_S2048x1024_0_0).toLoadRect (harg3.unread x0))
        (arg4.view.readAt (Elt Ideal) (Rect.unit ![0, 0] S2048x768.size inb_S2048x768_S2048x768_0_0).toLoadRect (harg4.unread x1))⟩,
      ⟨Rect.unit ![0, 0] S1024x768.size inb_S1024x768_S1024x768_0_0, k0_pay1 (F := Ideal)⟩] := by
  sl_kernel_rfl

/-- The accumulator a last point splits, as its body reads it. -/
def accR (a : Vec Ideal S1024x768 .f32) : Vec Ideal S1024x768 .f32 :=
  k0_pay2 (F := Ideal)
    (arg6.view.readAt (Elt Ideal) (Rect.unit ![0, 0] S1024x768.size inb_S1024x768_S1024x768_0_0).toLoadRect (harg6.unread a))
    (arg3.view.readAt (Elt Ideal) (Rect.unit ![0, 0] S2048x1024.size inb_S2048x1024_S2048x1024_0_0).toLoadRect (harg3.unread x0))
    (arg4.view.readAt (Elt Ideal) (Rect.unit ![0, 0] S2048x768.size inb_S2048x768_S2048x768_0_0).toLoadRect (harg4.unread x1))

theorem last_store (hc0 : ¬cond0_0 i) (hc1 : cond0_1 i) (a : Vec Ideal S1024x768 .f32) :
    (kernelRun0_B (F := Ideal) c i arg3 harg3 arg4 harg4 arg5 harg5 arg6 harg6 hc0 hc1 x0 x1 a).1
    = [⟨Rect.unit (s := S2x1024x384) ![1, 0, 0] S1x1024x384.size inb_S2x1024x384_S1x1024x384_1_0_0, k0_pay4 (F := Ideal)
        (arg6.view.readCov (Val := Elt Ideal) [⟨Rect.unit ![0, 0] S1024x768.size inb_S1024x768_S1024x768_0_0, accR arg3 harg3 arg4 harg4 arg6 harg6 x0 x1 a⟩]
          (Rect.unit (s := S1024x768) ![0, 384] S1024x384.size inb_S1024x768_S1024x384_0_384).toLoadRect)⟩,
      ⟨Rect.unit (s := S2x1024x384) ![0, 0, 0] S1x1024x384.size inb_S2x1024x384_S1x1024x384_0_0_0, k0_pay3 (F := Ideal)
        (arg6.view.readCov (Val := Elt Ideal) [⟨Rect.unit ![0, 0] S1024x768.size inb_S1024x768_S1024x768_0_0, accR arg3 harg3 arg4 harg4 arg6 harg6 x0 x1 a⟩]
          (Rect.unit (s := S1024x768) ![0, 0] S1024x384.size inb_S1024x768_S1024x384_0_0).toLoadRect)⟩] := by
  sl_kernel_rfl

theorem accR_eq (a : Vec Ideal S1024x768 .f32) : accR arg3 harg3 arg4 harg4 arg6 harg6 x0 x1 a = k0_pay2 (F := Ideal) a x0 x1 := by
  unfold accR
  rw [Mat.read_whole arg3 harg3 x0 _ Mat.zero2, Mat.read_whole arg4 harg4 x1 _ Mat.zero2, Mat.read_whole arg6 harg6 a _ Mat.zero2]

theorem first_val (hc0 : cond0_0 i) (hc1 : ¬cond0_1 i) :
    sout0_A_0 (F := Ideal) c i arg3 harg3 arg4 harg4 arg5 harg5 arg6 harg6 hc0 hc1 x0 x1 = k0_pay2 (F := Ideal) (k0_pay1 (F := Ideal)) x0 x1 := by
  unfold sout0_A_0
  rw [first_store, View.read_writes_full VS0_0 _ inb_S1024x768_S1024x768_0_0, View.readCov_full _ inb_S1024x768_S1024x768_0_0,
    Mat.read_whole arg3 harg3 x0 _ Mat.zero2, Mat.read_whole arg4 harg4 x1 _ Mat.zero2]

theorem pieces_read (L : List (View.Piece (Elt Ideal) S2x1024x384 .bf16)) (g : S2x1024x384.Idx → EReal) (h : View.PiecesOf (Val := Elt Ideal) (e := .bf16) g L)
    (y : S2x1024x384.Idx) (hy : ∃ p ∈ L, y ∈ p.1.set) : VO0_2.read (Elt Ideal) (VO0_2.writes (Elt Ideal) VO0_2.junk L) y = g y := by
  have e := View.canon_append_of_piecesOf (Val := Elt Ideal) (e := .bf16) g [] L h y hy
  rw [List.append_nil] at e
  exact (View.read_writes_apply_eq_canon VO0_2 VO0_2.junk y L hy).trans e

theorem piece1 (a : Vec Ideal S1024x768 .f32) (x : S1x1024x384.Idx) : k0_pay4 (F := Ideal)
      (arg6.view.readCov (Val := Elt Ideal) [⟨Rect.unit ![0, 0] S1024x768.size inb_S1024x768_S1024x768_0_0, a⟩]
        (Rect.unit (s := S1024x768) ![0, 384] S1024x384.size inb_S1024x768_S1024x384_0_384).toLoadRect) x
    = split a ((Rect.unit (s := S2x1024x384) ![1, 0, 0] S1x1024x384.size inb_S2x1024x384_S1x1024x384_1_0_0).emb x) := by
  refine Eq.trans ?_ (split_at a 1 (by omega) inb_S2x1024x384_S1x1024x384_1_0_0 x).symm
  refine (congrArg (k0_pay4 (F := Ideal) _) (piece_ix x)).trans ((pay4_at _ _ _).trans ?_)
  exact cols_at _ _ 1 (by omega) inb_S1024x768_S1024x384_0_384 _ _

theorem piece0 (a : Vec Ideal S1024x768 .f32) (x : S1x1024x384.Idx) : k0_pay3 (F := Ideal)
      (arg6.view.readCov (Val := Elt Ideal) [⟨Rect.unit ![0, 0] S1024x768.size inb_S1024x768_S1024x768_0_0, a⟩]
        (Rect.unit (s := S1024x768) ![0, 0] S1024x384.size inb_S1024x768_S1024x384_0_0).toLoadRect) x
    = split a ((Rect.unit (s := S2x1024x384) ![0, 0, 0] S1x1024x384.size inb_S2x1024x384_S1x1024x384_0_0_0).emb x) := by
  refine Eq.trans ?_ (split_at a 0 (by omega) inb_S2x1024x384_S1x1024x384_0_0_0 x).symm
  refine (congrArg (k0_pay3 (F := Ideal) _) (piece_ix x)).trans ((pay3_at _ _ _).trans ?_)
  exact cols_at _ _ 0 (by omega) inb_S1024x768_S1024x384_0_0 _ _

theorem last_val (hc0 : ¬cond0_0 i) (hc1 : cond0_1 i) (a : Vec Ideal S1024x768 .f32) :
    out0_B_2 (F := Ideal) c i arg3 harg3 arg4 harg4 arg5 harg5 arg6 harg6 hc0 hc1 x0 x1 a = split (k0_pay2 (F := Ideal) a x0 x1) := by
  funext y
  have hy := cover0_B_2 (F := Ideal) c i arg3 harg3 arg4 harg4 arg5 harg5 arg6 harg6 hc0 hc1 x0 x1 a y
  unfold out0_B_2
  rw [last_store, accR_eq] at hy ⊢
  refine pieces_read _ _ ?_ y hy
  exact And.intro (piece1 arg6 _) (And.intro (piece0 arg6 _) trivial)

end Run

variable (m : (l : Loc nD τ sig) → Buf (Elt Ideal) l) (c : Dev nD) (t : Fin cfg0.N)

theorem place0 : ∀ t : Fin cfg0.N, win0_0.index t (0 : Fin 2) = t.val % 2 ∧ win0_0.index t (1 : Fin 2) = 0 :=
  (by decide +kernel : ∀ t : Fin grid0.N, _)
theorem place1 : ∀ t : Fin cfg0.N, win0_1.index t (0 : Fin 2) = t.val % 2 ∧ win0_1.index t (1 : Fin 2) = t.val / 2 :=
  (by decide +kernel : ∀ t : Fin grid0.N, _)
theorem place2 : ∀ t : Fin cfg0.N, win0_2.index t (0 : Fin 3) = t.val / 2 ∧ win0_2.index t (1 : Fin 3) = 0 ∧ win0_2.index t (2 : Fin 3) = 0 :=
  (by decide +kernel : ∀ t : Fin grid0.N, _)

/-- A row of a point's half, in the array. -/
def row (k : Fin 2048) : Fin 4096 := ⟨2048 * (t.val % 2) + k.val, by omega⟩

/-- A column of a point's block, in the array. -/
def col (r : Fin 768) : Fin 3072 := ⟨768 * (t.val / 2) + r.val, by have := t.isLt; have hN : cfg0.N = 8 := N_0; omega⟩

theorem iblk0_at (k : Fin 2048) (r : Fin 1024) :
    (iblk m c 0 t : S2048x1024.Idx → EReal) (ix2 k r) = (m ((c : Thread nD τ).loc main_arg0) : S4096x1024.Idx → EReal) (ix2 (row t k) r) := by
  obtain ⟨e0, e1⟩ := place0 t
  have hi : (((cfg0.win 0).blk t).view.emb (ix2 k r : S2048x1024.Idx) : S4096x1024.Idx) = ix2 (row t k) r := by
    funext a
    match a with
    | ⟨0, _⟩ => exact Fin.ext (show win0_0.index t (0 : Fin 2) * 2048 + 1 * k.val = 2048 * (t.val % 2) + k.val by rw [e0]; omega)
    | ⟨1, _⟩ => exact Fin.ext (show win0_0.index t (1 : Fin 2) * 1024 + 1 * r.val = r.val by rw [e1]; omega)
  exact (congrFun (V_main_arg0 m c) _).trans (congrArg (m ((c : Thread nD τ).loc main_arg0) : S4096x1024.Idx → EReal) hi)

theorem iblk1_at (k : Fin 2048) (j : Fin 768) :
    (iblk m c 1 t : S2048x768.Idx → EReal) (ix2 k j) = (m ((c : Thread nD τ).loc main_arg1) : S4096x3072.Idx → EReal) (ix2 (row t k) (col t j)) := by
  obtain ⟨e0, e1⟩ := place1 t
  have hi : (((cfg0.win 1).blk t).view.emb (ix2 k j : S2048x768.Idx) : S4096x3072.Idx) = ix2 (row t k) (col t j) := by
    funext a
    match a with
    | ⟨0, _⟩ => exact Fin.ext (show win0_1.index t (0 : Fin 2) * 2048 + 1 * k.val = 2048 * (t.val % 2) + k.val by rw [e0]; omega)
    | ⟨1, _⟩ => exact Fin.ext (show win0_1.index t (1 : Fin 2) * 768 + 1 * j.val = 768 * (t.val / 2) + j.val by rw [e1]; omega)
  exact (congrFun (V_main_arg1 m c) _).trans (congrArg (m ((c : Thread nD τ).loc main_arg1) : S4096x3072.Idx → EReal) hi)

/-- The product of the launch's arguments. -/
def whole : Shape.Idx ⟨2, ![1024, 3072]⟩ → EReal := prod (m ((c : Thread nD τ).loc main_arg0)) (m ((c : Thread nD τ).loc main_arg1))

/-- The same, head by head. -/
def G : S8x1024x384.Idx → EReal := heads (m ((c : Thread nD τ).loc main_arg0)) (m ((c : Thread nD τ).loc main_arg1))

/-- What the second point of a pair writes, by the pair's halves. -/
theorem pair_at (s : Fin cfg0.N) (h0 : s.val % 2 = 0) (hs : t.val = s.val + 1) (r : Fin 1024) (j : Fin 768) :
    k0_pay2 (F := Ideal) (k0_pay2 (F := Ideal) (k0_pay1 (F := Ideal)) (iblk m c 0 s) (iblk m c 1 s)) (iblk m c 0 t) (iblk m c 1 t) (ix2 r j)
      = whole m c (ix2 r (col t j)) := by
  refine (pay2_at _ _ _ r j).trans ?_
  rw [pay2_at, pay1_at]
  unfold whole prod
  rw [← Mat.sum_halves]
  refine congrArg₂ (· + ·) (congrArg (0 + ·) (Mat.sum_ext fun k => ?_)) (Mat.sum_ext fun k => ?_)
  · rw [iblk0_at, iblk1_at]
    have hr : row s k = ⟨k.val, by omega⟩ := Fin.ext (show 2048 * (s.val % 2) + k.val = k.val by omega)
    have hc : col s j = col t j := Fin.ext (show 768 * (s.val / 2) + j.val = 768 * (t.val / 2) + j.val by omega)
    rw [hr, hc]
    rfl
  · rw [iblk0_at, iblk1_at]
    have hr : row t k = ⟨2048 + k.val, by omega⟩ := Fin.ext (show 2048 * (t.val % 2) + k.val = 2048 + k.val by omega)
    rw [hr]
    rfl

theorem flushed_eq (h1 : t.val % 2 = 1) : (dats m 0 c).flushed 2 t = ((cfg0.win 2).blk t).view.read (Elt Ideal) (G m c) := by
  have h0 : ¬t.val % 2 = 0 := by omega
  have hs : t.val - 1 < cfg0.N := Nat.lt_of_le_of_lt (Nat.sub_le _ _) t.isLt
  have hs0 : (⟨t.val - 1, hs⟩ : Fin cfg0.N).val % 2 = 0 := show (t.val - 1) % 2 = 0 by omega
  rw [flushed2_B m c t h0 h1, last_val, outsAt0_A m c ⟨t.val - 1, hs⟩ hs0 (by omega), first_val]
  obtain ⟨e0, e1, e2⟩ := place2 t
  funext y
  have hy0 : (y 0).val < 2 := (y 0).isLt
  have hy1 : (y 1).val < 1024 := (y 1).isLt
  have hy2 : (y 2).val < 384 := (y 2).isLt
  refine (pair_at m c t ⟨t.val - 1, hs⟩ hs0 (show t.val = t.val - 1 + 1 by omega) (⟨(y 1).val, hy1⟩ : Fin 1024)
    (⟨384 * (y 0).val + (y 2).val, by omega⟩ : Fin 768)).trans ?_
  refine congrArg (whole m c) (funext fun a => ?_)
  match a with
  | ⟨0, _⟩ => exact Fin.ext (show (y 1).val = win0_2.index t (1 : Fin 3) * 1024 + 1 * (y 1).val by rw [e1]; omega)
  | ⟨1, _⟩ => exact Fin.ext (show 768 * (t.val / 2) + (384 * (y 0).val + (y 2).val) = 384 * (win0_2.index t (0 : Fin 3) * 2 + 1 * (y 0).val) + (win0_2.index t (2 : Fin 3) * 384 + 1 * (y 2).val) by rw [e0, e2]; omega)

theorem array_eq : (dats m 0 c).arrAt 2 cfg0.N = G m c := by
  refine (dats m 0 c).arrAt_eq_of_cover 2 _ (fun t hf => flushed_eq m c t ((flush0_2 t).mp hf)) fun i => ?_
  have h0 : (i 0).val < 8 := (i 0).isLt
  have h1 : (i 1).val < 1024 := (i 1).isLt
  have h2 : (i 2).val < 384 := (i 2).isLt
  have hN : cfg0.N = 8 := N_0
  have ht : 2 * ((i 0).val / 2) + 1 < cfg0.N := by omega
  refine ⟨⟨2 * ((i 0).val / 2) + 1, ht⟩, (flush0_2 _).mpr (show (2 * ((i 0).val / 2) + 1) % 2 = 1 by omega), ?_⟩
  obtain ⟨e0, e1, e2⟩ := place2 ⟨2 * ((i 0).val / 2) + 1, ht⟩
  show i ∈ ((View.whole main_v0).slice (win0_2.rect ⟨2 * ((i 0).val / 2) + 1, ht⟩)).set
  rw [View.set_slice_whole, Rect.mem_set_unit]
  intro a
  match a with
  | ⟨0, _⟩ =>
    show win0_2.index _ (0 : Fin 3) * 2 ≤ (i 0).val ∧ (i 0).val < win0_2.index _ (0 : Fin 3) * 2 + 2
    rw [e0]
    dsimp only
    omega
  | ⟨1, _⟩ =>
    show win0_2.index _ (1 : Fin 3) * 1024 ≤ (i 1).val ∧ (i 1).val < win0_2.index _ (1 : Fin 3) * 1024 + 1024
    rw [e1]
    omega
  | ⟨2, _⟩ =>
    show win0_2.index _ (2 : Fin 3) * 384 ≤ (i 2).val ∧ (i 2).val < win0_2.index _ (2 : Fin 3) * 384 + 384
    rw [e2]
    omega

end Cert.Kernel14Ideal.Wgrad

namespace Cert.Wgrad14

open Idealize.ShloMosaic Idealize.ShloMosaic.StableHlo Idealize.SL.Sem

theorem ref_eq (a : FVec Ideal Cert.Reference14Ideal.S4096x1024 .bf16) (b : FVec Ideal Cert.Reference14Ideal.S4096x3072 .bf16) :
    Cert.Reference14Ideal.Read.val_main_v8 (F := Ideal) a b = Cert.Kernel14Ideal.Wgrad.heads a b := by
  funext i
  have h0 : (i 0).val < 8 := (i 0).isLt
  have h1 : (i 1).val < 1024 := (i 1).isLt
  have h2 : (i 2).val < 384 := (i 2).isLt
  rw [Cert.Reference14Ideal.Read.val_main_v8_apply, Cert.Reference14Ideal.Read.val_main_v7_apply]
  refine (Cert.Reference14Ideal.Read.val_main_v6_apply (F := Ideal) a b _).trans ?_
  refine (Cert.Reference14Ideal.Read.val_main_v5_apply (F := Ideal) a b _).trans ?_
  unfold Cert.Kernel14Ideal.Wgrad.heads Cert.Kernel14Ideal.Wgrad.prod
  refine (Cert.Reference14Ideal.Read.val_main_v4_apply a b _).trans (Finset.sum_congr rfl fun k _ => ?_)
  rw [Cert.Reference14Ideal.Read.val_main_v3_apply, Cert.Reference14Ideal.Read.val_main_v1_apply]
  refine (mul_comm _ _).trans (congrArg₂ (· * ·) (congrArg a ?_) (congrArg b ?_))
  · funext x
    match x with
    | ⟨0, _⟩ => rfl
    | ⟨1, _⟩ => exact Fin.ext (show (((i 1).val * 8 + (i 0).val) * 384 + (i 2).val) / 3072 = (i 1).val by omega)
  · funext x
    match x with
    | ⟨0, _⟩ => rfl
    | ⟨1, _⟩ => exact Fin.ext (show (((i 1).val * 8 + (i 0).val) * 384 + (i 2).val) % 3072 = 384 * (i 0).val + (i 2).val by omega)

theorem facts_Kernel14 : Cert.Kernel14.Facts := by
  have h := Cert.Kernel14Ideal.Gen.facts₀
  cases h
  refine { toFacts₀ := ?_ }
  constructor <;> assumption

theorem frame_Kernel14 : Cert.quiescent_Kernel14 (hKernel14 := facts_Kernel14) := fun m g _ => by
  refine cast ?_ (Cert.Kernel14Ideal.Gen.frame (F := Bits) m g)
  sl_kernel_rfl

theorem frame_Kernel14Ideal : Cert.quiescent_Kernel14Ideal := fun m g _ => Cert.Kernel14Ideal.Gen.frame (F := Ideal) m g

theorem frame_Reference14Ideal : Cert.quiescent_Reference14Ideal := fun m g _ =>
  (θ_run _ _ _).mono (fun r h => ⟨fun c => (h c).2, Idealize.ShloMosaic.sem_eq_zero_of_no_sems (by decide) r.2⟩)
    (Cert.Reference14Ideal.Value.run m g)

theorem algebraic : Cert.algebraic_Kernel14Ideal_Reference14Ideal := by
  intro m g m' g' _ hagree
  refine ⟨fun c => Cert.Kernel14Ideal.Wgrad.G m c, ?_, ?_⟩
  · exact (θ_run _ _ _).mono (fun r h c => ⟨(h c).1.trans (Cert.Kernel14Ideal.Wgrad.array_eq m c), (h c).2⟩) (Cert.Kernel14Ideal.Value.run_blocks m g)
  · refine (θ_run _ _ _).mono (fun r h c => ⟨?_, (h c).2⟩) (Cert.Reference14Ideal.Value.run m' g')
    obtain ⟨a0, a1⟩ := hagree c
    refine (h c).1.trans ((Cert.Reference14Ideal.Read.val_main_v8_eq _ _).trans ((ref_eq _ _).trans ?_))
    exact congrArg₂ Cert.Kernel14Ideal.Wgrad.heads a0 a1

end Cert.Wgrad14

end
-- ==== Proof.Wgrad15.lean ====
/-
  The gradient of the embeddings' output projection, one block of columns after another.
-/
module

public import proofs.«01_k».proof.Defs
public import proofs.«01_k».proof.Proof.Mat
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ReadBack
public import Idealize.ShloMosaic.Lib.Quiescent
public import Idealize.ShloMosaic.Lib.Tactic

@[expose] public section

set_option maxRecDepth 16128

noncomputable section

namespace Cert.Kernel15Ideal.Wgrad

open Cert.Kernel15Ideal Cert.Kernel15Ideal.Gen Cert.Kernel15Ideal.Value Idealize.ShloMosaic Idealize.ShloMosaic.TcCoe

/-- Columns against columns. -/
def prod (a : S4096x256.Idx → EReal) (b : S4096x1024.Idx → EReal) (i : Shape.Idx ⟨2, ![256, 1024]⟩) : EReal :=
  ∑ k : Fin 4096, a (ix2 k (⟨(i 0).val, (i 0).isLt⟩ : Fin 256)) * b (ix2 k (⟨(i 1).val, (i 1).isLt⟩ : Fin 1024))

/-- The product's columns, 128 to a block. -/
def blocks (a : S4096x256.Idx → EReal) (b : S4096x1024.Idx → EReal) (i : S8x256x128.Idx) : EReal :=
  prod a b (ix2 (⟨(i 1).val, (i 1).isLt⟩ : Fin 256) (⟨128 * (i 0).val + (i 2).val, by
    have h0 : (i 0).val < 8 := (i 0).isLt
    have h2 : (i 2).val < 128 := (i 2).isLt
    omega⟩ : Fin 1024))

theorem pay1_at (r : Fin 256) (j : Fin 1024) : k0_pay1 (F := Ideal) (ix2 r j) = 0 := by
  unfold k0_pay1
  pointwise

theorem pay2_at (a : Vec Ideal S256x1024 .f32) (x0 : Vec Ideal S2048x256 .bf16) (x1 : Vec Ideal S2048x1024 .bf16) (r : Fin 256) (j : Fin 1024) :
    k0_pay2 (F := Ideal) a x0 x1 (ix2 r j) = a (ix2 r j) + ∑ k : Fin 2048, x0 (ix2 k r) * x1 (ix2 k j) := by
  unfold k0_pay2
  pointwise

theorem pay6_at (a : Vec Ideal S256x128 .f32) (r : Fin 256) (j : Fin 128) : k0_pay6 (F := Ideal) a (ix3 (0 : Fin 1) r j) = a (ix2 r j) := by
  unfold k0_pay6
  pointwise

/-- Blocks of columns, one after the other. -/
def split (a : S256x1024.Idx → EReal) (i : S8x256x128.Idx) : EReal :=
  a (ix2 (⟨(i 1).val, (i 1).isLt⟩ : Fin 256) (⟨128 * (i 0).val + (i 2).val, by
    have h0 : (i 0).val < 8 := (i 0).isLt
    have h2 : (i 2).val < 128 := (i 2).isLt
    omega⟩ : Fin 1024))

/-- A block's columns. -/
theorem cols_at (v : View sig .tc .vmem S256x1024 .f32) (a : Vec Ideal S256x1024 .f32) (h : ℕ) (hh : h < 8)
    (inb : ∀ d, (![0, 128 * h] : Fin 2 → ℕ) d + S256x128.size d ≤ S256x1024.size d) (r : Fin 256) (j : Fin 128) :
    v.readCov (Val := Elt Ideal) [⟨Rect.unit ![0, 0] S256x1024.size inb_S256x1024_S256x1024_0_0, a⟩] (Rect.unit (s := S256x1024) ![0, 128 * h] S256x128.size inb).toLoadRect (ix2 r j)
      = a (ix2 r (⟨128 * h + j.val, by omega⟩ : Fin 1024)) := by
  rw [View.readCov_eq_canon', View.canon_cons_unit_zero Mat.zeros2]
  refine congrArg a (funext fun d => ?_)
  match d with
  | ⟨0, _⟩ => exact Fin.ext (show 0 + 1 * r.val = r.val by omega)
  | ⟨1, _⟩ => exact Fin.ext (show 128 * h + 1 * j.val = 128 * h + j.val by omega)

/-- A piece's index, by its coordinates. -/
theorem piece_ix (x : S1x256x128.Idx) :
    x = ix3 (0 : Fin 1) (⟨(x 1).val, (x 1).isLt⟩ : Fin 256) (⟨(x 2).val, (x 2).isLt⟩ : Fin 128) := by
  funext d
  match d with
  | ⟨0, _⟩ => exact Fin.ext (show (x 0).val = 0 by have h : (x 0).val < 1 := (x 0).isLt; omega)
  | ⟨1, _⟩ => rfl
  | ⟨2, _⟩ => rfl

/-- Where a block's piece stands. -/
theorem split_at (a : Vec Ideal S256x1024 .f32) (h : ℕ) (hh : h < 8)
    (inb : ∀ d, (![h, 0, 0] : Fin 3 → ℕ) d + S1x256x128.size d ≤ S8x256x128.size d) (x : S1x256x128.Idx) :
    split a ((Rect.unit (s := S8x256x128) ![h, 0, 0] S1x256x128.size inb).emb x)
      = a (ix2 (⟨(x 1).val, (x 1).isLt⟩ : Fin 256) (⟨128 * h + (x 2).val, by have h2 : (x 2).val < 128 := (x 2).isLt; omega⟩ : Fin 1024)) := by
  have h0 : (x 0).val < 1 := (x 0).isLt
  refine congrArg a (funext fun d => ?_)
  match d with
  | ⟨0, _⟩ => exact Fin.ext (show 0 + 1 * (x 1).val = (x 1).val by omega)
  | ⟨1, _⟩ => exact Fin.ext (show 128 * (h + 1 * (x 0).val) + (0 + 1 * (x 2).val) = 128 * h + (x 2).val by omega)

section Run

variable (c : Dev nD) (i : grid0.Coords)
  (arg3 : Memref sig .tc .vmem S2048x256 .bf16) (harg3 : arg3.IsWhole) (arg4 : Memref sig .tc .vmem S2048x1024 .bf16) (harg4 : arg4.IsWhole)
  (arg5 : Memref sig .tc .vmem S8x256x128 .bf16) (harg5 : arg5.IsWhole) (arg6 : Memref sig .tc .vmem S256x1024 .f32) (harg6 : arg6.IsWhole)
  (x0 : Vec Ideal S2048x256 .bf16) (x1 : Vec Ideal S2048x1024 .bf16)

theorem first_store (hc0 : cond0_0 i) (hc1 : ¬cond0_1 i) : (kernelRun0_A (F := Ideal) c i arg3 harg3 arg4 harg4 arg5 harg5 arg6 harg6 hc0 hc1 x0 x1).2.1
    = [⟨Rect.unit ![0, 0] S256x1024.size inb_S256x1024_S256x1024_0_0, k0_pay2 (F := Ideal)
        (arg6.view.readCov (Val := Elt Ideal) [⟨Rect.unit ![0, 0] S256x1024.size inb_S256x1024_S256x1024_0_0, k0_pay1 (F := Ideal)⟩] (Rect.unit ![0, 0] S256x1024.size inb_S256x1024_S256x1024_0_0).toLoadRect)
        (arg3.view.readAt (Elt Ideal) (Rect.unit ![0, 0] S2048x256.size inb_S2048x256_S2048x256_0_0).toLoadRect (harg3.unread x0))
        (arg4.view.readAt (Elt Ideal) (Rect.unit ![0, 0] S2048x1024.size inb_S2048x1024_S2048x1024_0_0).toLoadRect (harg4.unread x1))⟩,
      ⟨Rect.unit ![0, 0] S256x1024.size inb_S256x1024_S256x1024_0_0, k0_pay1 (F := Ideal)⟩] := by
  sl_kernel_rfl

/-- The accumulator a last point splits, as its body reads it. -/
def accR (a : Vec Ideal S256x1024 .f32) : Vec Ideal S256x1024 .f32 :=
  k0_pay2 (F := Ideal)
    (arg6.view.readAt (Elt Ideal) (Rect.unit ![0, 0] S256x1024.size inb_S256x1024_S256x1024_0_0).toLoadRect (harg6.unread a))
    (arg3.view.readAt (Elt Ideal) (Rect.unit ![0, 0] S2048x256.size inb_S2048x256_S2048x256_0_0).toLoadRect (harg3.unread x0))
    (arg4.view.readAt (Elt Ideal) (Rect.unit ![0, 0] S2048x1024.size inb_S2048x1024_S2048x1024_0_0).toLoadRect (harg4.unread x1))

/-- A block's store: its columns of the accumulator. -/
def accPiece (b : Vec Ideal S256x1024 .f32) (h : ℕ) (inb : ∀ d, (![0, 128 * h] : Fin 2 → ℕ) d + S256x128.size d ≤ S256x1024.size d)
    (inb' : ∀ d, (![h, 0, 0] : Fin 3 → ℕ) d + S1x256x128.size d ≤ S8x256x128.size d) : View.Piece (Elt Ideal) S8x256x128 .bf16 :=
  ⟨Rect.unit (s := S8x256x128) ![h, 0, 0] S1x256x128.size inb', k0_pay6 (F := Ideal)
    (arg6.view.readCov (Val := Elt Ideal) [⟨Rect.unit ![0, 0] S256x1024.size inb_S256x1024_S256x1024_0_0, b⟩]
      (Rect.unit (s := S256x1024) ![0, 128 * h] S256x128.size inb).toLoadRect)⟩

theorem last_store (hc0 : ¬cond0_0 i) (hc1 : cond0_1 i) (a : Vec Ideal S256x1024 .f32) :
    (kernelRun0_B (F := Ideal) c i arg3 harg3 arg4 harg4 arg5 harg5 arg6 harg6 hc0 hc1 x0 x1 a).1
    = [accPiece arg6 (accR arg3 harg3 arg4 harg4 arg6 harg6 x0 x1 a) 7 inb_S256x1024_S256x128_0_896 inb_S8x256x128_S1x256x128_7_0_0,
      accPiece arg6 (accR arg3 harg3 arg4 harg4 arg6 harg6 x0 x1 a) 6 inb_S256x1024_S256x128_0_768 inb_S8x256x128_S1x256x128_6_0_0,
      accPiece arg6 (accR arg3 harg3 arg4 harg4 arg6 harg6 x0 x1 a) 5 inb_S256x1024_S256x128_0_640 inb_S8x256x128_S1x256x128_5_0_0,
      accPiece arg6 (accR arg3 harg3 arg4 harg4 arg6 harg6 x0 x1 a) 4 inb_S256x1024_S256x128_0_512 inb_S8x256x128_S1x256x128_4_0_0,
      accPiece arg6 (accR arg3 harg3 arg4 harg4 arg6 harg6 x0 x1 a) 3 inb_S256x1024_S256x128_0_384 inb_S8x256x128_S1x256x128_3_0_0,
      accPiece arg6 (accR arg3 harg3 arg4 harg4 arg6 harg6 x0 x1 a) 2 inb_S256x1024_S256x128_0_256 inb_S8x256x128_S1x256x128_2_0_0,
      accPiece arg6 (accR arg3 harg3 arg4 harg4 arg6 harg6 x0 x1 a) 1 inb_S256x1024_S256x128_0_128 inb_S8x256x128_S1x256x128_1_0_0,
      accPiece arg6 (accR arg3 harg3 arg4 harg4 arg6 harg6 x0 x1 a) 0 inb_S256x1024_S256x128_0_0 inb_S8x256x128_S1x256x128_0_0_0] := by
  sl_kernel_rfl

theorem accR_eq (a : Vec Ideal S256x1024 .f32) : accR arg3 harg3 arg4 harg4 arg6 harg6 x0 x1 a = k0_pay2 (F := Ideal) a x0 x1 := by
  unfold accR
  rw [Mat.read_whole arg3 harg3 x0 _ Mat.zero2, Mat.read_whole arg4 harg4 x1 _ Mat.zero2, Mat.read_whole arg6 harg6 a _ Mat.zero2]

theorem first_val (hc0 : cond0_0 i) (hc1 : ¬cond0_1 i) :
    sout0_A_0 (F := Ideal) c i arg3 harg3 arg4 harg4 arg5 harg5 arg6 harg6 hc0 hc1 x0 x1 = k0_pay2 (F := Ideal) (k0_pay1 (F := Ideal)) x0 x1 := by
  unfold sout0_A_0
  rw [first_store, View.read_writes_full VS0_0 _ inb_S256x1024_S256x1024_0_0, View.readCov_full _ inb_S256x1024_S256x1024_0_0,
    Mat.read_whole arg3 harg3 x0 _ Mat.zero2, Mat.read_whole arg4 harg4 x1 _ Mat.zero2]

theorem pieces_read (L : List (View.Piece (Elt Ideal) S8x256x128 .bf16)) (g : S8x256x128.Idx → EReal) (h : View.PiecesOf (Val := Elt Ideal) (e := .bf16) g L)
    (y : S8x256x128.Idx) (hy : ∃ p ∈ L, y ∈ p.1.set) : VO0_2.read (Elt Ideal) (VO0_2.writes (Elt Ideal) VO0_2.junk L) y = g y := by
  have e := View.canon_append_of_piecesOf (Val := Elt Ideal) (e := .bf16) g [] L h y hy
  rw [List.append_nil] at e
  exact (View.read_writes_apply_eq_canon VO0_2 VO0_2.junk y L hy).trans e

theorem piece_of (a : Vec Ideal S256x1024 .f32) (h : ℕ) (hh : h < 8) (inb : ∀ d, (![0, 128 * h] : Fin 2 → ℕ) d + S256x128.size d ≤ S256x1024.size d)
    (inb' : ∀ d, (![h, 0, 0] : Fin 3 → ℕ) d + S1x256x128.size d ≤ S8x256x128.size d) (x : S1x256x128.Idx) :
    (accPiece arg6 a h inb inb').2 x = split a ((accPiece arg6 a h inb inb').1.emb x) := by
  refine Eq.trans ?_ (split_at a h hh inb' x).symm
  refine (congrArg (k0_pay6 (F := Ideal) _) (piece_ix x)).trans ((pay6_at _ _ _).trans ?_)
  exact cols_at _ _ h hh inb _ _

theorem last_val (hc0 : ¬cond0_0 i) (hc1 : cond0_1 i) (a : Vec Ideal S256x1024 .f32) :
    out0_B_2 (F := Ideal) c i arg3 harg3 arg4 harg4 arg5 harg5 arg6 harg6 hc0 hc1 x0 x1 a = split (k0_pay2 (F := Ideal) a x0 x1) := by
  funext y
  have hy := cover0_B_2 (F := Ideal) c i arg3 harg3 arg4 harg4 arg5 harg5 arg6 harg6 hc0 hc1 x0 x1 a y
  unfold out0_B_2
  rw [last_store, accR_eq] at hy ⊢
  refine pieces_read _ _ ?_ y hy
  exact ⟨piece_of arg6 _ 7 (by omega) _ _, piece_of arg6 _ 6 (by omega) _ _, piece_of arg6 _ 5 (by omega) _ _, piece_of arg6 _ 4 (by omega) _ _,
    piece_of arg6 _ 3 (by omega) _ _, piece_of arg6 _ 2 (by omega) _ _, piece_of arg6 _ 1 (by omega) _ _, piece_of arg6 _ 0 (by omega) _ _, trivial⟩

end Run

variable (m : (l : Loc nD τ sig) → Buf (Elt Ideal) l) (c : Dev nD) (t : Fin cfg0.N)

theorem place0 : ∀ t : Fin cfg0.N, win0_0.index t (0 : Fin 2) = t.val % 2 ∧ win0_0.index t (1 : Fin 2) = 0 :=
  (by decide +kernel : ∀ t : Fin grid0.N, _)
theorem place1 : ∀ t : Fin cfg0.N, win0_1.index t (0 : Fin 2) = t.val % 2 ∧ win0_1.index t (1 : Fin 2) = t.val / 2 :=
  (by decide +kernel : ∀ t : Fin grid0.N, _)
theorem place2 : ∀ t : Fin cfg0.N, win0_2.index t (0 : Fin 3) = t.val / 2 ∧ win0_2.index t (1 : Fin 3) = 0 ∧ win0_2.index t (2 : Fin 3) = 0 :=
  (by decide +kernel : ∀ t : Fin grid0.N, _)

/-- A row of a point's half, in the array. -/
def row (k : Fin 2048) : Fin 4096 := ⟨2048 * (t.val % 2) + k.val, by omega⟩

/-- A column of a point's block, in the array. -/
def col (r : Fin 1024) : Fin 1024 := ⟨1024 * (t.val / 2) + r.val, by have := t.isLt; have hN : cfg0.N = 2 := N_0; omega⟩

theorem iblk0_at (k : Fin 2048) (r : Fin 256) :
    (iblk m c 0 t : S2048x256.Idx → EReal) (ix2 k r) = (m ((c : Thread nD τ).loc main_arg0) : S4096x256.Idx → EReal) (ix2 (row t k) r) := by
  obtain ⟨e0, e1⟩ := place0 t
  have hi : (((cfg0.win 0).blk t).view.emb (ix2 k r : S2048x256.Idx) : S4096x256.Idx) = ix2 (row t k) r := by
    funext a
    match a with
    | ⟨0, _⟩ => exact Fin.ext (show win0_0.index t (0 : Fin 2) * 2048 + 1 * k.val = 2048 * (t.val % 2) + k.val by rw [e0]; omega)
    | ⟨1, _⟩ => exact Fin.ext (show win0_0.index t (1 : Fin 2) * 256 + 1 * r.val = r.val by rw [e1]; omega)
  exact (congrFun (V_main_arg0 m c) _).trans (congrArg (m ((c : Thread nD τ).loc main_arg0) : S4096x256.Idx → EReal) hi)

theorem iblk1_at (k : Fin 2048) (j : Fin 1024) :
    (iblk m c 1 t : S2048x1024.Idx → EReal) (ix2 k j) = (m ((c : Thread nD τ).loc main_arg1) : S4096x1024.Idx → EReal) (ix2 (row t k) (col t j)) := by
  obtain ⟨e0, e1⟩ := place1 t
  have hi : (((cfg0.win 1).blk t).view.emb (ix2 k j : S2048x1024.Idx) : S4096x1024.Idx) = ix2 (row t k) (col t j) := by
    funext a
    match a with
    | ⟨0, _⟩ => exact Fin.ext (show win0_1.index t (0 : Fin 2) * 2048 + 1 * k.val = 2048 * (t.val % 2) + k.val by rw [e0]; omega)
    | ⟨1, _⟩ => exact Fin.ext (show win0_1.index t (1 : Fin 2) * 1024 + 1 * j.val = 1024 * (t.val / 2) + j.val by rw [e1]; omega)
  exact (congrFun (V_main_arg1 m c) _).trans (congrArg (m ((c : Thread nD τ).loc main_arg1) : S4096x1024.Idx → EReal) hi)

/-- The product of the launch's arguments. -/
def whole : Shape.Idx ⟨2, ![256, 1024]⟩ → EReal := prod (m ((c : Thread nD τ).loc main_arg0)) (m ((c : Thread nD τ).loc main_arg1))

/-- The same, block by block. -/
def G : S8x256x128.Idx → EReal := blocks (m ((c : Thread nD τ).loc main_arg0)) (m ((c : Thread nD τ).loc main_arg1))

/-- What the second point of a pair writes, by the pair's halves. -/
theorem pair_at (s : Fin cfg0.N) (h0 : s.val % 2 = 0) (hs : t.val = s.val + 1) (r : Fin 256) (j : Fin 1024) :
    k0_pay2 (F := Ideal) (k0_pay2 (F := Ideal) (k0_pay1 (F := Ideal)) (iblk m c 0 s) (iblk m c 1 s)) (iblk m c 0 t) (iblk m c 1 t) (ix2 r j)
      = whole m c (ix2 r (col t j)) := by
  refine (pay2_at _ _ _ r j).trans ?_
  rw [pay2_at, pay1_at]
  unfold whole prod
  rw [← Mat.sum_halves]
  refine congrArg₂ (· + ·) (congrArg (0 + ·) (Mat.sum_ext fun k => ?_)) (Mat.sum_ext fun k => ?_)
  · rw [iblk0_at, iblk1_at]
    have hr : row s k = ⟨k.val, by omega⟩ := Fin.ext (show 2048 * (s.val % 2) + k.val = k.val by omega)
    have hc : col s j = col t j := Fin.ext (show 1024 * (s.val / 2) + j.val = 1024 * (t.val / 2) + j.val by omega)
    rw [hr, hc]
    rfl
  · rw [iblk0_at, iblk1_at]
    have hr : row t k = ⟨2048 + k.val, by omega⟩ := Fin.ext (show 2048 * (t.val % 2) + k.val = 2048 + k.val by omega)
    rw [hr]
    rfl

theorem flushed_eq (h1 : t.val % 2 = 1) : (dats m 0 c).flushed 2 t = ((cfg0.win 2).blk t).view.read (Elt Ideal) (G m c) := by
  have h0 : ¬t.val % 2 = 0 := by omega
  have hs : t.val - 1 < cfg0.N := Nat.lt_of_le_of_lt (Nat.sub_le _ _) t.isLt
  have hs0 : (⟨t.val - 1, hs⟩ : Fin cfg0.N).val % 2 = 0 := show (t.val - 1) % 2 = 0 by omega
  rw [flushed2_B m c t h0 h1, last_val, outsAt0_A m c ⟨t.val - 1, hs⟩ hs0 (by omega), first_val]
  obtain ⟨e0, e1, e2⟩ := place2 t
  funext y
  have hy0 : (y 0).val < 8 := (y 0).isLt
  have hy1 : (y 1).val < 256 := (y 1).isLt
  have hy2 : (y 2).val < 128 := (y 2).isLt
  refine (pair_at m c t ⟨t.val - 1, hs⟩ hs0 (show t.val = t.val - 1 + 1 by omega) (⟨(y 1).val, hy1⟩ : Fin 256)
    (⟨128 * (y 0).val + (y 2).val, by omega⟩ : Fin 1024)).trans ?_
  refine congrArg (whole m c) (funext fun a => ?_)
  match a with
  | ⟨0, _⟩ => exact Fin.ext (show (y 1).val = win0_2.index t (1 : Fin 3) * 256 + 1 * (y 1).val by rw [e1]; omega)
  | ⟨1, _⟩ => exact Fin.ext (show 1024 * (t.val / 2) + (128 * (y 0).val + (y 2).val) = 128 * (win0_2.index t (0 : Fin 3) * 8 + 1 * (y 0).val) + (win0_2.index t (2 : Fin 3) * 128 + 1 * (y 2).val) by rw [e0, e2]; omega)

theorem array_eq : (dats m 0 c).arrAt 2 cfg0.N = G m c := by
  refine (dats m 0 c).arrAt_eq_of_cover 2 _ (fun t hf => flushed_eq m c t ((flush0_2 t).mp hf)) fun i => ?_
  have h0 : (i 0).val < 8 := (i 0).isLt
  have h1 : (i 1).val < 256 := (i 1).isLt
  have h2 : (i 2).val < 128 := (i 2).isLt
  have hN : cfg0.N = 2 := N_0
  have ht : 2 * ((i 0).val / 8) + 1 < cfg0.N := by omega
  refine ⟨⟨2 * ((i 0).val / 8) + 1, ht⟩, (flush0_2 _).mpr (show (2 * ((i 0).val / 8) + 1) % 2 = 1 by omega), ?_⟩
  obtain ⟨e0, e1, e2⟩ := place2 ⟨2 * ((i 0).val / 8) + 1, ht⟩
  show i ∈ ((View.whole main_v0).slice (win0_2.rect ⟨2 * ((i 0).val / 8) + 1, ht⟩)).set
  rw [View.set_slice_whole, Rect.mem_set_unit]
  intro a
  match a with
  | ⟨0, _⟩ =>
    show win0_2.index _ (0 : Fin 3) * 8 ≤ (i 0).val ∧ (i 0).val < win0_2.index _ (0 : Fin 3) * 8 + 8
    rw [e0]
    dsimp only
    omega
  | ⟨1, _⟩ =>
    show win0_2.index _ (1 : Fin 3) * 256 ≤ (i 1).val ∧ (i 1).val < win0_2.index _ (1 : Fin 3) * 256 + 256
    rw [e1]
    omega
  | ⟨2, _⟩ =>
    show win0_2.index _ (2 : Fin 3) * 128 ≤ (i 2).val ∧ (i 2).val < win0_2.index _ (2 : Fin 3) * 128 + 128
    rw [e2]
    omega

end Cert.Kernel15Ideal.Wgrad

namespace Cert.Wgrad15

open Idealize.ShloMosaic Idealize.ShloMosaic.StableHlo Idealize.SL.Sem

theorem ref_eq (a : FVec Ideal Cert.Reference15Ideal.S4096x256 .bf16) (b : FVec Ideal Cert.Reference15Ideal.S4096x1024 .bf16) :
    Cert.Reference15Ideal.Read.val_main_v8 (F := Ideal) a b = Cert.Kernel15Ideal.Wgrad.blocks a b := by
  funext i
  have h0 : (i 0).val < 8 := (i 0).isLt
  have h1 : (i 1).val < 256 := (i 1).isLt
  have h2 : (i 2).val < 128 := (i 2).isLt
  rw [Cert.Reference15Ideal.Read.val_main_v8_apply, Cert.Reference15Ideal.Read.val_main_v7_apply]
  refine (Cert.Reference15Ideal.Read.val_main_v6_apply (F := Ideal) a b _).trans ?_
  refine (Cert.Reference15Ideal.Read.val_main_v5_apply (F := Ideal) a b _).trans ?_
  unfold Cert.Kernel15Ideal.Wgrad.blocks Cert.Kernel15Ideal.Wgrad.prod
  refine (Cert.Reference15Ideal.Read.val_main_v4_apply a b _).trans (Finset.sum_congr rfl fun k _ => ?_)
  rw [Cert.Reference15Ideal.Read.val_main_v3_apply, Cert.Reference15Ideal.Read.val_main_v1_apply]
  refine (mul_comm _ _).trans (congrArg₂ (· * ·) (congrArg a ?_) (congrArg b ?_))
  · funext x
    match x with
    | ⟨0, _⟩ => rfl
    | ⟨1, _⟩ => exact Fin.ext (show (((i 1).val * 8 + (i 0).val) * 128 + (i 2).val) / 1024 = (i 1).val by omega)
  · funext x
    match x with
    | ⟨0, _⟩ => rfl
    | ⟨1, _⟩ => exact Fin.ext (show (((i 1).val * 8 + (i 0).val) * 128 + (i 2).val) % 1024 = 128 * (i 0).val + (i 2).val by omega)

theorem facts_Kernel15 : Cert.Kernel15.Facts := by
  have h := Cert.Kernel15Ideal.Gen.facts₀
  cases h
  refine { toFacts₀ := ?_ }
  constructor <;> assumption

theorem frame_Kernel15 : Cert.quiescent_Kernel15 (hKernel15 := facts_Kernel15) := fun m g _ => by
  refine cast ?_ (Cert.Kernel15Ideal.Gen.frame (F := Bits) m g)
  sl_kernel_rfl

theorem frame_Kernel15Ideal : Cert.quiescent_Kernel15Ideal := fun m g _ => Cert.Kernel15Ideal.Gen.frame (F := Ideal) m g

theorem frame_Reference15Ideal : Cert.quiescent_Reference15Ideal := fun m g _ =>
  (θ_run _ _ _).mono (fun r h => ⟨fun c => (h c).2, Idealize.ShloMosaic.sem_eq_zero_of_no_sems (by decide) r.2⟩)
    (Cert.Reference15Ideal.Value.run m g)

theorem algebraic : Cert.algebraic_Kernel15Ideal_Reference15Ideal := by
  intro m g m' g' _ hagree
  refine ⟨fun c => Cert.Kernel15Ideal.Wgrad.G m c, ?_, ?_⟩
  · exact (θ_run _ _ _).mono (fun r h c => ⟨(h c).1.trans (Cert.Kernel15Ideal.Wgrad.array_eq m c), (h c).2⟩) (Cert.Kernel15Ideal.Value.run_blocks m g)
  · refine (θ_run _ _ _).mono (fun r h c => ⟨?_, (h c).2⟩) (Cert.Reference15Ideal.Value.run m' g')
    obtain ⟨a0, a1⟩ := hagree c
    refine (h c).1.trans ((Cert.Reference15Ideal.Read.val_main_v8_eq _ _).trans ((ref_eq _ _).trans ?_))
    exact congrArg₂ Cert.Kernel15Ideal.Wgrad.blocks a0 a1

end Cert.Wgrad15

end
-- ==== Proof.Rows16.lean ====
/-
  The projection to queries, keys and values.
-/
module

public import proofs.«01_k».proof.Defs
public import proofs.«01_k».proof.Proof.Mat
public import proofs.«01_k».proof.Proof.Gen.Kernel16Ideal.Value
public import proofs.«01_k».proof.Proof.Gen.Reference16Ideal.Run
public import proofs.«01_k».proof.Proof.Gen.Reference16Ideal.Read
public import Idealize.ShloMosaic.Lib.Quiescent
public import Idealize.ShloMosaic.Lib.Tactic

@[expose] public section

set_option maxRecDepth 16384

noncomputable section

namespace Cert.Kernel16Ideal.Rows

open Cert.Kernel16Ideal Cert.Kernel16Ideal.Gen Cert.Kernel16Ideal.Value Idealize.ShloMosaic Idealize.ShloMosaic.TcCoe

/-- Rows against columns. -/
def prod (a : S4096x1024.Idx → EReal) (b : S1024x3072.Idx → EReal) (i : S4096x3072.Idx) : EReal :=
  ∑ k : Fin 1024, a (ix2 (⟨(i 0).val, (i 0).isLt⟩ : Fin 4096) k) * b (ix2 k (⟨(i 1).val, (i 1).isLt⟩ : Fin 3072))

theorem pay_at (x0 : Vec Ideal S512x1024 .bf16) (x1 : Vec Ideal S1024x3072 .bf16) (r : Fin 512) (j : Fin 3072) :
    k0_pay1 (F := Ideal) x0 x1 (ix2 r j) = ∑ k : Fin 1024, x0 (ix2 r k) * x1 (ix2 k j) := by
  unfold k0_pay1
  pointwise

theorem out_eq (x0 : Vec Ideal S512x1024 .bf16) (x1 : Vec Ideal S1024x3072 .bf16) : out0_2 (F := Ideal) x0 x1 = k0_pay1 (F := Ideal) x0 x1 := by
  unfold out0_2
  rw [View.ld_unit_zero Mat.zeros2, View.ld_unit_zero Mat.zeros2]
  exact View.canon_cons_unit_zero Mat.zeros2 _ _ _

variable (m : (l : Loc nD τ sig) → Buf (Elt Ideal) l) (c : Dev nD) (t : Fin cfg0.N)

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)

/-- A row of a point's block, in the array. -/
def row (r : Fin 512) : Fin 4096 := ⟨512 * t.val + r.val, by have := t.isLt; have hN : cfg0.N = 8 := N_0; omega⟩

theorem iblk0_at (r : Fin 512) (k : Fin 1024) :
    (iblk m c 0 t : S512x1024.Idx → EReal) (ix2 r k) = (m ((c : Thread nD τ).loc main_arg0) : S4096x1024.Idx → EReal) (ix2 (row t r) k) := by
  obtain ⟨e0, e1⟩ := place0 t
  have hi : (((cfg0.win 0).blk t).view.emb (ix2 r k : S512x1024.Idx) : S4096x1024.Idx) = ix2 (row t r) k := by
    funext a
    match a with
    | ⟨0, _⟩ => exact Fin.ext (show win0_0.index t (0 : Fin 2) * 512 + 1 * r.val = 512 * t.val + r.val by rw [e0]; omega)
    | ⟨1, _⟩ => exact Fin.ext (show win0_0.index t (1 : Fin 2) * 1024 + 1 * k.val = k.val by rw [e1]; omega)
  exact (congrFun (V_main_arg0 m c) _).trans (congrArg (m ((c : Thread nD τ).loc main_arg0) : S4096x1024.Idx → EReal) hi)

theorem iblk1_at (k : Fin 1024) (r : Fin 3072) :
    (iblk m c 1 t : S1024x3072.Idx → EReal) (ix2 k r) = (m ((c : Thread nD τ).loc main_arg1) : S1024x3072.Idx → EReal) (ix2 k r) := by
  obtain ⟨e0, e1⟩ := place1 t
  have hi : (((cfg0.win 1).blk t).view.emb (ix2 k r : S1024x3072.Idx) : S1024x3072.Idx) = ix2 k r := by
    funext a
    match a with
    | ⟨0, _⟩ => exact Fin.ext (show win0_1.index t (0 : Fin 2) * 1024 + 1 * k.val = k.val by rw [e0]; omega)
    | ⟨1, _⟩ => exact Fin.ext (show win0_1.index t (1 : Fin 2) * 3072 + 1 * r.val = r.val by rw [e1]; omega)
  exact (congrFun (V_main_arg1 m c) _).trans (congrArg (m ((c : Thread nD τ).loc main_arg1) : S1024x3072.Idx → EReal) hi)

/-- The product of the launch's arguments. -/
def G : S4096x3072.Idx → EReal := prod (m ((c : Thread nD τ).loc main_arg0)) (m ((c : Thread nD τ).loc main_arg1))

theorem flushed_eq : (dats m 0 c).flushed 2 t = ((cfg0.win 2).blk t).view.read (Elt Ideal) (G m c) := by
  rw [flushed2, out_eq]
  obtain ⟨e0, e1⟩ := place2 t
  funext y
  have hy0 : (y 0).val < 512 := (y 0).isLt
  have hy1 : (y 1).val < 3072 := (y 1).isLt
  have hy : ((cfg0.win 2).xinj (grid0.coords t) y : S512x3072.Idx) = ix2 (⟨(y 0).val, hy0⟩ : Fin 512) (⟨(y 1).val, hy1⟩ : Fin 3072) := by
    funext a
    match a with
    | ⟨0, _⟩ => rfl
    | ⟨1, _⟩ => rfl
  refine (congrArg (k0_pay1 (F := Ideal) (iblk m c 0 t) (iblk m c 1 t)) hy).trans ((pay_at _ _ _ _).trans ?_)
  show _ = prod _ _ ((((cfg0.win 2).blk t).view.emb y : S4096x3072.Idx))
  unfold prod
  refine Mat.sum_ext fun k => ?_
  rw [iblk0_at, iblk1_at]
  refine congrArg₂ (· * ·) (congrArg _ ?_) (congrArg _ ?_)
  · refine congrArg (fun r : Fin 4096 => (ix2 r k : S4096x1024.Idx)) (Fin.ext ?_)
    show 512 * t.val + (y 0).val = win0_2.index t (0 : Fin 2) * 512 + 1 * (y 0).val
    rw [e0]
    omega
  · refine congrArg (fun r : Fin 3072 => (ix2 k r : S1024x3072.Idx)) (Fin.ext ?_)
    show (y 1).val = win0_2.index t (1 : Fin 2) * 3072 + 1 * (y 1).val
    rw [e1]
    omega

theorem array_eq : (dats m 0 c).arrAt 2 cfg0.N = G m c := by
  refine (dats m 0 c).arrAt_eq_of_cover 2 _ (fun t _ => flushed_eq m c t) fun i => ?_
  have h0 : (i 0).val < 4096 := (i 0).isLt
  have h1 : (i 1).val < 3072 := (i 1).isLt
  have hN : cfg0.N = 8 := N_0
  have ht : (i 0).val / 512 < cfg0.N := by omega
  refine ⟨⟨(i 0).val / 512, ht⟩, flush0_2 _, ?_⟩
  obtain ⟨e0, e1⟩ := place2 ⟨(i 0).val / 512, ht⟩
  show i ∈ ((View.whole main_v0).slice (win0_2.rect ⟨(i 0).val / 512, ht⟩)).set
  rw [View.set_slice_whole, Rect.mem_set_unit]
  intro a
  match a with
  | ⟨0, _⟩ =>
    show win0_2.index _ (0 : Fin 2) * 512 ≤ (i 0).val ∧ (i 0).val < win0_2.index _ (0 : Fin 2) * 512 + 512
    rw [e0]
    dsimp only
    omega
  | ⟨1, _⟩ =>
    show win0_2.index _ (1 : Fin 2) * 3072 ≤ (i 1).val ∧ (i 1).val < win0_2.index _ (1 : Fin 2) * 3072 + 3072
    rw [e1]
    omega

end Cert.Kernel16Ideal.Rows

namespace Cert.Rows16

open Idealize.ShloMosaic Idealize.ShloMosaic.StableHlo Idealize.SL.Sem

theorem ref_eq (a : FVec Ideal Cert.Reference16Ideal.S4096x1024 .bf16) (b : FVec Ideal Cert.Reference16Ideal.S1024x3072 .bf16) :
    Cert.Reference16Ideal.Read.val_main_v3 (F := Ideal) a b = Cert.Kernel16Ideal.Rows.prod a b := by
  funext i
  rw [Cert.Reference16Ideal.Read.val_main_v3_apply]
  refine (Cert.Reference16Ideal.Read.val_main_v2_apply a b i).trans (Finset.sum_congr rfl fun k _ => ?_)
  rw [Cert.Reference16Ideal.Read.val_main_v0_apply, Cert.Reference16Ideal.Read.val_main_v1_apply]
  refine congrArg₂ (· * ·) (congrArg a ?_) (congrArg b ?_)
  · funext x
    match x with
    | ⟨0, _⟩ => rfl
    | ⟨1, _⟩ => rfl
  · funext x
    match x with
    | ⟨0, _⟩ => rfl
    | ⟨1, _⟩ => rfl

theorem facts_Kernel16 : Cert.Kernel16.Facts := by
  have h := Cert.Kernel16Ideal.Gen.facts₀
  cases h
  refine { toFacts₀ := ?_ }
  constructor <;> assumption

theorem frame_Kernel16 : Cert.quiescent_Kernel16 (hKernel16 := facts_Kernel16) := fun m g _ => by
  refine cast ?_ (Cert.Kernel16Ideal.Gen.frame (F := Bits) m g)
  sl_kernel_rfl

theorem frame_Kernel16Ideal : Cert.quiescent_Kernel16Ideal := fun m g _ => Cert.Kernel16Ideal.Gen.frame (F := Ideal) m g

theorem frame_Reference16Ideal : Cert.quiescent_Reference16Ideal := fun m g _ =>
  (θ_run _ _ _).mono (fun r h => ⟨fun c => (h c).2, Idealize.ShloMosaic.sem_eq_zero_of_no_sems (by decide) r.2⟩)
    (Cert.Reference16Ideal.Value.run m g)

theorem algebraic : Cert.algebraic_Kernel16Ideal_Reference16Ideal := by
  intro m g m' g' _ hagree
  refine ⟨fun c => Cert.Kernel16Ideal.Rows.G m c, ?_, ?_⟩
  · exact (θ_run _ _ _).mono (fun r h c => ⟨(h c).1.trans (Cert.Kernel16Ideal.Rows.array_eq m c), (h c).2⟩) (Cert.Kernel16Ideal.Value.run_blocks m g)
  · refine (θ_run _ _ _).mono (fun r h c => ⟨?_, (h c).2⟩) (Cert.Reference16Ideal.Value.run m' g')
    obtain ⟨a0, a1⟩ := hagree c
    refine (h c).1.trans ((Cert.Reference16Ideal.Read.val_main_v3_eq _ _).trans ((ref_eq _ _).trans ?_))
    exact congrArg₂ Cert.Kernel16Ideal.Rows.prod a0 a1

end Cert.Rows16

end
-- ==== Proof.Rows17.lean ====
/-
  The pooling mixer's input projection.
-/
module

public import proofs.«01_k».proof.Defs
public import proofs.«01_k».proof.Proof.Mat
public import proofs.«01_k».proof.Proof.Gen.Kernel17Ideal.Value
public import proofs.«01_k».proof.Proof.Gen.Reference17Ideal.Run
public import proofs.«01_k».proof.Proof.Gen.Reference17Ideal.Read
public import Idealize.ShloMosaic.Lib.Quiescent
public import Idealize.ShloMosaic.Lib.Tactic

@[expose] public section

set_option maxRecDepth 16384

noncomputable section

namespace Cert.Kernel17Ideal.Rows

open Cert.Kernel17Ideal Cert.Kernel17Ideal.Gen Cert.Kernel17Ideal.Value Idealize.ShloMosaic Idealize.ShloMosaic.TcCoe

/-- Rows against columns. -/
def prod (a : S4096x1024.Idx → EReal) (b : S1024x1536.Idx → EReal) (i : S4096x1536.Idx) : EReal :=
  ∑ k : Fin 1024, a (ix2 (⟨(i 0).val, (i 0).isLt⟩ : Fin 4096) k) * b (ix2 k (⟨(i 1).val, (i 1).isLt⟩ : Fin 1536))

theorem pay_at (x0 : Vec Ideal S512x1024 .bf16) (x1 : Vec Ideal S1536x1024 .bf16) (r : Fin 512) (j : Fin 1536) :
    k0_pay1 (F := Ideal) x0 x1 (ix2 r j) = ∑ k : Fin 1024, x0 (ix2 r k) * x1 (ix2 j k) := by
  unfold k0_pay1
  pointwise

theorem out_eq (x0 : Vec Ideal S512x1024 .bf16) (x1 : Vec Ideal S1536x1024 .bf16) : out0_2 (F := Ideal) x0 x1 = k0_pay1 (F := Ideal) x0 x1 := by
  unfold out0_2
  rw [View.ld_unit_zero Mat.zeros2, View.ld_unit_zero Mat.zeros2]
  exact View.canon_cons_unit_zero Mat.zeros2 _ _ _

variable (m : (l : Loc nD τ sig) → Buf (Elt Ideal) l) (c : Dev nD) (t : Fin cfg0.N)

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)

/-- A row of a point's block, in the array. -/
def row (r : Fin 512) : Fin 4096 := ⟨512 * t.val + r.val, by have := t.isLt; have hN : cfg0.N = 8 := N_0; omega⟩

theorem iblk0_at (r : Fin 512) (k : Fin 1024) :
    (iblk m c 0 t : S512x1024.Idx → EReal) (ix2 r k) = (m ((c : Thread nD τ).loc main_arg0) : S4096x1024.Idx → EReal) (ix2 (row t r) k) := by
  obtain ⟨e0, e1⟩ := place0 t
  have hi : (((cfg0.win 0).blk t).view.emb (ix2 r k : S512x1024.Idx) : S4096x1024.Idx) = ix2 (row t r) k := by
    funext a
    match a with
    | ⟨0, _⟩ => exact Fin.ext (show win0_0.index t (0 : Fin 2) * 512 + 1 * r.val = 512 * t.val + r.val by rw [e0]; omega)
    | ⟨1, _⟩ => exact Fin.ext (show win0_0.index t (1 : Fin 2) * 1024 + 1 * k.val = k.val by rw [e1]; omega)
  exact (congrFun (V_main_arg0 m c) _).trans (congrArg (m ((c : Thread nD τ).loc main_arg0) : S4096x1024.Idx → EReal) hi)

theorem V0_term : (V m c main_v0 : S1536x1024.Idx → EReal)
    = transpose S1536x1024 [1, 0] (m ((c : Thread nD τ).loc main_arg1) : FVec Ideal S1024x1536 .bf16) transposes_S1024x1536_S1536x1024_1_0 := by
  sl_kernel_rfl

theorem iblk1_at (r : Fin 1536) (k : Fin 1024) :
    (iblk m c 1 t : S1536x1024.Idx → EReal) (ix2 r k)
      = (m ((c : Thread nD τ).loc main_arg1) : S1024x1536.Idx → EReal) (ix2 k r) := by
  obtain ⟨e0, e1⟩ := place1 t
  have hi : (((cfg0.win 1).blk t).view.emb (ix2 r k : S1536x1024.Idx) : S1536x1024.Idx) = ix2 r k := by
    funext a
    match a with
    | ⟨0, _⟩ => exact Fin.ext (show win0_1.index t (0 : Fin 2) * 1536 + 1 * r.val = r.val by rw [e0]; omega)
    | ⟨1, _⟩ => exact Fin.ext (show win0_1.index t (1 : Fin 2) * 1024 + 1 * k.val = k.val by rw [e1]; omega)
  refine (congrArg (V m c main_v0 : S1536x1024.Idx → EReal) hi).trans ?_
  rw [V0_term]
  exact transpose_apply _ _ _ _ _ (fun a => match a with
    | ⟨0, _⟩ => rfl
    | ⟨1, _⟩ => rfl)

/-- The product of the launch's arguments. -/
def G : S4096x1536.Idx → EReal := prod (m ((c : Thread nD τ).loc main_arg0)) (m ((c : Thread nD τ).loc main_arg1))

theorem flushed_eq : (dats m 0 c).flushed 2 t = ((cfg0.win 2).blk t).view.read (Elt Ideal) (G m c) := by
  rw [flushed2, out_eq]
  obtain ⟨e0, e1⟩ := place2 t
  funext y
  have hy0 : (y 0).val < 512 := (y 0).isLt
  have hy1 : (y 1).val < 1536 := (y 1).isLt
  have hy : ((cfg0.win 2).xinj (grid0.coords t) y : S512x1536.Idx) = ix2 (⟨(y 0).val, hy0⟩ : Fin 512) (⟨(y 1).val, hy1⟩ : Fin 1536) := by
    funext a
    match a with
    | ⟨0, _⟩ => rfl
    | ⟨1, _⟩ => rfl
  refine (congrArg (k0_pay1 (F := Ideal) (iblk m c 0 t) (iblk m c 1 t)) hy).trans ((pay_at _ _ _ _).trans ?_)
  show _ = prod _ _ ((((cfg0.win 2).blk t).view.emb y : S4096x1536.Idx))
  unfold prod
  refine Mat.sum_ext fun k => ?_
  rw [iblk0_at, iblk1_at]
  refine congrArg₂ (· * ·) (congrArg _ ?_) (congrArg _ ?_)
  · refine congrArg (fun r : Fin 4096 => (ix2 r k : S4096x1024.Idx)) (Fin.ext ?_)
    show 512 * t.val + (y 0).val = win0_2.index t (0 : Fin 2) * 512 + 1 * (y 0).val
    rw [e0]
    omega
  · refine congrArg (fun r : Fin 1536 => (ix2 k r : S1024x1536.Idx)) (Fin.ext ?_)
    show (y 1).val = win0_2.index t (1 : Fin 2) * 1536 + 1 * (y 1).val
    rw [e1]
    omega

theorem array_eq : (dats m 0 c).arrAt 2 cfg0.N = G m c := by
  refine (dats m 0 c).arrAt_eq_of_cover 2 _ (fun t _ => flushed_eq m c t) fun i => ?_
  have h0 : (i 0).val < 4096 := (i 0).isLt
  have h1 : (i 1).val < 1536 := (i 1).isLt
  have hN : cfg0.N = 8 := N_0
  have ht : (i 0).val / 512 < cfg0.N := by omega
  refine ⟨⟨(i 0).val / 512, ht⟩, flush0_2 _, ?_⟩
  obtain ⟨e0, e1⟩ := place2 ⟨(i 0).val / 512, ht⟩
  show i ∈ ((View.whole main_v1).slice (win0_2.rect ⟨(i 0).val / 512, ht⟩)).set
  rw [View.set_slice_whole, Rect.mem_set_unit]
  intro a
  match a with
  | ⟨0, _⟩ =>
    show win0_2.index _ (0 : Fin 2) * 512 ≤ (i 0).val ∧ (i 0).val < win0_2.index _ (0 : Fin 2) * 512 + 512
    rw [e0]
    dsimp only
    omega
  | ⟨1, _⟩ =>
    show win0_2.index _ (1 : Fin 2) * 1536 ≤ (i 1).val ∧ (i 1).val < win0_2.index _ (1 : Fin 2) * 1536 + 1536
    rw [e1]
    omega

end Cert.Kernel17Ideal.Rows

namespace Cert.Rows17

open Idealize.ShloMosaic Idealize.ShloMosaic.StableHlo Idealize.SL.Sem

theorem ref_eq (a : FVec Ideal Cert.Reference17Ideal.S4096x1024 .bf16) (b : FVec Ideal Cert.Reference17Ideal.S1024x1536 .bf16) :
    Cert.Reference17Ideal.Read.val_main_v2 (F := Ideal) a b = Cert.Kernel17Ideal.Rows.prod a b := by
  funext i
  refine (Cert.Reference17Ideal.Read.val_main_v2_apply a b _).trans (Finset.sum_congr rfl fun k _ => ?_)
  rw [Cert.Reference17Ideal.Read.val_main_v0_apply, Cert.Reference17Ideal.Read.val_main_v1_apply]
  refine congrArg₂ (· * ·) (congrArg a ?_) (congrArg b ?_)
  · funext x
    match x with
    | ⟨0, _⟩ => rfl
    | ⟨1, _⟩ => rfl
  · funext x
    match x with
    | ⟨0, _⟩ => rfl
    | ⟨1, _⟩ => exact Fin.ext (show (i 1).val = (i 1).val from rfl)

theorem facts_Kernel17 : Cert.Kernel17.Facts := by
  have h := Cert.Kernel17Ideal.Gen.facts₀
  cases h
  refine { toFacts₀ := ?_ }
  constructor <;> assumption

theorem frame_Kernel17 : Cert.quiescent_Kernel17 (hKernel17 := facts_Kernel17) := fun m g _ => by
  refine cast ?_ (Cert.Kernel17Ideal.Gen.frame (F := Bits) m g)
  sl_kernel_rfl

theorem frame_Kernel17Ideal : Cert.quiescent_Kernel17Ideal := fun m g _ => Cert.Kernel17Ideal.Gen.frame (F := Ideal) m g

theorem frame_Reference17Ideal : Cert.quiescent_Reference17Ideal := fun m g _ =>
  (θ_run _ _ _).mono (fun r h => ⟨fun c => (h c).2, Idealize.ShloMosaic.sem_eq_zero_of_no_sems (by decide) r.2⟩)
    (Cert.Reference17Ideal.Value.run m g)

theorem algebraic : Cert.algebraic_Kernel17Ideal_Reference17Ideal := by
  intro m g m' g' _ hagree
  refine ⟨fun c => Cert.Kernel17Ideal.Rows.G m c, ?_, ?_⟩
  · exact (θ_run _ _ _).mono (fun r h c => ⟨(h c).1.trans (Cert.Kernel17Ideal.Rows.array_eq m c), (h c).2⟩) (Cert.Kernel17Ideal.Value.run_blocks m g)
  · refine (θ_run _ _ _).mono (fun r h c => ⟨?_, (h c).2⟩) (Cert.Reference17Ideal.Value.run m' g')
    obtain ⟨a0, a1⟩ := hagree c
    refine (h c).1.trans ((Cert.Reference17Ideal.Read.val_main_v2_eq _ _).trans ((ref_eq _ _).trans ?_))
    exact congrArg₂ Cert.Kernel17Ideal.Rows.prod a0 a1

end Cert.Rows17

end
-- ==== Proof.Norm.lean ====
/-
  The gradient of a layer norm over the extended reals: the form with the row's mean and its mean against the normalised row, and the form
  that the chain rule writes through the mean and the variance, are one function where the incoming gradient is finite.
-/
module

public import Idealize.ShloMosaic.Lib.IdealHost
public import Idealize.ShloMosaic.PureOps.Ideal

@[expose] public section

noncomputable section

namespace Cert.Norm

open Idealize.ShloMosaic

/-- The length of a row. -/
def N : EReal := Ideal.ofBits .f32 0x44800000#32

/-- What is added to a variance. -/
def eps : EReal := Ideal.ofBits .f32 0x3727C5AC#32

theorem N_eq : N = ((1024 : ℝ) : EReal) := by
  unfold N
  simp [Ideal.ofBits, Ideal.ieee]
  rw [← EReal.coe_mul]
  norm_num

theorem eps_eq : eps = ((10995116 / 1099511627776 : ℝ) : EReal) := by
  unfold eps
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem mhalf_eq : Ideal.ofBits .f32 0xBF000000#32 = ((-(1 / 2) : ℝ) : EReal) := by
  simp [Ideal.ofBits, Ideal.ieee]
  rw [← EReal.coe_mul]
  norm_num

theorem sum_coe {ι : Type*} (s : Finset ι) (f : ι → ℝ) : ∑ i ∈ s, (f i : EReal) = ((∑ i ∈ s, f i : ℝ) : EReal) :=
  (map_sum (⟨⟨fun r : ℝ => (r : EReal), rfl⟩, EReal.coe_add⟩ : ℝ →+ EReal) f s).symm

theorem div_N (x : ℝ) : Ideal.div (x : EReal) N = ((x / 1024 : ℝ) : EReal) := by
  rw [N_eq, Ideal.div_coe (by norm_num), ← EReal.coe_mul]
  congr 1
  ring

/-- A row less its mean. -/
def zc (z : Fin 1024 → EReal) (j : Fin 1024) : EReal := z j - Ideal.div (∑ k, z k) N

/-- A row's variance, and the constant. -/
def var (z : Fin 1024 → EReal) : EReal := Ideal.div (∑ k, zc z k * zc z k) N + eps

/-- One over its root. -/
def rs (z : Fin 1024 → EReal) : EReal := Ideal.rsqrt (var z)

/-- The normalised row. -/
def xh (z : Fin 1024 → EReal) (j : Fin 1024) : EReal := zc z j * rs z

/-- The row's gradient from the gradient `x` of the normalised row, by the two means. -/
def dz (x z : Fin 1024 → EReal) (j : Fin 1024) : EReal :=
  rs z * ((x j - Ideal.div (∑ k, x k) N) - xh z j * Ideal.div (∑ k, x k * xh z k) N)

/-- What the variance's gradient adds to an entry. -/
def viaVar (x z : Fin 1024 → EReal) (j : Fin 1024) : EReal :=
  Ideal.div ((∑ k, zc z k * x k) * (Ideal.ofBits .f32 0xBF000000#32 * Ideal.div (rs z) (var z))) N * (Ideal.ofBits .f32 0x40000000#32 * zc z j)

/-- The row's gradient by the chain rule. -/
def dzChain (x z : Fin 1024 → EReal) (j : Fin 1024) : EReal :=
  (x j * rs z + viaVar x z j) + Ideal.div ((∑ k, -(x k * rs z)) + ∑ k, -viaVar x z k) N

theorem sum_inf (z : Fin 1024 → EReal) (h : ∃ j, z j = ⊤ ∨ z j = ⊥) : (∑ k, z k) = ⊤ ∨ (∑ k, z k) = ⊥ := by
  by_cases hb : ∃ j, z j = ⊥
  · obtain ⟨j, hj⟩ := hb
    right
    rw [← Finset.add_sum_erase _ _ (Finset.mem_univ j), hj, EReal.bot_add]
  · left
    obtain ⟨j, hj | hj⟩ := h
    · rw [← Finset.add_sum_erase _ _ (Finset.mem_univ j), hj]
      refine EReal.top_add_of_ne_bot ?_
      refine Finset.sum_induction _ (fun a => a ≠ ⊥) (fun a b ha hb => ?_) (by simp) fun i _ => fun h => hb ⟨i, h⟩
      exact fun h => (EReal.add_eq_bot_iff.mp h).elim ha hb
    · exact absurd ⟨j, hj⟩ hb

/-- Where an entry of the row is infinite the root's reciprocal is zero. -/
theorem rs_inf (z : Fin 1024 → EReal) (h : ∃ j, z j = ⊤ ∨ z j = ⊥) : var z = ⊤ ∧ rs z = 0 := by
  have hN : ((1 / 1024 : ℝ) : EReal) = ((1 / 1024 : ℝ) : EReal) := rfl
  have hp : (0 : ℝ) < 1 / 1024 := by norm_num
  have hz : ∀ j, zc z j * zc z j = ⊤ := by
    intro j
    unfold zc
    rw [N_eq, Ideal.div_coe (by norm_num)]
    rcases sum_inf z h with h | h
    · rw [h, EReal.top_mul_coe_of_pos hp, sub_eq_add_neg, EReal.neg_top, EReal.add_bot]; rfl
    · rw [h, EReal.bot_mul_coe_of_pos hp, sub_eq_add_neg, EReal.neg_bot]
      by_cases hj : z j = ⊥
      · rw [hj, EReal.bot_add]; rfl
      · rw [EReal.add_top_of_ne_bot hj]; rfl
  have hv : var z = ⊤ := by
    unfold var
    have hs : (∑ k : Fin 1024, zc z k * zc z k) = ⊤ := by
      rw [← Finset.add_sum_erase _ _ (Finset.mem_univ (0 : Fin 1024)), hz]
      refine EReal.top_add_of_ne_bot ?_
      refine Finset.sum_induction _ (fun a => a ≠ ⊥) (fun a b ha hb => ?_) (by simp) fun i _ => by rw [hz]; simp
      exact fun h => (EReal.add_eq_bot_iff.mp h).elim ha hb
    rw [hs, N_eq, Ideal.div_coe (by norm_num), EReal.top_mul_coe_of_pos hp, eps_eq, EReal.top_add_coe]
  exact ⟨hv, by unfold rs; rw [hv, Ideal.rsqrt_top]⟩

theorem zero_div_N : Ideal.div 0 N = 0 := by rw [N_eq, Ideal.div_coe (by norm_num), zero_mul]

/-- The two forms agree where the incoming gradient is finite. -/
theorem dz_eq_chain (x z : Fin 1024 → EReal) (a : Fin 1024 → ℝ) (ha : ∀ j, x j = (a j : EReal)) (j : Fin 1024) :
    dz x z j = dzChain x z j := by
  by_cases h : ∃ j, z j = ⊤ ∨ z j = ⊥
  · obtain ⟨hv, hr⟩ := rs_inf z h
    have hvia : ∀ j, viaVar x z j = 0 := by
      intro j
      unfold viaVar
      have h0 : Ideal.div (rs z) (var z) = 0 := by
        rw [hv, hr, Ideal.div, if_neg EReal.top_ne_zero, zero_mul]
      rw [h0, mul_zero, mul_zero, zero_div_N, zero_mul]
    unfold dz dzChain
    simp only [hvia, hr, zero_mul, mul_zero, neg_zero, Finset.sum_const_zero, add_zero, zero_div_N]
  · have hz : ∀ j, ∃ y : ℝ, z j = (y : EReal) := by
      intro j
      have h1 : z j ≠ ⊤ := fun h' => h ⟨j, .inl h'⟩
      have h2 : z j ≠ ⊥ := fun h' => h ⟨j, .inr h'⟩
      exact ⟨(z j).toReal, (EReal.coe_toReal h1 h2).symm⟩
    choose y hy using hz
    set d : Fin 1024 → ℝ := fun j => y j - (∑ k, y k) / 1024 with hd
    have hzc : ∀ j, zc z j = (d j : EReal) := by
      intro j
      unfold zc
      rw [Finset.sum_congr rfl fun k _ => hy k, sum_coe, div_N, hy j, ← EReal.coe_sub]
    have hd0 : ∑ k, d k = 0 := by
      rw [hd, Finset.sum_sub_distrib, Finset.sum_const, Finset.card_univ, Fintype.card_fin, nsmul_eq_mul]
      push_cast
      ring
    set v : ℝ := (∑ k, d k * d k) / 1024 + 10995116 / 1099511627776 with hvd
    have hv0 : 0 < v := by
      have : 0 ≤ ∑ k, d k * d k := Finset.sum_nonneg fun k _ => mul_self_nonneg _
      rw [hvd]; positivity
    have hvar : var z = (v : EReal) := by
      unfold var
      rw [Finset.sum_congr rfl fun k _ => by rw [hzc k, ← EReal.coe_mul], sum_coe, div_N, eps_eq, ← EReal.coe_add]
    set r : ℝ := (Real.sqrt v)⁻¹ with hrd
    have hrs : rs z = (r : EReal) := by
      unfold rs
      rw [hvar, Ideal.rsqrt_coe, if_neg hv0.not_gt, if_neg hv0.ne']
    have hrr : r * r * v = 1 := by
      rw [hrd, ← mul_inv, Real.mul_self_sqrt hv0.le, inv_mul_cancel₀ hv0.ne']
    have hq : Ideal.div (rs z) (var z) = ((r / v : ℝ) : EReal) := by
      rw [hrs, hvar, Ideal.div_coe hv0.ne', ← EReal.coe_mul]; congr 1; ring
    set B : ℝ := ∑ k, d k * a k with hB
    have hvia : ∀ j, viaVar x z j = ((B * (-(1 / 2) * (r / v)) / 1024 * (2 * d j) : ℝ) : EReal) := by
      intro j
      unfold viaVar
      rw [Finset.sum_congr rfl fun k _ => by rw [hzc k, ha k, ← EReal.coe_mul], sum_coe, mhalf_eq, hq, ← EReal.coe_mul, ← EReal.coe_mul,
        div_N, two_eq, hzc j, ← EReal.coe_mul, ← EReal.coe_mul]
    unfold dz dzChain xh
    rw [Finset.sum_congr rfl fun k _ => show x k * (zc z k * rs z) = ((a k * (d k * r) : ℝ) : EReal) by
        rw [ha k, hzc k, hrs, ← EReal.coe_mul, ← EReal.coe_mul],
      Finset.sum_congr rfl fun k _ => show -(x k * rs z) = ((-(a k * r) : ℝ) : EReal) by rw [ha k, hrs, ← EReal.coe_mul, ← EReal.coe_neg],
      Finset.sum_congr rfl fun k _ => show -viaVar x z k = ((-(B * (-(1 / 2) * (r / v)) / 1024 * (2 * d k)) : ℝ) : EReal) by
        rw [hvia k, ← EReal.coe_neg],
      Finset.sum_congr rfl fun k _ => ha k, sum_coe, sum_coe, sum_coe, sum_coe, hvia j, hrs, hzc j, ha j]
    simp only [← EReal.coe_add, ← EReal.coe_mul, ← EReal.coe_sub, div_N]
    congr 1
    have e1 : ∑ k, a k * (d k * r) = r * B := by
      rw [hB, Finset.mul_sum]; exact Finset.sum_congr rfl fun k _ => by ring
    have e2 : ∑ k, -(a k * r) = -(r * ∑ k, a k) := by
      rw [Finset.mul_sum, ← Finset.sum_neg_distrib]; exact Finset.sum_congr rfl fun k _ => by ring
    have e3 : ∑ k, -(B * (-(1 / 2) * (r / v)) / 1024 * (2 * d k)) = 0 := by
      have : ∀ k, -(B * (-(1 / 2) * (r / v)) / 1024 * (2 * d k)) = -(B * (-(1 / 2) * (r / v)) / 1024 * 2) * d k := fun k => by ring
      rw [Finset.sum_congr rfl fun k _ => this k, ← Finset.mul_sum, hd0, mul_zero]
    have e4 : r / v = r * r * r := by
      rw [div_eq_iff hv0.ne']; linear_combination -r * hrr
    rw [e1, e2, e3, e4]
    ring

end Cert.Norm

end
-- ==== Proof.Dr1Model.lean ====
/-
  The gradients that one call pulls back through three projections and the layer norm before them, over the arguments' entries.
-/
module

public import proofs.«01_k».proof.Proof.Norm

@[expose] public section

noncomputable section

namespace Cert.Norm

open Idealize.ShloMosaic

/-- The arguments' entries. -/
structure Args where
  ds : Fin 4096 → Fin 1024 → EReal
  dgate : Fin 4096 → Fin 2816 → EReal
  dval : Fin 4096 → Fin 2816 → EReal
  dz2 : Fin 4096 → Fin 1024 → EReal
  wg : Fin 1024 → Fin 1024 → EReal
  wu : Fin 1024 → Fin 5632 → EReal
  z : Fin 4096 → Fin 1024 → EReal
  g : Fin 1024 → EReal

/-- The residual's factor. -/
def alpha : EReal := Ideal.ofBits .f32 0x3FB504F3#32

variable (I : Args) (r : Fin 4096) (j : Fin 1024)

/-- The gradient of the norm's output. -/
def Args.o : EReal :=
  (((∑ k, I.ds r k * I.wg j k) + ∑ k : Fin 2816, I.dgate r k * I.wu j ⟨k.val, by omega⟩)
    + ∑ k : Fin 2816, I.dval r k * I.wu j ⟨2816 + k.val, by omega⟩) + alpha * I.dz2 r j

/-- The gradient of the norm's input. -/
def Args.dz : EReal := Norm.dz (fun k => I.o r k * I.g k) (I.z r) j

/-- The gradient of its scales. -/
def Args.dg : EReal := ∑ r, I.o r j * xh (I.z r) j

/-- The gradient of its shifts. -/
def Args.db : EReal := ∑ r, I.o r j

end Cert.Norm

end
-- ==== Proof.Dr1Tile.lean ====
/-
  Sixteen rows of the kernel that pulls a gradient back through a layer norm: what it computes of them, at an index.
-/
module

public import proofs.«01_k».proof.Proof.Gen.Kernel2Ideal.Skeleton
public import proofs.«01_k».proof.Proof.Norm
public import Idealize.ShloMosaic.Lib.Pointwise
public import Idealize.ShloMosaic.Lib.ValueIdx

@[expose] public section

set_option maxRecDepth 16384

noncomputable section

namespace Cert.Kernel2Ideal.Dr1

open Cert.Kernel2Ideal Cert.Kernel2Ideal.Gen Idealize.ShloMosaic

/-- The mean of each row. -/
def tMean (x : FVec Ideal S16x1024 .f32) : FVec Ideal S16x1 .f32 :=
  divf (shapeCast S16x1 (multiReduction .add [1] S16 x 0x00000000#32 reduces_S16x1024_S16 (.inl rfl) rfl) shapeCasts_S16_S16x1)
    (broadcast S16x1 (Scalar.ofBits .f32 0x44800000#32))

/-- A column of numbers along the rows. -/
def tCol (x : FVec Ideal S16x1 .f32) : FVec Ideal S16x1024 .f32 := broadcastTo S16x1024 x broadcasts_S16x1_S16x1024

/-- The rows less their means. -/
def tZc (z : FVec Ideal S16x1024 .f32) : FVec Ideal S16x1024 .f32 := subf z (tCol (tMean z))

/-- One over the root of each row's variance. -/
def tRs (z : FVec Ideal S16x1024 .f32) : FVec Ideal S16x1 .f32 :=
  rsqrt (addf (tMean (mulf (tZc z) (tZc z))) (broadcast S16x1 (Scalar.ofBits .f32 0x3727C5AC#32)))

/-- The normalised rows. -/
def tXh (z : FVec Ideal S16x1024 .f32) : FVec Ideal S16x1024 .f32 := mulf (tZc z) (tCol (tRs z))

/-- The gradient of the normalised rows. -/
def tX (o : FVec Ideal S16x1024 .f32) (g : FVec Ideal S1x1024 .f32) : FVec Ideal S16x1024 .f32 :=
  mulf o (broadcastTo S16x1024 (shapeCast S1x1024 g shapeCasts_S1x1024_S1x1024) broadcasts_S1x1024_S16x1024)

/-- The gradient of the rows. -/
def tDz (o z : FVec Ideal S16x1024 .f32) (g : FVec Ideal S1x1024 .f32) : FVec Ideal S16x1024 .f32 :=
  mulf (tCol (tRs z)) (subf (subf (tX o g) (tCol (tMean (tX o g)))) (mulf (tXh z) (tCol (tMean (mulf (tX o g) (tXh z))))))

/-- Two halves of sixteen rows added. -/
def tFold (x : FVec Ideal S16x1024 .f32) : FVec Ideal S8x1024 .f32 :=
  multiReduction .add [0] S8x1024 (shapeCast S2x8x1024 x shapeCasts_S16x1024_S2x8x1024) 0x00000000#32 reduces_S2x8x1024_S8x1024 (.inl rfl) rfl

/-- Eight rows added, to one. -/
def tDown (y : FVec Ideal S1x1024 .f32) (x : FVec Ideal S8x1024 .f32) : FVec Ideal S1x1024 .f32 :=
  addf (shapeCast S1x1024 y shapeCasts_S1x1024_S1x1024)
    (shapeCast S1x1024 (multiReduction .add [0] S1024 x 0x00000000#32 reduces_S8x1024_S1024 (.inl rfl) rfl) shapeCasts_S1024_S1x1024)

variable (x o z : FVec Ideal S16x1024 .f32) (g : FVec Ideal S1x1024 .f32) (p : Fin 16) (j : Fin 1024)

theorem tMean_at : tMean x (ix2 p 0) = Ideal.div (∑ k, x (ix2 p k)) Norm.N := by
  unfold tMean
  pointwise
  rfl

theorem tCol_at (y : FVec Ideal S16x1 .f32) : tCol y (ix2 p j) = y (ix2 p 0) := by
  unfold tCol
  pointwise

theorem tZc_at : tZc z (ix2 p j) = Norm.zc (fun k => z (ix2 p k)) j := by
  unfold tZc
  pointwise
  rw [tCol_at, tMean_at]
  rfl

theorem tRs_at : tRs z (ix2 p 0) = Norm.rs fun k => z (ix2 p k) := by
  unfold tRs
  pointwise
  rw [tMean_at]
  pointwise
  simp only [tZc_at]
  rfl

theorem tXh_at : tXh z (ix2 p j) = Norm.xh (fun k => z (ix2 p k)) j := by
  unfold tXh
  pointwise
  rw [tCol_at, tZc_at, tRs_at]
  rfl

theorem tX_at : tX o g (ix2 p j) = o (ix2 p j) * g (ix2 0 j) := by
  unfold tX
  pointwise

theorem tDz_at : tDz o z g (ix2 p j) = Norm.dz (fun k => o (ix2 p k) * g (ix2 0 k)) (fun k => z (ix2 p k)) j := by
  unfold tDz
  pointwise
  rw [tCol_at, tCol_at, tCol_at, tRs_at, tMean_at, tMean_at, tX_at, tXh_at]
  pointwise
  simp only [tX_at, tXh_at]
  rfl

theorem tFold_at (a : Fin 8) :
    tFold x (ix2 a j) = ∑ b : Fin 2, x (ix2 ⟨b.val * 8 + a.val, by omega⟩ j) := by
  unfold tFold
  pointwise

theorem tDown_at (y : FVec Ideal S1x1024 .f32) (x : FVec Ideal S8x1024 .f32) :
    tDown y x (ix2 0 j) = y (ix2 0 j) + ∑ a : Fin 8, x (ix2 a j) := by
  unfold tDown
  pointwise

end Cert.Kernel2Ideal.Dr1

end
-- ==== Proof.Dr1Point.lean ====
/-
  A point of the kernel that pulls a gradient back through a layer norm: its stores, by the rows they cover.
-/
module

public import proofs.«01_k».proof.Proof.Dr1Tile
public import proofs.«01_k».proof.Proof.Gen.Kernel2Ideal.Frame

@[expose] public section

set_option maxRecDepth 16384

noncomputable section

namespace Cert.Kernel2Ideal.Dr1

open Cert.Kernel2Ideal Cert.Kernel2Ideal.Gen Idealize.ShloMosaic

theorem rowInb {n : ℕ} (h : n < 32) : ∀ a, (![16 * n, 0] : Fin 2 → ℕ) a + S16x1024.size a ≤ S512x1024.size a := by
  intro a
  match a with
  | ⟨0, _⟩ => show 16 * n + 16 ≤ 512; omega
  | ⟨1, _⟩ => exact le_refl 1024

/-- Sixteen rows of a block. -/
def rowR (n : ℕ) (h : n < 32) : Rect S512x1024 := Rect.unit ![16 * n, 0] S16x1024.size (rowInb h)

theorem rowSlices {n : ℕ} (h : n < 32) : S512x1024.Slices ![16 * n, 0] S16x1024 := ⟨rfl, rowInb h⟩

/-- What a point works on: the gradient of the normed block, the block, and the scales. -/
structure Reads where
  o : FVec Ideal S512x1024 .f32
  z : (r : Rect S512x1024) → r.shape.Idx → EReal
  g : FVec Ideal S1x1024 .f32

variable (R : Reads)

/-- Sixteen rows of the gradient. -/
def Reads.oT (n : ℕ) (h : n < 32) : FVec Ideal S16x1024 .f32 := extractStridedSlice S16x1024 ![16 * n, 0] R.o (rowSlices h)

/-- Sixteen rows of the block. -/
def Reads.zT (n : ℕ) (h : n < 32) : FVec Ideal S16x1024 .f32 := R.z (rowR n h)

/-- The stores of a block's rows, the last first. -/
def rowsL {e : EltTy} (f : (n : ℕ) → n < 32 → (S16x1024.Idx → Elt Ideal e)) : (n : ℕ) → n ≤ 32 → List (View.Piece (Elt Ideal) S512x1024 e)
  | 0, _ => []
  | n + 1, h => ⟨rowR n h, f n h⟩ :: rowsL f n (Nat.le_of_succ_le h)

/-- Rows folded one after another into eight. -/
def foldL (f : (n : ℕ) → n < 32 → FVec Ideal S16x1024 .f32) : (n : ℕ) → n ≤ 32 → FVec Ideal S8x1024 .f32
  | 0, _ => broadcast S8x1024 (Scalar.ofBits .f32 0x00000000#32)
  | n + 1, h => addf (foldL f n (Nat.le_of_succ_le h)) (tFold (f n h))

/-- A store of rows, where each holds a function's values, holds that function's. -/
theorem rowsL_mem {e : EltTy} (f : (n : ℕ) → n < 32 → (S16x1024.Idx → Elt Ideal e)) (G : S512x1024.Idx → Elt Ideal e)
    (hf : ∀ n h x, f n h x = G ((rowR n h).emb x)) : ∀ (n : ℕ) (h : n ≤ 32), ∀ p ∈ rowsL f n h, ∀ x : p.1.shape.Idx, p.2 x = G (p.1.emb x)
  | 0, _, _, hp, _ => absurd hp List.not_mem_nil
  | n + 1, h, p, hp, x => by
    rcases List.mem_cons.mp hp with rfl | hp
    · exact hf n h x
    · exact rowsL_mem f G hf n _ p hp x

theorem rowR_emb (n : ℕ) (h : n < 32) (p : Fin 16) (j : Fin 1024) :
    (rowR n h).emb (ix2 p j : S16x1024.Idx) = (ix2 (⟨16 * n + p.val, by omega⟩ : Fin 512) j : S512x1024.Idx) := by
  funext a
  match a with
  | ⟨0, _⟩ => exact Fin.ext (show 16 * n + 1 * p.val = 16 * n + p.val by omega)
  | ⟨1, _⟩ => exact Fin.ext (show 0 + 1 * j.val = j.val by omega)

theorem foldL_at (f : (n : ℕ) → n < 32 → FVec Ideal S16x1024 .f32) (a : Fin 8) (j : Fin 1024) : ∀ (n : ℕ) (h : n ≤ 32),
    foldL f n h (ix2 a j) = ∑ i : Fin n, ∑ b : Fin 2, f i.val (by omega) (ix2 (⟨b.val * 8 + a.val, by omega⟩ : Fin 16) j)
  | 0, _ => by
    show Ideal.ofBits .f32 0x00000000#32 = _
    simp [Ideal.ofBits, Ideal.ieee]
  | n + 1, h => by
    rw [Fin.sum_univ_castSucc, ← tFold_at]
    exact congrArg (· + tFold (f n h) (ix2 a j)) (foldL_at f a j n (Nat.le_of_succ_le h))

/-- A sum in blocks. -/
theorem sum_prod (m n : ℕ) (F : ℕ → EReal) : ∑ x : Fin m, ∑ y : Fin n, F (n * x.val + y.val) = ∑ r : Fin (m * n), F r.val := by
  rw [← Fintype.sum_prod_type (f := fun x : Fin m × Fin n => F (n * x.1.val + x.2.val))]
  refine Fintype.sum_equiv (finProdFinEquiv (m := m) (n := n)) _ _ fun x => ?_
  show F _ = F (x.2.val + n * x.1.val)
  rw [Nat.add_comm]

/-- The kernel's order of a block's rows. -/
theorem sum_rows (F : Fin 512 → EReal) :
    ∑ a : Fin 8, ∑ i : Fin 32, ∑ b : Fin 2, F ⟨16 * i.val + (b.val * 8 + a.val), by omega⟩ = ∑ r, F r := by
  obtain ⟨G, hG⟩ : ∃ G : ℕ → EReal, ∀ n h, F ⟨n, h⟩ = G n := ⟨fun n => if h : n < 512 then F ⟨n, h⟩ else 0, fun n h => by show _ = dite _ _ _; rw [dif_pos h]⟩
  simp only [hG]
  refine Eq.trans ?_ (sum_prod 32 16 G)
  rw [Finset.sum_comm]
  refine Finset.sum_congr rfl fun i _ => ?_
  rw [Finset.sum_comm]
  refine Eq.trans ?_ (sum_prod 2 8 fun r => G (16 * i.val + r))
  refine Finset.sum_congr rfl fun b _ => Finset.sum_congr rfl fun a _ => ?_
  rw [Nat.mul_comm b.val]

/-- A block's gradient at an index. -/
def dzV (o z : S512x1024.Idx → EReal) (g : S1x1024.Idx → EReal) (y : S512x1024.Idx) : EReal :=
  Norm.dz (fun k => o (ix2 (⟨(y 0).val, (y 0).isLt⟩ : Fin 512) k) * g (ix2 (0 : Fin 1) k)) (fun k => z (ix2 (⟨(y 0).val, (y 0).isLt⟩ : Fin 512) k)) ⟨(y 1).val, (y 1).isLt⟩

/-- A block's part of the scales' gradient. -/
def dgV (o z : S512x1024.Idx → EReal) (j : Fin 1024) : EReal := ∑ r : Fin 512, o (ix2 r j) * Norm.xh (fun k => z (ix2 r k)) j

/-- A block's part of the shifts' gradient. -/
def dbV (o : S512x1024.Idx → EReal) (j : Fin 1024) : EReal := ∑ r : Fin 512, o (ix2 r j)

/-- The rows' gradient that the point stores. -/
def Reads.dzT (n : ℕ) (h : n < 32) : FVec Ideal S16x1024 .f32 := tDz (R.oT n h) (R.zT n h) R.g

/-- It, in the smaller type. -/
def Reads.dzbT (n : ℕ) (h : n < 32) : FVec Ideal S16x1024 .bf16 := truncf .bf16 (R.dzT n h) bitsLt_bf16_f32

/-- The scales' gradient, eight rows of partial sums. -/
def Reads.dg8 : FVec Ideal S8x1024 .f32 := foldL (fun n h => mulf (R.oT n h) (tXh (R.zT n h))) 32 (le_refl 32)

/-- The shifts' gradient, likewise. -/
def Reads.db8 : FVec Ideal S8x1024 .f32 := foldL (fun n h => R.oT n h) 32 (le_refl 32)

section At

variable (n : ℕ) (h : n < 32) (p : Fin 16) (j : Fin 1024)

theorem Reads.oT_at : R.oT n h (ix2 p j) = R.o (ix2 (⟨16 * n + p.val, by omega⟩ : Fin 512) j) := by
  refine congrArg R.o (funext fun a => ?_)
  match a with
  | ⟨0, _⟩ => rfl
  | ⟨1, _⟩ => exact Fin.ext (Nat.zero_add _)

variable (zz : S512x1024.Idx → EReal) (hz : ∀ r x, R.z r x = zz (r.emb x))
include hz

theorem Reads.zT_at : R.zT n h (ix2 p j) = zz (ix2 (⟨16 * n + p.val, by omega⟩ : Fin 512) j) :=
  (hz _ _).trans (congrArg zz (rowR_emb n h p j))

theorem Reads.dzT_at (x : S16x1024.Idx) : R.dzT n h x = dzV R.o zz R.g ((rowR n h).emb x) := by
  obtain ⟨p, j, rfl⟩ : ∃ (p : Fin 16) (j : Fin 1024), x = ix2 p j := ⟨x 0, x 1, funext fun a => by match a with | ⟨0, _⟩ => rfl | ⟨1, _⟩ => rfl⟩
  rw [rowR_emb]
  refine (tDz_at _ _ _ p j).trans ?_
  simp only [R.oT_at, R.zT_at n h p _ zz hz]
  rfl

theorem Reads.dg8_sum : ∑ a : Fin 8, R.dg8 (ix2 a j) = dgV R.o zz j := by
  unfold dgV
  rw [← sum_rows]
  refine Finset.sum_congr rfl fun a _ => (foldL_at _ a j 32 (le_refl 32)).trans ?_
  refine Finset.sum_congr rfl fun i _ => Finset.sum_congr rfl fun b _ => ?_
  refine congrArg₂ (· * ·) (R.oT_at _ _ _ _) ((tXh_at _ _ _).trans ?_)
  simp only [R.zT_at _ _ _ _ zz hz]

omit hz in
theorem Reads.db8_sum : ∑ a : Fin 8, R.db8 (ix2 a j) = dbV R.o j := by
  unfold dbV
  rw [← sum_rows]
  refine Finset.sum_congr rfl fun a _ => (foldL_at _ a j 32 (le_refl 32)).trans ?_
  exact Finset.sum_congr rfl fun i _ => Finset.sum_congr rfl fun b _ => R.oT_at _ _ _ _

end At

section Run

variable (c : Dev nD) (i : grid0.Coords)
  (arg1 : Memref sig .tc .vmem S512x1024 .bf16) (harg1 : arg1.IsWhole)
  (arg2 : Memref sig .tc .vmem S1024x1024 .bf16) (harg2 : arg2.IsWhole)
  (arg3 : Memref sig .tc .vmem S512x2816 .bf16) (harg3 : arg3.IsWhole)
  (arg4 : Memref sig .tc .vmem S2816x1024 .bf16) (harg4 : arg4.IsWhole)
  (arg5 : Memref sig .tc .vmem S512x2816 .bf16) (harg5 : arg5.IsWhole)
  (arg6 : Memref sig .tc .vmem S2816x1024 .bf16) (harg6 : arg6.IsWhole)
  (arg7 : Memref sig .tc .vmem S512x1024 .f32) (harg7 : arg7.IsWhole)
  (arg8 : Memref sig .tc .vmem S512x1024 .f32) (harg8 : arg8.IsWhole)
  (arg9 : Memref sig .tc .vmem S1x1024 .f32) (harg9 : arg9.IsWhole)
  (arg10 : Memref sig .tc .vmem S512x1024 .f32) (harg10 : arg10.IsWhole)
  (arg11 : Memref sig .tc .vmem S512x1024 .bf16) (harg11 : arg11.IsWhole)
  (arg12 : Memref sig .tc .vmem S1x1024 .f32) (harg12 : arg12.IsWhole)
  (arg13 : Memref sig .tc .vmem S1x1024 .f32) (harg13 : arg13.IsWhole)
  (x0 : Vec Ideal S512x1024 .bf16) (x1 : Vec Ideal S1024x1024 .bf16) (x2 : Vec Ideal S512x2816 .bf16) (x3 : Vec Ideal S2816x1024 .bf16)
  (x4 : Vec Ideal S512x2816 .bf16) (x5 : Vec Ideal S2816x1024 .bf16) (x6 x7 : Vec Ideal S512x1024 .f32) (x8 : Vec Ideal S1x1024 .f32)

/-- What a point reads. -/
def reads : Reads where
  o := k0_pay3 (F := Ideal) (arg1.view.readAt (Elt Ideal) (Rect.unit ![0, 0] S512x1024.size inb_S512x1024_S512x1024_0_0).toLoadRect (harg1.unread x0))
    (arg2.view.readAt (Elt Ideal) (Rect.unit ![0, 0] S1024x1024.size inb_S1024x1024_S1024x1024_0_0).toLoadRect (harg2.unread x1))
    (arg3.view.readAt (Elt Ideal) (Rect.unit ![0, 0] S512x2816.size inb_S512x2816_S512x2816_0_0).toLoadRect (harg3.unread x2))
    (arg4.view.readAt (Elt Ideal) (Rect.unit ![0, 0] S2816x1024.size inb_S2816x1024_S2816x1024_0_0).toLoadRect (harg4.unread x3))
    (arg5.view.readAt (Elt Ideal) (Rect.unit ![0, 0] S512x2816.size inb_S512x2816_S512x2816_0_0).toLoadRect (harg5.unread x4))
    (arg6.view.readAt (Elt Ideal) (Rect.unit ![0, 0] S2816x1024.size inb_S2816x1024_S2816x1024_0_0).toLoadRect (harg6.unread x5))
    (arg7.view.readAt (Elt Ideal) (Rect.unit ![0, 0] S512x1024.size inb_S512x1024_S512x1024_0_0).toLoadRect (harg7.unread x6))
  z := fun r => arg8.view.readAt (Elt Ideal) r.toLoadRect (harg8.unread x7)
  g := arg9.view.readAt (Elt Ideal) (Rect.unit ![0, 0] S1x1024.size inb_S1x1024_S1x1024_0_0).toLoadRect (harg9.unread x8)

/-- The stores of the gradient. -/
theorem dz_store_A (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1
    = rowsL (e := .f32) (reads arg1 harg1 arg2 harg2 arg3 harg3 arg4 harg4 arg5 harg5 arg6 harg6 arg7 harg7 arg8 harg8 arg9 harg9 x0 x1 x2 x3 x4 x5 x6 x7 x8).dzT 32 (le_refl 32) := by
  sl_kernel_rfl

/-- The stores of its copy. -/
theorem dzb_store_A (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1
    = rowsL (e := .bf16) (reads arg1 harg1 arg2 harg2 arg3 harg3 arg4 harg4 arg5 harg5 arg6 harg6 arg7 harg7 arg8 harg8 arg9 harg9 x0 x1 x2 x3 x4 x5 x6 x7 x8).dzbT 32 (le_refl 32) := by
  sl_kernel_rfl

/-- The store of the scales' gradient. -/
theorem dg_store_A (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1
    = [⟨Rect.unit ![0, 0] S1x1024.size inb_S1x1024_S1x1024_0_0, tDown (arg12.view.readCov (Val := Elt Ideal) [⟨Rect.unit ![0, 0] S1x1024.size inb_S1x1024_S1x1024_0_0, k0_pay4 (F := Ideal)⟩] (Rect.unit ![0, 0] S1x1024.size inb_S1x1024_S1x1024_0_0).toLoadRect) (reads arg1 harg1 arg2 harg2 arg3 harg3 arg4 harg4 arg5 harg5 arg6 harg6 arg7 harg7 arg8 harg8 arg9 harg9 x0 x1 x2 x3 x4 x5 x6 x7 x8).dg8⟩, ⟨Rect.unit ![0, 0] S1x1024.size inb_S1x1024_S1x1024_0_0, k0_pay4 (F := Ideal)⟩] := by
  sl_kernel_rfl

/-- The store of the shifts' gradient. -/
theorem db_store_A (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.2.1
    = [⟨Rect.unit ![0, 0] S1x1024.size inb_S1x1024_S1x1024_0_0, tDown (arg13.view.readCov (Val := Elt Ideal) [⟨Rect.unit ![0, 0] S1x1024.size inb_S1x1024_S1x1024_0_0, k0_pay5 (F := Ideal)⟩] (Rect.unit ![0, 0] S1x1024.size inb_S1x1024_S1x1024_0_0).toLoadRect) (reads arg1 harg1 arg2 harg2 arg3 harg3 arg4 harg4 arg5 harg5 arg6 harg6 arg7 harg7 arg8 harg8 arg9 harg9 x0 x1 x2 x3 x4 x5 x6 x7 x8).db8⟩, ⟨Rect.unit ![0, 0] S1x1024.size inb_S1x1024_S1x1024_0_0, k0_pay5 (F := Ideal)⟩] := by
  sl_kernel_rfl

/-- The stores of the gradient. -/
theorem dz_store_B (hc0 : ¬cond0_0 i) (xo11 xo12 : Vec Ideal S1x1024 .f32) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 xo12).1
    = rowsL (e := .f32) (reads arg1 harg1 arg2 harg2 arg3 harg3 arg4 harg4 arg5 harg5 arg6 harg6 arg7 harg7 arg8 harg8 arg9 harg9 x0 x1 x2 x3 x4 x5 x6 x7 x8).dzT 32 (le_refl 32) := by
  sl_kernel_rfl

/-- The stores of its copy. -/
theorem dzb_store_B (hc0 : ¬cond0_0 i) (xo11 xo12 : Vec Ideal S1x1024 .f32) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 xo12).2.1
    = rowsL (e := .bf16) (reads arg1 harg1 arg2 harg2 arg3 harg3 arg4 harg4 arg5 harg5 arg6 harg6 arg7 harg7 arg8 harg8 arg9 harg9 x0 x1 x2 x3 x4 x5 x6 x7 x8).dzbT 32 (le_refl 32) := by
  sl_kernel_rfl

/-- The store of the scales' gradient. -/
theorem dg_store_B (hc0 : ¬cond0_0 i) (xo11 xo12 : Vec Ideal S1x1024 .f32) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 xo12).2.2.1
    = [⟨Rect.unit ![0, 0] S1x1024.size inb_S1x1024_S1x1024_0_0, tDown (arg12.view.readAt (Elt Ideal) (Rect.unit ![0, 0] S1x1024.size inb_S1x1024_S1x1024_0_0).toLoadRect (harg12.unread xo11)) (reads arg1 harg1 arg2 harg2 arg3 harg3 arg4 harg4 arg5 harg5 arg6 harg6 arg7 harg7 arg8 harg8 arg9 harg9 x0 x1 x2 x3 x4 x5 x6 x7 x8).dg8⟩] := by
  sl_kernel_rfl

/-- The store of the shifts' gradient. -/
theorem db_store_B (hc0 : ¬cond0_0 i) (xo11 xo12 : Vec Ideal S1x1024 .f32) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 xo12).2.2.2.1
    = [⟨Rect.unit ![0, 0] S1x1024.size inb_S1x1024_S1x1024_0_0, tDown (arg13.view.readAt (Elt Ideal) (Rect.unit ![0, 0] S1x1024.size inb_S1x1024_S1x1024_0_0).toLoadRect (harg13.unread xo12)) (reads arg1 harg1 arg2 harg2 arg3 harg3 arg4 harg4 arg5 harg5 arg6 harg6 arg7 harg7 arg8 harg8 arg9 harg9 x0 x1 x2 x3 x4 x5 x6 x7 x8).db8⟩] := by
  sl_kernel_rfl

end Run

end Cert.Kernel2Ideal.Dr1

end
-- ==== Proof.Dr1Value.lean ====
/-
  A point of the kernel that pulls a gradient back through a layer norm: its outputs, as functions of the blocks it is given.
-/
module

public import proofs.«01_k».proof.Proof.Dr1Point
public import Idealize.ShloMosaic.Lib.VecWindow
public import Idealize.ShloMosaic.Lib.Pipeline.CanonAppend

@[expose] public section

set_option maxRecDepth 16384

noncomputable section

namespace Cert.Kernel2Ideal.Dr1

open Cert.Kernel2Ideal Cert.Kernel2Ideal.Gen Idealize.ShloMosaic

theorem zero2 : ∀ a : Fin 2, (![0, 0] : Fin 2 → ℕ) a = 0 := by decide

/-- A whole load of a whole reference. -/
theorem read_whole {s : Shape} {e : EltTy} (arg : Memref sig .tc .vmem s e) (harg : arg.IsWhole) (x : Vec Ideal s e) (off : Fin s.rank → ℕ)
    (hoff : ∀ a, off a = 0) (inb : ∀ a, off a + s.size a ≤ s.size a) :
    arg.view.readAt (Elt Ideal) (Rect.unit off s.size inb).toLoadRect (harg.unread x) = x := by
  funext y
  refine (congrFun (harg.read_unread x) _).trans (congrArg x (funext fun a => Fin.ext ?_))
  show off a + 1 * (y a).val = (y a).val
  rw [hoff a]
  omega

/-- A stored block of rows, read at an index. -/
theorem rowsL_read {e : EltTy} (v : View sig .tc .vmem S512x1024 e) (f : (n : ℕ) → n < 32 → (S16x1024.Idx → Elt Ideal e)) (G : S512x1024.Idx → Elt Ideal e)
    (hf : ∀ n h x, f n h x = G ((rowR n h).emb x)) (y : S512x1024.Idx) (hy : ∃ p ∈ rowsL f 32 (le_refl 32), y ∈ p.1.set) :
    v.read (Elt Ideal) (v.writes (Elt Ideal) v.junk (rowsL f 32 (le_refl 32))) y = G y := by
  rw [View.read_writes_apply_eq_canon v v.junk y _ hy]
  have h := View.canon_append_of_pieces (Val := Elt Ideal) (e := e) G [] (rowsL f 32 (le_refl 32)) (rowsL_mem f G hf 32 (le_refl 32)) y hy
  rwa [List.append_nil] at h

section Run

variable (c : Dev nD) (i : grid0.Coords)
  (arg1 : Memref sig .tc .vmem S512x1024 .bf16) (harg1 : arg1.IsWhole)
  (arg2 : Memref sig .tc .vmem S1024x1024 .bf16) (harg2 : arg2.IsWhole)
  (arg3 : Memref sig .tc .vmem S512x2816 .bf16) (harg3 : arg3.IsWhole)
  (arg4 : Memref sig .tc .vmem S2816x1024 .bf16) (harg4 : arg4.IsWhole)
  (arg5 : Memref sig .tc .vmem S512x2816 .bf16) (harg5 : arg5.IsWhole)
  (arg6 : Memref sig .tc .vmem S2816x1024 .bf16) (harg6 : arg6.IsWhole)
  (arg7 : Memref sig .tc .vmem S512x1024 .f32) (harg7 : arg7.IsWhole)
  (arg8 : Memref sig .tc .vmem S512x1024 .f32) (harg8 : arg8.IsWhole)
  (arg9 : Memref sig .tc .vmem S1x1024 .f32) (harg9 : arg9.IsWhole)
  (arg10 : Memref sig .tc .vmem S512x1024 .f32) (harg10 : arg10.IsWhole)
  (arg11 : Memref sig .tc .vmem S512x1024 .bf16) (harg11 : arg11.IsWhole)
  (arg12 : Memref sig .tc .vmem S1x1024 .f32) (harg12 : arg12.IsWhole)
  (arg13 : Memref sig .tc .vmem S1x1024 .f32) (harg13 : arg13.IsWhole)
  (x0 : Vec Ideal S512x1024 .bf16) (x1 : Vec Ideal S1024x1024 .bf16) (x2 : Vec Ideal S512x2816 .bf16) (x3 : Vec Ideal S2816x1024 .bf16)
  (x4 : Vec Ideal S512x2816 .bf16) (x5 : Vec Ideal S2816x1024 .bf16) (x6 x7 : Vec Ideal S512x1024 .f32) (x8 : Vec Ideal S1x1024 .f32)

theorem reads_o : (reads arg1 harg1 arg2 harg2 arg3 harg3 arg4 harg4 arg5 harg5 arg6 harg6 arg7 harg7 arg8 harg8 arg9 harg9 x0 x1 x2 x3 x4 x5 x6 x7 x8).o = k0_pay3 (F := Ideal) x0 x1 x2 x3 x4 x5 x6 := by
  show k0_pay3 (F := Ideal) _ _ _ _ _ _ _ = _
  rw [read_whole arg1 harg1 x0 _ zero2, read_whole arg2 harg2 x1 _ zero2, read_whole arg3 harg3 x2 _ zero2, read_whole arg4 harg4 x3 _ zero2,
    read_whole arg5 harg5 x4 _ zero2, read_whole arg6 harg6 x5 _ zero2, read_whole arg7 harg7 x6 _ zero2]

theorem reads_g : (reads arg1 harg1 arg2 harg2 arg3 harg3 arg4 harg4 arg5 harg5 arg6 harg6 arg7 harg7 arg8 harg8 arg9 harg9 x0 x1 x2 x3 x4 x5 x6 x7 x8).g = x8 := read_whole arg9 harg9 x8 _ zero2 _

theorem reads_z (r : Rect S512x1024) (x : r.shape.Idx) : (reads arg1 harg1 arg2 harg2 arg3 harg3 arg4 harg4 arg5 harg5 arg6 harg6 arg7 harg7 arg8 harg8 arg9 harg9 x0 x1 x2 x3 x4 x5 x6 x7 x8).z r x = x7 (r.emb x) :=
  congrFun (harg8.read_unread x7) _

theorem dz_val_A (hc0 : cond0_0 i) (y : S512x1024.Idx) : out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y = dzV (k0_pay3 (F := Ideal) x0 x1 x2 x3 x4 x5 x6) x7 x8 y := by
  have hy := cover0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y
  unfold out0_A_9
  rw [dz_store_A] at hy ⊢
  refine (rowsL_read (e := .f32) VO0_9 _ (dzV (reads arg1 harg1 arg2 harg2 arg3 harg3 arg4 harg4 arg5 harg5 arg6 harg6 arg7 harg7 arg8 harg8 arg9 harg9 x0 x1 x2 x3 x4 x5 x6 x7 x8).o x7 (reads arg1 harg1 arg2 harg2 arg3 harg3 arg4 harg4 arg5 harg5 arg6 harg6 arg7 harg7 arg8 harg8 arg9 harg9 x0 x1 x2 x3 x4 x5 x6 x7 x8).g) (fun n h x => (reads arg1 harg1 arg2 harg2 arg3 harg3 arg4 harg4 arg5 harg5 arg6 harg6 arg7 harg7 arg8 harg8 arg9 harg9 x0 x1 x2 x3 x4 x5 x6 x7 x8).dzT_at n h x7 (reads_z arg1 harg1 arg2 harg2 arg3 harg3 arg4 harg4 arg5 harg5 arg6 harg6 arg7 harg7 arg8 harg8 arg9 harg9 x0 x1 x2 x3 x4 x5 x6 x7 x8) x) y hy).trans ?_
  rw [reads_o, reads_g]

theorem dzb_val_A (hc0 : cond0_0 i) (y : S512x1024.Idx) : out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y = dzV (k0_pay3 (F := Ideal) x0 x1 x2 x3 x4 x5 x6) x7 x8 y := by
  have hy := cover0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y
  unfold out0_A_10
  rw [dzb_store_A] at hy ⊢
  refine (rowsL_read (e := .bf16) VO0_10 _ (dzV (reads arg1 harg1 arg2 harg2 arg3 harg3 arg4 harg4 arg5 harg5 arg6 harg6 arg7 harg7 arg8 harg8 arg9 harg9 x0 x1 x2 x3 x4 x5 x6 x7 x8).o x7 (reads arg1 harg1 arg2 harg2 arg3 harg3 arg4 harg4 arg5 harg5 arg6 harg6 arg7 harg7 arg8 harg8 arg9 harg9 x0 x1 x2 x3 x4 x5 x6 x7 x8).g) (fun n h x => (reads arg1 harg1 arg2 harg2 arg3 harg3 arg4 harg4 arg5 harg5 arg6 harg6 arg7 harg7 arg8 harg8 arg9 harg9 x0 x1 x2 x3 x4 x5 x6 x7 x8).dzT_at n h x7 (reads_z arg1 harg1 arg2 harg2 arg3 harg3 arg4 harg4 arg5 harg5 arg6 harg6 arg7 harg7 arg8 harg8 arg9 harg9 x0 x1 x2 x3 x4 x5 x6 x7 x8) x) y hy).trans ?_
  rw [reads_o, reads_g]

theorem dg_val_A (hc0 : cond0_0 i) (j : Fin 1024) : out0_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 0 j) = 0 + dgV (k0_pay3 (F := Ideal) x0 x1 x2 x3 x4 x5 x6) x7 j := by
  unfold out0_A_11
  rw [dg_store_A]
  refine (congrFun (View.read_writes_full VO0_11 _ inb_S1x1024_S1x1024_0_0 _ _) (ix2 0 j)).trans ?_
  rw [tDown_at, (reads arg1 harg1 arg2 harg2 arg3 harg3 arg4 harg4 arg5 harg5 arg6 harg6 arg7 harg7 arg8 harg8 arg9 harg9 x0 x1 x2 x3 x4 x5 x6 x7 x8).dg8_sum j x7 (reads_z arg1 harg1 arg2 harg2 arg3 harg3 arg4 harg4 arg5 harg5 arg6 harg6 arg7 harg7 arg8 harg8 arg9 harg9 x0 x1 x2 x3 x4 x5 x6 x7 x8), reads_o]
  refine congrArg (· + _) ?_
  rw [View.readCov_full _ inb_S1x1024_S1x1024_0_0]
  show Ideal.ofBits .f32 0x00000000#32 = 0
  simp [Ideal.ofBits, Ideal.ieee]

theorem db_val_A (hc0 : cond0_0 i) (j : Fin 1024) : out0_A_12 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 0 j) = 0 + dbV (k0_pay3 (F := Ideal) x0 x1 x2 x3 x4 x5 x6) j := by
  unfold out0_A_12
  rw [db_store_A]
  refine (congrFun (View.read_writes_full VO0_12 _ inb_S1x1024_S1x1024_0_0 _ _) (ix2 0 j)).trans ?_
  rw [tDown_at, (reads arg1 harg1 arg2 harg2 arg3 harg3 arg4 harg4 arg5 harg5 arg6 harg6 arg7 harg7 arg8 harg8 arg9 harg9 x0 x1 x2 x3 x4 x5 x6 x7 x8).db8_sum j, reads_o]
  refine congrArg (· + _) ?_
  rw [View.readCov_full _ inb_S1x1024_S1x1024_0_0]
  show Ideal.ofBits .f32 0x00000000#32 = 0
  simp [Ideal.ofBits, Ideal.ieee]

theorem dz_val_B (hc0 : ¬cond0_0 i) (xo11 xo12 : Vec Ideal S1x1024 .f32) (y : S512x1024.Idx) : out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 xo12 y = dzV (k0_pay3 (F := Ideal) x0 x1 x2 x3 x4 x5 x6) x7 x8 y := by
  have hy := cover0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 xo12 y
  unfold out0_B_9
  rw [dz_store_B] at hy ⊢
  refine (rowsL_read (e := .f32) VO0_9 _ (dzV (reads arg1 harg1 arg2 harg2 arg3 harg3 arg4 harg4 arg5 harg5 arg6 harg6 arg7 harg7 arg8 harg8 arg9 harg9 x0 x1 x2 x3 x4 x5 x6 x7 x8).o x7 (reads arg1 harg1 arg2 harg2 arg3 harg3 arg4 harg4 arg5 harg5 arg6 harg6 arg7 harg7 arg8 harg8 arg9 harg9 x0 x1 x2 x3 x4 x5 x6 x7 x8).g) (fun n h x => (reads arg1 harg1 arg2 harg2 arg3 harg3 arg4 harg4 arg5 harg5 arg6 harg6 arg7 harg7 arg8 harg8 arg9 harg9 x0 x1 x2 x3 x4 x5 x6 x7 x8).dzT_at n h x7 (reads_z arg1 harg1 arg2 harg2 arg3 harg3 arg4 harg4 arg5 harg5 arg6 harg6 arg7 harg7 arg8 harg8 arg9 harg9 x0 x1 x2 x3 x4 x5 x6 x7 x8) x) y hy).trans ?_
  rw [reads_o, reads_g]

theorem dzb_val_B (hc0 : ¬cond0_0 i) (xo11 xo12 : Vec Ideal S1x1024 .f32) (y : S512x1024.Idx) : out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 xo12 y = dzV (k0_pay3 (F := Ideal) x0 x1 x2 x3 x4 x5 x6) x7 x8 y := by
  have hy := cover0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 xo12 y
  unfold out0_B_10
  rw [dzb_store_B] at hy ⊢
  refine (rowsL_read (e := .bf16) VO0_10 _ (dzV (reads arg1 harg1 arg2 harg2 arg3 harg3 arg4 harg4 arg5 harg5 arg6 harg6 arg7 harg7 arg8 harg8 arg9 harg9 x0 x1 x2 x3 x4 x5 x6 x7 x8).o x7 (reads arg1 harg1 arg2 harg2 arg3 harg3 arg4 harg4 arg5 harg5 arg6 harg6 arg7 harg7 arg8 harg8 arg9 harg9 x0 x1 x2 x3 x4 x5 x6 x7 x8).g) (fun n h x => (reads arg1 harg1 arg2 harg2 arg3 harg3 arg4 harg4 arg5 harg5 arg6 harg6 arg7 harg7 arg8 harg8 arg9 harg9 x0 x1 x2 x3 x4 x5 x6 x7 x8).dzT_at n h x7 (reads_z arg1 harg1 arg2 harg2 arg3 harg3 arg4 harg4 arg5 harg5 arg6 harg6 arg7 harg7 arg8 harg8 arg9 harg9 x0 x1 x2 x3 x4 x5 x6 x7 x8) x) y hy).trans ?_
  rw [reads_o, reads_g]

theorem dg_val_B (hc0 : ¬cond0_0 i) (xo11 xo12 : Vec Ideal S1x1024 .f32) (j : Fin 1024) : out0_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 xo12 (ix2 0 j) = xo11 (ix2 0 j) + dgV (k0_pay3 (F := Ideal) x0 x1 x2 x3 x4 x5 x6) x7 j := by
  unfold out0_B_11
  rw [dg_store_B]
  refine (congrFun (View.read_writes_full VO0_11 _ inb_S1x1024_S1x1024_0_0 _ _) (ix2 0 j)).trans ?_
  rw [tDown_at, (reads arg1 harg1 arg2 harg2 arg3 harg3 arg4 harg4 arg5 harg5 arg6 harg6 arg7 harg7 arg8 harg8 arg9 harg9 x0 x1 x2 x3 x4 x5 x6 x7 x8).dg8_sum j x7 (reads_z arg1 harg1 arg2 harg2 arg3 harg3 arg4 harg4 arg5 harg5 arg6 harg6 arg7 harg7 arg8 harg8 arg9 harg9 x0 x1 x2 x3 x4 x5 x6 x7 x8), reads_o]
  rw [read_whole arg12 harg12 xo11 _ zero2]

theorem db_val_B (hc0 : ¬cond0_0 i) (xo11 xo12 : Vec Ideal S1x1024 .f32) (j : Fin 1024) : out0_B_12 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo11 xo12 (ix2 0 j) = xo12 (ix2 0 j) + dbV (k0_pay3 (F := Ideal) x0 x1 x2 x3 x4 x5 x6) j := by
  unfold out0_B_12
  rw [db_store_B]
  refine (congrFun (View.read_writes_full VO0_12 _ inb_S1x1024_S1x1024_0_0 _ _) (ix2 0 j)).trans ?_
  rw [tDown_at, (reads arg1 harg1 arg2 harg2 arg3 harg3 arg4 harg4 arg5 harg5 arg6 harg6 arg7 harg7 arg8 harg8 arg9 harg9 x0 x1 x2 x3 x4 x5 x6 x7 x8).db8_sum j, reads_o]
  rw [read_whole arg13 harg13 xo12 _ zero2]

end Run

end Cert.Kernel2Ideal.Dr1

end
-- ==== Proof.LnRows.lean ====
/-
  Layer norms written sixteen rows at a time: the rows, and the blocks they make.
-/
module

public import proofs.«01_k».proof.Proof.Mat
public import proofs.«01_k».proof.Proof.Dr1Model
public import proofs.«01_k».proof.Proof.Dr1Value

@[expose] public section

set_option maxRecDepth 16384

noncomputable section

namespace Cert.LnRows

open Cert.Kernel2Ideal Cert.Kernel2Ideal.Gen Cert.Kernel2Ideal.Dr1 Idealize.ShloMosaic

/-- Numbers along the columns. -/
def tCols (b : FVec Ideal S1x1024 .f32) : FVec Ideal S16x1024 .f32 :=
  broadcastTo S16x1024 (shapeCast S1x1024 b shapeCasts_S1x1024_S1x1024) broadcasts_S1x1024_S16x1024

/-- The residual's rows, scaled, and what is added to them. -/
def tZ (r a : FVec Ideal S16x1024 .f32) : FVec Ideal S16x1024 .f32 :=
  addf (mulf (broadcast S16x1024 (Scalar.ofBits .f32 0x3FB504F3#32)) r) a

/-- The rows normalised, scaled and shifted. -/
def tR (z : FVec Ideal S16x1024 .f32) (g b : FVec Ideal S1x1024 .f32) : FVec Ideal S16x1024 .f32 :=
  addf (tX (tXh z) g) (tCols b)

/-- One over one plus an exponential. -/
def sg (x : EReal) : EReal := Ideal.div 1 (1 + Ideal.exp (0 - x))

theorem castsRow : S16x1024.ShapeCasts S16x1024 := rfl

/-- The gate of some rows. -/
def tS (x : FVec Ideal S16x1024 .f32) (b : FVec Ideal S1x1024 .f32) : FVec Ideal S16x1024 .f32 :=
  divf (broadcast S16x1024 (Scalar.ofBits .f32 0x3F800000#32))
    (addf (broadcast S16x1024 (Scalar.ofBits .f32 0x3F800000#32))
      (exp (subf (broadcast S16x1024 (Scalar.ofBits .f32 0x00000000#32)) (addf (shapeCast S16x1024 x castsRow) (tCols b)))))

section Tile

variable (r a x y z : FVec Ideal S16x1024 .f32) (g b : FVec Ideal S1x1024 .f32) (p : Fin 16) (j : Fin 1024)

theorem tCols_at : tCols b (ix2 p j) = b (ix2 0 j) := by
  unfold tCols
  pointwise

theorem tZ_at : tZ r a (ix2 p j) = Norm.alpha * r (ix2 p j) + a (ix2 p j) := by
  unfold tZ
  pointwise
  rfl

theorem tR_at : tR z g b (ix2 p j) = Norm.xh (fun k => z (ix2 p k)) j * g (ix2 0 j) + b (ix2 0 j) := by
  unfold tR
  pointwise
  rw [tX_at, tXh_at, tCols_at]

theorem tS_at : tS x b (ix2 p j) = sg (x (ix2 p j) + b (ix2 0 j)) := by
  unfold tS
  pointwise
  rw [tCols_at]
  rfl

end Tile

/-- The normalised block. -/
def lnB (z : S512x1024.Idx → EReal) (g b : S1x1024.Idx → EReal) (y : S512x1024.Idx) : EReal :=
  Norm.xh (fun k => z (ix2 (⟨(y 0).val, (y 0).isLt⟩ : Fin 512) k)) (⟨(y 1).val, (y 1).isLt⟩ : Fin 1024) * g (ix2 0 (⟨(y 1).val, (y 1).isLt⟩ : Fin 1024))
    + b (ix2 0 (⟨(y 1).val, (y 1).isLt⟩ : Fin 1024))

theorem idx_row (x : S16x1024.Idx) : x = ix2 (⟨(x 0).val, (x 0).isLt⟩ : Fin 16) (⟨(x 1).val, (x 1).isLt⟩ : Fin 1024) := by
  funext a
  match a with
  | ⟨0, _⟩ => rfl
  | ⟨1, _⟩ => rfl

theorem idx_block (x : S512x1024.Idx) : x = ix2 (⟨(x 0).val, (x 0).isLt⟩ : Fin 512) (⟨(x 1).val, (x 1).isLt⟩ : Fin 1024) := by
  funext a
  match a with
  | ⟨0, _⟩ => rfl
  | ⟨1, _⟩ => rfl

/-- Rows of a block normalised are rows of the normalised block. -/
theorem tR_rows (zT : (n : ℕ) → n < 32 → FVec Ideal S16x1024 .f32) (z : S512x1024.Idx → EReal) (g b : FVec Ideal S1x1024 .f32)
    (hz : ∀ n h x, zT n h x = z ((rowR n h).emb x)) (n : ℕ) (h : n < 32) (x : S16x1024.Idx) :
    tR (zT n h) g b x = lnB z g b ((rowR n h).emb x) := by
  rw [idx_row x, tR_at, rowR_emb]
  simp only [hz, rowR_emb]
  rfl

/-- The gate of a block. -/
def gB (a : S512x1024.Idx → EReal) (b : S1x1024.Idx → EReal) (y : S512x1024.Idx) : EReal := sg (a y + b (ix2 0 (⟨(y 1).val, (y 1).isLt⟩ : Fin 1024)))

/-- Rows of a block gated are rows of the block's gate. -/
theorem tS_rows (X : FVec Ideal S16x1024 .f32) (a : S512x1024.Idx → EReal) (b : FVec Ideal S1x1024 .f32) (n : ℕ) (h : n < 32)
    (hX : ∀ x, X x = a ((rowR n h).emb x)) (x : S16x1024.Idx) : tS X b x = gB a b ((rowR n h).emb x) := by
  rw [idx_row x, tS_at, hX, rowR_emb]
  rfl

/-- A block stored in rows. -/
theorem rowsL_canon {e : EltTy} (f : (n : ℕ) → n < 32 → (S16x1024.Idx → Elt Ideal e)) (G : S512x1024.Idx → Elt Ideal e)
    (hf : ∀ n h x, f n h x = G ((rowR n h).emb x)) (y : S512x1024.Idx) (hy : ∃ p ∈ rowsL f 32 (le_refl 32), y ∈ p.1.set) :
    View.canon (rowsL f 32 (le_refl 32)) y = G y := by
  have h := View.canon_append_of_pieces (Val := Elt Ideal) (e := e) G [] (rowsL f 32 (le_refl 32)) (rowsL_mem f G hf 32 (le_refl 32)) y hy
  rwa [List.append_nil] at h

theorem rowR_mem (n : ℕ) (h : n < 32) (y : S512x1024.Idx) : y ∈ (rowR n h).set ↔ 16 * n ≤ (y 0).val ∧ (y 0).val < 16 * n + 16 := by
  unfold rowR
  rw [Rect.mem_set_unit]
  constructor
  · exact fun hy => hy 0
  · intro hy a
    match a with
    | ⟨0, _⟩ => exact hy
    | ⟨1, _⟩ => exact ⟨Nat.zero_le _, (show (y 1).val < 0 + 1024 by have := (y 1).isLt; have : (y 1).val < 1024 := this; omega)⟩

/-- A store of sixteen rows: the rows' values on them, what was there elsewhere. -/
theorem row_step (n : ℕ) (h : n < 32) (w : S16x1024.Idx → EReal) (L : List (View.Piece (Elt Ideal) S512x1024 .f32)) (G : S512x1024.Idx → EReal)
    (hw : ∀ x, w x = G ((rowR n h).emb x)) (y : S512x1024.Idx) :
    View.canon (Val := Elt Ideal) (⟨rowR n h, w⟩ :: L) y = G y
      ∨ (¬(16 * n ≤ (y 0).val ∧ (y 0).val < 16 * n + 16) ∧ View.canon (Val := Elt Ideal) (⟨rowR n h, w⟩ :: L) y = View.canon (Val := Elt Ideal) L y) := by
  by_cases hm : y ∈ (rowR n h).set
  · left
    obtain ⟨x, rfl⟩ : ∃ x, (rowR n h).emb x = y := (rowR n h).exists_idx_of_mem hm
    exact (View.canon_cons_emb (Val := Elt Ideal) (e := .f32) (rowR n h) w L x).trans (hw x)
  · right
    exact ⟨fun h' => hm ((rowR_mem n h y).mpr h'), View.canon_cons_of_not_mem (Val := Elt Ideal) (e := .f32) ⟨rowR n h, w⟩ L hm⟩

theorem full_inb : ∀ a, (![0, 0] : Fin 2 → ℕ) a + S512x1024.size a ≤ S512x1024.size a := by decide

/-- A row of a whole store, loaded. -/
theorem full_row {sig : RefSig} {κ : Kind} {sp : Space} (v : View sig κ sp S512x1024 .f32) (a : S512x1024.Idx → EReal) (n : ℕ) (h : n < 32) (x : S16x1024.Idx) :
    v.readCov (Val := Elt Ideal) [⟨Rect.unit ![0, 0] S512x1024.size full_inb, a⟩] (rowR n h).toLoadRect x = a ((rowR n h).emb x) := by
  rw [View.readCov_eq_canon', View.canon_cons_unit_zero Mat.zeros2]
  rfl

section Gate

variable {sig : RefSig} {κ : Kind} {sp : Space} (v : View sig κ sp S512x1024 .f32) (a : S512x1024.Idx → EReal) (b : FVec Ideal S1x1024 .f32)

/-- The stores of the gate: the whole of its argument, then its rows one after another, the last first. -/
def gL : (n : ℕ) → n ≤ 32 → List (View.Piece (Elt Ideal) S512x1024 .f32)
  | 0, _ => [⟨Rect.unit ![0, 0] S512x1024.size full_inb, a⟩]
  | n + 1, h => ⟨rowR n h, tS (v.readCov (Val := Elt Ideal) (gL n (Nat.le_of_succ_le h)) (rowR n h).toLoadRect) b⟩ :: gL n (Nat.le_of_succ_le h)

/-- Sixteen rows of the gate. -/
def gT (n : ℕ) (h : n < 32) : FVec Ideal S16x1024 .f32 := tS (v.readCov (Val := Elt Ideal) (gL v a b n (Nat.le_of_lt h)) (rowR n h).toLoadRect) b

theorem gL_off : ∀ (n : ℕ) (h : n ≤ 32) (y : S512x1024.Idx), 16 * n ≤ (y 0).val → View.canon (gL v a b n h) y = a y
  | 0, _, y, _ => congrFun (View.canon_cons_unit_zero Mat.zeros2 _ _ _) y
  | n + 1, h, y, hy => by
    refine (View.canon_cons_of_not_mem _ _ (fun hm => ?_)).trans (gL_off n _ y (by omega))
    have := (rowR_mem n h y).mp hm
    omega

theorem gT_load (n : ℕ) (h : n < 32) (x : S16x1024.Idx) :
    v.readCov (Val := Elt Ideal) (gL v a b n (Nat.le_of_lt h)) (rowR n h).toLoadRect x = a ((rowR n h).emb x) := by
  have h1 : v.readCov (Val := Elt Ideal) (gL v a b n (Nat.le_of_lt h)) (rowR n h).toLoadRect x = View.canon (gL v a b n (Nat.le_of_lt h)) ((rowR n h).emb x) :=
    congrFun (View.readCov_eq_canon' (Val := Elt Ideal) v (gL v a b n (Nat.le_of_lt h)) (rowR n h).toLoadRect) x
  rw [h1]
  generalize hy : (rowR n h).emb x = y
  refine gL_off v a b n _ y ?_
  rw [← hy, idx_row x, rowR_emb]
  show 16 * n ≤ 16 * n + (x 0).val
  omega

theorem gT_rows (n : ℕ) (h : n < 32) (x : S16x1024.Idx) : gT v a b n h x = gB a b ((rowR n h).emb x) :=
  tS_rows _ a b n h (gT_load v a b n h) x

theorem gL_succ (n : ℕ) (h : n < 32) : gL v a b (n + 1) h = ⟨rowR n h, gT v a b n h⟩ :: gL v a b n (Nat.le_of_lt h) := rfl

theorem gL_on : ∀ (n : ℕ) (h : n ≤ 32) (y : S512x1024.Idx), (y 0).val < 16 * n → View.canon (gL v a b n h) y = gB a b y
  | 0, _, y, hy => absurd hy (by omega)
  | n + 1, h, y, hy => by
    have e := congrArg (fun L => View.canon (Val := Elt Ideal) L y) (gL_succ v a b n h)
    refine Eq.trans e ?_
    rcases row_step n h (gT v a b n h) (gL v a b n (Nat.le_of_lt h)) (gB a b) (gT_rows v a b n h) y with h' | ⟨hm, h'⟩
    · exact h'
    · exact h'.trans (gL_on n (Nat.le_of_lt h) y (by omega))

/-- The gate, as stored. -/
theorem gL_canon (y : S512x1024.Idx) : View.canon (gL v a b 32 (le_refl 32)) y = gB a b y :=
  gL_on v a b 32 _ y (by have := (y 0).isLt; have : (y 0).val < 512 := this; omega)

end Gate

section Rows

variable {sig : RefSig} (arg : Memref sig .tc .vmem S512x1024 .f32) (harg : arg.IsWhole) (r : Vec Ideal S512x1024 .f32)
  (argA argG argP : Memref sig .tc .vmem S512x1024 .f32) (A G P : S512x1024.Idx → EReal) (b : FVec Ideal S1x1024 .f32)

/-- The residual and a product, sixteen rows of them. -/
def aT (n : ℕ) (h : n < 32) : FVec Ideal S16x1024 .f32 :=
  tZ (arg.view.readAt (Elt Ideal) (rowR n h).toLoadRect (harg.unread r))
    (argA.view.readCov (Val := Elt Ideal) [⟨Rect.unit ![0, 0] S512x1024.size full_inb, A⟩] (rowR n h).toLoadRect)

/-- The residual and a product. -/
def aB (y : S512x1024.Idx) : EReal := Norm.alpha * r y + A y

theorem tZ_rows (X Y : FVec Ideal S16x1024 .f32) (n : ℕ) (h : n < 32) (hX : ∀ x, X x = r ((rowR n h).emb x)) (hY : ∀ x, Y x = A ((rowR n h).emb x))
    (x : S16x1024.Idx) : tZ X Y x = aB r A ((rowR n h).emb x) := by
  rw [idx_row x, tZ_at, hX, hY]
  rfl

theorem aT_rows (n : ℕ) (h : n < 32) (x : S16x1024.Idx) : aT arg harg r argA A n h x = aB r A ((rowR n h).emb x) :=
  tZ_rows r A _ _ n h (fun x => congrFun (harg.read_unread r) _) (full_row argA.view A n h) x

/-- The same with a gated product added. -/
def zT (n : ℕ) (h : n < 32) : FVec Ideal S16x1024 .f32 :=
  addf (aT arg harg r argA A n h) (mulf (gT argG.view G b n h)
    (shapeCast S16x1024 (argP.view.readCov (Val := Elt Ideal) [⟨Rect.unit ![0, 0] S512x1024.size full_inb, P⟩] (rowR n h).toLoadRect) castsRow))

/-- The same, as a block. -/
def zB (y : S512x1024.Idx) : EReal := aB r A y + gB G b y * P y

theorem tM_at (X Y Z : FVec Ideal S16x1024 .f32) (p : Fin 16) (j : Fin 1024) :
    addf X (mulf Y (shapeCast S16x1024 Z castsRow)) (ix2 p j) = X (ix2 p j) + Y (ix2 p j) * Z (ix2 p j) := by
  pointwise

theorem tM_rows (X Y Z : FVec Ideal S16x1024 .f32) (n : ℕ) (h : n < 32) (hX : ∀ x, X x = aB r A ((rowR n h).emb x))
    (hY : ∀ x, Y x = gB G b ((rowR n h).emb x)) (hZ : ∀ x, Z x = P ((rowR n h).emb x)) (x : S16x1024.Idx) :
    addf X (mulf Y (shapeCast S16x1024 Z castsRow)) x = zB r A G P b ((rowR n h).emb x) := by
  rw [idx_row x, tM_at, hX, hY, hZ]
  rfl

theorem zT_rows (n : ℕ) (h : n < 32) (x : S16x1024.Idx) :
    zT arg harg r argA argG argP A G P b n h x = zB r A G P b ((rowR n h).emb x) :=
  tM_rows r A G P b _ _ _ n h (aT_rows arg harg r argA A n h) (gT_rows argG.view G b n h) (full_row argP.view P n h) x

end Rows

/-- The end of a layer: its residual, its product and, where there is one, its gated product. -/
structure Args where
  res : Fin 4096 → Fin 1024 → EReal
  acc : Fin 4096 → Fin 1024 → EReal
  gin : Fin 4096 → Fin 1024 → EReal
  bg : Fin 1024 → EReal
  proj : Fin 4096 → Fin 1024 → EReal
  g : Fin 1024 → EReal
  b : Fin 1024 → EReal

/-- The residual and the product. -/
def Args.a (I : Args) (r : Fin 4096) (j : Fin 1024) : EReal := Norm.alpha * I.res r j + I.acc r j

/-- The gate. -/
def Args.gate (I : Args) (r : Fin 4096) (j : Fin 1024) : EReal := sg (I.gin r j + I.bg j)

/-- The same with the gated product. -/
def Args.z (I : Args) (r : Fin 4096) (j : Fin 1024) : EReal := I.a r j + I.gate r j * I.proj r j

/-- Rows normalised, scaled and shifted. -/
def Args.ln (I : Args) (z : Fin 4096 → Fin 1024 → EReal) (r : Fin 4096) (j : Fin 1024) : EReal := Norm.xh (z r) j * I.g j + I.b j

/-- A product of matrices. -/
def mm {K : ℕ} (a : (Shape.mk 2 ![4096, K]).Idx → EReal) (w : (Shape.mk 2 ![K, 1024]).Idx → EReal) (r : Fin 4096) (j : Fin 1024) : EReal :=
  ∑ k : Fin K, a (ix2 r k) * w (ix2 k j)

theorem mm_ext {K : ℕ} (f : Fin K → EReal) (a : (Shape.mk 2 ![4096, K]).Idx → EReal) (w : (Shape.mk 2 ![K, 1024]).Idx → EReal) (r : Fin 4096) (j : Fin 1024)
    (h : ∀ k, f k = a (ix2 r k) * w (ix2 k j)) : ∑ k, f k = mm a w r j := Mat.sum_ext h

/-- An array, by its rows. -/
def arr (f : Fin 4096 → Fin 1024 → EReal) (i : S4096x1024.Idx) : EReal := f ⟨(i 0).val, (i 0).isLt⟩ ⟨(i 1).val, (i 1).isLt⟩

theorem one_word : Ideal.ofBits .f32 0x3F800000#32 = 1 := by
  simp [Ideal.ofBits, Ideal.ieee]
  rw [← EReal.coe_mul]
  norm_num

theorem sg_eq (x : EReal) : Ideal.div (Ideal.ofBits .f32 0x3F800000#32) (Ideal.ofBits .f32 0x3F800000#32 + Ideal.exp (-x)) = sg x := by
  unfold sg
  rw [one_word, zero_sub]

theorem zero_plus (x : EReal) : (FloatOps.ofBits (F := Ideal) .f32 0x00000000#32 : EReal) + x = x :=
  (congrArg (· + x) Ideal.ofBits_zero_f32).trans (zero_add x)

theorem eta2 {a b : ℕ} (i : (Shape.mk 2 ![a, b]).Idx) (p : Fin a) (q : Fin b) (h0 : (i 0).val = p.val) (h1 : (i 1).val = q.val) : i = ix2 p q := by
  funext d
  match d with
  | ⟨0, _⟩ => exact Fin.ext h0
  | ⟨1, _⟩ => exact Fin.ext h1

theorem eta1 {a : ℕ} (i : (Shape.mk 1 ![a]).Idx) (p : Fin a) (h0 : (i 0).val = p.val) : i = ix1 p := by
  funext d
  match d with
  | ⟨0, _⟩ => exact Fin.ext h0

/-- A block at a place, and the array it is part of. -/
theorem at_block (t : ℕ) (ht : t < 8) (O : S512x1024.Idx → EReal) (W : S4096x1024.Idx → EReal)
    (hO : ∀ (r : Fin 512) (j : Fin 1024), O (ix2 r j) = W (ix2 (⟨512 * t + r.val, by omega⟩ : Fin 4096) j)) (y : S512x1024.Idx) (i : S4096x1024.Idx)
    (h0 : (i 0).val = 512 * t + (y 0).val) (h1 : (i 1).val = (y 1).val) : O y = W i := by
  rw [idx_block y, hO]
  refine congrArg W (funext fun a => ?_)
  match a with
  | ⟨0, _⟩ => exact Fin.ext h0.symm
  | ⟨1, _⟩ => exact Fin.ext h1.symm

end Cert.LnRows

end
-- ==== Proof.ProjLnRef19.lean ====
/-
  The reference of a mixer's end, at an index: the residual and the projection, and the layer norm of their sum.
-/
module

public import proofs.«01_k».proof.Proof.LnRows
public import proofs.«01_k».proof.Proof.Gen.Reference19Ideal.Read
public import Idealize.ShloMosaic.Lib.Pointwise

@[expose] public section

noncomputable section

namespace Cert.Reference19Ideal.ProjLn

open Cert.Reference19Ideal Cert.Reference19Ideal.Gen Cert.Reference19Ideal.Read Idealize.ShloMosaic
open Cert.Norm Cert.LnRows

variable (x0 : (⟨S4096x1024, .f32⟩ : BufTy).Contents (Elt Ideal)) (x1 : (⟨S4096x1024, .bf16⟩ : BufTy).Contents (Elt Ideal))
  (x2 : (⟨S1024x1024, .bf16⟩ : BufTy).Contents (Elt Ideal)) (x3 x4 : (⟨S1024, .f32⟩ : BufTy).Contents (Elt Ideal))

/-- The arguments' entries and their product; no gate. -/
def J : LnRows.Args where
  res r j := x0 (ix2 r j)
  acc := mm x1 x2
  gin _ _ := 0
  bg _ := 0
  proj _ _ := 0
  g j := x3 (ix1 j)
  b j := x4 (ix1 j)

theorem acc_at (i : S4096x1024.Idx) : val_main_v4 (F := Ideal) x1 x2 i = arr (J x0 x1 x2 x3 x4).acc i := by
  refine (val_main_v4_apply x1 x2 i).trans ?_
  show (∑ k, _) = ∑ k : Fin 1024, x1 (ix2 (⟨(i 0).val, (i 0).isLt⟩ : Fin 4096) k) * x2 (ix2 k (⟨(i 1).val, (i 1).isLt⟩ : Fin 1024))
  refine Finset.sum_congr rfl fun k _ => ?_
  rw [val_main_v2_apply, val_main_v3_apply]
  exact congrArg₂ (· * ·) (congrArg x1 (eta2 _ _ _ rfl rfl)) (congrArg x2 (eta2 _ _ _ rfl rfl))

theorem z_at (i : S4096x1024.Idx) : val_main_v5 (F := Ideal) x0 x1 x2 i = arr (J x0 x1 x2 x3 x4).a i := by
  rw [val_main_v5_apply, val_main_v1_apply, val_main_v0_apply, val_main_cst_apply, acc_at x0 x1 x2 x3 x4]
  exact congrArg (fun e => Norm.alpha * e + arr (J x0 x1 x2 x3 x4).acc i) (congrArg x0 (eta2 i _ _ rfl rfl))

/-! ## The norm -/

theorem mean_at (i : S4096x1.Idx) : val_main_v9 (F := Ideal) x0 x1 x2 i = Ideal.div (∑ k, ((J x0 x1 x2 x3 x4).a ⟨(i 0).val, (i 0).isLt⟩) k) N := by
  rw [val_main_v9_apply, val_main_v7_apply, val_main_v8_apply, val_main_cst_1_apply, val_main_v6_apply, val_main_cst_0_apply]
  refine congrArg (fun e => Ideal.div e N) ((zero_plus _).trans (Finset.sum_congr rfl fun k _ => ?_))
  exact z_at x0 x1 x2 x3 x4 _

theorem zc1_at (i : S4096x1024.Idx) : val_main_v11 (F := Ideal) x0 x1 x2 i = zc ((J x0 x1 x2 x3 x4).a ⟨(i 0).val, (i 0).isLt⟩) ⟨(i 1).val, (i 1).isLt⟩ := by
  rw [val_main_v11_apply, val_main_v10_apply, mean_at x0 x1 x2 x3 x4, z_at x0 x1 x2 x3 x4]
  rfl

theorem zc2_at (i : S4096x1024.Idx) : val_main_v18 (F := Ideal) x0 x1 x2 i = zc ((J x0 x1 x2 x3 x4).a ⟨(i 0).val, (i 0).isLt⟩) ⟨(i 1).val, (i 1).isLt⟩ := by
  rw [val_main_v18_apply, val_main_v17_apply, mean_at x0 x1 x2 x3 x4, z_at x0 x1 x2 x3 x4]
  rfl

theorem var_at (i : S4096x1.Idx) : val_main_v20 (F := Ideal) x0 x1 x2 i = var ((J x0 x1 x2 x3 x4).a ⟨(i 0).val, (i 0).isLt⟩) := by
  rw [val_main_v20_apply, val_main_v19_apply, val_main_cst_4_apply, val_main_v16_apply, val_main_v15_apply, val_main_cst_3_apply, val_main_v14_apply,
    val_main_v13_apply, val_main_cst_2_apply]
  refine congrArg (fun e => Ideal.div e N + eps) ((zero_plus _).trans (Finset.sum_congr rfl fun k _ => ?_))
  rw [val_main_v12_apply, zc1_at x0 x1 x2 x3 x4]
  rfl

theorem xh_at (i : S4096x1024.Idx) : val_main_v23 (F := Ideal) x0 x1 x2 i = xh ((J x0 x1 x2 x3 x4).a ⟨(i 0).val, (i 0).isLt⟩) ⟨(i 1).val, (i 1).isLt⟩ := by
  rw [val_main_v23_apply, val_main_v22_apply, val_main_v21_apply, zc2_at x0 x1 x2 x3 x4, var_at x0 x1 x2 x3 x4]
  rfl

theorem ln_at (i : S4096x1024.Idx) : val_main_v29 (F := Ideal) x0 x1 x2 x3 x4 i = arr ((J x0 x1 x2 x3 x4).ln (J x0 x1 x2 x3 x4).a) i := by
  rw [val_main_v29_apply, val_main_v28_apply, val_main_v27_apply, val_main_v26_apply, val_main_v25_apply, val_main_v24_apply, xh_at x0 x1 x2 x3 x4]
  exact congrArg₂ (fun e f => xh ((J x0 x1 x2 x3 x4).a ⟨(i 0).val, (i 0).isLt⟩) ⟨(i 1).val, (i 1).isLt⟩ * e + f) (congrArg x3 (eta1 _ _ rfl)) (congrArg x4 (eta1 _ _ rfl))

theorem lnb_at (i : S4096x1024.Idx) : val_main_v30 (F := Ideal) x0 x1 x2 x3 x4 i = arr ((J x0 x1 x2 x3 x4).ln (J x0 x1 x2 x3 x4).a) i :=
  (val_main_v30_apply x0 x1 x2 x3 x4 i).trans (ln_at x0 x1 x2 x3 x4 i)

end Cert.Reference19Ideal.ProjLn

end
-- ==== Proof.ProjLn19.lean ====
/-
  A mixer's end: the output projection, the residual, and the layer norm.
-/
module

public import proofs.«01_k».proof.Defs
public import proofs.«01_k».proof.Proof.LnRows
public import proofs.«01_k».proof.Proof.ProjLnRef19
public import proofs.«01_k».proof.Proof.Gen.Kernel19Ideal.Value
public import proofs.«01_k».proof.Proof.Gen.Reference19Ideal.Run
public import proofs.«01_k».proof.Proof.Gen.Reference19Ideal.Read
public import Idealize.ShloMosaic.Lib.Quiescent
public import Idealize.ShloMosaic.Lib.Tactic

@[expose] public section

set_option maxRecDepth 16384

noncomputable section

namespace Cert.Kernel19Ideal.ProjLn

open Cert.Kernel19Ideal Cert.Kernel19Ideal.Gen Cert.Kernel19Ideal.Value Cert.LnRows Idealize.ShloMosaic Idealize.ShloMosaic.TcCoe
open Cert.Kernel2Ideal.Dr1 (rowR rowsL rowR_emb)

/-- A whole load of a whole reference of two axes. -/
def rd {a b : ℕ} {e : EltTy} (arg : Memref sig .tc .vmem ⟨2, ![a, b]⟩ e) (harg : arg.IsWhole) (x : Vec Ideal ⟨2, ![a, b]⟩ e) : Vec Ideal ⟨2, ![a, b]⟩ e :=
  arg.view.readAt (Elt Ideal) (Rect.unit (s := ⟨2, ![a, b]⟩) ![0, 0] ![a, b] (fun k => by match k with
    | ⟨0, _⟩ => exact le_of_eq (Nat.zero_add a)
    | ⟨1, _⟩ => exact le_of_eq (Nat.zero_add b))).toLoadRect (harg.unread x)

theorem rd_eq {a b : ℕ} {e : EltTy} (arg : Memref sig .tc .vmem ⟨2, ![a, b]⟩ e) (harg : arg.IsWhole) (x : Vec Ideal ⟨2, ![a, b]⟩ e) : rd arg harg x = x :=
  Mat.read_whole arg harg x ![0, 0] Mat.zero2 _

section Run

variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S1024x1024 .bf16) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S512x1024 .bf16) (harg8 : arg8.IsWhole)
  (arg9 : Memref sig .tc .vmem S512x1024 .f32) (harg9 : arg9.IsWhole)
  (x0 : Vec Ideal S512x1024 .f32) (x1 : Vec Ideal S512x1024 .bf16) (x2 : Vec Ideal S1024x1024 .bf16) (x3 : Vec Ideal S1x1024 .f32) (x4 : Vec Ideal S1x1024 .f32)

/-- The stores of a point. -/
theorem stores : (kernelRun0_A (F := Ideal) c i arg1 harg1 arg2 harg2 arg3 harg3 arg4 harg4 arg5 harg5 arg6 harg6 arg7 harg7 arg8 harg8 arg9 harg9 x0 x1 x2 x3 x4).1 = rowsL (e := .f32) (aT arg1 harg1 x0 arg9 (k0_pay2 (F := Ideal) (rd arg2 harg2 x1) (rd arg3 harg3 x2))) 32 (le_refl 32)
    ∧ (kernelRun0_A (F := Ideal) c i arg1 harg1 arg2 harg2 arg3 harg3 arg4 harg4 arg5 harg5 arg6 harg6 arg7 harg7 arg8 harg8 arg9 harg9 x0 x1 x2 x3 x4).2.1 = rowsL (e := .f32) (fun n h => tR ((aT arg1 harg1 x0 arg9 (k0_pay2 (F := Ideal) (rd arg2 harg2 x1) (rd arg3 harg3 x2))) n h) (rd arg4 harg4 x3) (rd arg5 harg5 x4)) 32 (le_refl 32)
    ∧ (kernelRun0_A (F := Ideal) c i arg1 harg1 arg2 harg2 arg3 harg3 arg4 harg4 arg5 harg5 arg6 harg6 arg7 harg7 arg8 harg8 arg9 harg9 x0 x1 x2 x3 x4).2.2.1 = rowsL (e := .bf16) (fun n h => truncf .bf16 (tR ((aT arg1 harg1 x0 arg9 (k0_pay2 (F := Ideal) (rd arg2 harg2 x1) (rd arg3 harg3 x2))) n h) (rd arg4 harg4 x3) (rd arg5 harg5 x4)) bitsLt_bf16_f32) 32 (le_refl 32) := by
  refine ⟨?_, ?_, ?_⟩
  · sl_kernel_rfl
  · sl_kernel_rfl
  · sl_kernel_rfl

theorem out5_at (y : S512x1024.Idx) : out0_A_5 (F := Ideal) c i arg1 harg1 arg2 harg2 arg3 harg3 arg4 harg4 arg5 harg5 arg6 harg6 arg7 harg7 arg8 harg8 arg9 harg9 x0 x1 x2 x3 x4 y = (aB x0 (k0_pay2 (F := Ideal) x1 x2)) y := by
  have hy := cover0_A_5 (F := Ideal) c i arg1 harg1 arg2 harg2 arg3 harg3 arg4 harg4 arg5 harg5 arg6 harg6 arg7 harg7 arg8 harg8 arg9 harg9 x0 x1 x2 x3 x4 y
  unfold out0_A_5
  have e := (stores c i arg1 harg1 arg2 harg2 arg3 harg3 arg4 harg4 arg5 harg5 arg6 harg6 arg7 harg7 arg8 harg8 arg9 harg9 x0 x1 x2 x3 x4).1
  rw [e] at hy ⊢
  refine (View.read_writes_junk_apply_eq_canon VO0_5 y _).trans ((rowsL_canon (e := .f32) _ _ (aT_rows arg1 harg1 x0 arg9 (k0_pay2 (F := Ideal) (rd arg2 harg2 x1) (rd arg3 harg3 x2))) y hy).trans ?_)
  simp only [rd_eq]

theorem out6_at (y : S512x1024.Idx) : out0_A_6 (F := Ideal) c i arg1 harg1 arg2 harg2 arg3 harg3 arg4 harg4 arg5 harg5 arg6 harg6 arg7 harg7 arg8 harg8 arg9 harg9 x0 x1 x2 x3 x4 y = lnB (aB x0 (k0_pay2 (F := Ideal) x1 x2)) x3 x4 y := by
  have hy := cover0_A_6 (F := Ideal) c i arg1 harg1 arg2 harg2 arg3 harg3 arg4 harg4 arg5 harg5 arg6 harg6 arg7 harg7 arg8 harg8 arg9 harg9 x0 x1 x2 x3 x4 y
  unfold out0_A_6
  have e := (stores c i arg1 harg1 arg2 harg2 arg3 harg3 arg4 harg4 arg5 harg5 arg6 harg6 arg7 harg7 arg8 harg8 arg9 harg9 x0 x1 x2 x3 x4).2.1
  rw [e] at hy ⊢
  refine (View.read_writes_junk_apply_eq_canon VO0_6 y _).trans ((rowsL_canon (e := .f32) _ _ (tR_rows _ _ (rd arg4 harg4 x3) (rd arg5 harg5 x4) (aT_rows arg1 harg1 x0 arg9 (k0_pay2 (F := Ideal) (rd arg2 harg2 x1) (rd arg3 harg3 x2)))) y hy).trans ?_)
  simp only [rd_eq]

theorem out7_at (y : S512x1024.Idx) : out0_A_7 (F := Ideal) c i arg1 harg1 arg2 harg2 arg3 harg3 arg4 harg4 arg5 harg5 arg6 harg6 arg7 harg7 arg8 harg8 arg9 harg9 x0 x1 x2 x3 x4 y = lnB (aB x0 (k0_pay2 (F := Ideal) x1 x2)) x3 x4 y := by
  have hy := cover0_A_7 (F := Ideal) c i arg1 harg1 arg2 harg2 arg3 harg3 arg4 harg4 arg5 harg5 arg6 harg6 arg7 harg7 arg8 harg8 arg9 harg9 x0 x1 x2 x3 x4 y
  unfold out0_A_7
  have e := (stores c i arg1 harg1 arg2 harg2 arg3 harg3 arg4 harg4 arg5 harg5 arg6 harg6 arg7 harg7 arg8 harg8 arg9 harg9 x0 x1 x2 x3 x4).2.2
  rw [e] at hy ⊢
  refine (View.read_writes_junk_apply_eq_canon VO0_7 y _).trans ((rowsL_canon (e := .bf16) _ _ (tR_rows _ _ (rd arg4 harg4 x3) (rd arg5 harg5 x4) (aT_rows arg1 harg1 x0 arg9 (k0_pay2 (F := Ideal) (rd arg2 harg2 x1) (rd arg3 harg3 x2)))) y hy).trans ?_)
  simp only [rd_eq]

end Run

/-! ## The product -/

theorem pay2_at (a : Vec Ideal S512x1024 .bf16) (w : Vec Ideal S1024x1024 .bf16) (r : Fin 512) (j : Fin 1024) :
    k0_pay2 (F := Ideal) a w (ix2 r j) = ∑ k : Fin 1024, a (ix2 r k) * w (ix2 k j) := by
  unfold k0_pay2
  pointwise

/-! ## The blocks -/

variable (m : (l : Loc nD τ sig) → Buf (Elt Ideal) l) (c : Dev nD) (t : Fin cfg0.N)

/-- The launch's arguments. -/
def J : LnRows.Args where
  res r j := (m ((c : Thread nD τ).loc main_arg0) : S4096x1024.Idx → EReal) (ix2 r j)
  acc := mm (m ((c : Thread nD τ).loc main_arg1) : S4096x1024.Idx → EReal) (m ((c : Thread nD τ).loc main_arg2) : S1024x1024.Idx → EReal)
  gin _ _ := 0
  bg _ := 0
  proj _ _ := 0
  g j := (m ((c : Thread nD τ).loc main_arg3) : S1024.Idx → EReal) (ix1 j)
  b j := (m ((c : Thread nD τ).loc main_arg4) : S1024.Idx → EReal) (ix1 j)

theorem pt_lt : t.val < 8 := by have h := t.isLt; have hN : cfg0.N = 8 := N_0; omega

/-- A row of a point's block, in the array. -/
def row (r : Fin 512) : Fin 4096 := ⟨512 * t.val + r.val, by have := pt_lt t; omega⟩

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = t.val ∧ win0_1.index t (1 : Fin 2) = 0 :=
  (by decide +kernel : ∀ t : Fin grid0.N, _)
theorem place2 : ∀ t : Fin cfg0.N, win0_2.index t (0 : Fin 2) = 0 ∧ win0_2.index t (1 : Fin 2) = 0 :=
  (by decide +kernel : ∀ t : Fin grid0.N, _)
theorem place3 : ∀ t : Fin cfg0.N, win0_3.index t (0 : Fin 2) = 0 ∧ win0_3.index t (1 : Fin 2) = 0 :=
  (by decide +kernel : ∀ t : Fin grid0.N, _)
theorem place4 : ∀ t : Fin cfg0.N, win0_4.index t (0 : Fin 2) = 0 ∧ win0_4.index t (1 : Fin 2) = 0 :=
  (by decide +kernel : ∀ t : Fin grid0.N, _)
theorem place5 : ∀ t : Fin cfg0.N, win0_5.index t (0 : Fin 2) = t.val ∧ win0_5.index t (1 : Fin 2) = 0 :=
  (by decide +kernel : ∀ t : Fin grid0.N, _)
theorem place6 : ∀ t : Fin cfg0.N, win0_6.index t (0 : Fin 2) = t.val ∧ win0_6.index t (1 : Fin 2) = 0 :=
  (by decide +kernel : ∀ t : Fin grid0.N, _)
theorem place7 : ∀ t : Fin cfg0.N, win0_7.index t (0 : Fin 2) = t.val ∧ win0_7.index t (1 : Fin 2) = 0 :=
  (by decide +kernel : ∀ t : Fin grid0.N, _)

theorem main_v0_at (j : Fin 1024) : (V m c main_v0 : S1x1024.Idx → EReal) (ix2 0 j) = (J m c).g j := by
  rw [show (V m c main_v0 : S1x1024.Idx → EReal) = shapeCast S1x1024 (m ((c : Thread nD τ).loc main_arg3) : S1024.Idx → EReal) shapeCasts_S1024_S1x1024 by sl_kernel_rfl]
  pointwise
  rfl

theorem main_v1_at (j : Fin 1024) : (V m c main_v1 : S1x1024.Idx → EReal) (ix2 0 j) = (J m c).b j := by
  rw [show (V m c main_v1 : S1x1024.Idx → EReal) = shapeCast S1x1024 (m ((c : Thread nD τ).loc main_arg4) : S1024.Idx → EReal) shapeCasts_S1024_S1x1024 by sl_kernel_rfl]
  pointwise
  rfl

theorem iblk0_at (r : Fin 512) (k : Fin 1024) :
    (iblk m c 0 t : S512x1024.Idx → EReal) (ix2 r k) = (m ((c : Thread nD τ).loc main_arg0) : S4096x1024.Idx → EReal) (ix2 (row t r) k) :=
  (congrFun (V_main_arg0 m c) _).trans (congrArg (m ((c : Thread nD τ).loc main_arg0) : S4096x1024.Idx → EReal)
    (eta2 (((cfg0.win 0).blk t).view.emb (ix2 r k : S512x1024.Idx) : S4096x1024.Idx) (row t r) k
      (show win0_0.index t (0 : Fin 2) * 512 + 1 * r.val = 512 * t.val + r.val by rw [(place0 t).1]; omega)
      (show win0_0.index t (1 : Fin 2) * 1024 + 1 * k.val = k.val by rw [(place0 t).2]; omega)))

theorem iblk1_at (r : Fin 512) (k : Fin 1024) :
    (iblk m c 1 t : S512x1024.Idx → EReal) (ix2 r k) = (m ((c : Thread nD τ).loc main_arg1) : S4096x1024.Idx → EReal) (ix2 (row t r) k) :=
  (congrFun (V_main_arg1 m c) _).trans (congrArg (m ((c : Thread nD τ).loc main_arg1) : S4096x1024.Idx → EReal)
    (eta2 (((cfg0.win 1).blk t).view.emb (ix2 r k : S512x1024.Idx) : S4096x1024.Idx) (row t r) k
      (show win0_1.index t (0 : Fin 2) * 512 + 1 * r.val = 512 * t.val + r.val by rw [(place1 t).1]; omega)
      (show win0_1.index t (1 : Fin 2) * 1024 + 1 * k.val = k.val by rw [(place1 t).2]; omega)))

theorem iblk2_at (r : Fin 1024) (k : Fin 1024) :
    (iblk m c 2 t : S1024x1024.Idx → EReal) (ix2 r k) = (m ((c : Thread nD τ).loc main_arg2) : S1024x1024.Idx → EReal) (ix2 r k) :=
  (congrFun (V_main_arg2 m c) _).trans (congrArg (m ((c : Thread nD τ).loc main_arg2) : S1024x1024.Idx → EReal)
    (eta2 (((cfg0.win 2).blk t).view.emb (ix2 r k : S1024x1024.Idx) : S1024x1024.Idx) r k
      (show win0_2.index t (0 : Fin 2) * 1024 + 1 * r.val = r.val by rw [(place2 t).1]; omega)
      (show win0_2.index t (1 : Fin 2) * 1024 + 1 * k.val = k.val by rw [(place2 t).2]; omega)))

theorem iblk3_at (j : Fin 1024) : (iblk m c 3 t : S1x1024.Idx → EReal) (ix2 0 j) = (J m c).g j :=
  (congrArg (V m c main_v0 : S1x1024.Idx → EReal) (eta2 (((cfg0.win 3).blk t).view.emb (ix2 0 j : S1x1024.Idx) : S1x1024.Idx) 0 j
    (show win0_3.index t (0 : Fin 2) * 1 + 1 * 0 = 0 by rw [(place3 t).1])
    (show win0_3.index t (1 : Fin 2) * 1024 + 1 * j.val = j.val by rw [(place3 t).2]; omega))).trans (main_v0_at m c j)

theorem iblk4_at (j : Fin 1024) : (iblk m c 4 t : S1x1024.Idx → EReal) (ix2 0 j) = (J m c).b j :=
  (congrArg (V m c main_v1 : S1x1024.Idx → EReal) (eta2 (((cfg0.win 4).blk t).view.emb (ix2 0 j : S1x1024.Idx) : S1x1024.Idx) 0 j
    (show win0_4.index t (0 : Fin 2) * 1 + 1 * 0 = 0 by rw [(place4 t).1])
    (show win0_4.index t (1 : Fin 2) * 1024 + 1 * j.val = j.val by rw [(place4 t).2]; omega))).trans (main_v1_at m c j)

variable (r : Fin 512) (j : Fin 1024)

theorem acc_at : k0_pay2 (F := Ideal) (iblk m c 1 t) (iblk m c 2 t) (ix2 r j) = (J m c).acc (row t r) j := by
  refine (pay2_at _ _ r j).trans (mm_ext _ _ _ _ _ fun k => ?_)
  rw [iblk1_at, iblk2_at]

theorem z_at : (aB (iblk m c 0 t) (k0_pay2 (F := Ideal) (iblk m c 1 t) (iblk m c 2 t))) (ix2 r j) = (J m c).a (row t r) j :=
  congrArg₂ (fun e f => Norm.alpha * e + f) (iblk0_at m c t r j) (acc_at m c t r j)

theorem ln_at : lnB (aB (iblk m c 0 t) (k0_pay2 (F := Ideal) (iblk m c 1 t) (iblk m c 2 t))) (iblk m c 3 t) (iblk m c 4 t) (ix2 r j) = (J m c).ln (J m c).a (row t r) j :=
  congr (congrArg₂ (fun (e : Fin 1024 → EReal) f g => Norm.xh e j * f + g) (funext fun k => z_at m c t r k) (iblk3_at m c t j)) (iblk4_at m c t j)

/-! ## The arrays -/

/-- An entry of an array, by the point whose block holds it. -/
theorem holder (i : S4096x1024.Idx) : ∃ t : Fin cfg0.N, 512 * t.val ≤ (i 0).val ∧ (i 0).val < 512 * t.val + 512 := by
  have h0 : (i 0).val < 4096 := (i 0).isLt
  have hN : cfg0.N = 8 := N_0
  exact ⟨⟨(i 0).val / 512, by omega⟩, by dsimp only; omega, by dsimp only; omega⟩

theorem array5 : (dats m 0 c).arrAt 5 cfg0.N = arr (J m c).a := by
  refine (dats m 0 c).arrAt_eq_of_cover 5 _ (fun t _ => ?_) fun i => ?_
  · rw [flushed5_A]
    funext y
    refine at_block t.val (pt_lt t) _ (arr (J m c).a) (fun r j => (out5_at _ _ _ _ _ _ _ _ _ _ _ _ _ _ _ _ _ _ _ _ _ _ _ _ _ _).trans (z_at m c t r j))
      ((cfg0.win 5).xinj (grid0.coords t) y) (((cfg0.win 5).blk t).view.emb y) ?_ ?_
    · show win0_5.index t (0 : Fin 2) * 512 + 1 * (y 0).val = 512 * t.val + (y 0).val
      rw [(place5 t).1]
      omega
    · show win0_5.index t (1 : Fin 2) * 1024 + 1 * (y 1).val = (y 1).val
      rw [(place5 t).2]
      omega
  · obtain ⟨t, h0, h0'⟩ := holder i
    have h1 : (i 1).val < 1024 := (i 1).isLt
    refine ⟨t, flush0_5 _, ?_⟩
    obtain ⟨e0, e1⟩ := place5 t
    show i ∈ ((View.whole main_v2_0).slice (win0_5.rect t)).set
    rw [View.set_slice_whole, Rect.mem_set_unit]
    intro a
    match a with
    | ⟨0, _⟩ =>
      show win0_5.index _ (0 : Fin 2) * 512 ≤ (i 0).val ∧ (i 0).val < win0_5.index _ (0 : Fin 2) * 512 + 512
      rw [e0]
      omega
    | ⟨1, _⟩ =>
      show win0_5.index _ (1 : Fin 2) * 1024 ≤ (i 1).val ∧ (i 1).val < win0_5.index _ (1 : Fin 2) * 1024 + 1024
      rw [e1]
      omega

theorem array6 : (dats m 0 c).arrAt 6 cfg0.N = arr ((J m c).ln (J m c).a) := by
  refine (dats m 0 c).arrAt_eq_of_cover 6 _ (fun t _ => ?_) fun i => ?_
  · rw [flushed6_A]
    funext y
    refine at_block t.val (pt_lt t) _ (arr ((J m c).ln (J m c).a)) (fun r j => (out6_at _ _ _ _ _ _ _ _ _ _ _ _ _ _ _ _ _ _ _ _ _ _ _ _ _ _).trans (ln_at m c t r j))
      ((cfg0.win 6).xinj (grid0.coords t) y) (((cfg0.win 6).blk t).view.emb y) ?_ ?_
    · show win0_6.index t (0 : Fin 2) * 512 + 1 * (y 0).val = 512 * t.val + (y 0).val
      rw [(place6 t).1]
      omega
    · show win0_6.index t (1 : Fin 2) * 1024 + 1 * (y 1).val = (y 1).val
      rw [(place6 t).2]
      omega
  · obtain ⟨t, h0, h0'⟩ := holder i
    have h1 : (i 1).val < 1024 := (i 1).isLt
    refine ⟨t, flush0_6 _, ?_⟩
    obtain ⟨e0, e1⟩ := place6 t
    show i ∈ ((View.whole main_v2_1).slice (win0_6.rect t)).set
    rw [View.set_slice_whole, Rect.mem_set_unit]
    intro a
    match a with
    | ⟨0, _⟩ =>
      show win0_6.index _ (0 : Fin 2) * 512 ≤ (i 0).val ∧ (i 0).val < win0_6.index _ (0 : Fin 2) * 512 + 512
      rw [e0]
      omega
    | ⟨1, _⟩ =>
      show win0_6.index _ (1 : Fin 2) * 1024 ≤ (i 1).val ∧ (i 1).val < win0_6.index _ (1 : Fin 2) * 1024 + 1024
      rw [e1]
      omega

theorem array7 : (dats m 0 c).arrAt 7 cfg0.N = arr ((J m c).ln (J m c).a) := by
  refine (dats m 0 c).arrAt_eq_of_cover 7 _ (fun t _ => ?_) fun i => ?_
  · rw [flushed7_A]
    funext y
    refine at_block t.val (pt_lt t) _ (arr ((J m c).ln (J m c).a)) (fun r j => (out7_at _ _ _ _ _ _ _ _ _ _ _ _ _ _ _ _ _ _ _ _ _ _ _ _ _ _).trans (ln_at m c t r j))
      ((cfg0.win 7).xinj (grid0.coords t) y) (((cfg0.win 7).blk t).view.emb y) ?_ ?_
    · show win0_7.index t (0 : Fin 2) * 512 + 1 * (y 0).val = 512 * t.val + (y 0).val
      rw [(place7 t).1]
      omega
    · show win0_7.index t (1 : Fin 2) * 1024 + 1 * (y 1).val = (y 1).val
      rw [(place7 t).2]
      omega
  · obtain ⟨t, h0, h0'⟩ := holder i
    have h1 : (i 1).val < 1024 := (i 1).isLt
    refine ⟨t, flush0_7 _, ?_⟩
    obtain ⟨e0, e1⟩ := place7 t
    show i ∈ ((View.whole main_v2_2).slice (win0_7.rect t)).set
    rw [View.set_slice_whole, Rect.mem_set_unit]
    intro a
    match a with
    | ⟨0, _⟩ =>
      show win0_7.index _ (0 : Fin 2) * 512 ≤ (i 0).val ∧ (i 0).val < win0_7.index _ (0 : Fin 2) * 512 + 512
      rw [e0]
      omega
    | ⟨1, _⟩ =>
      show win0_7.index _ (1 : Fin 2) * 1024 ≤ (i 1).val ∧ (i 1).val < win0_7.index _ (1 : Fin 2) * 1024 + 1024
      rw [e1]
      omega

end Cert.Kernel19Ideal.ProjLn

namespace Cert.ProjLn19

open Idealize.ShloMosaic Idealize.ShloMosaic.StableHlo Idealize.SL.Sem

theorem facts_Kernel19 : Cert.Kernel19.Facts := by
  have h := Cert.Kernel19Ideal.Gen.facts₀
  cases h
  refine { toFacts₀ := ?_ }
  constructor <;> assumption

theorem frame_Kernel19 : Cert.quiescent_Kernel19 (hKernel19 := facts_Kernel19) := fun m g _ => by
  refine cast ?_ (Cert.Kernel19Ideal.Gen.frame (F := Bits) m g)
  sl_kernel_rfl

theorem frame_Kernel19Ideal : Cert.quiescent_Kernel19Ideal := fun m g _ => Cert.Kernel19Ideal.Gen.frame (F := Ideal) m g

theorem frame_Reference19Ideal : Cert.quiescent_Reference19Ideal := fun m g _ =>
  (θ_run _ _ _).mono (fun r h => ⟨fun c => (h c).2.2.2, Idealize.ShloMosaic.sem_eq_zero_of_no_sems (by decide) r.2⟩)
    (Cert.Reference19Ideal.Value.run m g)

theorem algebraic : Cert.algebraic_Kernel19Ideal_Reference19Ideal := by
  intro m g m' g' _ hagree
  refine ⟨fun c => LnRows.arr (Cert.Kernel19Ideal.ProjLn.J m c).a, fun c => LnRows.arr ((Cert.Kernel19Ideal.ProjLn.J m c).ln (Cert.Kernel19Ideal.ProjLn.J m c).a),
    fun c => LnRows.arr ((Cert.Kernel19Ideal.ProjLn.J m c).ln (Cert.Kernel19Ideal.ProjLn.J m c).a), ?_, ?_⟩
  · refine (θ_run _ _ _).mono (fun r h c => ?_) (Cert.Kernel19Ideal.Value.run_blocks m g)
    obtain ⟨h0, h1, h2, k⟩ := h c
    exact ⟨h0.trans (Cert.Kernel19Ideal.ProjLn.array5 m c), h1.trans (Cert.Kernel19Ideal.ProjLn.array6 m c), h2.trans (Cert.Kernel19Ideal.ProjLn.array7 m c), k⟩
  · refine (θ_run _ _ _).mono (fun r h c => ?_) (Cert.Reference19Ideal.Value.run m' g')
    obtain ⟨h0, h1, h2, k⟩ := h c
    obtain ⟨a0, a1, a2, a3, a4⟩ := hagree c
    have e0 := h0.trans (Cert.Reference19Ideal.Read.val_main_v5_eq _ _ _)
    have e1 := h1.trans (Cert.Reference19Ideal.Read.val_main_v29_eq _ _ _ _ _)
    have e2 := h2.trans (Cert.Reference19Ideal.Read.val_main_v30_eq _ _ _ _ _)
    rw [a0, a1, a2] at e0
    rw [a0, a1, a2, a3, a4] at e1 e2
    exact ⟨e0.trans (funext fun i => Cert.Reference19Ideal.ProjLn.z_at _ _ _ (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) i),
      e1.trans (funext fun i => Cert.Reference19Ideal.ProjLn.ln_at _ _ _ _ _ i), e2.trans (funext fun i => Cert.Reference19Ideal.ProjLn.lnb_at _ _ _ _ _ i), k⟩

end Cert.ProjLn19

end
-- ==== Proof.ProjLnRef20.lean ====
/-
  The reference of a layer's feed-forward end, at an index: the gate, the projection, the layer's sum and its norm.
-/
module

public import proofs.«01_k».proof.Proof.LnRows
public import proofs.«01_k».proof.Proof.Gen.Reference20Ideal.Read
public import Idealize.ShloMosaic.Lib.Pointwise

@[expose] public section

noncomputable section

namespace Cert.Reference20Ideal.ProjLn

open Cert.Reference20Ideal Cert.Reference20Ideal.Gen Cert.Reference20Ideal.Read Idealize.ShloMosaic
open Cert.Norm Cert.LnRows

variable (x0 : (⟨S4096x1024, .f32⟩ : BufTy).Contents (Elt Ideal)) (x1 : (⟨S4096x2816, .bf16⟩ : BufTy).Contents (Elt Ideal))
  (x2 : (⟨S2816x1024, .bf16⟩ : BufTy).Contents (Elt Ideal)) (x3 x4 : (⟨S1024, .f32⟩ : BufTy).Contents (Elt Ideal))
  (x5 : (⟨S1024x1024, .bf16⟩ : BufTy).Contents (Elt Ideal)) (x6 : (⟨S1024, .f32⟩ : BufTy).Contents (Elt Ideal))
  (x7 : (⟨S4096x256, .bf16⟩ : BufTy).Contents (Elt Ideal)) (x8 : (⟨S256x1024, .bf16⟩ : BufTy).Contents (Elt Ideal))

/-- The arguments' entries and products. -/
def J : LnRows.Args where
  res r j := x0 (ix2 r j)
  acc := mm x1 x2
  gin := mm x0 x5
  bg j := x6 (ix1 j)
  proj := mm x7 x8
  g j := x3 (ix1 j)
  b j := x4 (ix1 j)

theorem proj_at (i : S4096x1024.Idx) : val_main_v13 (F := Ideal) x7 x8 i = arr (J x0 x1 x2 x3 x4 x5 x6 x7 x8).proj i := by
  refine (val_main_v13_apply x7 x8 i).trans ?_
  show (∑ k, _) = ∑ k : Fin 256, x7 (ix2 (⟨(i 0).val, (i 0).isLt⟩ : Fin 4096) k) * x8 (ix2 k (⟨(i 1).val, (i 1).isLt⟩ : Fin 1024))
  refine Finset.sum_congr rfl fun k _ => ?_
  rw [val_main_v11_apply, val_main_v12_apply]
  exact congrArg₂ (· * ·) (congrArg x7 (eta2 _ _ _ rfl rfl)) (congrArg x8 (eta2 _ _ _ rfl rfl))

theorem acc_at (i : S4096x1024.Idx) : val_main_v18 (F := Ideal) x1 x2 i = arr (J x0 x1 x2 x3 x4 x5 x6 x7 x8).acc i := by
  refine (val_main_v18_apply x1 x2 i).trans ?_
  show (∑ k, _) = ∑ k : Fin 2816, x1 (ix2 (⟨(i 0).val, (i 0).isLt⟩ : Fin 4096) k) * x2 (ix2 k (⟨(i 1).val, (i 1).isLt⟩ : Fin 1024))
  refine Finset.sum_congr rfl fun k _ => ?_
  rw [val_main_v16_apply, val_main_v17_apply]
  exact congrArg₂ (· * ·) (congrArg x1 (eta2 _ _ _ rfl rfl)) (congrArg x2 (eta2 _ _ _ rfl rfl))

theorem gin_at (i : S4096x1024.Idx) : val_main_v1 (F := Ideal) x0 x5 i = arr (J x0 x1 x2 x3 x4 x5 x6 x7 x8).gin i := by
  refine (val_main_v1_apply x0 x5 i).trans ?_
  show (∑ k, _) = ∑ k : Fin 1024, x0 (ix2 (⟨(i 0).val, (i 0).isLt⟩ : Fin 4096) k) * x5 (ix2 k (⟨(i 1).val, (i 1).isLt⟩ : Fin 1024))
  refine Finset.sum_congr rfl fun k _ => ?_
  rw [val_main_v0_apply]
  exact congrArg₂ (· * ·) (congrArg x0 (eta2 _ _ _ rfl rfl)) (congrArg x5 (eta2 _ _ _ rfl rfl))

theorem gate_at (i : S4096x1024.Idx) : val_main_v10 (F := Ideal) x0 x5 x6 i = arr (J x0 x1 x2 x3 x4 x5 x6 x7 x8).gate i := by
  rw [val_main_v10_apply, val_main_v9_apply, val_main_cst_0_apply, val_main_v8_apply, val_main_v7_apply, val_main_cst_apply, val_main_v6_apply,
    val_main_v5_apply, val_main_v4_apply, val_main_v3_apply, val_main_v2_apply, gin_at x0 x1 x2 x3 x4 x5 x6 x7 x8]
  refine (sg_eq _).trans (congrArg (fun e => sg (_ + e)) (congrArg x6 (eta1 _ _ rfl)))

theorem z_at (i : S4096x1024.Idx) : val_main_v21 (F := Ideal) x0 x1 x2 x5 x6 x7 x8 i = arr (J x0 x1 x2 x3 x4 x5 x6 x7 x8).z i := by
  rw [val_main_v21_apply, val_main_v19_apply, val_main_v15_apply, val_main_v14_apply, val_main_cst_1_apply, val_main_v20_apply,
    acc_at x0 x1 x2 x3 x4 x5 x6 x7 x8, gate_at x0 x1 x2 x3 x4 x5 x6 x7 x8, proj_at x0 x1 x2 x3 x4 x5 x6 x7 x8]
  exact congrArg (fun e => Norm.alpha * e + arr (J x0 x1 x2 x3 x4 x5 x6 x7 x8).acc i + arr (J x0 x1 x2 x3 x4 x5 x6 x7 x8).gate i * arr (J x0 x1 x2 x3 x4 x5 x6 x7 x8).proj i) (congrArg x0 (eta2 i _ _ rfl rfl))

/-! ## The norm -/

theorem mean_at (i : S4096x1.Idx) : val_main_v25 (F := Ideal) x0 x1 x2 x5 x6 x7 x8 i = Ideal.div (∑ k, ((J x0 x1 x2 x3 x4 x5 x6 x7 x8).z ⟨(i 0).val, (i 0).isLt⟩) k) N := by
  rw [val_main_v25_apply, val_main_v23_apply, val_main_v24_apply, val_main_cst_3_apply, val_main_v22_apply, val_main_cst_2_apply]
  refine congrArg (fun e => Ideal.div e N) ((zero_plus _).trans (Finset.sum_congr rfl fun k _ => ?_))
  exact z_at x0 x1 x2 x3 x4 x5 x6 x7 x8 _

theorem zc1_at (i : S4096x1024.Idx) : val_main_v27 (F := Ideal) x0 x1 x2 x5 x6 x7 x8 i = zc ((J x0 x1 x2 x3 x4 x5 x6 x7 x8).z ⟨(i 0).val, (i 0).isLt⟩) ⟨(i 1).val, (i 1).isLt⟩ := by
  rw [val_main_v27_apply, val_main_v26_apply, mean_at x0 x1 x2 x3 x4 x5 x6 x7 x8, z_at x0 x1 x2 x3 x4 x5 x6 x7 x8]
  rfl

theorem zc2_at (i : S4096x1024.Idx) : val_main_v34 (F := Ideal) x0 x1 x2 x5 x6 x7 x8 i = zc ((J x0 x1 x2 x3 x4 x5 x6 x7 x8).z ⟨(i 0).val, (i 0).isLt⟩) ⟨(i 1).val, (i 1).isLt⟩ := by
  rw [val_main_v34_apply, val_main_v33_apply, mean_at x0 x1 x2 x3 x4 x5 x6 x7 x8, z_at x0 x1 x2 x3 x4 x5 x6 x7 x8]
  rfl

theorem var_at (i : S4096x1.Idx) : val_main_v36 (F := Ideal) x0 x1 x2 x5 x6 x7 x8 i = var ((J x0 x1 x2 x3 x4 x5 x6 x7 x8).z ⟨(i 0).val, (i 0).isLt⟩) := by
  rw [val_main_v36_apply, val_main_v35_apply, val_main_cst_6_apply, val_main_v32_apply, val_main_v31_apply, val_main_cst_5_apply, val_main_v30_apply,
    val_main_v29_apply, val_main_cst_4_apply]
  refine congrArg (fun e => Ideal.div e N + eps) ((zero_plus _).trans (Finset.sum_congr rfl fun k _ => ?_))
  rw [val_main_v28_apply, zc1_at x0 x1 x2 x3 x4 x5 x6 x7 x8]
  rfl

theorem xh_at (i : S4096x1024.Idx) : val_main_v39 (F := Ideal) x0 x1 x2 x5 x6 x7 x8 i = xh ((J x0 x1 x2 x3 x4 x5 x6 x7 x8).z ⟨(i 0).val, (i 0).isLt⟩) ⟨(i 1).val, (i 1).isLt⟩ := by
  rw [val_main_v39_apply, val_main_v38_apply, val_main_v37_apply, zc2_at x0 x1 x2 x3 x4 x5 x6 x7 x8, var_at x0 x1 x2 x3 x4 x5 x6 x7 x8]
  rfl

theorem ln_at (i : S4096x1024.Idx) : val_main_v45 (F := Ideal) x0 x1 x2 x3 x4 x5 x6 x7 x8 i = arr ((J x0 x1 x2 x3 x4 x5 x6 x7 x8).ln (J x0 x1 x2 x3 x4 x5 x6 x7 x8).z) i := by
  rw [val_main_v45_apply, val_main_v44_apply, val_main_v43_apply, val_main_v42_apply, val_main_v41_apply, val_main_v40_apply, xh_at x0 x1 x2 x3 x4 x5 x6 x7 x8]
  exact congrArg₂ (fun e f => xh ((J x0 x1 x2 x3 x4 x5 x6 x7 x8).z ⟨(i 0).val, (i 0).isLt⟩) ⟨(i 1).val, (i 1).isLt⟩ * e + f) (congrArg x3 (eta1 _ _ rfl)) (congrArg x4 (eta1 _ _ rfl))

theorem lnb_at (i : S4096x1024.Idx) : val_main_v46 (F := Ideal) x0 x1 x2 x3 x4 x5 x6 x7 x8 i = arr ((J x0 x1 x2 x3 x4 x5 x6 x7 x8).ln (J x0 x1 x2 x3 x4 x5 x6 x7 x8).z) i :=
  (val_main_v46_apply x0 x1 x2 x3 x4 x5 x6 x7 x8 i).trans (ln_at x0 x1 x2 x3 x4 x5 x6 x7 x8 i)

end Cert.Reference20Ideal.ProjLn

end
-- ==== Proof.ProjLn20.lean ====
/-
  Two layers' feed-forward ends: the second product, the gated projection of the layer's inputs, the residual, and the layer norm.
-/
module

public import proofs.«01_k».proof.Defs
public import proofs.«01_k».proof.Proof.LnRows
public import proofs.«01_k».proof.Proof.ProjLnRef20
public import proofs.«01_k».proof.Proof.Gen.Kernel20Ideal.Value
public import proofs.«01_k».proof.Proof.Gen.Reference20Ideal.Run
public import proofs.«01_k».proof.Proof.Gen.Reference20Ideal.Read
public import Idealize.ShloMosaic.Lib.Quiescent
public import Idealize.ShloMosaic.Lib.Tactic

@[expose] public section

set_option maxRecDepth 16384

noncomputable section

namespace Cert.Kernel20Ideal.ProjLn

open Cert.Kernel20Ideal Cert.Kernel20Ideal.Gen Cert.Kernel20Ideal.Value Cert.LnRows Idealize.ShloMosaic Idealize.ShloMosaic.TcCoe
open Cert.Kernel2Ideal.Dr1 (rowR rowsL rowR_emb)

/-- A whole load of a whole reference of two axes. -/
def rd {a b : ℕ} {e : EltTy} (arg : Memref sig .tc .vmem ⟨2, ![a, b]⟩ e) (harg : arg.IsWhole) (x : Vec Ideal ⟨2, ![a, b]⟩ e) : Vec Ideal ⟨2, ![a, b]⟩ e :=
  arg.view.readAt (Elt Ideal) (Rect.unit (s := ⟨2, ![a, b]⟩) ![0, 0] ![a, b] (fun k => by match k with
    | ⟨0, _⟩ => exact le_of_eq (Nat.zero_add a)
    | ⟨1, _⟩ => exact le_of_eq (Nat.zero_add b))).toLoadRect (harg.unread x)

theorem rd_eq {a b : ℕ} {e : EltTy} (arg : Memref sig .tc .vmem ⟨2, ![a, b]⟩ e) (harg : arg.IsWhole) (x : Vec Ideal ⟨2, ![a, b]⟩ e) : rd arg harg x = x :=
  Mat.read_whole arg harg x ![0, 0] Mat.zero2 _

section Run

variable (c : Dev nD) (i : grid0.Coords)
  (arg1 : Memref sig .tc .vmem S512x1024 .f32) (harg1 : arg1.IsWhole)
  (arg2 : Memref sig .tc .vmem S512x2816 .bf16) (harg2 : arg2.IsWhole)
  (arg3 : Memref sig .tc .vmem S2816x1024 .bf16) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1024x1024 .bf16) (harg6 : arg6.IsWhole)
  (arg7 : Memref sig .tc .vmem S1x1024 .f32) (harg7 : arg7.IsWhole)
  (arg8 : Memref sig .tc .vmem S512x256 .bf16) (harg8 : arg8.IsWhole)
  (arg9 : Memref sig .tc .vmem S256x1024 .bf16) (harg9 : arg9.IsWhole)
  (arg10 : Memref sig .tc .vmem S512x1024 .f32) (harg10 : arg10.IsWhole)
  (arg11 : Memref sig .tc .vmem S512x1024 .f32) (harg11 : arg11.IsWhole)
  (arg12 : Memref sig .tc .vmem S512x1024 .bf16) (harg12 : arg12.IsWhole)
  (arg13 : Memref sig .tc .vmem S512x1024 .f32) (harg13 : arg13.IsWhole)
  (arg14 : Memref sig .tc .vmem S512x1024 .f32) (harg14 : arg14.IsWhole)
  (arg15 : Memref sig .tc .vmem S512x1024 .f32) (harg15 : arg15.IsWhole)
  (x0 : Vec Ideal S512x1024 .f32) (x1 : Vec Ideal S512x2816 .bf16) (x2 : Vec Ideal S2816x1024 .bf16) (x3 : Vec Ideal S1x1024 .f32) (x4 : Vec Ideal S1x1024 .f32) (x5 : Vec Ideal S1024x1024 .bf16) (x6 : Vec Ideal S1x1024 .f32) (x7 : Vec Ideal S512x256 .bf16) (x8 : Vec Ideal S256x1024 .bf16)

/-- The stores of a point. -/
theorem stores : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1 = rowsL (e := .f32) (zT arg1 harg1 x0 arg15 arg13 arg14 (k0_pay3 (F := Ideal) (rd arg2 harg2 x1) (rd arg3 harg3 x2)) (k0_pay4 (F := Ideal) (rd arg1 harg1 x0) (rd arg6 harg6 x5)) (k0_pay5 (F := Ideal) (rd arg8 harg8 x7) (rd arg9 harg9 x8)) (rd arg7 harg7 x6)) 32 (le_refl 32)
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.1 = rowsL (e := .f32) (fun n h => tR ((zT arg1 harg1 x0 arg15 arg13 arg14 (k0_pay3 (F := Ideal) (rd arg2 harg2 x1) (rd arg3 harg3 x2)) (k0_pay4 (F := Ideal) (rd arg1 harg1 x0) (rd arg6 harg6 x5)) (k0_pay5 (F := Ideal) (rd arg8 harg8 x7) (rd arg9 harg9 x8)) (rd arg7 harg7 x6)) n h) (rd arg4 harg4 x3) (rd arg5 harg5 x4)) 32 (le_refl 32)
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.1 = rowsL (e := .bf16) (fun n h => truncf .bf16 (tR ((zT arg1 harg1 x0 arg15 arg13 arg14 (k0_pay3 (F := Ideal) (rd arg2 harg2 x1) (rd arg3 harg3 x2)) (k0_pay4 (F := Ideal) (rd arg1 harg1 x0) (rd arg6 harg6 x5)) (k0_pay5 (F := Ideal) (rd arg8 harg8 x7) (rd arg9 harg9 x8)) (rd arg7 harg7 x6)) n h) (rd arg4 harg4 x3) (rd arg5 harg5 x4)) bitsLt_bf16_f32) 32 (le_refl 32)
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.2.1 = gL arg13.view (k0_pay4 (F := Ideal) (rd arg1 harg1 x0) (rd arg6 harg6 x5)) (rd arg7 harg7 x6) 32 (le_refl 32)
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.2.2.1 = [⟨Rect.unit ![0, 0] S512x1024.size full_inb, (k0_pay5 (F := Ideal) (rd arg8 harg8 x7) (rd arg9 harg9 x8))⟩] := by
  refine ⟨?_, ?_, ?_, ?_, ?_⟩
  · sl_kernel_rfl
  · sl_kernel_rfl
  · sl_kernel_rfl
  · sl_kernel_rfl
  · sl_kernel_rfl

theorem out9_at (y : S512x1024.Idx) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y = (zB x0 (k0_pay3 (F := Ideal) x1 x2) (k0_pay4 (F := Ideal) x0 x5) (k0_pay5 (F := Ideal) x7 x8) x6) y := by
  have hy := cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y
  unfold out0_A_9
  have e := (stores c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1
  rw [e] at hy ⊢
  refine (View.read_writes_junk_apply_eq_canon VO0_9 y _).trans ((rowsL_canon (e := .f32) _ _ (zT_rows arg1 harg1 x0 arg15 arg13 arg14 (k0_pay3 (F := Ideal) (rd arg2 harg2 x1) (rd arg3 harg3 x2)) (k0_pay4 (F := Ideal) (rd arg1 harg1 x0) (rd arg6 harg6 x5)) (k0_pay5 (F := Ideal) (rd arg8 harg8 x7) (rd arg9 harg9 x8)) (rd arg7 harg7 x6)) y hy).trans ?_)
  simp only [rd_eq]

theorem out10_at (y : S512x1024.Idx) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y = lnB (zB x0 (k0_pay3 (F := Ideal) x1 x2) (k0_pay4 (F := Ideal) x0 x5) (k0_pay5 (F := Ideal) x7 x8) x6) x3 x4 y := by
  have hy := cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y
  unfold out0_A_10
  have e := (stores c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.1
  rw [e] at hy ⊢
  refine (View.read_writes_junk_apply_eq_canon VO0_10 y _).trans ((rowsL_canon (e := .f32) _ _ (tR_rows _ _ (rd arg4 harg4 x3) (rd arg5 harg5 x4) (zT_rows arg1 harg1 x0 arg15 arg13 arg14 (k0_pay3 (F := Ideal) (rd arg2 harg2 x1) (rd arg3 harg3 x2)) (k0_pay4 (F := Ideal) (rd arg1 harg1 x0) (rd arg6 harg6 x5)) (k0_pay5 (F := Ideal) (rd arg8 harg8 x7) (rd arg9 harg9 x8)) (rd arg7 harg7 x6))) y hy).trans ?_)
  simp only [rd_eq]

theorem out11_at (y : S512x1024.Idx) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y = lnB (zB x0 (k0_pay3 (F := Ideal) x1 x2) (k0_pay4 (F := Ideal) x0 x5) (k0_pay5 (F := Ideal) x7 x8) x6) x3 x4 y := by
  have hy := cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y
  unfold out0_A_11
  have e := (stores c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.1
  rw [e] at hy ⊢
  refine (View.read_writes_junk_apply_eq_canon VO0_11 y _).trans ((rowsL_canon (e := .bf16) _ _ (tR_rows _ _ (rd arg4 harg4 x3) (rd arg5 harg5 x4) (zT_rows arg1 harg1 x0 arg15 arg13 arg14 (k0_pay3 (F := Ideal) (rd arg2 harg2 x1) (rd arg3 harg3 x2)) (k0_pay4 (F := Ideal) (rd arg1 harg1 x0) (rd arg6 harg6 x5)) (k0_pay5 (F := Ideal) (rd arg8 harg8 x7) (rd arg9 harg9 x8)) (rd arg7 harg7 x6))) y hy).trans ?_)
  simp only [rd_eq]

theorem out12_at (y : S512x1024.Idx) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y = gB (k0_pay4 (F := Ideal) x0 x5) x6 y := by
  unfold out0_A_12
  rw [(stores c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.2.1]
  refine (View.read_writes_junk_apply_eq_canon VO0_12 y _).trans ((gL_canon arg13.view (k0_pay4 (F := Ideal) (rd arg1 harg1 x0) (rd arg6 harg6 x5)) (rd arg7 harg7 x6) y).trans ?_)
  simp only [rd_eq]

theorem out13_at (y : S512x1024.Idx) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y = k0_pay5 (F := Ideal) x7 x8 y := by
  unfold out0_A_13
  rw [(stores c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.2.2]
  refine (View.read_writes_junk_apply_eq_canon VO0_13 y _).trans ((congrFun (View.canon_cons_unit_zero Mat.zeros2 _ _ _) y).trans ?_)
  simp only [rd_eq]

end Run

/-! ## The products -/

theorem pay3_at (a : Vec Ideal S512x2816 .bf16) (w : Vec Ideal S2816x1024 .bf16) (r : Fin 512) (j : Fin 1024) :
    k0_pay3 (F := Ideal) a w (ix2 r j) = ∑ k : Fin 2816, a (ix2 r k) * w (ix2 k j) := by
  unfold k0_pay3
  pointwise

theorem pay4_at (a : Vec Ideal S512x1024 .f32) (w : Vec Ideal S1024x1024 .bf16) (r : Fin 512) (j : Fin 1024) :
    k0_pay4 (F := Ideal) a w (ix2 r j) = ∑ k : Fin 1024, a (ix2 r k) * w (ix2 k j) := by
  unfold k0_pay4
  pointwise

theorem pay5_at (a : Vec Ideal S512x256 .bf16) (w : Vec Ideal S256x1024 .bf16) (r : Fin 512) (j : Fin 1024) :
    k0_pay5 (F := Ideal) a w (ix2 r j) = ∑ k : Fin 256, a (ix2 r k) * w (ix2 k j) := by
  unfold k0_pay5
  pointwise

/-! ## The blocks -/

variable (m : (l : Loc nD τ sig) → Buf (Elt Ideal) l) (c : Dev nD) (t : Fin cfg0.N)

/-- The launch's arguments. -/
def J : LnRows.Args where
  res r j := (m ((c : Thread nD τ).loc main_arg0) : S4096x1024.Idx → EReal) (ix2 r j)
  acc := mm (m ((c : Thread nD τ).loc main_arg1) : S4096x2816.Idx → EReal) (m ((c : Thread nD τ).loc main_arg2) : S2816x1024.Idx → EReal)
  gin := mm (m ((c : Thread nD τ).loc main_arg0) : S4096x1024.Idx → EReal) (m ((c : Thread nD τ).loc main_arg5) : S1024x1024.Idx → EReal)
  bg j := (m ((c : Thread nD τ).loc main_arg6) : S1024.Idx → EReal) (ix1 j)
  proj := mm (m ((c : Thread nD τ).loc main_arg7) : S4096x256.Idx → EReal) (m ((c : Thread nD τ).loc main_arg8) : S256x1024.Idx → EReal)
  g j := (m ((c : Thread nD τ).loc main_arg3) : S1024.Idx → EReal) (ix1 j)
  b j := (m ((c : Thread nD τ).loc main_arg4) : S1024.Idx → EReal) (ix1 j)

theorem pt_lt : t.val < 8 := by have h := t.isLt; have hN : cfg0.N = 8 := N_0; omega

/-- A row of a point's block, in the array. -/
def row (r : Fin 512) : Fin 4096 := ⟨512 * t.val + r.val, by have := pt_lt t; omega⟩

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = t.val ∧ win0_1.index t (1 : Fin 2) = 0 :=
  (by decide +kernel : ∀ t : Fin grid0.N, _)
theorem place2 : ∀ t : Fin cfg0.N, win0_2.index t (0 : Fin 2) = 0 ∧ win0_2.index t (1 : Fin 2) = 0 :=
  (by decide +kernel : ∀ t : Fin grid0.N, _)
theorem place3 : ∀ t : Fin cfg0.N, win0_3.index t (0 : Fin 2) = 0 ∧ win0_3.index t (1 : Fin 2) = 0 :=
  (by decide +kernel : ∀ t : Fin grid0.N, _)
theorem place4 : ∀ t : Fin cfg0.N, win0_4.index t (0 : Fin 2) = 0 ∧ win0_4.index t (1 : Fin 2) = 0 :=
  (by decide +kernel : ∀ t : Fin grid0.N, _)
theorem place5 : ∀ t : Fin cfg0.N, win0_5.index t (0 : Fin 2) = 0 ∧ win0_5.index t (1 : Fin 2) = 0 :=
  (by decide +kernel : ∀ t : Fin grid0.N, _)
theorem place6 : ∀ t : Fin cfg0.N, win0_6.index t (0 : Fin 2) = 0 ∧ win0_6.index t (1 : Fin 2) = 0 :=
  (by decide +kernel : ∀ t : Fin grid0.N, _)
theorem place7 : ∀ t : Fin cfg0.N, win0_7.index t (0 : Fin 2) = t.val ∧ win0_7.index t (1 : Fin 2) = 0 :=
  (by decide +kernel : ∀ t : Fin grid0.N, _)
theorem place8 : ∀ t : Fin cfg0.N, win0_8.index t (0 : Fin 2) = 0 ∧ win0_8.index t (1 : Fin 2) = 0 :=
  (by decide +kernel : ∀ t : Fin grid0.N, _)
theorem place9 : ∀ t : Fin cfg0.N, win0_9.index t (0 : Fin 2) = t.val ∧ win0_9.index t (1 : Fin 2) = 0 :=
  (by decide +kernel : ∀ t : Fin grid0.N, _)
theorem place10 : ∀ t : Fin cfg0.N, win0_10.index t (0 : Fin 2) = t.val ∧ win0_10.index t (1 : Fin 2) = 0 :=
  (by decide +kernel : ∀ t : Fin grid0.N, _)
theorem place11 : ∀ t : Fin cfg0.N, win0_11.index t (0 : Fin 2) = t.val ∧ win0_11.index t (1 : Fin 2) = 0 :=
  (by decide +kernel : ∀ t : Fin grid0.N, _)
theorem place12 : ∀ t : Fin cfg0.N, win0_12.index t (0 : Fin 2) = t.val ∧ win0_12.index t (1 : Fin 2) = 0 :=
  (by decide +kernel : ∀ t : Fin grid0.N, _)
theorem place13 : ∀ t : Fin cfg0.N, win0_13.index t (0 : Fin 2) = t.val ∧ win0_13.index t (1 : Fin 2) = 0 :=
  (by decide +kernel : ∀ t : Fin grid0.N, _)

theorem main_v0_at (j : Fin 1024) : (V m c main_v0 : S1x1024.Idx → EReal) (ix2 0 j) = (J m c).g j := by
  rw [show (V m c main_v0 : S1x1024.Idx → EReal) = shapeCast S1x1024 (m ((c : Thread nD τ).loc main_arg3) : S1024.Idx → EReal) shapeCasts_S1024_S1x1024 by sl_kernel_rfl]
  pointwise
  rfl

theorem main_v1_at (j : Fin 1024) : (V m c main_v1 : S1x1024.Idx → EReal) (ix2 0 j) = (J m c).b j := by
  rw [show (V m c main_v1 : S1x1024.Idx → EReal) = shapeCast S1x1024 (m ((c : Thread nD τ).loc main_arg4) : S1024.Idx → EReal) shapeCasts_S1024_S1x1024 by sl_kernel_rfl]
  pointwise
  rfl

theorem main_v2_at (j : Fin 1024) : (V m c main_v2 : S1x1024.Idx → EReal) (ix2 0 j) = (J m c).bg j := by
  rw [show (V m c main_v2 : S1x1024.Idx → EReal) = shapeCast S1x1024 (m ((c : Thread nD τ).loc main_arg6) : S1024.Idx → EReal) shapeCasts_S1024_S1x1024 by sl_kernel_rfl]
  pointwise
  rfl

theorem iblk0_at (r : Fin 512) (k : Fin 1024) :
    (iblk m c 0 t : S512x1024.Idx → EReal) (ix2 r k) = (m ((c : Thread nD τ).loc main_arg0) : S4096x1024.Idx → EReal) (ix2 (row t r) k) :=
  (congrFun (V_main_arg0 m c) _).trans (congrArg (m ((c : Thread nD τ).loc main_arg0) : S4096x1024.Idx → EReal)
    (eta2 (((cfg0.win 0).blk t).view.emb (ix2 r k : S512x1024.Idx) : S4096x1024.Idx) (row t r) k
      (show win0_0.index t (0 : Fin 2) * 512 + 1 * r.val = 512 * t.val + r.val by rw [(place0 t).1]; omega)
      (show win0_0.index t (1 : Fin 2) * 1024 + 1 * k.val = k.val by rw [(place0 t).2]; omega)))

theorem iblk1_at (r : Fin 512) (k : Fin 2816) :
    (iblk m c 1 t : S512x2816.Idx → EReal) (ix2 r k) = (m ((c : Thread nD τ).loc main_arg1) : S4096x2816.Idx → EReal) (ix2 (row t r) k) :=
  (congrFun (V_main_arg1 m c) _).trans (congrArg (m ((c : Thread nD τ).loc main_arg1) : S4096x2816.Idx → EReal)
    (eta2 (((cfg0.win 1).blk t).view.emb (ix2 r k : S512x2816.Idx) : S4096x2816.Idx) (row t r) k
      (show win0_1.index t (0 : Fin 2) * 512 + 1 * r.val = 512 * t.val + r.val by rw [(place1 t).1]; omega)
      (show win0_1.index t (1 : Fin 2) * 2816 + 1 * k.val = k.val by rw [(place1 t).2]; omega)))

theorem iblk2_at (r : Fin 2816) (k : Fin 1024) :
    (iblk m c 2 t : S2816x1024.Idx → EReal) (ix2 r k) = (m ((c : Thread nD τ).loc main_arg2) : S2816x1024.Idx → EReal) (ix2 r k) :=
  (congrFun (V_main_arg2 m c) _).trans (congrArg (m ((c : Thread nD τ).loc main_arg2) : S2816x1024.Idx → EReal)
    (eta2 (((cfg0.win 2).blk t).view.emb (ix2 r k : S2816x1024.Idx) : S2816x1024.Idx) r k
      (show win0_2.index t (0 : Fin 2) * 2816 + 1 * r.val = r.val by rw [(place2 t).1]; omega)
      (show win0_2.index t (1 : Fin 2) * 1024 + 1 * k.val = k.val by rw [(place2 t).2]; omega)))

theorem iblk3_at (j : Fin 1024) : (iblk m c 3 t : S1x1024.Idx → EReal) (ix2 0 j) = (J m c).g j :=
  (congrArg (V m c main_v0 : S1x1024.Idx → EReal) (eta2 (((cfg0.win 3).blk t).view.emb (ix2 0 j : S1x1024.Idx) : S1x1024.Idx) 0 j
    (show win0_3.index t (0 : Fin 2) * 1 + 1 * 0 = 0 by rw [(place3 t).1])
    (show win0_3.index t (1 : Fin 2) * 1024 + 1 * j.val = j.val by rw [(place3 t).2]; omega))).trans (main_v0_at m c j)

theorem iblk4_at (j : Fin 1024) : (iblk m c 4 t : S1x1024.Idx → EReal) (ix2 0 j) = (J m c).b j :=
  (congrArg (V m c main_v1 : S1x1024.Idx → EReal) (eta2 (((cfg0.win 4).blk t).view.emb (ix2 0 j : S1x1024.Idx) : S1x1024.Idx) 0 j
    (show win0_4.index t (0 : Fin 2) * 1 + 1 * 0 = 0 by rw [(place4 t).1])
    (show win0_4.index t (1 : Fin 2) * 1024 + 1 * j.val = j.val by rw [(place4 t).2]; omega))).trans (main_v1_at m c j)

theorem iblk5_at (r : Fin 1024) (k : Fin 1024) :
    (iblk m c 5 t : S1024x1024.Idx → EReal) (ix2 r k) = (m ((c : Thread nD τ).loc main_arg5) : S1024x1024.Idx → EReal) (ix2 r k) :=
  (congrFun (V_main_arg5 m c) _).trans (congrArg (m ((c : Thread nD τ).loc main_arg5) : S1024x1024.Idx → EReal)
    (eta2 (((cfg0.win 5).blk t).view.emb (ix2 r k : S1024x1024.Idx) : S1024x1024.Idx) r k
      (show win0_5.index t (0 : Fin 2) * 1024 + 1 * r.val = r.val by rw [(place5 t).1]; omega)
      (show win0_5.index t (1 : Fin 2) * 1024 + 1 * k.val = k.val by rw [(place5 t).2]; omega)))

theorem iblk6_at (j : Fin 1024) : (iblk m c 6 t : S1x1024.Idx → EReal) (ix2 0 j) = (J m c).bg j :=
  (congrArg (V m c main_v2 : S1x1024.Idx → EReal) (eta2 (((cfg0.win 6).blk t).view.emb (ix2 0 j : S1x1024.Idx) : S1x1024.Idx) 0 j
    (show win0_6.index t (0 : Fin 2) * 1 + 1 * 0 = 0 by rw [(place6 t).1])
    (show win0_6.index t (1 : Fin 2) * 1024 + 1 * j.val = j.val by rw [(place6 t).2]; omega))).trans (main_v2_at m c j)

theorem iblk7_at (r : Fin 512) (k : Fin 256) :
    (iblk m c 7 t : S512x256.Idx → EReal) (ix2 r k) = (m ((c : Thread nD τ).loc main_arg7) : S4096x256.Idx → EReal) (ix2 (row t r) k) :=
  (congrFun (V_main_arg7 m c) _).trans (congrArg (m ((c : Thread nD τ).loc main_arg7) : S4096x256.Idx → EReal)
    (eta2 (((cfg0.win 7).blk t).view.emb (ix2 r k : S512x256.Idx) : S4096x256.Idx) (row t r) k
      (show win0_7.index t (0 : Fin 2) * 512 + 1 * r.val = 512 * t.val + r.val by rw [(place7 t).1]; omega)
      (show win0_7.index t (1 : Fin 2) * 256 + 1 * k.val = k.val by rw [(place7 t).2]; omega)))

theorem iblk8_at (r : Fin 256) (k : Fin 1024) :
    (iblk m c 8 t : S256x1024.Idx → EReal) (ix2 r k) = (m ((c : Thread nD τ).loc main_arg8) : S256x1024.Idx → EReal) (ix2 r k) :=
  (congrFun (V_main_arg8 m c) _).trans (congrArg (m ((c : Thread nD τ).loc main_arg8) : S256x1024.Idx → EReal)
    (eta2 (((cfg0.win 8).blk t).view.emb (ix2 r k : S256x1024.Idx) : S256x1024.Idx) r k
      (show win0_8.index t (0 : Fin 2) * 256 + 1 * r.val = r.val by rw [(place8 t).1]; omega)
      (show win0_8.index t (1 : Fin 2) * 1024 + 1 * k.val = k.val by rw [(place8 t).2]; omega)))

variable (r : Fin 512) (j : Fin 1024)

theorem acc_at : k0_pay3 (F := Ideal) (iblk m c 1 t) (iblk m c 2 t) (ix2 r j) = (J m c).acc (row t r) j := by
  refine (pay3_at _ _ r j).trans (mm_ext _ _ _ _ _ fun k => ?_)
  rw [iblk1_at, iblk2_at]

theorem gin_at : k0_pay4 (F := Ideal) (iblk m c 0 t) (iblk m c 5 t) (ix2 r j) = (J m c).gin (row t r) j := by
  refine (pay4_at _ _ r j).trans (mm_ext _ _ _ _ _ fun k => ?_)
  rw [iblk0_at, iblk5_at]

theorem proj_at : k0_pay5 (F := Ideal) (iblk m c 7 t) (iblk m c 8 t) (ix2 r j) = (J m c).proj (row t r) j := by
  refine (pay5_at _ _ r j).trans (mm_ext _ _ _ _ _ fun k => ?_)
  rw [iblk7_at, iblk8_at]

theorem gate_at : gB (k0_pay4 (F := Ideal) (iblk m c 0 t) (iblk m c 5 t)) (iblk m c 6 t) (ix2 r j) = (J m c).gate (row t r) j :=
  congrArg₂ (fun e f => sg (e + f)) (gin_at m c t r j) (iblk6_at m c t j)

theorem z_at : (zB (iblk m c 0 t) (k0_pay3 (F := Ideal) (iblk m c 1 t) (iblk m c 2 t)) (k0_pay4 (F := Ideal) (iblk m c 0 t) (iblk m c 5 t)) (k0_pay5 (F := Ideal) (iblk m c 7 t) (iblk m c 8 t)) (iblk m c 6 t)) (ix2 r j) = (J m c).z (row t r) j :=
  congr (congrArg₂ (fun e f g => (Norm.alpha * e + f) + g) (iblk0_at m c t r j) (acc_at m c t r j))
    (congrArg₂ (· * ·) (gate_at m c t r j) (proj_at m c t r j))

theorem ln_at : lnB (zB (iblk m c 0 t) (k0_pay3 (F := Ideal) (iblk m c 1 t) (iblk m c 2 t)) (k0_pay4 (F := Ideal) (iblk m c 0 t) (iblk m c 5 t)) (k0_pay5 (F := Ideal) (iblk m c 7 t) (iblk m c 8 t)) (iblk m c 6 t)) (iblk m c 3 t) (iblk m c 4 t) (ix2 r j) = (J m c).ln (J m c).z (row t r) j :=
  congr (congrArg₂ (fun (e : Fin 1024 → EReal) f g => Norm.xh e j * f + g) (funext fun k => z_at m c t r k) (iblk3_at m c t j)) (iblk4_at m c t j)

/-! ## The arrays -/

/-- An entry of an array, by the point whose block holds it. -/
theorem holder (i : S4096x1024.Idx) : ∃ t : Fin cfg0.N, 512 * t.val ≤ (i 0).val ∧ (i 0).val < 512 * t.val + 512 := by
  have h0 : (i 0).val < 4096 := (i 0).isLt
  have hN : cfg0.N = 8 := N_0
  exact ⟨⟨(i 0).val / 512, by omega⟩, by dsimp only; omega, by dsimp only; omega⟩

theorem array9 : (dats m 0 c).arrAt 9 cfg0.N = arr (J m c).z := by
  refine (dats m 0 c).arrAt_eq_of_cover 9 _ (fun t _ => ?_) fun i => ?_
  · rw [flushed9_A]
    funext y
    refine at_block t.val (pt_lt t) _ (arr (J m c).z) (fun r j => (out9_at _ _ _ _ _ _ _ _ _ _ _ _ _ _ _ _ _ _ _ _ _ _ _ _ _ _ _ _ _ _ _ _ _ _ _ _ _ _ _ _ _ _).trans (z_at m c t r j))
      ((cfg0.win 9).xinj (grid0.coords t) y) (((cfg0.win 9).blk t).view.emb y) ?_ ?_
    · show win0_9.index t (0 : Fin 2) * 512 + 1 * (y 0).val = 512 * t.val + (y 0).val
      rw [(place9 t).1]
      omega
    · show win0_9.index t (1 : Fin 2) * 1024 + 1 * (y 1).val = (y 1).val
      rw [(place9 t).2]
      omega
  · obtain ⟨t, h0, h0'⟩ := holder i
    have h1 : (i 1).val < 1024 := (i 1).isLt
    refine ⟨t, flush0_9 _, ?_⟩
    obtain ⟨e0, e1⟩ := place9 t
    show i ∈ ((View.whole main_v3_0).slice (win0_9.rect t)).set
    rw [View.set_slice_whole, Rect.mem_set_unit]
    intro a
    match a with
    | ⟨0, _⟩ =>
      show win0_9.index _ (0 : Fin 2) * 512 ≤ (i 0).val ∧ (i 0).val < win0_9.index _ (0 : Fin 2) * 512 + 512
      rw [e0]
      omega
    | ⟨1, _⟩ =>
      show win0_9.index _ (1 : Fin 2) * 1024 ≤ (i 1).val ∧ (i 1).val < win0_9.index _ (1 : Fin 2) * 1024 + 1024
      rw [e1]
      omega

theorem array10 : (dats m 0 c).arrAt 10 cfg0.N = arr ((J m c).ln (J m c).z) := by
  refine (dats m 0 c).arrAt_eq_of_cover 10 _ (fun t _ => ?_) fun i => ?_
  · rw [flushed10_A]
    funext y
    refine at_block t.val (pt_lt t) _ (arr ((J m c).ln (J m c).z)) (fun r j => (out10_at _ _ _ _ _ _ _ _ _ _ _ _ _ _ _ _ _ _ _ _ _ _ _ _ _ _ _ _ _ _ _ _ _ _ _ _ _ _ _ _ _ _).trans (ln_at m c t r j))
      ((cfg0.win 10).xinj (grid0.coords t) y) (((cfg0.win 10).blk t).view.emb y) ?_ ?_
    · show win0_10.index t (0 : Fin 2) * 512 + 1 * (y 0).val = 512 * t.val + (y 0).val
      rw [(place10 t).1]
      omega
    · show win0_10.index t (1 : Fin 2) * 1024 + 1 * (y 1).val = (y 1).val
      rw [(place10 t).2]
      omega
  · obtain ⟨t, h0, h0'⟩ := holder i
    have h1 : (i 1).val < 1024 := (i 1).isLt
    refine ⟨t, flush0_10 _, ?_⟩
    obtain ⟨e0, e1⟩ := place10 t
    show i ∈ ((View.whole main_v3_1).slice (win0_10.rect t)).set
    rw [View.set_slice_whole, Rect.mem_set_unit]
    intro a
    match a with
    | ⟨0, _⟩ =>
      show win0_10.index _ (0 : Fin 2) * 512 ≤ (i 0).val ∧ (i 0).val < win0_10.index _ (0 : Fin 2) * 512 + 512
      rw [e0]
      omega
    | ⟨1, _⟩ =>
      show win0_10.index _ (1 : Fin 2) * 1024 ≤ (i 1).val ∧ (i 1).val < win0_10.index _ (1 : Fin 2) * 1024 + 1024
      rw [e1]
      omega

theorem array11 : (dats m 0 c).arrAt 11 cfg0.N = arr ((J m c).ln (J m c).z) := by
  refine (dats m 0 c).arrAt_eq_of_cover 11 _ (fun t _ => ?_) fun i => ?_
  · rw [flushed11_A]
    funext y
    refine at_block t.val (pt_lt t) _ (arr ((J m c).ln (J m c).z)) (fun r j => (out11_at _ _ _ _ _ _ _ _ _ _ _ _ _ _ _ _ _ _ _ _ _ _ _ _ _ _ _ _ _ _ _ _ _ _ _ _ _ _ _ _ _ _).trans (ln_at m c t r j))
      ((cfg0.win 11).xinj (grid0.coords t) y) (((cfg0.win 11).blk t).view.emb y) ?_ ?_
    · show win0_11.index t (0 : Fin 2) * 512 + 1 * (y 0).val = 512 * t.val + (y 0).val
      rw [(place11 t).1]
      omega
    · show win0_11.index t (1 : Fin 2) * 1024 + 1 * (y 1).val = (y 1).val
      rw [(place11 t).2]
      omega
  · obtain ⟨t, h0, h0'⟩ := holder i
    have h1 : (i 1).val < 1024 := (i 1).isLt
    refine ⟨t, flush0_11 _, ?_⟩
    obtain ⟨e0, e1⟩ := place11 t
    show i ∈ ((View.whole main_v3_2).slice (win0_11.rect t)).set
    rw [View.set_slice_whole, Rect.mem_set_unit]
    intro a
    match a with
    | ⟨0, _⟩ =>
      show win0_11.index _ (0 : Fin 2) * 512 ≤ (i 0).val ∧ (i 0).val < win0_11.index _ (0 : Fin 2) * 512 + 512
      rw [e0]
      omega
    | ⟨1, _⟩ =>
      show win0_11.index _ (1 : Fin 2) * 1024 ≤ (i 1).val ∧ (i 1).val < win0_11.index _ (1 : Fin 2) * 1024 + 1024
      rw [e1]
      omega

theorem array12 : (dats m 0 c).arrAt 12 cfg0.N = arr (J m c).gate := by
  refine (dats m 0 c).arrAt_eq_of_cover 12 _ (fun t _ => ?_) fun i => ?_
  · rw [flushed12_A]
    funext y
    refine at_block t.val (pt_lt t) _ (arr (J m c).gate) (fun r j => (out12_at _ _ _ _ _ _ _ _ _ _ _ _ _ _ _ _ _ _ _ _ _ _ _ _ _ _ _ _ _ _ _ _ _ _ _ _ _ _ _ _ _ _).trans (gate_at m c t r j))
      ((cfg0.win 12).xinj (grid0.coords t) y) (((cfg0.win 12).blk t).view.emb y) ?_ ?_
    · show win0_12.index t (0 : Fin 2) * 512 + 1 * (y 0).val = 512 * t.val + (y 0).val
      rw [(place12 t).1]
      omega
    · show win0_12.index t (1 : Fin 2) * 1024 + 1 * (y 1).val = (y 1).val
      rw [(place12 t).2]
      omega
  · obtain ⟨t, h0, h0'⟩ := holder i
    have h1 : (i 1).val < 1024 := (i 1).isLt
    refine ⟨t, flush0_12 _, ?_⟩
    obtain ⟨e0, e1⟩ := place12 t
    show i ∈ ((View.whole main_v3_3).slice (win0_12.rect t)).set
    rw [View.set_slice_whole, Rect.mem_set_unit]
    intro a
    match a with
    | ⟨0, _⟩ =>
      show win0_12.index _ (0 : Fin 2) * 512 ≤ (i 0).val ∧ (i 0).val < win0_12.index _ (0 : Fin 2) * 512 + 512
      rw [e0]
      omega
    | ⟨1, _⟩ =>
      show win0_12.index _ (1 : Fin 2) * 1024 ≤ (i 1).val ∧ (i 1).val < win0_12.index _ (1 : Fin 2) * 1024 + 1024
      rw [e1]
      omega

theorem array13 : (dats m 0 c).arrAt 13 cfg0.N = arr (J m c).proj := by
  refine (dats m 0 c).arrAt_eq_of_cover 13 _ (fun t _ => ?_) fun i => ?_
  · rw [flushed13_A]
    funext y
    refine at_block t.val (pt_lt t) _ (arr (J m c).proj) (fun r j => (out13_at _ _ _ _ _ _ _ _ _ _ _ _ _ _ _ _ _ _ _ _ _ _ _ _ _ _ _ _ _ _ _ _ _ _ _ _ _ _ _ _ _ _).trans (proj_at m c t r j))
      ((cfg0.win 13).xinj (grid0.coords t) y) (((cfg0.win 13).blk t).view.emb y) ?_ ?_
    · show win0_13.index t (0 : Fin 2) * 512 + 1 * (y 0).val = 512 * t.val + (y 0).val
      rw [(place13 t).1]
      omega
    · show win0_13.index t (1 : Fin 2) * 1024 + 1 * (y 1).val = (y 1).val
      rw [(place13 t).2]
      omega
  · obtain ⟨t, h0, h0'⟩ := holder i
    have h1 : (i 1).val < 1024 := (i 1).isLt
    refine ⟨t, flush0_13 _, ?_⟩
    obtain ⟨e0, e1⟩ := place13 t
    show i ∈ ((View.whole main_v3_4).slice (win0_13.rect t)).set
    rw [View.set_slice_whole, Rect.mem_set_unit]
    intro a
    match a with
    | ⟨0, _⟩ =>
      show win0_13.index _ (0 : Fin 2) * 512 ≤ (i 0).val ∧ (i 0).val < win0_13.index _ (0 : Fin 2) * 512 + 512
      rw [e0]
      omega
    | ⟨1, _⟩ =>
      show win0_13.index _ (1 : Fin 2) * 1024 ≤ (i 1).val ∧ (i 1).val < win0_13.index _ (1 : Fin 2) * 1024 + 1024
      rw [e1]
      omega

end Cert.Kernel20Ideal.ProjLn

namespace Cert.ProjLn20

open Idealize.ShloMosaic Idealize.ShloMosaic.StableHlo Idealize.SL.Sem

theorem facts_Kernel20 : Cert.Kernel20.Facts := by
  have h := Cert.Kernel20Ideal.Gen.facts₀
  cases h
  refine { toFacts₀ := ?_ }
  constructor <;> assumption

theorem frame_Kernel20 : Cert.quiescent_Kernel20 (hKernel20 := facts_Kernel20) := fun m g _ => by
  refine cast ?_ (Cert.Kernel20Ideal.Gen.frame (F := Bits) m g)
  sl_kernel_rfl

theorem frame_Kernel20Ideal : Cert.quiescent_Kernel20Ideal := fun m g _ => Cert.Kernel20Ideal.Gen.frame (F := Ideal) m g

theorem frame_Reference20Ideal : Cert.quiescent_Reference20Ideal := fun m g _ =>
  (θ_run _ _ _).mono (fun r h => ⟨fun c => (h c).2.2.2.2.2, Idealize.ShloMosaic.sem_eq_zero_of_no_sems (by decide) r.2⟩)
    (Cert.Reference20Ideal.Value.run m g)

theorem algebraic : Cert.algebraic_Kernel20Ideal_Reference20Ideal := by
  intro m g m' g' _ hagree
  refine ⟨fun c => LnRows.arr (Cert.Kernel20Ideal.ProjLn.J m c).z, fun c => LnRows.arr ((Cert.Kernel20Ideal.ProjLn.J m c).ln (Cert.Kernel20Ideal.ProjLn.J m c).z),
    fun c => LnRows.arr ((Cert.Kernel20Ideal.ProjLn.J m c).ln (Cert.Kernel20Ideal.ProjLn.J m c).z), fun c => LnRows.arr (Cert.Kernel20Ideal.ProjLn.J m c).gate,
    fun c => LnRows.arr (Cert.Kernel20Ideal.ProjLn.J m c).proj, ?_, ?_⟩
  · refine (θ_run _ _ _).mono (fun r h c => ?_) (Cert.Kernel20Ideal.Value.run_blocks m g)
    obtain ⟨h0, h1, h2, h3, h4, k⟩ := h c
    exact ⟨h0.trans (Cert.Kernel20Ideal.ProjLn.array9 m c), h1.trans (Cert.Kernel20Ideal.ProjLn.array10 m c), h2.trans (Cert.Kernel20Ideal.ProjLn.array11 m c),
      h3.trans (Cert.Kernel20Ideal.ProjLn.array12 m c), h4.trans (Cert.Kernel20Ideal.ProjLn.array13 m c), k⟩
  · refine (θ_run _ _ _).mono (fun r h c => ?_) (Cert.Reference20Ideal.Value.run m' g')
    obtain ⟨h0, h1, h2, h3, h4, k⟩ := h c
    obtain ⟨a0, a1, a2, a3, a4, a5, a6, a7, a8⟩ := hagree c
    have e0 := h0.trans (Cert.Reference20Ideal.Read.val_main_v21_eq _ _ _ _ _ _ _)
    have e1 := h1.trans (Cert.Reference20Ideal.Read.val_main_v45_eq m' c)
    have e2 := h2.trans (Cert.Reference20Ideal.Read.val_main_v46_eq m' c)
    have e3 := h3.trans (Cert.Reference20Ideal.Read.val_main_v10_eq _ _ _)
    have e4 := h4.trans (Cert.Reference20Ideal.Read.val_main_v13_eq _ _)
    rw [a0, a1, a2, a5, a6, a7, a8] at e0
    rw [a0, a1, a2, a3, a4, a5, a6, a7, a8] at e1 e2
    rw [a0, a5, a6] at e3
    rw [a7, a8] at e4
    exact ⟨e0.trans (funext fun i => Cert.Reference20Ideal.ProjLn.z_at _ _ _ (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) _ _ _ _ i),
      e1.trans (funext fun i => Cert.Reference20Ideal.ProjLn.ln_at _ _ _ _ _ _ _ _ _ i), e2.trans (funext fun i => Cert.Reference20Ideal.ProjLn.lnb_at _ _ _ _ _ _ _ _ _ i),
      e3.trans (funext fun i => Cert.Reference20Ideal.ProjLn.gate_at _ (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) _ _ (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8)) i),
      e4.trans (funext fun i => Cert.Reference20Ideal.ProjLn.proj_at (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) _ _ i), k⟩

end Cert.ProjLn20

end
-- ==== Proof.Wgrad21.lean ====
/-
  The gradient of the up-projection's gate half, written above what the array holds below.
-/
module

public import proofs.«01_k».proof.Defs
public import proofs.«01_k».proof.Proof.Wgrad3
public import proofs.«01_k».proof.Proof.Gen.Kernel21Ideal.Value
public import proofs.«01_k».proof.Proof.Gen.Reference21Ideal.Run
public import proofs.«01_k».proof.Proof.Gen.Reference21Ideal.Read
public import Idealize.ShloMosaic.Lib.Quiescent
public import Idealize.ShloMosaic.Lib.Tactic

@[expose] public section

set_option maxRecDepth 16384

noncomputable section

namespace Cert.Kernel21Ideal.Wgrad

open Cert.Kernel21Ideal Cert.Kernel21Ideal.Gen Cert.Kernel21Ideal.Value Idealize.ShloMosaic Idealize.ShloMosaic.TcCoe

/-- Columns against columns, above what was there. -/
def prod (a : S4096x2816.Idx → EReal) (b : S4096x1024.Idx → EReal) (u : S5632x1024.Idx → EReal) (i : S5632x1024.Idx) : EReal :=
  if h : (i 0).val < 2816 then Kernel4Ideal.Wgrad.prod a b (ix2 (⟨(i 0).val, h⟩ : Fin 2816) (⟨(i 1).val, (i 1).isLt⟩ : Fin 1024))
  else u i

theorem prod_below {a : S4096x2816.Idx → EReal} {b : S4096x1024.Idx → EReal} {u : S5632x1024.Idx → EReal} {i : S5632x1024.Idx} (h : ¬(i 0).val < 2816) :
    prod a b u i = u i := dif_neg h

theorem prod_above {a : S4096x2816.Idx → EReal} {b : S4096x1024.Idx → EReal} {u : S5632x1024.Idx → EReal} {i : S5632x1024.Idx} (r : Fin 2816)
    (h : (i 0).val = r.val) : prod a b u i = Kernel4Ideal.Wgrad.prod a b (ix2 r (⟨(i 1).val, (i 1).isLt⟩ : Fin 1024)) :=
  (dif_pos (h ▸ r.isLt)).trans (congrArg (fun q : Fin 2816 => Kernel4Ideal.Wgrad.prod a b (ix2 q (⟨(i 1).val, (i 1).isLt⟩ : Fin 1024))) (Fin.ext h))

section Run

variable (c : Dev nD) (i : grid0.Coords)
  (arg3 : Memref sig .tc .vmem S2048x1408 .bf16) (harg3 : arg3.IsWhole) (arg4 : Memref sig .tc .vmem S2048x1024 .bf16) (harg4 : arg4.IsWhole)
  (arg6 : Memref sig .tc .vmem S1408x1024 .bf16) (harg6 : arg6.IsWhole) (arg7 : Memref sig .tc .vmem S1408x1024 .f32) (harg7 : arg7.IsWhole)
  (x0 : Vec Ideal S2048x1408 .bf16) (x1 : Vec Ideal S2048x1024 .bf16)

theorem first_val (hc0 : cond0_0 i) (hc1 : ¬cond0_1 i) :
    sout0_A_0 (F := Ideal) c i arg3 harg3 arg4 harg4 arg6 harg6 arg7 harg7 hc0 hc1 x0 x1 = k0_pay2 (F := Ideal) (k0_pay1 (F := Ideal)) x0 x1 := by
  refine cast ?_ (Kernel3Ideal.Wgrad.first_val c i arg3 harg3 arg4 harg4 arg6 harg6 arg7 harg7 x0 x1 hc0 hc1)
  sl_kernel_rfl

theorem last_val (hc0 : ¬cond0_0 i) (hc1 : cond0_1 i) (a : Vec Ideal S1408x1024 .f32) :
    out0_B_2 (F := Ideal) c i arg3 harg3 arg4 harg4 arg6 harg6 arg7 harg7 hc0 hc1 x0 x1 a = k0_pay3 (F := Ideal) (k0_pay2 (F := Ideal) a x0 x1) := by
  refine cast ?_ (Kernel3Ideal.Wgrad.last_val c i arg3 harg3 arg4 harg4 arg6 harg6 arg7 harg7 x0 x1 hc0 hc1 a)
  sl_kernel_rfl

end Run

variable (m : (l : Loc nD τ sig) → Buf (Elt Ideal) l) (c : Dev nD) (t : Fin cfg0.N)

theorem place0 : ∀ t : Fin cfg0.N, win0_0.index t (0 : Fin 2) = t.val % 2 ∧ win0_0.index t (1 : Fin 2) = t.val / 2 :=
  (by decide +kernel : ∀ t : Fin grid0.N, _)
theorem place1 : ∀ t : Fin cfg0.N, win0_1.index t (0 : Fin 2) = t.val % 2 ∧ win0_1.index t (1 : Fin 2) = 0 :=
  (by decide +kernel : ∀ t : Fin grid0.N, _)
theorem place2 : ∀ t : Fin cfg0.N, win0_2.index t (0 : Fin 2) = t.val / 2 ∧ win0_2.index t (1 : Fin 2) = 0 :=
  (by decide +kernel : ∀ t : Fin grid0.N, _)

/-- A row of a point's half, in the array. -/
def row (k : Fin 2048) : Fin 4096 := ⟨2048 * (t.val % 2) + k.val, by omega⟩

/-- A column of a point's block, in the array. -/
def col (r : Fin 1408) : Fin 2816 := ⟨1408 * (t.val / 2) + r.val, by have := t.isLt; have hN : cfg0.N = 4 := N_0; omega⟩

theorem iblk0_at (k : Fin 2048) (r : Fin 1408) :
    (iblk m c 0 t : S2048x1408.Idx → EReal) (ix2 k r) = (m ((c : Thread nD τ).loc main_arg0) : S4096x2816.Idx → EReal) (ix2 (row t k) (col t r)) := by
  obtain ⟨e0, e1⟩ := place0 t
  have hi : (((cfg0.win 0).blk t).view.emb (ix2 k r : S2048x1408.Idx) : S4096x2816.Idx) = ix2 (row t k) (col t r) := by
    funext a
    match a with
    | ⟨0, _⟩ => exact Fin.ext (show win0_0.index t (0 : Fin 2) * 2048 + 1 * k.val = 2048 * (t.val % 2) + k.val by rw [e0]; omega)
    | ⟨1, _⟩ => exact Fin.ext (show win0_0.index t (1 : Fin 2) * 1408 + 1 * r.val = 1408 * (t.val / 2) + r.val by rw [e1]; omega)
  exact (congrFun (V_main_arg0 m c) _).trans (congrArg (m ((c : Thread nD τ).loc main_arg0) : S4096x2816.Idx → EReal) hi)

theorem iblk1_at (k : Fin 2048) (j : Fin 1024) :
    (iblk m c 1 t : S2048x1024.Idx → EReal) (ix2 k j) = (m ((c : Thread nD τ).loc main_arg1) : S4096x1024.Idx → EReal) (ix2 (row t k) j) := by
  obtain ⟨e0, e1⟩ := place1 t
  have hi : (((cfg0.win 1).blk t).view.emb (ix2 k j : S2048x1024.Idx) : S4096x1024.Idx) = ix2 (row t k) j := by
    funext a
    match a with
    | ⟨0, _⟩ => exact Fin.ext (show win0_1.index t (0 : Fin 2) * 2048 + 1 * k.val = 2048 * (t.val % 2) + k.val by rw [e0]; omega)
    | ⟨1, _⟩ => exact Fin.ext (show win0_1.index t (1 : Fin 2) * 1024 + 1 * j.val = j.val by rw [e1]; omega)
  exact (congrFun (V_main_arg1 m c) _).trans (congrArg (m ((c : Thread nD τ).loc main_arg1) : S4096x1024.Idx → EReal) hi)

/-- The product of the launch's arguments, above the third's half. -/
def G : S5632x1024.Idx → EReal :=
  prod (m ((c : Thread nD τ).loc main_arg0)) (m ((c : Thread nD τ).loc main_arg1)) (m ((c : Thread nD τ).loc main_arg2))

/-- What the second point of a pair writes, by the pair's halves. -/
theorem pair_at (s : Fin cfg0.N) (h0 : s.val % 2 = 0) (hs : t.val = s.val + 1) (r : Fin 1408) (j : Fin 1024) :
    k0_pay3 (F := Ideal) (k0_pay2 (F := Ideal) (k0_pay2 (F := Ideal) (k0_pay1 (F := Ideal)) (iblk m c 0 s) (iblk m c 1 s)) (iblk m c 0 t) (iblk m c 1 t)) (ix2 r j)
      = Kernel4Ideal.Wgrad.prod (m ((c : Thread nD τ).loc main_arg0)) (m ((c : Thread nD τ).loc main_arg1)) (ix2 (col t r) j) := by
  refine (Kernel4Ideal.Wgrad.pay2_at _ _ _ r j).trans ((congrArg (· + _) ((Kernel4Ideal.Wgrad.pay2_at _ _ _ r j).trans
    (congrArg (· + _) (Kernel4Ideal.Wgrad.pay1_at r j)))).trans ?_)
  unfold Kernel4Ideal.Wgrad.prod
  rw [← Mat.sum_halves]
  refine congrArg₂ (· + ·) (congrArg (0 + ·) (Mat.sum_ext fun k => ?_)) (Mat.sum_ext fun k => ?_)
  · rw [iblk0_at, iblk1_at]
    have hr : row s k = ⟨k.val, by omega⟩ := Fin.ext (show 2048 * (s.val % 2) + k.val = k.val by omega)
    have hc : col s r = col t r := Fin.ext (show 1408 * (s.val / 2) + r.val = 1408 * (t.val / 2) + r.val by omega)
    rw [hr, hc]
    rfl
  · rw [iblk0_at, iblk1_at]
    have hr : row t k = ⟨2048 + k.val, by omega⟩ := Fin.ext (show 2048 * (t.val % 2) + k.val = 2048 + k.val by omega)
    rw [hr]
    rfl

theorem flushed_eq (h1 : t.val % 2 = 1) : (dats m 0 c).flushed 2 t = ((cfg0.win 2).blk t).view.read (Elt Ideal) (G m c) := by
  have h0 : ¬t.val % 2 = 0 := by omega
  have hs : t.val - 1 < cfg0.N := Nat.lt_of_le_of_lt (Nat.sub_le _ _) t.isLt
  have hs0 : (⟨t.val - 1, hs⟩ : Fin cfg0.N).val % 2 = 0 := show (t.val - 1) % 2 = 0 by omega
  rw [flushed2_B m c t h0 h1, last_val, outsAt0_A m c ⟨t.val - 1, hs⟩ hs0 (by omega), first_val]
  obtain ⟨e0, e1⟩ := place2 t
  funext y
  have hy0 : (y 0).val < 1408 := (y 0).isLt
  have hy1 : (y 1).val < 1024 := (y 1).isLt
  have hy : ((cfg0.win 2).xinj (grid0.coords t) y : S1408x1024.Idx) = ix2 (⟨(y 0).val, hy0⟩ : Fin 1408) (⟨(y 1).val, hy1⟩ : Fin 1024) := by
    funext a
    match a with
    | ⟨0, _⟩ => rfl
    | ⟨1, _⟩ => rfl
  refine (congrArg (k0_pay3 (F := Ideal) _) hy).trans ((pair_at m c t ⟨t.val - 1, hs⟩ hs0 (show t.val = t.val - 1 + 1 by omega) _ _).trans ?_)
  have z0 : ((((cfg0.win 2).blk t).view.emb y : S5632x1024.Idx) 0).val = 1408 * (t.val / 2) + (y 0).val :=
    show win0_2.index t (0 : Fin 2) * 1408 + 1 * (y 0).val = _ by rw [e0]; omega
  have z1 : ((((cfg0.win 2).blk t).view.emb y : S5632x1024.Idx) 1).val = (y 1).val :=
    show win0_2.index t (1 : Fin 2) * 1024 + 1 * (y 1).val = _ by rw [e1]; omega
  refine Eq.trans ?_ (prod_above (i := (((cfg0.win 2).blk t).view.emb y : S5632x1024.Idx)) (col t ⟨(y 0).val, hy0⟩) z0).symm
  exact congrArg (fun j : Fin 1024 => Kernel4Ideal.Wgrad.prod _ _ (ix2 (col t ⟨(y 0).val, hy0⟩) j)) (Fin.ext z1.symm)

theorem mem_rows (t : Fin cfg0.N) (i : S5632x1024.Idx) :
    i ∈ ((cfg0.win 2).blk t).view.set ↔ t.val / 2 * 1408 ≤ (i 0).val ∧ (i 0).val < t.val / 2 * 1408 + 1408 := by
  have h1 : (i 1).val < 1024 := (i 1).isLt
  obtain ⟨e0, e1⟩ := place2 t
  show i ∈ ((View.whole main_v0).slice (win0_2.rect t)).set ↔ _
  rw [View.set_slice_whole, Rect.mem_set_unit]
  constructor
  · intro h
    have h0 : win0_2.index t (0 : Fin 2) * 1408 ≤ (i 0).val ∧ (i 0).val < win0_2.index t (0 : Fin 2) * 1408 + 1408 := h 0
    rwa [e0] at h0
  · intro h a
    match a with
    | ⟨0, _⟩ =>
      show win0_2.index t (0 : Fin 2) * 1408 ≤ (i 0).val ∧ (i 0).val < win0_2.index t (0 : Fin 2) * 1408 + 1408
      rwa [e0]
    | ⟨1, _⟩ =>
      show win0_2.index t (1 : Fin 2) * 1024 ≤ (i 1).val ∧ (i 1).val < win0_2.index t (1 : Fin 2) * 1024 + 1024
      rw [e1, Nat.zero_mul, Nat.zero_add]
      exact ⟨Nat.zero_le _, h1⟩

theorem V0_term : (V m c main_v0 : S5632x1024.Idx → EReal) = m ((c : Thread nD τ).loc main_arg2) := by
  sl_kernel_rfl

theorem array_eq : (dats m 0 c).arrAt 2 cfg0.N = G m c := by
  funext i
  have hN : cfg0.N = 4 := N_0
  have h0 : (i 0).val < 5632 := (i 0).isLt
  by_cases h : (i 0).val < 2816
  · have ht : 2 * ((i 0).val / 1408) + 1 < cfg0.N := by omega
    refine (dats m 0 c).arrAt_apply_of_mem 2 (G m c) (fun t hf => flushed_eq m c t ((flush0_2 t).mp hf)) cfg0.N
      ⟨2 * ((i 0).val / 1408) + 1, ht⟩ i ht ((flush0_2 _).mpr (show (2 * ((i 0).val / 1408) + 1) % 2 = 1 by omega)) ((mem_rows _ i).mpr ?_)
    show (2 * ((i 0).val / 1408) + 1) / 2 * 1408 ≤ (i 0).val ∧ (i 0).val < (2 * ((i 0).val / 1408) + 1) / 2 * 1408 + 1408
    omega
  · refine (entry2 m c i fun t _ hm => ?_).trans ((congrFun (V0_term m c) i).trans (prod_below h).symm)
    have := (mem_rows t i).mp hm
    have := t.isLt
    omega

end Cert.Kernel21Ideal.Wgrad

namespace Cert.Wgrad21

open Idealize.ShloMosaic Idealize.ShloMosaic.StableHlo Idealize.SL.Sem

section Ref

variable (a : FVec Ideal Cert.Reference21Ideal.S4096x2816 .bf16) (b : FVec Ideal Cert.Reference21Ideal.S4096x1024 .bf16)
  (u : FVec Ideal Cert.Reference21Ideal.S5632x1024 .bf16)

theorem new_eq : Cert.Reference21Ideal.Read.val_main_v7 (F := Ideal) a b = Cert.Kernel4Ideal.Wgrad.prod a b := by
  funext i
  refine (Cert.Reference21Ideal.Read.val_main_v7_apply (F := Ideal) a b i).trans ?_
  refine (Cert.Reference21Ideal.Read.val_main_v6_apply (F := Ideal) a b _).trans ?_
  refine (Cert.Reference21Ideal.Read.val_main_v5_apply (F := Ideal) a b _).trans ?_
  refine (Cert.Reference21Ideal.Read.val_main_v4_apply a b _).trans (Finset.sum_congr rfl fun k _ => ?_)
  rw [Cert.Reference21Ideal.Read.val_main_v3_apply, Cert.Reference21Ideal.Read.val_main_v1_apply]
  refine congrArg₂ (· * ·) (congrArg a ?_) (congrArg b ?_)
  · funext x
    match x with
    | ⟨0, _⟩ => rfl
    | ⟨1, _⟩ => rfl
  · funext x
    match x with
    | ⟨0, _⟩ => rfl
    | ⟨1, _⟩ => rfl

theorem ref_eq : Cert.Reference21Ideal.Read.val_main_v9 (F := Ideal) a b u = Cert.Kernel21Ideal.Wgrad.prod a b u := by
  funext i
  have h0 : (i 0).val < 5632 := (i 0).isLt
  unfold Cert.Reference21Ideal.Read.val_main_v9
  by_cases h : (i 0).val < 2816
  · refine (concatenate_pair_apply_left (s₁ := Cert.Reference21Ideal.S2816x1024) (s₂ := Cert.Reference21Ideal.S2816x1024) 0 _ _ _ i rfl
      (ix2 (⟨(i 0).val, h⟩ : Fin 2816) (⟨(i 1).val, (i 1).isLt⟩ : Fin 1024)) fun b => ?_).trans
        (Eq.trans ?_ (Cert.Kernel21Ideal.Wgrad.prod_above ⟨(i 0).val, h⟩ rfl).symm)
    · match b with
      | ⟨0, _⟩ => rfl
      | ⟨1, _⟩ => rfl
    · exact congrFun (new_eq a b) _
  · refine (concatenate_pair_apply_right (s₁ := Cert.Reference21Ideal.S2816x1024) (s₂ := Cert.Reference21Ideal.S2816x1024) 0 _ _ _ i rfl rfl
      (ix2 (⟨(i 0).val - 2816, by omega⟩ : Fin 2816) (⟨(i 1).val, (i 1).isLt⟩ : Fin 1024)) (fun b hb => ?_) ?_).trans
        (Eq.trans ?_ (Cert.Kernel21Ideal.Wgrad.prod_below h).symm)
    · match b with
      | ⟨0, _⟩ => exact absurd rfl hb
      | ⟨1, _⟩ => rfl
    · show (i 0).val - 2816 + 2816 = (i 0).val
      omega
    · rw [Cert.Reference21Ideal.Read.val_main_v8_apply]
      refine congrArg u (funext fun x => ?_)
      match x with
      | ⟨0, _⟩ => exact Fin.ext (show 2816 + ((i 0).val - 2816) = (i 0).val by omega)
      | ⟨1, _⟩ => rfl

end Ref

theorem facts_Kernel21 : Cert.Kernel21.Facts := by
  have h := Cert.Kernel21Ideal.Gen.facts₀
  cases h
  refine { toFacts₀ := ?_ }
  constructor <;> assumption

theorem frame_Kernel21 : Cert.quiescent_Kernel21 (hKernel21 := facts_Kernel21) := fun m g _ => by
  refine cast ?_ (Cert.Kernel21Ideal.Gen.frame (F := Bits) m g)
  sl_kernel_rfl

theorem frame_Kernel21Ideal : Cert.quiescent_Kernel21Ideal := fun m g _ => Cert.Kernel21Ideal.Gen.frame (F := Ideal) m g

theorem frame_Reference21Ideal : Cert.quiescent_Reference21Ideal := fun m g _ =>
  (θ_run _ _ _).mono (fun r h => ⟨fun c => (h c).2, Idealize.ShloMosaic.sem_eq_zero_of_no_sems (by decide) r.2⟩)
    (Cert.Reference21Ideal.Value.run m g)

theorem algebraic : Cert.algebraic_Kernel21Ideal_Reference21Ideal := by
  intro m g m' g' _ hagree
  refine ⟨fun c => Cert.Kernel21Ideal.Wgrad.G m c, ?_, ?_⟩
  · exact (θ_run _ _ _).mono (fun r h c => ⟨(h c).1.trans (Cert.Kernel21Ideal.Wgrad.array_eq m c), (h c).2⟩) (Cert.Kernel21Ideal.Value.run_blocks m g)
  · refine (θ_run _ _ _).mono (fun r h c => ⟨?_, (h c).2⟩) (Cert.Reference21Ideal.Value.run m' g')
    obtain ⟨a0, a1, a2⟩ := hagree c
    refine (h c).1.trans ((Cert.Reference21Ideal.Read.val_main_v9_eq _ _ _).trans ((ref_eq _ _ _).trans ?_))
    show Cert.Kernel21Ideal.Wgrad.prod _ _ _ = Cert.Kernel21Ideal.Wgrad.prod _ _ _
    rw [a0, a1, a2]

end Cert.Wgrad21

end
-- ==== Proof.HostBias.lean ====
/-
  The bias blocks that the kernel's caller builds: an entry is the bias of the pair's distance, −∞ where the key is not
  seen.
-/
module

public import proofs.«01_k».proof.Proof.RefMask
public import proofs.«01_k».proof.Proof.Gen.KernelIdeal.Frame
public import Idealize.ShloMosaic.Lib.Tactic

@[expose] public section

set_option maxRecDepth 16384

noncomputable section

namespace Cert.KernelIdeal.Attn

open Cert.KernelIdeal Cert.KernelIdeal.Gen Idealize.ShloMosaic Cert.Attn Idealize.ShloMosaic.TcCoe

/-- The printed remainder by 64. -/
def fmod (x : BitVec 32) : BitVec 32 :=
  let d := Scalar.select (IntOp.cmpi .eq 64#32 0#32) 1#32 64#32
  let y := IntOp.remsi .host x d
  Scalar.select (IntOp.andi (IntOp.cmpi .ne (IntOp.cmpi .slt y 0#32) (IntOp.cmpi .slt d 0#32)) (IntOp.cmpi .ne y 0#32)) (IntOp.addi y d) y

theorem fmod_word : ∀ q : Fin 256, fmod (BitVec.ofNat 32 q.val) = BitVec.ofNat 32 (q.val % 64) := by decide +kernel

/-- The printed test of a key's place against the first and the last a query sees. -/
def seenw (q k : BitVec 32) : BitVec 1 :=
  IntOp.andi (IntOp.cmpi .sge k (IntOp.subi q (fmod q))) (IntOp.cmpi .slt k (IntOp.addi (IntOp.subi q (fmod q)) 576#32))

theorem seenw_block : ∀ (j : Fin 4) (k : Fin 768),
    IntOp.andi (IntOp.cmpi .sge (BitVec.ofNat 32 k.val) (BitVec.ofNat 32 (64 * j.val))) (IntOp.cmpi .slt (BitVec.ofNat 32 k.val) (IntOp.addi (BitVec.ofNat 32 (64 * j.val)) 576#32))
      = if 64 * j.val ≤ k.val ∧ k.val < 64 * j.val + 576 then 1#1 else 0#1 := by decide +kernel

theorem seenw_word (q : Fin 256) (k : Fin 768) : seenw (BitVec.ofNat 32 q.val) (BitVec.ofNat 32 k.val)
    = if 64 * (q.val / 64) ≤ k.val ∧ k.val < 64 * (q.val / 64) + 576 then 1#1 else 0#1 := by
  have e : IntOp.subi (BitVec.ofNat 32 q.val) (fmod (BitVec.ofNat 32 q.val)) = BitVec.ofNat 32 (64 * (q.val / 64)) := by
    rw [fmod_word]
    show BitVec.ofNat 32 q.val - BitVec.ofNat 32 (q.val % 64) = _
    apply BitVec.eq_of_toNat_eq
    simp only [BitVec.toNat_sub, BitVec.toNat_ofNat]
    omega
  unfold seenw
  rw [e]
  exact seenw_block ⟨q.val / 64, by omega⟩ k

variable (m : (l : Loc nD τ sig) → Buf (Elt Ideal) l) (c : Dev nD)

/-- The bias blocks as the calls before the kernel make them. -/
theorem bias_term (y : S16x256x768.Idx) : (V m c main_v33 : S16x256x768.Idx → EReal) y
    = Scalar.select (seenw (BitVec.ofNat 32 (y 1).val) (BitVec.ofNat 32 (y 2).val))
        (Host.gather (colDims 16 513 256 768 gather_S16x513_S256x768x1_S16x256x768_0_1_n_n_1_2_161.wf) (m ((c : Thread nD τ).loc main_arg1) : S16x513.Idx → EReal)
          (fun i => ReferenceIdeal.Attn.clipw (IntOp.subi (IntOp.addi 512#32 (BitVec.ofNat 32 (i 0).val)) (BitVec.ofNat 32 (i 1).val))) y)
        (Ideal.ofBits .f32 0xFF800000#32) := by
  sl_kernel_rfl

/-- An entry of the bias blocks over the window's coordinates: −∞ where the key is not seen. -/
def biasB (I : Inp) (h q k : ℕ) : EReal :=
  if 64 * (q / 64) ≤ k ∧ k < 64 * (q / 64) + 576 then I.B h (rel (512 + q) k) else ⊥

/-- The arguments. -/
def J : Inp := inp (m ((c : Thread nD τ).loc main_arg0) : S4096x3072.Idx → EReal) (m ((c : Thread nD τ).loc main_arg1) : S16x513.Idx → EReal)
  (m ((c : Thread nD τ).loc main_arg2) : S4096x1024.Idx → EReal)

/-- The bias blocks at an index. -/
theorem bias_at (y : S16x256x768.Idx) : (V m c main_v33 : S16x256x768.Idx → EReal) y = biasB (J m c) (y 0).val (y 1).val (y 2).val := by
  have h1 : (y 1).val < 256 := (y 1).isLt
  have h2 : (y 2).val < 768 := (y 2).isLt
  rw [bias_term, seenw_word ⟨(y 1).val, h1⟩ ⟨(y 2).val, h2⟩, ReferenceIdeal.Attn.ofBits_neg_inf]
  unfold biasB
  dsimp only
  split_ifs with h
  · refine (gather_col_apply (by decide) _ _ _ y).trans ?_
    refine (at2_of (m ((c : Thread nD τ).loc main_arg1) : S16x513.Idx → EReal) _ _ _ rfl rfl).trans ?_
    refine congrArg (at2 _ _) ?_
    refine Eq.trans ?_ (ReferenceIdeal.Attn.clipw_sub (512 + (y 1).val) (y 2).val (by omega) (by omega))
    show min (ReferenceIdeal.Attn.clipw (IntOp.subi (512#32 + BitVec.ofNat 32 (y 1).val) (BitVec.ofNat 32 (y 2).val))).toInt.toNat 512 = _
    rw [BitVec.ofNat_add]
  · rfl

end Cert.KernelIdeal.Attn
-- ==== Proof.Tile.lean ====
/-
  One tile of the backward attention kernel: 32 rows of weights and of score gradients over a window of 768 keys, at an index.
-/
module

public import proofs.«01_k».proof.Proof.Gen.KernelIdeal.Skeleton
public import proofs.«01_k».proof.Proof.Softmax
public import Idealize.ShloMosaic.Lib.Pointwise
public import Idealize.ShloMosaic.Lib.ValueIdx
public import Idealize.ShloMosaic.Lib.Pipeline.ReadBack

@[expose] public section

set_option maxRecDepth 16384

noncomputable section

namespace Cert.KernelIdeal.Attn

open Cert.KernelIdeal Cert.KernelIdeal.Gen Idealize.ShloMosaic Cert.Attn

/-- Which of the window's keys lie past the padding. -/
def live (w : BitVec 32) : IVec S32x768 1 :=
  broadcastTo S32x768 (shapeCast S1x768 (cmpi .sge (addi (broadcast S1x768 (Scalar.muli w 256#32)) (iota .tc S1x768 32 [1] iota_S1x768_d1_w32))
    (broadcast S1x768 512#32)) shapeCasts_S1x768_S1x768) broadcasts_S1x768_S32x768

/-- The masked scores of a tile. -/
def tS (w : BitVec 32) (x : FVec Ideal S32x768 .f32) (y : Vec Ideal S1x32x768 .f32) : FVec Ideal S32x768 .f32 :=
  select (live w) (addf x (shapeCast S32x768 y shapeCasts_S1x32x768_S32x768)) (broadcast S32x768 (Named.named κ "mask" 0xF149F2CA#32))

/-- Their exponentials over the row's largest. -/
def tE (w : BitVec 32) (x : FVec Ideal S32x768 .f32) (y : Vec Ideal S1x32x768 .f32) : FVec Ideal S32x768 .f32 :=
  exp (subf (tS w x y) (broadcastTo S32x768 (shapeCast S32x1
    (multiReduction .maximumf [1] S32 (tS w x y) 0xFF800000#32 reduces_S32x768_S32 (.inl rfl) rfl) shapeCasts_S32_S32x1) broadcasts_S32x1_S32x768))

/-- The weights of a tile. -/
def tP (w : BitVec 32) (x : FVec Ideal S32x768 .f32) (y : Vec Ideal S1x32x768 .f32) : FVec Ideal S32x768 .f32 :=
  mulf (tE w x y) (broadcastTo S32x768 (divf (broadcast S32x1 (Scalar.ofBits .f32 0x3F800000#32)) (shapeCast S32x1
    (multiReduction .add [1] S32 (tE w x y) 0x00000000#32 reduces_S32x768_S32 (.inl rfl) rfl) shapeCasts_S32_S32x1)) broadcasts_S32x1_S32x768)

/-- The gradients of a tile's scores. -/
def tD (w : BitVec 32) (x : FVec Ideal S32x768 .f32) (y : Vec Ideal S1x32x768 .f32) (g : FVec Ideal S32x768 .f32) : FVec Ideal S32x768 .f32 :=
  mulf (tP w x y) (subf g (broadcastTo S32x768 (shapeCast S32x1
    (multiReduction .add [1] S32 (mulf (tP w x y) g) 0x00000000#32 reduces_S32x768_S32 (.inl rfl) rfl) shapeCasts_S32_S32x1) broadcasts_S32x1_S32x768))

theorem live_word : ∀ (b : Fin 16) (k : Fin 768),
    IntOp.cmpi CmpIPredicate.sge (IntOp.addi (Scalar.muli (BitVec.ofNat 32 b.val) 256#32) (BitVec.ofNat 32 k.val)) 512#32
      = if 512 ≤ 256 * b.val + k.val then 1#1 else 0#1 := by
  decide +kernel

theorem mask_value : (Named.named κ "mask" 0xF149F2CA#32 : Ideal .f32) = (⊥ : EReal) :=
  IdealRules.named_const.ideal_named_scalar _ _ _ _ rfl

theorem ofBits_neg_inf : Ideal.ofBits .f32 0xFF800000#32 = (⊥ : EReal) := by simp [Ideal.ofBits, Ideal.ieee]

/-- A row of a tile's masked scores. -/
def trow (b : ℕ) (x y : Fin 768 → EReal) (k : Fin 768) : EReal := if 512 ≤ 256 * b + k.val then x k + y k else ⊥

variable (b : Fin 16) (x g : FVec Ideal S32x768 .f32) (y : Vec Ideal S1x32x768 .f32) (r : Fin 32) (k : Fin 768)

theorem tS_at : tS (BitVec.ofNat 32 b.val) x y (ix2 r k) = trow b.val (fun k => x (ix2 r k)) (fun k => y (ix3 0 r k)) k := by
  unfold tS live
  pointwise
  rw [live_word, mask_value]
  unfold trow
  split_ifs <;> rfl

theorem tE_at : tE (BitVec.ofNat 32 b.val) x y (ix2 r k) = ex (trow b.val (fun k => x (ix2 r k)) (fun k => y (ix3 0 r k))) k := by
  unfold tE
  pointwise
  simp only [tS_at, ofBits_neg_inf]
  rfl

theorem tP_at : tP (BitVec.ofNat 32 b.val) x y (ix2 r k) = pr (trow b.val (fun k => x (ix2 r k)) (fun k => y (ix3 0 r k))) k := by
  unfold tP
  pointwise
  simp only [tE_at]
  rfl

theorem tD_at : tD (BitVec.ofNat 32 b.val) x y g (ix2 r k)
    = ds (trow b.val (fun k => x (ix2 r k)) (fun k => y (ix3 0 r k))) (fun k => g (ix2 r k)) k := by
  unfold tD
  pointwise
  simp only [tP_at]
  rfl

end Cert.KernelIdeal.Attn

end
-- ==== Proof.Block.lean ====
/-
  One grid point of the backward attention kernel as sums over its blocks: 256 queries against a window of 768 keys, four heads of
  64 lanes each; and the kernel's vector operations that compute them.
-/
module

public import proofs.«01_k».proof.Proof.Tile
public import proofs.«01_k».proof.Proof.Model
public import Idealize.ShloMosaic.Lib.Pipeline.ValueKit

@[expose] public section

set_option maxRecDepth 16384

noncomputable section

namespace Cert.KernelIdeal.Attn

open Cert.KernelIdeal Cert.KernelIdeal.Gen Idealize.ShloMosaic Cert.Attn

/-- What a grid point reads: its number along the sequence, the queries and the output's gradient (row, lane), the window of keys and
    values (key, lane), and the bias (head, row, key). -/
structure Blk where
  b : Fin 16
  Q : ℕ → ℕ → EReal
  D : ℕ → ℕ → EReal
  K : ℕ → ℕ → EReal
  V : ℕ → ℕ → EReal
  A : ℕ → ℕ → ℕ → EReal

namespace Blk
variable (B : Blk)

/-- A row of scores over the window. -/
def score (j r : ℕ) : Fin 768 → EReal :=
  trow B.b.val (fun k => ∑ d : Fin 64, B.Q r (64 * j + d) * eighth * B.K k.val (64 * j + d)) (fun k => B.A j r k.val)

/-- The gradients of a row's weights. -/
def g (j r : ℕ) (k : Fin 768) : EReal := ∑ d : Fin 64, B.D r (64 * j + d) * B.V k.val (64 * j + d)

/-- The weights. -/
def P (j r : ℕ) (k : Fin 768) : EReal := pr (B.score j r) k

/-- The gradients of the scores. -/
def S (j r : ℕ) (k : Fin 768) : EReal := ds (B.score j r) (B.g j r) k

/-- The block's gradient of the queries. -/
def dq (r c : ℕ) : EReal := eighth * ∑ k : Fin 768, B.S (c / 64) r k * B.K k.val c

/-- What the block adds to the window's gradient of the keys. -/
def dk (k : Fin 768) (c : ℕ) : EReal := ∑ r : Fin 256, B.S (c / 64) r.val k * (B.Q r.val c * eighth)

/-- What the block adds to the window's gradient of the values. -/
def dv (k : Fin 768) (c : ℕ) : EReal := ∑ r : Fin 256, B.P (c / 64) r.val k * B.D r.val c

end Blk

/-! ## Lanes -/

/-- The lanes of a head. -/
def lane (j : Fin 4) : IVec S256x256 1 :=
  broadcastTo S256x256 (shapeCast S1x256 (andi (cmpi .sge (iota .tc S1x256 32 [1] iota_S1x256_d1_w32)
    (broadcast S1x256 ((![0#32, 64#32, 128#32, 192#32] : Fin 4 → BitVec 32) j)))
    (cmpi .slt (iota .tc S1x256 32 [1] iota_S1x256_d1_w32) (broadcast S1x256 ((![64#32, 128#32, 192#32, 256#32] : Fin 4 → BitVec 32) j))))
    shapeCasts_S1x256_S1x256) broadcasts_S1x256_S256x256

theorem lane_word : ∀ (j : Fin 4) (l : Fin 256),
    IntOp.andi (IntOp.cmpi CmpIPredicate.sge (BitVec.ofNat 32 l.val) ((![0#32, 64#32, 128#32, 192#32] : Fin 4 → BitVec 32) j))
      (IntOp.cmpi CmpIPredicate.slt (BitVec.ofNat 32 l.val) ((![64#32, 128#32, 192#32, 256#32] : Fin 4 → BitVec 32) j))
      = if l.val / 64 = j.val then 1#1 else 0#1 := by
  decide +kernel

theorem lane_at (j : Fin 4) (r l : Fin 256) : lane j (ix2 r l) = if l.val / 64 = j.val then 1#1 else 0#1 := by
  unfold lane
  pointwise
  exact lane_word j l

theorem select_lane (j : Fin 4) (x y : FVec Ideal S256x256 .f32) (r l : Fin 256) :
    select (lane j) x y (ix2 r l) = if l.val / 64 = j.val then x (ix2 r l) else y (ix2 r l) := by
  show Scalar.select (lane j (ix2 r l)) _ _ = _
  rw [lane_at]
  split_ifs <;> rfl

theorem lane_sum (j : Fin 4) (F : ℕ → EReal) :
    (∑ l : Fin 256, if l.val / 64 = j.val then F l.val else 0) = ∑ d : Fin 64, F (64 * j.val + d.val) := by
  symm
  have hj := j.isLt
  refine Finset.sum_of_injOn (fun d : Fin 64 => (⟨64 * j.val + d.val, by omega⟩ : Fin 256)) ?_ ?_ ?_ ?_
  · intro a _ c _ h
    have := congrArg Fin.val h
    simp only at this
    exact Fin.ext (by omega)
  · intro a _
    simp
  · intro l _ hl
    refine if_neg fun h => hl ⟨⟨l.val - 64 * j.val, by omega⟩, by simp, Fin.ext ?_⟩
    show 64 * j.val + (l.val - 64 * j.val) = l.val
    omega
  · intro d _
    rw [if_pos (show (64 * j.val + d.val) / 64 = j.val by omega)]

/-- A head's scaled queries. -/
def qM (j : Fin 4) (q : Vec Ideal S256x256 .bf16) : FVec Ideal S256x256 .bf16 :=
  select (lane j) (mulf q (broadcast S256x256 (Scalar.ofBits .bf16 0x3E00#16))) (broadcast S256x256 (Scalar.ofBits .bf16 0x0000#16))

/-- A head's gradient of the output. -/
def gM (j : Fin 4) (q : Vec Ideal S256x256 .bf16) : FVec Ideal S256x256 .bf16 :=
  select (lane j) q (broadcast S256x256 (Scalar.ofBits .bf16 0x0000#16))

variable (B : Blk) (q d : Vec Ideal S256x256 .bf16) (kc vc : FVec Ideal S768x256 .bf16)

theorem qM_at (hq : ∀ i, q i = B.Q (i 0).val (i 1).val) (j : Fin 4) (r l : Fin 256) :
    qM j q (ix2 r l) = if l.val / 64 = j.val then B.Q r.val l.val * eighth else 0 := by
  show Scalar.select (lane j (ix2 r l)) (q (ix2 r l) * Ideal.ofBits .bf16 0x3E00#16) (Ideal.ofBits .bf16 0x0000#16) = _
  rw [lane_at, hq, ofBits_eighth_bf16, Ideal.ofBits_zero_bf16]
  split_ifs <;> rfl

theorem gM_at (hd : ∀ i, d i = B.D (i 0).val (i 1).val) (j : Fin 4) (r l : Fin 256) :
    gM j d (ix2 r l) = if l.val / 64 = j.val then B.D r.val l.val else 0 := by
  show Scalar.select (lane j (ix2 r l)) (d (ix2 r l)) (Ideal.ofBits .bf16 0x0000#16) = _
  rw [lane_at, hd, Ideal.ofBits_zero_bf16]
  split_ifs <;> rfl

/-- A product of a head's lanes with the window. -/
def sc (x : FVec Ideal S256x256 .bf16) (kc : FVec Ideal S768x256 .bf16) : FVec Ideal S256x768 .f32 :=
  matmul dot_S256x256_S768x256_S256x768_1_1_0_0_n_n none x kc (constant S256x768 .f32 0x00000000#32)

theorem sc_at (x : FVec Ideal S256x256 .bf16) (r : Fin 256) (k : Fin 768) :
    sc x kc (ix2 r k) = ∑ l : Fin 256, x (ix2 r l) * kc (ix2 k l) := by
  unfold sc
  pointwise

theorem score_at (hq : ∀ i, q i = B.Q (i 0).val (i 1).val) (hk : ∀ i, kc i = B.K (i 0).val (i 1).val) (j : Fin 4) (r : Fin 256) (k : Fin 768) :
    sc (qM j q) kc (ix2 r k) = ∑ d : Fin 64, B.Q r.val (64 * j.val + d) * eighth * B.K k.val (64 * j.val + d) := by
  rw [sc_at, ← lane_sum j fun l => B.Q r.val l * eighth * B.K k.val l]
  refine Finset.sum_congr rfl fun l _ => ?_
  rw [qM_at B q hq, hk, ite_mul, zero_mul]
  rfl

theorem g_at (hd : ∀ i, d i = B.D (i 0).val (i 1).val) (hv : ∀ i, vc i = B.V (i 0).val (i 1).val) (j : Fin 4) (r : Fin 256) (k : Fin 768) :
    sc (gM j d) vc (ix2 r k) = B.g j.val r.val k := by
  unfold Blk.g
  rw [sc_at, ← lane_sum j fun l => B.D r.val l * B.V k.val l]
  refine Finset.sum_congr rfl fun l _ => ?_
  rw [gM_at B d hd, hv, ite_mul, zero_mul]
  rfl

/-! ## The stored tiles -/

theorem ix2_val {m n : ℕ} (i : (⟨2, ![m, n]⟩ : Shape).Idx) : i = ix2 (i 0) (i 1) := by
  funext a
  match a with
  | ⟨0, _⟩ => rfl
  | ⟨1, _⟩ => rfl

theorem ix3_eta {m n o : ℕ} (i : (⟨3, ![m, n, o]⟩ : Shape).Idx) : i = ix3 (i 0) (i 1) (i 2) := by
  funext a
  match a with
  | ⟨0, _⟩ => rfl
  | ⟨1, _⟩ => rfl
  | ⟨2, _⟩ => rfl

/-- A stored tile of weights. -/
def pPiece (w : BitVec 32) (x : FVec Ideal S32x768 .f32) (y : Vec Ideal S1x32x768 .f32) : FVec Ideal S1x32x768 .bf16 :=
  shapeCast S1x32x768 (truncf .bf16 (tP w x y) bitsLt_bf16_f32) shapeCasts_S32x768_S1x32x768

/-- A stored tile of the scores' gradients. -/
def dPiece (w : BitVec 32) (x : FVec Ideal S32x768 .f32) (y : Vec Ideal S1x32x768 .f32) (g : FVec Ideal S32x768 .f32) : FVec Ideal S1x32x768 .bf16 :=
  shapeCast S1x32x768 (truncf .bf16 (tD w x y g) bitsLt_bf16_f32) shapeCasts_S32x768_S1x32x768

/-- All weights of the point. -/
def allP (y : S4x256x768.Idx) : EReal := B.P (y 0).val (y 1).val ⟨(y 2).val, (y 2).isLt⟩

/-- All gradients of scores of the point. -/
def allS (y : S4x256x768.Idx) : EReal := B.S (y 0).val (y 1).val ⟨(y 2).val, (y 2).isLt⟩

theorem pPiece_at (b : Fin 16) (x : FVec Ideal S32x768 .f32) (y : Vec Ideal S1x32x768 .f32) (a : Fin 1) (r : Fin 32) (k : Fin 768) :
    pPiece (BitVec.ofNat 32 b.val) x y (ix3 a r k) = pr (trow b.val (fun k => x (ix2 r k)) (fun k => y (ix3 0 r k))) k := by
  unfold pPiece
  pointwise
  exact tP_at b x y r k

theorem dPiece_at (b : Fin 16) (x : FVec Ideal S32x768 .f32) (y : Vec Ideal S1x32x768 .f32) (g : FVec Ideal S32x768 .f32) (a : Fin 1) (r : Fin 32) (k : Fin 768) :
    dPiece (BitVec.ofNat 32 b.val) x y g (ix3 a r k)
      = ds (trow b.val (fun k => x (ix2 r k)) (fun k => y (ix3 0 r k))) (fun k => g (ix2 r k)) k := by
  unfold dPiece
  pointwise
  exact tD_at b x g y r k

theorem slice_at (s : FVec Ideal S256x768 .f32) (r0 : ℕ) (hsl : S256x768.Slices ![r0, 0] S32x768) (r : Fin 32) (k : Fin 768) (h : r0 + r.val < 256) :
    extractStridedSlice S32x768 ![r0, 0] s hsl (ix2 r k) = s (ix2 ⟨r0 + r.val, h⟩ k) := by
  unfold extractStridedSlice
  refine congrArg s (funext fun a => ?_)
  match a with
  | ⟨0, _⟩ => rfl
  | ⟨1, _⟩ => exact Fin.ext (Nat.zero_add _)

section
variable (y : S4x256x768.Idx → EReal) (hy : ∀ i, y i = B.A (i 0).val (i 1).val (i 2).val) (j : Fin 4) (r0 : ℕ)
  (hsl : S256x768.Slices ![r0, 0] S32x768) (inb : ∀ a, (![j.val, r0, 0] : Fin 3 → ℕ) a + S1x32x768.size a ≤ S4x256x768.size a)
  (yv : Vec Ideal S1x32x768 .f32) (hyv : ∀ x, yv x = y ((Rect.unit (s := S4x256x768) ![j.val, r0, 0] S1x32x768.size inb).idx x))
  (s g : FVec Ideal S256x768 .f32)
  (hs : ∀ r k, s (ix2 r k) = ∑ d : Fin 64, B.Q r.val (64 * j.val + d) * eighth * B.K k.val (64 * j.val + d))
  (hg : ∀ r k, g (ix2 r k) = B.g j.val r.val k)

include hy hyv hs in
theorem tile_row (r : Fin 32) (h : r0 + r.val < 256) :
    trow B.b.val (fun k => extractStridedSlice S32x768 ![r0, 0] s hsl (ix2 r k)) (fun k => yv (ix3 0 r k)) = B.score j.val (r0 + r.val) := by
  unfold Blk.score
  refine congrArg₂ (trow B.b.val) (funext fun k => ?_) (funext fun k => ?_)
  · rw [slice_at s r0 hsl r k h, hs]
  · rw [hyv, hy]
    refine congr (congrArg₂ B.A ?_ ?_) ?_
    · exact (Nat.add_zero _)
    · exact (congrArg (r0 + ·) (Nat.one_mul _))
    · exact (Nat.zero_add _).trans (Nat.one_mul _)

theorem row_bound (inb : ∀ a, (![j.val, r0, 0] : Fin 3 → ℕ) a + S1x32x768.size a ≤ S4x256x768.size a) (r : Fin 32) : r0 + r.val < 256 := by
  have h : r0 + 32 ≤ 256 := inb 1
  have := r.isLt
  omega

theorem block_coords (x : S1x32x768.Idx) :
    ((Rect.unit (s := S4x256x768) ![j.val, r0, 0] S1x32x768.size inb).emb x 0).val = j.val
      ∧ ((Rect.unit (s := S4x256x768) ![j.val, r0, 0] S1x32x768.size inb).emb x 1).val = r0 + (x 1).val
      ∧ ((Rect.unit (s := S4x256x768) ![j.val, r0, 0] S1x32x768.size inb).emb x 2).val = (x 2).val := by
  have h0 : (x 0).val < 1 := (x 0).isLt
  refine ⟨(ValueKit.rect_emb_unit_val _ _ _ _ _).trans ?_, (ValueKit.rect_emb_unit_val _ _ _ _ _).trans rfl, (ValueKit.rect_emb_unit_val _ _ _ _ _).trans (Nat.zero_add _)⟩
  show j.val + (x 0).val = _
  omega

theorem block_P (x : S1x32x768.Idx) :
    allP B ((Rect.unit (s := S4x256x768) ![j.val, r0, 0] S1x32x768.size inb).emb x) = pr (B.score j.val (r0 + (x 1).val)) (x 2) := by
  obtain ⟨h0, h1, h2⟩ := block_coords j r0 inb x
  unfold allP Blk.P
  simp only [h0, h1, h2]
  rfl

theorem block_S (x : S1x32x768.Idx) :
    allS B ((Rect.unit (s := S4x256x768) ![j.val, r0, 0] S1x32x768.size inb).emb x)
      = ds (B.score j.val (r0 + (x 1).val)) (B.g j.val (r0 + (x 1).val)) (x 2) := by
  obtain ⟨h0, h1, h2⟩ := block_coords j r0 inb x
  unfold allS Blk.S
  simp only [h0, h1, h2]
  rfl

include hy hyv hs in
theorem pPiece_block (x : S1x32x768.Idx) :
    pPiece (BitVec.ofNat 32 B.b.val) (extractStridedSlice S32x768 ![r0, 0] s hsl) yv x
      = allP B ((Rect.unit (s := S4x256x768) ![j.val, r0, 0] S1x32x768.size inb).emb x) := by
  rw [ix3_eta x]
  exact (pPiece_at B.b _ yv (x 0) (x 1) (x 2)).trans
    ((congrArg (fun t => pr t (x 2)) (tile_row B y hy j r0 hsl inb yv hyv s hs (x 1) (row_bound j r0 inb (x 1)))).trans (block_P B j r0 inb x).symm)

include hy hyv hs hg in
theorem dPiece_block (x : S1x32x768.Idx) :
    dPiece (BitVec.ofNat 32 B.b.val) (extractStridedSlice S32x768 ![r0, 0] s hsl) yv (extractStridedSlice S32x768 ![r0, 0] g hsl) x
      = allS B ((Rect.unit (s := S4x256x768) ![j.val, r0, 0] S1x32x768.size inb).emb x) := by
  have h := row_bound j r0 inb (x 1)
  have hg' : (fun k => extractStridedSlice S32x768 ![r0, 0] g hsl (ix2 (x 1) k)) = B.g j.val (r0 + (x 1).val) :=
    funext fun k => (slice_at g r0 hsl (x 1) k h).trans (hg _ _)
  rw [ix3_eta x]
  refine (dPiece_at B.b _ yv _ (x 0) (x 1) (x 2)).trans ((congrArg₂ (fun t u => ds t u (x 2))
    (tile_row B y hy j r0 hsl inb yv hyv s hs (x 1) h) hg').trans (block_S B j r0 inb x).symm)

end

/-! ## What the stored tiles are multiplied with -/

/-- The heads' products by lane. -/
def pick (p0 p1 p2 p3 : FVec Ideal S256x256 .f32) : FVec Ideal S256x256 .bf16 :=
  truncf .bf16 (mulf (broadcast S256x256 (Scalar.ofBits .f32 0x3E000000#32)) (select (lane 3) p3 (select (lane 2) p2 (select (lane 1) p1 p0)))) bitsLt_bf16_f32

/-- A head's product with the window's keys. -/
def dqM (pv : FVec Ideal S1x256x768 .bf16) (kc : FVec Ideal S768x256 .bf16) : FVec Ideal S256x256 .f32 :=
  matmul dot_S256x768_S768x256_S256x256_1_0_0_1_n_n none (shapeCast S256x768 pv shapeCasts_S1x256x768_S256x768) kc (constant S256x256 .f32 0x00000000#32)

/-- A head's product over the rows, added to the window. -/
def upd (x : FVec Ideal S256x256 .bf16) (acc : FVec Ideal S768x256 .f32) (pv : FVec Ideal S1x256x768 .bf16) : FVec Ideal S768x256 .f32 :=
  shapeCast S768x256 (addf acc (matmul dot_S256x768_S256x256_S768x256_0_0_1_1_n_n none (shapeCast S256x768 pv shapeCasts_S1x256x768_S256x768) x
    (constant S768x256 .f32 0x00000000#32))) shapeCasts_S768x256_S768x256

theorem dqM_at (pv : FVec Ideal S1x256x768 .bf16) (r l : Fin 256) : dqM pv kc (ix2 r l) = ∑ k : Fin 768, pv (ix3 0 r k) * kc (ix2 k l) := by
  unfold dqM
  pointwise

theorem upd_at (x : FVec Ideal S256x256 .bf16) (acc : FVec Ideal S768x256 .f32) (pv : FVec Ideal S1x256x768 .bf16) (k : Fin 768) (l : Fin 256) :
    upd x acc pv (ix2 k l) = acc (ix2 k l) + ∑ r : Fin 256, pv (ix3 0 r k) * x (ix2 r l) := by
  unfold upd
  pointwise

theorem pick_at (p : Fin 4 → FVec Ideal S256x256 .f32) (r l : Fin 256) :
    pick (p 0) (p 1) (p 2) (p 3) (ix2 r l) = eighth * p ⟨l.val / 64, by omega⟩ (ix2 r l) := by
  show Ideal.ofBits .f32 0x3E000000#32 * select (lane 3) (p 3) (select (lane 2) (p 2) (select (lane 1) (p 1) (p 0))) (ix2 r l) = _
  rw [ofBits_eighth_f32, select_lane, select_lane, select_lane]
  refine congrArg (eighth * ·) ?_
  have hl := l.isLt
  split_ifs with h3 h2 h1
  · exact congrArg (fun j => p j (ix2 r l)) (Fin.ext h3.symm)
  · exact congrArg (fun j => p j (ix2 r l)) (Fin.ext h2.symm)
  · exact congrArg (fun j => p j (ix2 r l)) (Fin.ext h1.symm)
  · refine congrArg (fun j => p j (ix2 r l)) (Fin.ext ?_)
    have h1 : l.val / 64 ≠ 1 := h1
    have h2 : l.val / 64 ≠ 2 := h2
    have h3 : l.val / 64 ≠ 3 := h3
    show 0 = l.val / 64
    omega

/-- The block's gradient of the queries. -/
theorem dq_block (hk : ∀ i, kc i = B.K (i 0).val (i 1).val) (pv : Fin 4 → FVec Ideal S1x256x768 .bf16)
    (hp : ∀ j r k, pv j (ix3 0 r k) = B.S j.val r.val k) (i : S256x256.Idx) :
    pick (dqM (pv 0) kc) (dqM (pv 1) kc) (dqM (pv 2) kc) (dqM (pv 3) kc) i = B.dq (i 0).val (i 1).val := by
  rw [ix2_val i]
  refine (pick_at (fun j => dqM (pv j) kc) (i 0) (i 1)).trans (congrArg (eighth * ·) ?_)
  refine (dqM_at kc _ (i 0) (i 1)).trans (Finset.sum_congr rfl fun k _ => ?_)
  exact congrArg₂ (· * ·) (hp _ _ _) (hk _)

theorem upd_lane (x : Fin 4 → FVec Ideal S256x256 .bf16) (f : ℕ → ℕ → EReal)
    (hx : ∀ j r l, x j (ix2 r l) = if l.val / 64 = j.val then f r.val l.val else 0)
    (pv : Fin 4 → FVec Ideal S1x256x768 .bf16) (W : ℕ → ℕ → Fin 768 → EReal) (hp : ∀ j r k, pv j (ix3 0 r k) = W j.val r.val k)
    (acc : FVec Ideal S768x256 .f32) (k : Fin 768) (l : Fin 256) :
    upd (x 3) (upd (x 2) (upd (x 1) (upd (x 0) acc (pv 0)) (pv 1)) (pv 2)) (pv 3) (ix2 k l)
      = acc (ix2 k l) + ∑ r : Fin 256, W (l.val / 64) r.val k * f r.val l.val := by
  have hl := l.isLt
  have hz : ∀ j : Fin 4, (∑ r : Fin 256, pv j (ix3 0 r k) * x j (ix2 r l))
      = if l.val / 64 = j.val then ∑ r : Fin 256, W (l.val / 64) r.val k * f r.val l.val else 0 := by
    intro j
    split_ifs with h
    · refine Finset.sum_congr rfl fun r _ => ?_
      rw [hp, hx, if_pos h, h]
    · refine Finset.sum_eq_zero fun r _ => ?_
      rw [hx, if_neg h, mul_zero]
  rw [upd_at, upd_at, upd_at, upd_at, hz 0, hz 1, hz 2, hz 3]
  have : l.val / 64 = 0 ∨ l.val / 64 = 1 ∨ l.val / 64 = 2 ∨ l.val / 64 = 3 := by omega
  rcases this with h | h | h | h <;> simp [h]

/-- What the block adds to the window's gradient of the keys. -/
theorem dk_block (hq : ∀ i, q i = B.Q (i 0).val (i 1).val) (pv : Fin 4 → FVec Ideal S1x256x768 .bf16)
    (hp : ∀ j r k, pv j (ix3 0 r k) = B.S j.val r.val k) (acc : FVec Ideal S768x256 .f32) (k : Fin 768) (l : Fin 256) :
    upd (qM 3 q) (upd (qM 2 q) (upd (qM 1 q) (upd (qM 0 q) acc (pv 0)) (pv 1)) (pv 2)) (pv 3) (ix2 k l)
      = acc (ix2 k l) + B.dk k l.val :=
  upd_lane (fun j => qM j q) (fun r c => B.Q r c * eighth) (qM_at B q hq) pv B.S hp acc k l

/-- What the block adds to the window's gradient of the values. -/
theorem dv_block (hd : ∀ i, d i = B.D (i 0).val (i 1).val) (pv : Fin 4 → FVec Ideal S1x256x768 .bf16)
    (hp : ∀ j r k, pv j (ix3 0 r k) = B.P j.val r.val k) (acc : FVec Ideal S768x256 .f32) (k : Fin 768) (l : Fin 256) :
    upd (gM 3 d) (upd (gM 2 d) (upd (gM 1 d) (upd (gM 0 d) acc (pv 0)) (pv 1)) (pv 2)) (pv 3) (ix2 k l)
      = acc (ix2 k l) + B.dv k l.val :=
  upd_lane (fun j => gM j d) B.D (gM_at B d hd) pv B.P hp acc k l

end Cert.KernelIdeal.Attn

end
-- ==== Proof.Point.lean ====
/-
  One grid point's stores: the tiles of weights and of score gradients that its scratch holds, what is read back of them, and the four
  updates of each accumulator's window.
-/
module

public import proofs.«01_k».proof.Proof.Block
public import Idealize.ShloMosaic.Lib.WritesUnit

@[expose] public section

set_option maxRecDepth 16384

noncomputable section

namespace Cert.KernelIdeal.Attn

open Cert.KernelIdeal Cert.KernelIdeal.Gen Idealize.ShloMosaic Cert.Attn

theorem tile_inb (j : Fin 4) (r0 : ℕ) (h : r0 + 32 ≤ 256) : ∀ a, (![j.val, r0, 0] : Fin 3 → ℕ) a + S1x32x768.size a ≤ S4x256x768.size a := by
  have hj := j.isLt
  intro a
  match a with
  | ⟨0, _⟩ => exact hj
  | ⟨1, _⟩ => exact h
  | ⟨2, _⟩ => exact le_refl 768

theorem head_inb (j : Fin 4) : ∀ a, (![j.val, 0, 0] : Fin 3 → ℕ) a + S1x256x768.size a ≤ S4x256x768.size a := by
  have hj := j.isLt
  intro a
  match a with
  | ⟨0, _⟩ => exact hj
  | ⟨1, _⟩ => exact le_refl 256
  | ⟨2, _⟩ => exact le_refl 768

theorem row_slices (r0 : ℕ) (h : r0 + 32 ≤ 256) : S256x768.Slices ![r0, 0] S32x768 := by
  refine ⟨rfl, fun a => ?_⟩
  match a with
  | ⟨0, _⟩ => exact h
  | ⟨1, _⟩ => exact le_refl 768

/-- Rows `r0` to `r0 + 32` of head `j`. -/
def tileR (j : Fin 4) (r0 : ℕ) (h : r0 + 32 ≤ 256) : Rect S4x256x768 := Rect.unit ![j.val, r0, 0] S1x32x768.size (tile_inb j r0 h)

/-- Head `j`. -/
def headR (j : Fin 4) : Rect S4x256x768 := Rect.unit ![j.val, 0, 0] S1x256x768.size (head_inb j)

/-- A head's stores, the last first. -/
def headL (j : Fin 4) (f : (r0 : ℕ) → r0 + 32 ≤ 256 → FVec Ideal S1x32x768 .bf16) : List (View.Piece (Elt Ideal) S4x256x768 .bf16) :=
  [⟨tileR j 224 (by decide), f 224 (by decide)⟩, ⟨tileR j 192 (by decide), f 192 (by decide)⟩, ⟨tileR j 160 (by decide), f 160 (by decide)⟩,
    ⟨tileR j 128 (by decide), f 128 (by decide)⟩, ⟨tileR j 96 (by decide), f 96 (by decide)⟩, ⟨tileR j 64 (by decide), f 64 (by decide)⟩,
    ⟨tileR j 32 (by decide), f 32 (by decide)⟩, ⟨tileR j 0 (by decide), f 0 (by decide)⟩]

theorem headL_cover (j : Fin 4) (f : (r0 : ℕ) → r0 + 32 ≤ 256 → FVec Ideal S1x32x768 .bf16) (y : S4x256x768.Idx) (hy : (y 0).val = j.val) :
    ∃ p ∈ headL j f, y ∈ p.1.set := by
  have hr : (y 1).val < 256 := (y 1).isLt
  have hk : (y 2).val < 768 := (y 2).isLt
  have key : ∀ r0 h, r0 ≤ (y 1).val → (y 1).val < r0 + 32 → y ∈ (tileR j r0 h).set := by
    intro r0 h h1 h2
    rw [tileR, Rect.mem_set_unit]
    intro a
    match a with
    | ⟨0, _⟩ => exact ⟨le_of_eq hy.symm, by show (y 0).val < j.val + 1; omega⟩
    | ⟨1, _⟩ => exact ⟨h1, h2⟩
    | ⟨2, _⟩ => exact ⟨Nat.zero_le _, by show (y 2).val < 0 + 768; omega⟩
  have hc : (y 1).val / 32 = 0 ∨ (y 1).val / 32 = 1 ∨ (y 1).val / 32 = 2 ∨ (y 1).val / 32 = 3 ∨ (y 1).val / 32 = 4 ∨ (y 1).val / 32 = 5
      ∨ (y 1).val / 32 = 6 ∨ (y 1).val / 32 = 7 := by omega
  rcases hc with h | h | h | h | h | h | h | h
  · exact ⟨_, .tail _ (.tail _ (.tail _ (.tail _ (.tail _ (.tail _ (.tail _ (.head _))))))), key 0 (by decide) (by omega) (by omega)⟩
  · exact ⟨_, .tail _ (.tail _ (.tail _ (.tail _ (.tail _ (.tail _ (.head _)))))), key 32 (by decide) (by omega) (by omega)⟩
  · exact ⟨_, .tail _ (.tail _ (.tail _ (.tail _ (.tail _ (.head _))))), key 64 (by decide) (by omega) (by omega)⟩
  · exact ⟨_, .tail _ (.tail _ (.tail _ (.tail _ (.head _)))), key 96 (by decide) (by omega) (by omega)⟩
  · exact ⟨_, .tail _ (.tail _ (.tail _ (.head _))), key 128 (by decide) (by omega) (by omega)⟩
  · exact ⟨_, .tail _ (.tail _ (.head _)), key 160 (by decide) (by omega) (by omega)⟩
  · exact ⟨_, .tail _ (.head _), key 192 (by decide) (by omega) (by omega)⟩
  · exact ⟨_, .head _, key 224 (by decide) (by omega) (by omega)⟩

/-- A head's stores from their payloads. -/
theorem headL_eq (j : Fin 4) (f : (r0 : ℕ) → r0 + 32 ≤ 256 → FVec Ideal S1x32x768 .bf16) {L L' : List (View.Piece (Elt Ideal) S4x256x768 .bf16)}
    {w0 w1 w2 w3 w4 w5 w6 w7 : FVec Ideal S1x32x768 .bf16} (hL : L = L') (h0 : w0 = f 0 (by decide)) (h1 : w1 = f 32 (by decide))
    (h2 : w2 = f 64 (by decide)) (h3 : w3 = f 96 (by decide)) (h4 : w4 = f 128 (by decide)) (h5 : w5 = f 160 (by decide))
    (h6 : w6 = f 192 (by decide)) (h7 : w7 = f 224 (by decide)) :
    (⟨tileR j 224 (by decide), w7⟩ :: ⟨tileR j 192 (by decide), w6⟩ :: ⟨tileR j 160 (by decide), w5⟩ :: ⟨tileR j 128 (by decide), w4⟩
      :: ⟨tileR j 96 (by decide), w3⟩ :: ⟨tileR j 64 (by decide), w2⟩ :: ⟨tileR j 32 (by decide), w1⟩ :: ⟨tileR j 0 (by decide), w0⟩ :: L)
      = headL j f ++ L' := by
  subst hL h0 h1 h2 h3 h4 h5 h6 h7
  rfl

variable {κ' : Kind} {sp : Space} (v : View sig κ' sp S4x256x768 .bf16)

/-- A head read back: what its stores agree with. -/
theorem head_back (G : S4x256x768.Idx → EReal) (j : Fin 4) (f : (r0 : ℕ) → r0 + 32 ≤ 256 → FVec Ideal S1x32x768 .bf16)
    (hf : ∀ r0 h x, f r0 h x = G ((tileR j r0 h).emb x)) (L : List (View.Piece (Elt Ideal) S4x256x768 .bf16)) (x : S1x256x768.Idx) :
    v.readCov (headL j f ++ L) (headR j).toLoadRect x = G (ix3 (⟨j.val, j.isLt⟩ : Fin 4) ⟨(x 1).val, (x 1).isLt⟩ ⟨(x 2).val, (x 2).isLt⟩) := by
  have h0 : (x 0).val < 1 := (x 0).isLt
  have hx : (headR j).toLoadRect.idx x = ix3 (⟨j.val, j.isLt⟩ : Fin 4) ⟨(x 1).val, (x 1).isLt⟩ ⟨(x 2).val, (x 2).isLt⟩ := by
    funext a
    match a with
    | ⟨0, _⟩ => exact Fin.ext (show j.val + 1 * (x 0).val = j.val by omega)
    | ⟨1, _⟩ => exact Fin.ext (show 0 + 1 * (x 1).val = (x 1).val by omega)
    | ⟨2, _⟩ => exact Fin.ext (show 0 + 1 * (x 2).val = (x 2).val by omega)
  rw [View.readCov_eq_canon']
  show View.canon (headL j f ++ L) ((headR j).toLoadRect.idx x) = _
  rw [hx]
  have hG : View.PiecesOf (Val := Elt Ideal) (e := .bf16) G (headL j f) :=
    ⟨hf 224 (by decide), hf 192 (by decide), hf 160 (by decide), hf 128 (by decide), hf 96 (by decide), hf 64 (by decide), hf 32 (by decide),
      hf 0 (by decide), trivial⟩
  exact View.canon_append_of_piecesOf (Val := Elt Ideal) (e := .bf16) G L (headL j f) hG
    (ix3 (⟨j.val, j.isLt⟩ : Fin 4) ⟨(x 1).val, (x 1).isLt⟩ ⟨(x 2).val, (x 2).isLt⟩) (headL_cover j f _ rfl)

/-! ## The tiles of a point -/

/-- What a point reads of its arguments and of the window. -/
structure Reads where
  w : BitVec 32
  q : Vec Ideal S256x256 .bf16
  d : Vec Ideal S256x256 .bf16
  kw : FVec Ideal S768x256 .bf16
  vw : FVec Ideal S768x256 .bf16
  bias : (r : Rect S4x256x768) → r.shape.Idx → EReal

variable (R : Reads)

/-- A tile of weights. -/
def Reads.p (j : Fin 4) (r0 : ℕ) (h : r0 + 32 ≤ 256) : FVec Ideal S1x32x768 .bf16 :=
  pPiece R.w (extractStridedSlice S32x768 ![r0, 0] (sc (qM j R.q) R.kw) (row_slices r0 h)) (R.bias (tileR j r0 h))

/-- A tile of score gradients. -/
def Reads.s (j : Fin 4) (r0 : ℕ) (h : r0 + 32 ≤ 256) : FVec Ideal S1x32x768 .bf16 :=
  dPiece R.w (extractStridedSlice S32x768 ![r0, 0] (sc (qM j R.q) R.kw) (row_slices r0 h)) (R.bias (tileR j r0 h))
    (extractStridedSlice S32x768 ![r0, 0] (sc (gM j R.d) R.vw) (row_slices r0 h))

/-- The stores up to a head. -/
def hist (f : Fin 4 → (r0 : ℕ) → r0 + 32 ≤ 256 → FVec Ideal S1x32x768 .bf16) : ℕ → List (View.Piece (Elt Ideal) S4x256x768 .bf16)
  | 0 => headL 0 (f 0) ++ []
  | 1 => headL 1 (f 1) ++ (headL 0 (f 0) ++ [])
  | 2 => headL 2 (f 2) ++ (headL 1 (f 1) ++ (headL 0 (f 0) ++ []))
  | _ => headL 3 (f 3) ++ (headL 2 (f 2) ++ (headL 1 (f 1) ++ (headL 0 (f 0) ++ [])))

/-- A head read back after its stores. -/
def back (f : Fin 4 → (r0 : ℕ) → r0 + 32 ≤ 256 → FVec Ideal S1x32x768 .bf16) (j : Fin 4) : FVec Ideal S1x256x768 .bf16 :=
  v.readCov (hist f j.val) (headR j).toLoadRect

theorem back_at (G : S4x256x768.Idx → EReal) (f : Fin 4 → (r0 : ℕ) → r0 + 32 ≤ 256 → FVec Ideal S1x32x768 .bf16)
    (hf : ∀ j r0 h x, f j r0 h x = G ((tileR j r0 h).emb x)) (j : Fin 4) (r : Fin 256) (k : Fin 768) :
    back v f j (ix3 0 r k) = G (ix3 j r k) := by
  match j with
  | 0 => exact head_back v G 0 (f 0) (hf 0) [] (ix3 0 r k)
  | 1 => exact head_back v G 1 (f 1) (hf 1) _ (ix3 0 r k)
  | 2 => exact head_back v G 2 (f 2) (hf 2) _ (ix3 0 r k)
  | 3 => exact head_back v G 3 (f 3) (hf 3) _ (ix3 0 r k)

/-- The block's gradient of the queries. -/
def Reads.dq (v5 : View sig κ' sp S4x256x768 .bf16) : FVec Ideal S256x256 .bf16 :=
  pick (dqM (back v5 R.s 0) R.kw) (dqM (back v5 R.s 1) R.kw) (dqM (back v5 R.s 2) R.kw) (dqM (back v5 R.s 3) R.kw)

/-- The window of the keys' gradient after the point. -/
def Reads.dk (v5 : View sig κ' sp S4x256x768 .bf16) (acc : FVec Ideal S768x256 .f32) : FVec Ideal S768x256 .f32 :=
  upd (qM 3 R.q) (upd (qM 2 R.q) (upd (qM 1 R.q) (upd (qM 0 R.q) acc (back v5 R.s 0)) (back v5 R.s 1)) (back v5 R.s 2)) (back v5 R.s 3)

/-- The window of the values' gradient after the point. -/
def Reads.dv (v4 : View sig κ' sp S4x256x768 .bf16) (acc : FVec Ideal S768x256 .f32) : FVec Ideal S768x256 .f32 :=
  upd (gM 3 R.d) (upd (gM 2 R.d) (upd (gM 1 R.d) (upd (gM 0 R.d) acc (back v4 R.p 0)) (back v4 R.p 1)) (back v4 R.p 2)) (back v4 R.p 3)

/-- The window at a point. -/
def spanR (i : grid0.Coords) : Rect S4608x256 := Rect.unit (k0_off1 i) S768x256.size (k0_off1_inb i)

variable {κa : Kind} {spa : Space} (va : View sig κa spa S4608x256 .f32) (i : grid0.Coords)

section
variable (x : Fin 4 → FVec Ideal S256x256 .bf16) (pv : Fin 4 → FVec Ideal S1x256x768 .bf16) (acc : FVec Ideal S768x256 .f32)
  (L : List (View.Piece (Elt Ideal) S4608x256 .f32))

/-- The window's stores, each after a read back of the one before: the first head's. -/
def win0 : List (View.Piece (Elt Ideal) S4608x256 .f32) := ⟨spanR i, upd (x 0) acc (pv 0)⟩ :: L

/-- The second head's. -/
def win1 : List (View.Piece (Elt Ideal) S4608x256 .f32) :=
  ⟨spanR i, upd (x 1) (va.readCov (win0 i x pv acc L) (spanR i).toLoadRect) (pv 1)⟩ :: win0 i x pv acc L

/-- The third head's. -/
def win2 : List (View.Piece (Elt Ideal) S4608x256 .f32) :=
  ⟨spanR i, upd (x 2) (va.readCov (win1 va i x pv acc L) (spanR i).toLoadRect) (pv 2)⟩ :: win1 va i x pv acc L

/-- The fourth head's. -/
def win3 : List (View.Piece (Elt Ideal) S4608x256 .f32) :=
  ⟨spanR i, upd (x 3) (va.readCov (win2 va i x pv acc L) (spanR i).toLoadRect) (pv 3)⟩ :: win2 va i x pv acc L

/-- All four updates. -/
def updAll : FVec Ideal S768x256 .f32 := upd (x 3) (upd (x 2) (upd (x 1) (upd (x 0) acc (pv 0)) (pv 1)) (pv 2)) (pv 3)

/-- The last store: all four updates. -/
theorem win3_eq : win3 va i x pv acc L = ⟨spanR i, updAll x pv acc⟩ :: win2 va i x pv acc L := by
  have h0 : va.readCov (win0 i x pv acc L) (spanR i).toLoadRect = upd (x 0) acc (pv 0) := View.readCov_cons_toLoadRect va _ _ _
  have h1 : va.readCov (win1 va i x pv acc L) (spanR i).toLoadRect = upd (x 1) (upd (x 0) acc (pv 0)) (pv 1) :=
    (View.readCov_cons_toLoadRect va (spanR i) _ _).trans (congrArg (fun t => upd (x 1) t (pv 1)) h0)
  have h2 : va.readCov (win2 va i x pv acc L) (spanR i).toLoadRect = upd (x 2) (upd (x 1) (upd (x 0) acc (pv 0)) (pv 1)) (pv 2) :=
    (View.readCov_cons_toLoadRect va (spanR i) _ _).trans (congrArg (fun t => upd (x 2) t (pv 2)) h1)
  exact congrArg (fun t => (⟨spanR i, upd (x 3) t (pv 3)⟩ : View.Piece (Elt Ideal) S4608x256 .f32) :: win2 va i x pv acc L) h2
end

/-- The window's contents put over an array's: a function of rows and lanes. -/
def putW (b : ℕ) (u : Fin 768 → ℕ → EReal) (f : ℕ → ℕ → EReal) (p l : ℕ) : EReal :=
  if h : 256 * b ≤ p ∧ p < 256 * b + 768 then u ⟨p - 256 * b, by omega⟩ l else f p l

/-- The accumulator after the window's stores over what it held. -/
theorem win3_over (f : va.ty.Contents (Elt Ideal)) (a : ℕ → ℕ → EReal) (x : Fin 4 → FVec Ideal S256x256 .bf16) (pv : Fin 4 → FVec Ideal S1x256x768 .bf16)
    (acc : FVec Ideal S768x256 .f32) (L : List (View.Piece (Elt Ideal) S4608x256 .f32)) (u : Fin 768 → ℕ → EReal)
    (ha : ∀ y, va.read (Elt Ideal) (va.writes (Elt Ideal) f L) y = a (y 0).val (y 1).val)
    (hu : ∀ k l, updAll x pv acc (ix2 k l) = u k l.val) (y : S4608x256.Idx) :
    va.read (Elt Ideal) (va.writes (Elt Ideal) f (win3 va i x pv acc L)) y = putW (i 1).val u a (y 0).val (y 1).val := by
  have hy : (y 1).val < 256 := (y 1).isLt
  unfold putW
  split_ifs with h
  · rw [win3_eq]
    refine (View.read_writes_cons_rows_of_mem va f (k0_off1_inb i) _ _ y (ix2 ⟨(y 0).val - 256 * (i 1).val, by omega⟩ ⟨(y 1).val, hy⟩ : S768x256.Idx)
      (k0_off1_eq i) ?_ rfl).trans (hu _ _)
    show (y 0).val = 256 * (i 1).val + ((y 0).val - 256 * (i 1).val)
    omega
  · have hn : (y 0).val < 256 * (i 1).val ∨ 256 * (i 1).val + 768 ≤ (y 0).val := by omega
    unfold win3 win2 win1 win0
    exact (View.read_writes_cons_rows_of_not_mem va f (k0_off1_inb i) _ _ y (k0_off1_eq i) rfl hn).trans
      ((View.read_writes_cons_rows_of_not_mem va f (k0_off1_inb i) _ _ y (k0_off1_eq i) rfl hn).trans
        ((View.read_writes_cons_rows_of_not_mem va f (k0_off1_inb i) _ _ y (k0_off1_eq i) rfl hn).trans
          ((View.read_writes_cons_rows_of_not_mem va f (k0_off1_inb i) _ _ y (k0_off1_eq i) rfl hn).trans (ha y))))

/-! ## What the point reads, and what it makes of it -/

variable (arg2 : Memref sig .tc .vmem S256x256 .bf16) (harg2 : arg2.IsWhole) (arg5 : Memref sig .tc .vmem S4x256x768 .f32) (harg5 : arg5.IsWhole)
  (arg6 : Memref sig .tc .vmem S256x256 .bf16) (harg6 : arg6.IsWhole) (x0 : Vec Ideal S256x256 .bf16) (x3 : Vec Ideal S4x256x768 .f32)
  (x4 : Vec Ideal S256x256 .bf16)

/-- What a point reads, its window of keys and values given. -/
def reads (kw vw : FVec Ideal S768x256 .bf16) : Reads where
  w := BitVec.ofNat 32 (i 1).val
  q := View.readAt (Elt Ideal) arg2.view (Rect.unit ![0, 0] S256x256.size inb_S256x256_S256x256_0_0).toLoadRect (harg2.unread x0)
  d := View.readAt (Elt Ideal) arg6.view (Rect.unit ![0, 0] S256x256.size inb_S256x256_S256x256_0_0).toLoadRect (harg6.unread x4)
  kw := kw
  vw := vw
  bias := fun r => View.readAt (Elt Ideal) arg5.view r.toLoadRect (harg5.unread x3)

/-- What it reads of a held array at the window. -/
def winAt (v : View sig .tc .vmem S4608x256 .bf16) (f : v.ty.Contents (Elt Ideal)) : FVec Ideal S768x256 .bf16 :=
  View.readAt (Elt Ideal) v (spanR i).toLoadRect f

/-- The same of an accumulator. -/
def accAt (v : View sig .tc .vmem S4608x256 .f32) (f : v.ty.Contents (Elt Ideal)) : FVec Ideal S768x256 .f32 :=
  View.readAt (Elt Ideal) v (spanR i).toLoadRect f

end Cert.KernelIdeal.Attn
-- ==== Proof.Agree.lean ====
/-
  A grid point whose reads are a block's: what it stores is what the block computes.
-/
module

public import proofs.«01_k».proof.Proof.Point

@[expose] public section

set_option maxRecDepth 16384

noncomputable section

namespace Cert.KernelIdeal.Attn

open Cert.KernelIdeal Cert.KernelIdeal.Gen Idealize.ShloMosaic Cert.Attn

/-- The point's reads are the block's entries. -/
structure Agrees (R : Reads) (B : Blk) : Prop where
  w : R.w = BitVec.ofNat 32 B.b.val
  q : ∀ i, R.q i = B.Q (i 0).val (i 1).val
  d : ∀ i, R.d i = B.D (i 0).val (i 1).val
  k : ∀ i, R.kw i = B.K (i 0).val (i 1).val
  v : ∀ i, R.vw i = B.V (i 0).val (i 1).val
  a : ∀ (r : Rect S4x256x768) (x : r.shape.Idx), R.bias r x = B.A (r.toLoadRect.idx x 0).val (r.toLoadRect.idx x 1).val (r.toLoadRect.idx x 2).val

namespace Agrees
variable {R : Reads} {B : Blk} (H : Agrees R B)

include H in
theorem p_tile (j : Fin 4) (r0 : ℕ) (h : r0 + 32 ≤ 256) (x : S1x32x768.Idx) : R.p j r0 h x = allP B ((tileR j r0 h).emb x) := by
  unfold Reads.p
  rw [H.w]
  exact pPiece_block B (fun i => B.A (i 0).val (i 1).val (i 2).val) (fun _ => rfl) j r0 (row_slices r0 h) (tile_inb j r0 h) _ (H.a (tileR j r0 h)) _
    (score_at B R.q R.kw H.q H.k j) x

include H in
theorem s_tile (j : Fin 4) (r0 : ℕ) (h : r0 + 32 ≤ 256) (x : S1x32x768.Idx) : R.s j r0 h x = allS B ((tileR j r0 h).emb x) := by
  unfold Reads.s
  rw [H.w]
  exact dPiece_block B (fun i => B.A (i 0).val (i 1).val (i 2).val) (fun _ => rfl) j r0 (row_slices r0 h) (tile_inb j r0 h) _ (H.a (tileR j r0 h)) _ _
    (score_at B R.q R.kw H.q H.k j) (g_at B R.d R.vw H.d H.v j) x

variable {κ' : Kind} {sp : Space} (v : View sig κ' sp S4x256x768 .bf16)

include H in
theorem p_back (j : Fin 4) (r : Fin 256) (k : Fin 768) : back v R.p j (ix3 0 r k) = B.P j.val r.val k :=
  back_at v (allP B) R.p H.p_tile j r k

include H in
theorem s_back (j : Fin 4) (r : Fin 256) (k : Fin 768) : back v R.s j (ix3 0 r k) = B.S j.val r.val k :=
  back_at v (allS B) R.s H.s_tile j r k

include H in
/-- The queries' gradient that the point stores is the block's. -/
theorem dq (i : S256x256.Idx) : R.dq v i = B.dq (i 0).val (i 1).val :=
  dq_block B R.kw H.k (back v R.s) (H.s_back v) i

include H in
/-- What the point adds to the keys' gradient is the block's. -/
theorem dk (acc : FVec Ideal S768x256 .f32) (k : Fin 768) (l : Fin 256) :
    updAll (fun j => qM j R.q) (back v R.s) acc (ix2 k l) = acc (ix2 k l) + B.dk k l.val :=
  dk_block B R.q H.q (back v R.s) (H.s_back v) acc k l

include H in
/-- What the point adds to the values' gradient is the block's. -/
theorem dv (acc : FVec Ideal S768x256 .f32) (k : Fin 768) (l : Fin 256) :
    updAll (fun j => gM j R.d) (back v R.p) acc (ix2 k l) = acc (ix2 k l) + B.dv k l.val :=
  dv_block B R.d H.d (back v R.p) (H.p_back v) acc k l

end Agrees

/-! ## The entries a point is given -/

variable (i : grid0.Coords)

/-- The point's blocks hold the entries of `B`, whose keys and values are the window of rows of `kp` and `vp`. -/
structure Fed (x0 : Vec Ideal S256x256 .bf16) (x3 : Vec Ideal S4x256x768 .f32) (x4 : Vec Ideal S256x256 .bf16) (kp vp : ℕ → ℕ → EReal) (B : Blk) : Prop where
  b : B.b.val = (i 1).val
  q : ∀ y, x0 y = B.Q (y 0).val (y 1).val
  d : ∀ y, x4 y = B.D (y 0).val (y 1).val
  a : ∀ y, x3 y = B.A (y 0).val (y 1).val (y 2).val
  k : ∀ k l, B.K k l = kp (256 * (i 1).val + k) l
  v : ∀ k l, B.V k l = vp (256 * (i 1).val + k) l

theorem spanR_val (y : S768x256.Idx) : ((spanR i).toLoadRect.idx y 0).val = 256 * (i 1).val + (y 0).val
    ∧ ((spanR i).toLoadRect.idx y 1).val = (y 1).val := by
  have h0 : ((spanR i).toLoadRect.idx y 0).val = k0_off1 i 0 + 1 * (y 0).val := rfl
  have h1 : ((spanR i).toLoadRect.idx y 1).val = k0_off1 i 1 + 1 * (y 1).val := rfl
  have e0 : k0_off1 i 0 = 256 * (i 1).val := congrFun (k0_off1_eq i) 0
  have e1 : k0_off1 i 1 = 0 := congrFun (k0_off1_eq i) 1
  exact ⟨by omega, by omega⟩

theorem winAt_at (v : View sig .tc .vmem S4608x256 .bf16) (f : v.ty.Contents (Elt Ideal)) (g : ℕ → ℕ → EReal)
    (h : ∀ z, v.read (Elt Ideal) f z = g (z 0).val (z 1).val) (y : S768x256.Idx) :
    winAt i v f y = g (256 * (i 1).val + (y 0).val) (y 1).val := by
  refine (h ((spanR i).toLoadRect.idx y)).trans ?_
  rw [(spanR_val i y).1, (spanR_val i y).2]

theorem accAt_at (v : View sig .tc .vmem S4608x256 .f32) (f : v.ty.Contents (Elt Ideal)) (g : ℕ → ℕ → EReal)
    (h : ∀ z, v.read (Elt Ideal) f z = g (z 0).val (z 1).val) (y : S768x256.Idx) :
    accAt i v f y = g (256 * (i 1).val + (y 0).val) (y 1).val := by
  refine (h ((spanR i).toLoadRect.idx y)).trans ?_
  rw [(spanR_val i y).1, (spanR_val i y).2]

/-- A point fed the block's entries reads them. -/
theorem Fed.agrees {x0 : Vec Ideal S256x256 .bf16} {x3 : Vec Ideal S4x256x768 .f32} {x4 : Vec Ideal S256x256 .bf16} {kp vp : ℕ → ℕ → EReal} {B : Blk}
    (H : Fed i x0 x3 x4 kp vp B)
    (arg2 : Memref sig .tc .vmem S256x256 .bf16) (harg2 : arg2.IsWhole) (arg5 : Memref sig .tc .vmem S4x256x768 .f32) (harg5 : arg5.IsWhole)
    (arg6 : Memref sig .tc .vmem S256x256 .bf16) (harg6 : arg6.IsWhole)
    (w1 w2 : View sig .tc .vmem S4608x256 .bf16) (f1 : w1.ty.Contents (Elt Ideal)) (f2 : w2.ty.Contents (Elt Ideal))
    (h1 : ∀ z, w1.read (Elt Ideal) f1 z = kp (z 0).val (z 1).val) (h2 : ∀ z, w2.read (Elt Ideal) f2 z = vp (z 0).val (z 1).val) :
    Agrees (reads i arg2 harg2 arg5 harg5 arg6 harg6 x0 x3 x4 (winAt i w1 f1) (winAt i w2 f2)) B where
  w := congrArg (BitVec.ofNat 32) H.b.symm
  q := fun y => by
    have hz : (Rect.unit ![0, 0] S256x256.size inb_S256x256_S256x256_0_0).toLoadRect.idx y = y :=
      funext fun a => Fin.ext (by match a with | ⟨0, _⟩ => exact (Nat.zero_add _).trans (Nat.one_mul _) | ⟨1, _⟩ => exact (Nat.zero_add _).trans (Nat.one_mul _))
    refine (congrFun (harg2.read_unread x0) _).trans ?_
    exact (congrArg x0 hz).trans (H.q y)
  d := fun y => by
    have hz : (Rect.unit ![0, 0] S256x256.size inb_S256x256_S256x256_0_0).toLoadRect.idx y = y :=
      funext fun a => Fin.ext (by match a with | ⟨0, _⟩ => exact (Nat.zero_add _).trans (Nat.one_mul _) | ⟨1, _⟩ => exact (Nat.zero_add _).trans (Nat.one_mul _))
    refine (congrFun (harg6.read_unread x4) _).trans ?_
    exact (congrArg x4 hz).trans (H.d y)
  k := fun y => (winAt_at i w1 f1 kp h1 y).trans (H.k _ _).symm
  v := fun y => (winAt_at i w2 f2 vp h2 y).trans (H.v _ _).symm
  a := fun r x => (congrFun (harg5.read_unread x3) _).trans (H.a _)

/-- A window's contribution added to an array's rows. -/
def addW (b : ℕ) (u : Fin 768 → ℕ → EReal) (f : ℕ → ℕ → EReal) (p l : ℕ) : EReal :=
  f p l + if h : 256 * b ≤ p ∧ p < 256 * b + 768 then u ⟨p - 256 * b, by omega⟩ l else 0

variable {κa : Kind} {spa : Space}

/-- The accumulator after the window's stores, over what it held and the window was read from. -/
theorem acc_over (va : View sig .tc .vmem S4608x256 .f32) (f g : va.ty.Contents (Elt Ideal)) (a : ℕ → ℕ → EReal)
    (x : Fin 4 → FVec Ideal S256x256 .bf16) (pv : Fin 4 → FVec Ideal S1x256x768 .bf16)
    (L : List (View.Piece (Elt Ideal) S4608x256 .f32)) (u : Fin 768 → ℕ → EReal)
    (ha : ∀ y, va.read (Elt Ideal) (va.writes (Elt Ideal) f L) y = a (y 0).val (y 1).val)
    (hg : ∀ y, va.read (Elt Ideal) g y = a (y 0).val (y 1).val)
    (hu : ∀ k l, updAll x pv (accAt i va g) (ix2 k l) = accAt i va g (ix2 k l) + u k l.val) (y : S4608x256.Idx) :
    va.read (Elt Ideal) (va.writes (Elt Ideal) f (win3 va i x pv (accAt i va g) L)) y = addW (i 1).val u a (y 0).val (y 1).val := by
  refine (win3_over va i f a x pv (accAt i va g) L (fun k l => a (256 * (i 1).val + k.val) l + u k l) ha
    (fun k l => (hu k l).trans (congrArg (· + u k l.val) (accAt_at i va g a hg (ix2 k l)))) y).trans ?_
  unfold putW addW
  split_ifs with h
  · show a (256 * (i 1).val + ((y 0).val - 256 * (i 1).val)) _ + _ = _
    rw [Nat.add_sub_cancel' h.1]
  · exact (add_zero _).symm

/-- The rows a head block's keys or values are kept at: 512 rows of zeros first. -/
def padRows (f : ℕ → ℕ → EReal) (p l : ℕ) : EReal := if p < 512 then 0 else f (p - 512) l

/-- What the first point keeps of the keys or values. -/
theorem pad_over (v : View sig .tc .vmem S4608x256 .bf16) (c0 : v.ty.Contents (Elt Ideal))
    (x : Vec Ideal S4096x256 .bf16) (w0 : Vec Ideal S512x256 .bf16) (f : ℕ → ℕ → EReal) (hx : ∀ y, x y = f (y 0).val (y 1).val) (h0 : ∀ y, w0 y = 0)
    (inb0 inb1) (y : S4608x256.Idx) :
    v.read (Elt Ideal) (v.writes (Elt Ideal) c0 [⟨Rect.unit ![512, 0] S4096x256.size inb1, x⟩, ⟨Rect.unit ![0, 0] S512x256.size inb0, w0⟩]) y
      = padRows f (y 0).val (y 1).val := by
  have hy : (y 1).val < 256 := (y 1).isLt
  have hy0 : (y 0).val < 4608 := (y 0).isLt
  unfold padRows
  split_ifs with h
  · refine (View.read_writes_cons_rows_of_not_mem v c0 inb1 _ _ y rfl rfl (.inl h)).trans ?_
    exact (View.read_writes_cons_rows_of_mem v c0 inb0 _ _ y (ix2 ⟨(y 0).val, h⟩ ⟨(y 1).val, hy⟩ : S512x256.Idx) rfl (Nat.zero_add _).symm rfl).trans (h0 _)
  · refine (View.read_writes_cons_rows_of_mem v c0 inb1 _ _ y (ix2 ⟨(y 0).val - 512, by omega⟩ ⟨(y 1).val, hy⟩ : S4096x256.Idx) rfl ?_ rfl).trans (hx _)
    show (y 0).val = 512 + ((y 0).val - 512)
    omega

/-- The rows below the padding of an accumulator. -/
theorem low_rows (v : View sig .tc .vmem S4608x256 .f32) (f : v.ty.Contents (Elt Ideal)) (g : ℕ → ℕ → EReal)
    (h : ∀ z, v.read (Elt Ideal) f z = g (z 0).val (z 1).val) (inb : ∀ a, ![512, 0] a + S4096x256.size a ≤ S4608x256.size a) (y : S4096x256.Idx) :
    View.readAt (Elt Ideal) v (Rect.unit (s := S4608x256) ![512, 0] S4096x256.size inb).toLoadRect f y = g (512 + (y 0).val) (y 1).val := by
  have h0 : ((Rect.unit (s := S4608x256) ![512, 0] S4096x256.size inb).toLoadRect.idx y 0).val = 512 + 1 * (y 0).val := rfl
  have h1 : ((Rect.unit (s := S4608x256) ![512, 0] S4096x256.size inb).toLoadRect.idx y 1).val = 0 + 1 * (y 1).val := rfl
  refine (h _).trans ?_
  rw [h0, h1, Nat.one_mul, Nat.one_mul, Nat.zero_add]

/-- A rectangle at zero offsets moves no index. -/
theorem zero_idx {R C : ℕ} (inb) (y : (⟨2, ![R, C]⟩ : Shape).Idx) :
    (Rect.unit (s := ⟨2, ![R, C]⟩) ![0, 0] (⟨2, ![R, C]⟩ : Shape).size inb).toLoadRect.idx y = y :=
  funext fun a => Fin.ext (by match a with | ⟨0, _⟩ => exact (Nat.zero_add _).trans (Nat.one_mul _) | ⟨1, _⟩ => exact (Nat.zero_add _).trans (Nat.one_mul _))

/-- The window's stores do not depend on the array they are read back through. -/
theorem win3_indep (va vb : View sig .tc .vmem S4608x256 .f32) (x : Fin 4 → FVec Ideal S256x256 .bf16) (pv : Fin 4 → FVec Ideal S1x256x768 .bf16)
    (acc : FVec Ideal S768x256 .f32) (L : List (View.Piece (Elt Ideal) S4608x256 .f32)) :
    win3 va i x pv acc L = win3 vb i x pv acc L := by
  unfold win3 win2 win1
  simp only [View.readCov_eq_canon']

/-- A cast to the same shape moves nothing. -/
theorem whole_cast {s : Shape} {α : Type} (x : s.Idx → α) (h : s.ShapeCasts s) (y : s.Idx) : shapeCast s x h y = x y :=
  congrFun (shapeCast_self x h) y

end Cert.KernelIdeal.Attn
-- ==== Proof.Blocks.lean ====
/-
  The blocks of the arguments that a grid point is given, at an index.
-/
module

public import proofs.«01_k».proof.Proof.HostBias
public import proofs.«01_k».proof.Proof.Agree

@[expose] public section

set_option maxRecDepth 16384

noncomputable section

namespace Cert.KernelIdeal.Attn

open Cert.KernelIdeal Cert.KernelIdeal.Gen Idealize.ShloMosaic Cert.Attn Idealize.ShloMosaic.TcCoe

theorem place0 : ∀ t : Fin cfg0.N, win0_0.index t (0 : Fin 2) = t.val % 16 ∧ win0_0.index t (1 : Fin 2) = t.val / 16 :=
  (by decide +kernel : ∀ t : Fin grid0.N, _)
theorem place1 : ∀ t : Fin cfg0.N, win0_1.index t (0 : Fin 2) = 0 ∧ win0_1.index t (1 : Fin 2) = 4 + t.val / 16 :=
  (by decide +kernel : ∀ t : Fin grid0.N, _)
theorem place2 : ∀ t : Fin cfg0.N, win0_2.index t (0 : Fin 2) = 0 ∧ win0_2.index t (1 : Fin 2) = 8 + t.val / 16 :=
  (by decide +kernel : ∀ t : Fin grid0.N, _)
theorem place3 : ∀ t : Fin cfg0.N, win0_3.index t (0 : Fin 3) = t.val / 16 ∧ win0_3.index t (1 : Fin 3) = 0 ∧ win0_3.index t (2 : Fin 3) = 0 :=
  (by decide +kernel : ∀ t : Fin grid0.N, _)
theorem place4 : ∀ t : Fin cfg0.N, win0_4.index t (0 : Fin 2) = t.val % 16 ∧ win0_4.index t (1 : Fin 2) = t.val / 16 :=
  (by decide +kernel : ∀ t : Fin grid0.N, _)
theorem coord1 : ∀ t : Fin cfg0.N, (grid0.coords t 1).val = t.val % 16 :=
  (by decide +kernel : ∀ t : Fin grid0.N, _)

variable (m : (l : Loc nD τ sig) → Buf (Elt Ideal) l) (c : Dev nD) (t : Fin cfg0.N)

theorem iblk0_at (y : S256x256.Idx) : (iblk m c 0 t : S256x256.Idx → EReal) y
    = (J m c).Q (256 * (t.val % 16) + (y 0).val) (256 * (t.val / 16) + (y 1).val) := by
  have hb0 : (((cfg0.win 0).blk t).view.emb y 0).val = win0_0.index t (0 : Fin 2) * 256 + 1 * (y 0).val := rfl
  have hb1 : (((cfg0.win 0).blk t).view.emb y 1).val = win0_0.index t (1 : Fin 2) * 256 + 1 * (y 1).val := rfl
  obtain ⟨e0, e1⟩ := place0 t
  refine (congrFun (V_main_arg0 m c) (((cfg0.win 0).blk t).view.emb y)).trans ?_
  exact at2_of (m ((c : Thread nD τ).loc main_arg0) : S4096x3072.Idx → EReal) _ _ _ (by rw [hb0]; omega) (by rw [hb1]; omega)

theorem iblk1_at (y : S4096x256.Idx) : (iblk m c 1 t : S4096x256.Idx → EReal) y
    = (J m c).K (y 0).val (256 * (t.val / 16) + (y 1).val) := by
  have hb0 : (((cfg0.win 1).blk t).view.emb y 0).val = win0_1.index t (0 : Fin 2) * 4096 + 1 * (y 0).val := rfl
  have hb1 : (((cfg0.win 1).blk t).view.emb y 1).val = win0_1.index t (1 : Fin 2) * 256 + 1 * (y 1).val := rfl
  obtain ⟨e0, e1⟩ := place1 t
  refine (congrFun (V_main_arg0 m c) (((cfg0.win 1).blk t).view.emb y)).trans ?_
  exact at2_of (m ((c : Thread nD τ).loc main_arg0) : S4096x3072.Idx → EReal) _ _ _ (by rw [hb0]; omega) (by rw [hb1]; omega)

theorem iblk2_at (y : S4096x256.Idx) : (iblk m c 2 t : S4096x256.Idx → EReal) y
    = (J m c).V (y 0).val (256 * (t.val / 16) + (y 1).val) := by
  have hb0 : (((cfg0.win 2).blk t).view.emb y 0).val = win0_2.index t (0 : Fin 2) * 4096 + 1 * (y 0).val := rfl
  have hb1 : (((cfg0.win 2).blk t).view.emb y 1).val = win0_2.index t (1 : Fin 2) * 256 + 1 * (y 1).val := rfl
  obtain ⟨e0, e1⟩ := place2 t
  refine (congrFun (V_main_arg0 m c) (((cfg0.win 2).blk t).view.emb y)).trans ?_
  exact at2_of (m ((c : Thread nD τ).loc main_arg0) : S4096x3072.Idx → EReal) _ _ _ (by rw [hb0]; omega) (by rw [hb1]; omega)

theorem iblk4_at (y : S256x256.Idx) : (iblk m c 4 t : S256x256.Idx → EReal) y
    = (J m c).G (256 * (t.val % 16) + (y 0).val) (256 * (t.val / 16) + (y 1).val) := by
  have hb0 : (((cfg0.win 4).blk t).view.emb y 0).val = win0_4.index t (0 : Fin 2) * 256 + 1 * (y 0).val := rfl
  have hb1 : (((cfg0.win 4).blk t).view.emb y 1).val = win0_4.index t (1 : Fin 2) * 256 + 1 * (y 1).val := rfl
  obtain ⟨e0, e1⟩ := place4 t
  refine (congrFun (V_main_arg2 m c) (((cfg0.win 4).blk t).view.emb y)).trans ?_
  exact at2_of (m ((c : Thread nD τ).loc main_arg2) : S4096x1024.Idx → EReal) _ _ _ (by rw [hb0]; omega) (by rw [hb1]; omega)

theorem iblk3_at (y : S4x256x768.Idx) : (iblk m c 3 t : S4x256x768.Idx → EReal) y
    = biasB (J m c) (4 * (t.val / 16) + (y 0).val) (y 1).val (y 2).val := by
  have hb0 : (((cfg0.win 3).blk t).view.emb y 0).val = win0_3.index t (0 : Fin 3) * 4 + 1 * (y 0).val := rfl
  have hb1 : (((cfg0.win 3).blk t).view.emb y 1).val = win0_3.index t (1 : Fin 3) * 256 + 1 * (y 1).val := rfl
  have hb2 : (((cfg0.win 3).blk t).view.emb y 2).val = win0_3.index t (2 : Fin 3) * 768 + 1 * (y 2).val := rfl
  obtain ⟨e0, e1, e2⟩ := place3 t
  refine (bias_at m c (((cfg0.win 3).blk t).view.emb y)).trans ?_
  rw [hb0, hb1, hb2, e0, e1, e2, Nat.one_mul, Nat.one_mul, Nat.one_mul, Nat.zero_mul, Nat.zero_add, Nat.zero_add, Nat.mul_comm]

/-- The entries of the point's block: head block `h`, query block `b`. -/
def blkOf (I : Inp) (h : ℕ) (b : Fin 16) : Blk where
  b := b
  Q r l := I.Q (256 * b.val + r) (256 * h + l)
  D r l := I.G (256 * b.val + r) (256 * h + l)
  K k l := padRows (fun p l => I.K p (256 * h + l)) (256 * b.val + k) l
  V k l := padRows (fun p l => I.V p (256 * h + l)) (256 * b.val + k) l
  A j r k := biasB I (4 * h + j) r k

/-- The point's block. -/
abbrev blkAt : Blk := blkOf (J m c) (t.val / 16) ⟨t.val % 16, Nat.mod_lt _ (by decide)⟩

/-- The point is fed its block. -/
theorem fed : Fed (grid0.coords t) (iblk m c 0 t) (iblk m c 3 t) (iblk m c 4 t)
    (padRows fun p l => (J m c).K p (256 * (t.val / 16) + l)) (padRows fun p l => (J m c).V p (256 * (t.val / 16) + l)) (blkAt m c t) where
  b := (coord1 t).symm
  q := iblk0_at m c t
  d := iblk4_at m c t
  a := iblk3_at m c t
  k := fun k l => by rw [coord1 t]; rfl
  v := fun k l => by rw [coord1 t]; rfl

end Cert.KernelIdeal.Attn
-- ==== Proof.CaseA.lean ====
/-
  The first point of a sweep: its stores, as the blocks' functions of what it reads.
-/
module

public import proofs.«01_k».proof.Proof.Agree
public import Idealize.ShloMosaic.Lib.VecWindow
public import proofs.«01_k».proof.Proof.Gen.KernelIdeal.Frame

@[expose] public section

set_option maxRecDepth 16384

noncomputable section

namespace Cert.KernelIdeal.Attn.PointA

open Cert.KernelIdeal Cert.KernelIdeal.Gen Idealize.ShloMosaic Cert.Attn

variable (c : Dev nD) (i : grid0.Coords)
  (arg2 : Memref sig .tc .vmem S256x256 .bf16) (harg2 : arg2.IsWhole)
  (arg3 : Memref sig .tc .vmem S4096x256 .bf16) (harg3 : arg3.IsWhole)
  (arg4 : Memref sig .tc .vmem S4096x256 .bf16) (harg4 : arg4.IsWhole)
  (arg5 : Memref sig .tc .vmem S4x256x768 .f32) (harg5 : arg5.IsWhole)
  (arg6 : Memref sig .tc .vmem S256x256 .bf16) (harg6 : arg6.IsWhole)
  (arg7 : Memref sig .tc .vmem S256x256 .bf16) (harg7 : arg7.IsWhole)
  (arg8 : Memref sig .tc .vmem S4096x256 .bf16) (harg8 : arg8.IsWhole)
  (arg9 : Memref sig .tc .vmem S4096x256 .bf16) (harg9 : arg9.IsWhole)
  (arg10 : Memref sig .tc .vmem S4x256x768 .f32) (harg10 : arg10.IsWhole)
  (arg11 : Memref sig .tc .vmem S4608x256 .bf16) (harg11 : arg11.IsWhole)
  (arg12 : Memref sig .tc .vmem S4608x256 .bf16) (harg12 : arg12.IsWhole)
  (arg13 : Memref sig .tc .vmem S4608x256 .f32) (harg13 : arg13.IsWhole)
  (arg14 : Memref sig .tc .vmem S4608x256 .f32) (harg14 : arg14.IsWhole)
  (arg15 : Memref sig .tc .vmem S4x256x768 .bf16) (harg15 : arg15.IsWhole)
  (arg16 : Memref sig .tc .vmem S4x256x768 .bf16) (harg16 : arg16.IsWhole)
  (x0 : Vec Ideal S256x256 .bf16) (x1 x2 : Vec Ideal S4096x256 .bf16) (x3 : Vec Ideal S4x256x768 .f32) (x4 : Vec Ideal S256x256 .bf16)

/-- The point's reads: its window of keys and values is of what it has just stored. -/
def readsK : Reads := reads i arg2 harg2 arg5 harg5 arg6 harg6 x0 x3 x4
  (winAt i arg11.view (arg11.view.writes (Elt Ideal) arg11.view.junk (kernelRun0_A.sl.HS0_2 (F := Ideal) c arg3 harg3 x1)))
  (winAt i arg12.view (arg12.view.writes (Elt Ideal) arg12.view.junk (kernelRun0_A.sl.HS1_2 (F := Ideal) c arg4 harg4 x2)))

variable (hc0 : cond0_0 i) (hc1 : cond0_1 i) (hc2 : ¬cond0_2 i)

/-- The queries' gradient that the point stores. -/
theorem dq_store : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).1
    = [⟨Rect.unit ![0, 0] S256x256.size inb_S256x256_S256x256_0_0, (readsK c i arg2 harg2 arg3 harg3 arg4 harg4 arg5 harg5 arg6 harg6 arg11 arg12 x0 x1 x2 x3 x4).dq arg16.view⟩] := by
  sl_kernel_rfl

/-- The stores into the keys' accumulator. -/
theorem dk_store : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.2.2.2.2.1
    = win3 arg13.view i (fun j => qM j (readsK c i arg2 harg2 arg3 harg3 arg4 harg4 arg5 harg5 arg6 harg6 arg11 arg12 x0 x1 x2 x3 x4).q) (back arg16.view (readsK c i arg2 harg2 arg3 harg3 arg4 harg4 arg5 harg5 arg6 harg6 arg11 arg12 x0 x1 x2 x3 x4).s) (accAt i arg13.view (arg13.view.writes (Elt Ideal) arg13.view.junk (kernelRun0_A.sl.HS3_1 (F := Ideal)))) (kernelRun0_A.sl.HS3_1 (F := Ideal)) := by
  sl_kernel_rfl

/-- The stores into the values' accumulator. -/
theorem dv_store : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.2.2.2.2.2.1
    = win3 arg14.view i (fun j => gM j (readsK c i arg2 harg2 arg3 harg3 arg4 harg4 arg5 harg5 arg6 harg6 arg11 arg12 x0 x1 x2 x3 x4).d) (back arg15.view (readsK c i arg2 harg2 arg3 harg3 arg4 harg4 arg5 harg5 arg6 harg6 arg11 arg12 x0 x1 x2 x3 x4).p) (accAt i arg14.view (arg14.view.writes (Elt Ideal) arg14.view.junk (kernelRun0_A.sl.HS3_1 (F := Ideal)))) (kernelRun0_A.sl.HS3_1 (F := Ideal)) := by
  sl_kernel_rfl

/-- The keys' rows kept for the sweep. -/
theorem kp_store : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.2.2.1 = kernelRun0_A.sl.HS0_2 (F := Ideal) c arg3 harg3 x1 := by
  sl_kernel_rfl

/-- The values' rows kept for the sweep. -/
theorem vp_store : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.2.2.2.1 = kernelRun0_A.sl.HS1_2 (F := Ideal) c arg4 harg4 x2 := by
  sl_kernel_rfl

theorem keep_rows (v : View sig .tc .vmem S4608x256 .bf16) (c0 : v.ty.Contents (Elt Ideal)) (f : ℕ → ℕ → EReal) (hx : ∀ y, x1 y = f (y 0).val (y 1).val) (y : S4608x256.Idx) :
    v.read (Elt Ideal) (v.writes (Elt Ideal) c0 (kernelRun0_A.sl.HS0_2 (F := Ideal) c arg3 harg3 x1)) y = padRows f (y 0).val (y 1).val := by
  refine pad_over v c0 (kernelRun0_A.sl.v1668 c arg3 harg3 x1) (kernelRun0_A.sl.v1660 (F := Ideal)) f (fun z => ?_) (fun z => ?_) _ _ y
  · refine (whole_cast _ _ z).trans (Eq.trans ?_ (hx z))
    exact (congrFun (harg3.read_unread x1) _).trans (congrArg x1 (zero_idx _ z))
  · exact (whole_cast _ _ z).trans Ideal.ofBits_zero_bf16

theorem keep_rows' (v : View sig .tc .vmem S4608x256 .bf16) (c0 : v.ty.Contents (Elt Ideal)) (f : ℕ → ℕ → EReal) (hx : ∀ y, x2 y = f (y 0).val (y 1).val) (y : S4608x256.Idx) :
    v.read (Elt Ideal) (v.writes (Elt Ideal) c0 (kernelRun0_A.sl.HS1_2 (F := Ideal) c arg4 harg4 x2)) y = padRows f (y 0).val (y 1).val := by
  refine pad_over v c0 (kernelRun0_A.sl.v1672 c arg4 harg4 x2) (kernelRun0_A.sl.v1660 (F := Ideal)) f (fun z => ?_) (fun z => ?_) _ _ y
  · refine (whole_cast _ _ z).trans (Eq.trans ?_ (hx z))
    exact (congrFun (harg4.read_unread x2) _).trans (congrArg x2 (zero_idx _ z))
  · exact (whole_cast _ _ z).trans Ideal.ofBits_zero_bf16

theorem clear_rows (v : View sig .tc .vmem S4608x256 .f32) (c0 : v.ty.Contents (Elt Ideal)) (y : S4608x256.Idx) :
    v.read (Elt Ideal) (v.writes (Elt Ideal) c0 (kernelRun0_A.sl.HS3_1 (F := Ideal))) y = 0 := by
  refine (congrFun (View.read_writes_full v c0 inb_S4608x256_S4608x256_0_0 (kernelRun0_A.sl.v1660_1 (F := Ideal)) []) y).trans ?_
  exact (whole_cast _ _ y).trans Ideal.ofBits_zero_f32

variable (f1 f2 : ℕ → ℕ → EReal) (hx1 : ∀ y, x1 y = f1 (y 0).val (y 1).val) (hx2 : ∀ y, x2 y = f2 (y 0).val (y 1).val)
  (B : Blk) (H : Fed i x0 x3 x4 (padRows f1) (padRows f2) B)

include hx1 hx2 H in
theorem agrees : Agrees (readsK c i arg2 harg2 arg3 harg3 arg4 harg4 arg5 harg5 arg6 harg6 arg11 arg12 x0 x1 x2 x3 x4) B :=
  H.agrees i arg2 harg2 arg5 harg5 arg6 harg6 _ _ _ _ (keep_rows c arg3 harg3 x1 arg11.view _ f1 hx1) (keep_rows' c arg4 harg4 x2 arg12.view _ f2 hx2)

include hx1 in
/-- The keys' rows after the point. -/
theorem kp_val (y : S4608x256.Idx) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 y = padRows f1 (y 0).val (y 1).val := by
  unfold sout0_A_0
  rw [kp_store]
  exact keep_rows c arg3 harg3 x1 VS0_0 _ f1 hx1 y

include hx2 in
/-- The values' rows after the point. -/
theorem vp_val (y : S4608x256.Idx) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 y = padRows f2 (y 0).val (y 1).val := by
  unfold sout0_A_1
  rw [vp_store]
  exact keep_rows' c arg4 harg4 x2 VS0_1 _ f2 hx2 y

include hx1 hx2 H in
/-- The queries' gradient the point leaves. -/
theorem dq_val (y : S256x256.Idx) : out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 y = B.dq (y 0).val (y 1).val := by
  unfold out0_A_5
  rw [dq_store]
  refine (congrFun (View.read_writes_full VO0_5 _ inb_S256x256_S256x256_0_0 _ []) y).trans ?_
  exact (agrees c i arg2 harg2 arg3 harg3 arg4 harg4 arg5 harg5 arg6 harg6 arg11 arg12 x0 x1 x2 x3 x4 f1 f2 hx1 hx2 B H).dq arg16.view y

include hx1 hx2 H in
theorem dk_read (v : View sig .tc .vmem S4608x256 .f32) (c0 : v.ty.Contents (Elt Ideal)) (y : S4608x256.Idx) :
    v.read (Elt Ideal) (v.writes (Elt Ideal) c0 (win3 v i (fun j => qM j (readsK c i arg2 harg2 arg3 harg3 arg4 harg4 arg5 harg5 arg6 harg6 arg11 arg12 x0 x1 x2 x3 x4).q) (back arg16.view (readsK c i arg2 harg2 arg3 harg3 arg4 harg4 arg5 harg5 arg6 harg6 arg11 arg12 x0 x1 x2 x3 x4).s) (accAt i arg13.view (arg13.view.writes (Elt Ideal) arg13.view.junk (kernelRun0_A.sl.HS3_1 (F := Ideal)))) (kernelRun0_A.sl.HS3_1 (F := Ideal)))) y
      = addW (i 1).val B.dk (fun _ _ => 0) (y 0).val (y 1).val := by
  have e : accAt i arg13.view (arg13.view.writes (Elt Ideal) arg13.view.junk (kernelRun0_A.sl.HS3_1 (F := Ideal)))
      = accAt i v (v.writes (Elt Ideal) c0 (kernelRun0_A.sl.HS3_1 (F := Ideal))) := funext fun z =>
    (accAt_at i arg13.view _ (fun _ _ => 0) (clear_rows arg13.view _) z).trans (accAt_at i v _ (fun _ _ => 0) (clear_rows v c0) z).symm
  rw [e]
  exact acc_over i v _ _ (fun _ _ => 0) _ _ _ B.dk (clear_rows v c0) (clear_rows v c0) (fun k l => (agrees c i arg2 harg2 arg3 harg3 arg4 harg4 arg5 harg5 arg6 harg6 arg11 arg12 x0 x1 x2 x3 x4 f1 f2 hx1 hx2 B H).dk arg16.view _ k l) y

include hx1 hx2 H in
/-- What the point leaves in the accumulator. -/
theorem dk_val (y : S4608x256.Idx) : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 y = addW (i 1).val B.dk (fun _ _ => 0) (y 0).val (y 1).val := by
  unfold sout0_A_2
  rw [dk_store, win3_indep i arg13.view VS0_2]
  exact dk_read c i arg2 harg2 arg3 harg3 arg4 harg4 arg5 harg5 arg6 harg6 arg11 arg12 arg13 arg16 x0 x1 x2 x3 x4 f1 f2 hx1 hx2 B H VS0_2 _ y

include hx1 hx2 H in
theorem dv_read (v : View sig .tc .vmem S4608x256 .f32) (c0 : v.ty.Contents (Elt Ideal)) (y : S4608x256.Idx) :
    v.read (Elt Ideal) (v.writes (Elt Ideal) c0 (win3 v i (fun j => gM j (readsK c i arg2 harg2 arg3 harg3 arg4 harg4 arg5 harg5 arg6 harg6 arg11 arg12 x0 x1 x2 x3 x4).d) (back arg15.view (readsK c i arg2 harg2 arg3 harg3 arg4 harg4 arg5 harg5 arg6 harg6 arg11 arg12 x0 x1 x2 x3 x4).p) (accAt i arg14.view (arg14.view.writes (Elt Ideal) arg14.view.junk (kernelRun0_A.sl.HS3_1 (F := Ideal)))) (kernelRun0_A.sl.HS3_1 (F := Ideal)))) y
      = addW (i 1).val B.dv (fun _ _ => 0) (y 0).val (y 1).val := by
  have e : accAt i arg14.view (arg14.view.writes (Elt Ideal) arg14.view.junk (kernelRun0_A.sl.HS3_1 (F := Ideal)))
      = accAt i v (v.writes (Elt Ideal) c0 (kernelRun0_A.sl.HS3_1 (F := Ideal))) := funext fun z =>
    (accAt_at i arg14.view _ (fun _ _ => 0) (clear_rows arg14.view _) z).trans (accAt_at i v _ (fun _ _ => 0) (clear_rows v c0) z).symm
  rw [e]
  exact acc_over i v _ _ (fun _ _ => 0) _ _ _ B.dv (clear_rows v c0) (clear_rows v c0) (fun k l => (agrees c i arg2 harg2 arg3 harg3 arg4 harg4 arg5 harg5 arg6 harg6 arg11 arg12 x0 x1 x2 x3 x4 f1 f2 hx1 hx2 B H).dv arg15.view _ k l) y

include hx1 hx2 H in
/-- What the point leaves in the accumulator. -/
theorem dv_val (y : S4608x256.Idx) : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 y = addW (i 1).val B.dv (fun _ _ => 0) (y 0).val (y 1).val := by
  unfold sout0_A_3
  rw [dv_store, win3_indep i arg14.view VS0_3]
  exact dv_read c i arg2 harg2 arg3 harg3 arg4 harg4 arg5 harg5 arg6 harg6 arg11 arg12 arg14 arg15 x0 x1 x2 x3 x4 f1 f2 hx1 hx2 B H VS0_3 _ y

end Cert.KernelIdeal.Attn.PointA
-- ==== Proof.CaseB.lean ====
/-
  A point in the middle of a sweep: its stores, as the blocks' functions of what it reads.
-/
module

public import proofs.«01_k».proof.Proof.Agree
public import Idealize.ShloMosaic.Lib.VecWindow
public import proofs.«01_k».proof.Proof.Gen.KernelIdeal.Frame

@[expose] public section

set_option maxRecDepth 16384

noncomputable section

namespace Cert.KernelIdeal.Attn.PointB

open Cert.KernelIdeal Cert.KernelIdeal.Gen Idealize.ShloMosaic Cert.Attn

variable (c : Dev nD) (i : grid0.Coords)
  (arg2 : Memref sig .tc .vmem S256x256 .bf16) (harg2 : arg2.IsWhole)
  (arg3 : Memref sig .tc .vmem S4096x256 .bf16) (harg3 : arg3.IsWhole)
  (arg4 : Memref sig .tc .vmem S4096x256 .bf16) (harg4 : arg4.IsWhole)
  (arg5 : Memref sig .tc .vmem S4x256x768 .f32) (harg5 : arg5.IsWhole)
  (arg6 : Memref sig .tc .vmem S256x256 .bf16) (harg6 : arg6.IsWhole)
  (arg7 : Memref sig .tc .vmem S256x256 .bf16) (harg7 : arg7.IsWhole)
  (arg8 : Memref sig .tc .vmem S4096x256 .bf16) (harg8 : arg8.IsWhole)
  (arg9 : Memref sig .tc .vmem S4096x256 .bf16) (harg9 : arg9.IsWhole)
  (arg10 : Memref sig .tc .vmem S4x256x768 .f32) (harg10 : arg10.IsWhole)
  (arg11 : Memref sig .tc .vmem S4608x256 .bf16) (harg11 : arg11.IsWhole)
  (arg12 : Memref sig .tc .vmem S4608x256 .bf16) (harg12 : arg12.IsWhole)
  (arg13 : Memref sig .tc .vmem S4608x256 .f32) (harg13 : arg13.IsWhole)
  (arg14 : Memref sig .tc .vmem S4608x256 .f32) (harg14 : arg14.IsWhole)
  (arg15 : Memref sig .tc .vmem S4x256x768 .bf16) (harg15 : arg15.IsWhole)
  (arg16 : Memref sig .tc .vmem S4x256x768 .bf16) (harg16 : arg16.IsWhole)
  (x0 : Vec Ideal S256x256 .bf16) (x1 x2 : Vec Ideal S4096x256 .bf16) (x3 : Vec Ideal S4x256x768 .f32) (x4 : Vec Ideal S256x256 .bf16)
  (xo8 : Vec Ideal S4x256x768 .f32) (xs0 xs1 : Vec Ideal S4608x256 .bf16) (xs2 xs3 : Vec Ideal S4608x256 .f32)

/-- The point's reads: it finds the keys and values in place. -/
def readsK : Reads := reads i arg2 harg2 arg5 harg5 arg6 harg6 x0 x3 x4 (winAt i arg11.view (harg11.unread xs0)) (winAt i arg12.view (harg12.unread xs1))

variable (hc0 : ¬cond0_0 i) (hc1 : ¬cond0_1 i) (hc2 : ¬cond0_2 i)

/-- The queries' gradient that the point stores. -/
theorem dq_store : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3).1
    = [⟨Rect.unit ![0, 0] S256x256.size inb_S256x256_S256x256_0_0, (readsK i arg2 harg2 arg5 harg5 arg6 harg6 arg11 harg11 arg12 harg12 x0 x3 x4 xs0 xs1).dq arg16.view⟩] := by
  sl_kernel_rfl

/-- The stores into the keys' accumulator. -/
theorem dk_store : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3).2.2.2.2.2.2.1
    = win3 arg13.view i (fun j => qM j (readsK i arg2 harg2 arg5 harg5 arg6 harg6 arg11 harg11 arg12 harg12 x0 x3 x4 xs0 xs1).q) (back arg16.view (readsK i arg2 harg2 arg5 harg5 arg6 harg6 arg11 harg11 arg12 harg12 x0 x3 x4 xs0 xs1).s) (accAt i arg13.view (harg13.unread xs2)) [] := by
  sl_kernel_rfl

/-- The stores into the values' accumulator. -/
theorem dv_store : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3).2.2.2.2.2.2.2.1
    = win3 arg14.view i (fun j => gM j (readsK i arg2 harg2 arg5 harg5 arg6 harg6 arg11 harg11 arg12 harg12 x0 x3 x4 xs0 xs1).d) (back arg15.view (readsK i arg2 harg2 arg5 harg5 arg6 harg6 arg11 harg11 arg12 harg12 x0 x3 x4 xs0 xs1).p) (accAt i arg14.view (harg14.unread xs3)) [] := by
  sl_kernel_rfl

variable (kp vp dk0 dv0 : ℕ → ℕ → EReal) (h0 : ∀ y, xs0 y = kp (y 0).val (y 1).val) (h1 : ∀ y, xs1 y = vp (y 0).val (y 1).val)
  (h2 : ∀ y, xs2 y = dk0 (y 0).val (y 1).val) (h3 : ∀ y, xs3 y = dv0 (y 0).val (y 1).val)
  (B : Blk) (H : Fed i x0 x3 x4 kp vp B)

include h0 h1 H in
theorem agrees : Agrees (readsK i arg2 harg2 arg5 harg5 arg6 harg6 arg11 harg11 arg12 harg12 x0 x3 x4 xs0 xs1) B :=
  H.agrees i arg2 harg2 arg5 harg5 arg6 harg6 _ _ _ _ (fun z => (congrFun (harg11.read_unread xs0) z).trans (h0 z))
    (fun z => (congrFun (harg12.read_unread xs1) z).trans (h1 z))

include h0 h1 H in
/-- The queries' gradient the point leaves. -/
theorem dq_val (y : S256x256.Idx) : out0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3 y = B.dq (y 0).val (y 1).val := by
  unfold out0_B_5
  rw [dq_store]
  refine (congrFun (View.read_writes_full VO0_5 _ inb_S256x256_S256x256_0_0 _ []) y).trans ?_
  exact (agrees i arg2 harg2 arg5 harg5 arg6 harg6 arg11 harg11 arg12 harg12 x0 x3 x4 xs0 xs1 kp vp h0 h1 B H).dq arg16.view y

include h0 h1 h2 H in
/-- What the point leaves in the accumulator. -/
theorem dk_val (y : S4608x256.Idx) : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3 y = addW (i 1).val B.dk dk0 (y 0).val (y 1).val := by
  unfold sout0_B_2
  rw [dk_store]
  exact acc_over i arg13.view (harg13.unread xs2) (harg13.unread xs2) dk0 _ _ [] B.dk
    (fun z => (congrFun (harg13.read_unread xs2) z).trans (h2 z)) (fun z => (congrFun (harg13.read_unread xs2) z).trans (h2 z))
    (fun k l => (agrees i arg2 harg2 arg5 harg5 arg6 harg6 arg11 harg11 arg12 harg12 x0 x3 x4 xs0 xs1 kp vp h0 h1 B H).dk arg16.view _ k l) y

include h0 h1 h3 H in
/-- What the point leaves in the accumulator. -/
theorem dv_val (y : S4608x256.Idx) : sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3 y = addW (i 1).val B.dv dv0 (y 0).val (y 1).val := by
  unfold sout0_B_3
  rw [dv_store]
  exact acc_over i arg14.view (harg14.unread xs3) (harg14.unread xs3) dv0 _ _ [] B.dv
    (fun z => (congrFun (harg14.read_unread xs3) z).trans (h3 z)) (fun z => (congrFun (harg14.read_unread xs3) z).trans (h3 z))
    (fun k l => (agrees i arg2 harg2 arg5 harg5 arg6 harg6 arg11 harg11 arg12 harg12 x0 x3 x4 xs0 xs1 kp vp h0 h1 B H).dv arg15.view _ k l) y

end Cert.KernelIdeal.Attn.PointB
-- ==== Proof.CaseC.lean ====
/-
  The last point of a sweep: its stores, as the blocks' functions of what it reads.
-/
module

public import proofs.«01_k».proof.Proof.Agree
public import Idealize.ShloMosaic.Lib.VecWindow
public import proofs.«01_k».proof.Proof.Gen.KernelIdeal.Frame

@[expose] public section

set_option maxRecDepth 16384

noncomputable section

namespace Cert.KernelIdeal.Attn.PointC

open Cert.KernelIdeal Cert.KernelIdeal.Gen Idealize.ShloMosaic Cert.Attn

variable (c : Dev nD) (i : grid0.Coords)
  (arg2 : Memref sig .tc .vmem S256x256 .bf16) (harg2 : arg2.IsWhole)
  (arg3 : Memref sig .tc .vmem S4096x256 .bf16) (harg3 : arg3.IsWhole)
  (arg4 : Memref sig .tc .vmem S4096x256 .bf16) (harg4 : arg4.IsWhole)
  (arg5 : Memref sig .tc .vmem S4x256x768 .f32) (harg5 : arg5.IsWhole)
  (arg6 : Memref sig .tc .vmem S256x256 .bf16) (harg6 : arg6.IsWhole)
  (arg7 : Memref sig .tc .vmem S256x256 .bf16) (harg7 : arg7.IsWhole)
  (arg8 : Memref sig .tc .vmem S4096x256 .bf16) (harg8 : arg8.IsWhole)
  (arg9 : Memref sig .tc .vmem S4096x256 .bf16) (harg9 : arg9.IsWhole)
  (arg10 : Memref sig .tc .vmem S4x256x768 .f32) (harg10 : arg10.IsWhole)
  (arg11 : Memref sig .tc .vmem S4608x256 .bf16) (harg11 : arg11.IsWhole)
  (arg12 : Memref sig .tc .vmem S4608x256 .bf16) (harg12 : arg12.IsWhole)
  (arg13 : Memref sig .tc .vmem S4608x256 .f32) (harg13 : arg13.IsWhole)
  (arg14 : Memref sig .tc .vmem S4608x256 .f32) (harg14 : arg14.IsWhole)
  (arg15 : Memref sig .tc .vmem S4x256x768 .bf16) (harg15 : arg15.IsWhole)
  (arg16 : Memref sig .tc .vmem S4x256x768 .bf16) (harg16 : arg16.IsWhole)
  (x0 : Vec Ideal S256x256 .bf16) (x1 x2 : Vec Ideal S4096x256 .bf16) (x3 : Vec Ideal S4x256x768 .f32) (x4 : Vec Ideal S256x256 .bf16)
  (xo8 : Vec Ideal S4x256x768 .f32) (xs0 xs1 : Vec Ideal S4608x256 .bf16) (xs2 xs3 : Vec Ideal S4608x256 .f32)

/-- The point's reads: it finds the keys and values in place. -/
def readsK : Reads := reads i arg2 harg2 arg5 harg5 arg6 harg6 x0 x3 x4 (winAt i arg11.view (harg11.unread xs0)) (winAt i arg12.view (harg12.unread xs1))

variable (hc0 : ¬cond0_0 i) (hc1 : ¬cond0_1 i) (hc2 : cond0_2 i)

/-- The queries' gradient that the point stores. -/
theorem dq_store : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3).1
    = [⟨Rect.unit ![0, 0] S256x256.size inb_S256x256_S256x256_0_0, (readsK i arg2 harg2 arg5 harg5 arg6 harg6 arg11 harg11 arg12 harg12 x0 x3 x4 xs0 xs1).dq arg16.view⟩] := by
  sl_kernel_rfl

/-- The stores into the keys' accumulator. -/
theorem dk_store : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3).2.2.2.2.2.2.1
    = win3 arg13.view i (fun j => qM j (readsK i arg2 harg2 arg5 harg5 arg6 harg6 arg11 harg11 arg12 harg12 x0 x3 x4 xs0 xs1).q) (back arg16.view (readsK i arg2 harg2 arg5 harg5 arg6 harg6 arg11 harg11 arg12 harg12 x0 x3 x4 xs0 xs1).s) (accAt i arg13.view (harg13.unread xs2)) [] := by
  sl_kernel_rfl

/-- The stores into the values' accumulator. -/
theorem dv_store : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3).2.2.2.2.2.2.2.1
    = win3 arg14.view i (fun j => gM j (readsK i arg2 harg2 arg5 harg5 arg6 harg6 arg11 harg11 arg12 harg12 x0 x3 x4 xs0 xs1).d) (back arg15.view (readsK i arg2 harg2 arg5 harg5 arg6 harg6 arg11 harg11 arg12 harg12 x0 x3 x4 xs0 xs1).p) (accAt i arg14.view (harg14.unread xs3)) [] := by
  sl_kernel_rfl

variable (kp vp dk0 dv0 : ℕ → ℕ → EReal) (h0 : ∀ y, xs0 y = kp (y 0).val (y 1).val) (h1 : ∀ y, xs1 y = vp (y 0).val (y 1).val)
  (h2 : ∀ y, xs2 y = dk0 (y 0).val (y 1).val) (h3 : ∀ y, xs3 y = dv0 (y 0).val (y 1).val)
  (B : Blk) (H : Fed i x0 x3 x4 kp vp B)

include h0 h1 H in
theorem agrees : Agrees (readsK i arg2 harg2 arg5 harg5 arg6 harg6 arg11 harg11 arg12 harg12 x0 x3 x4 xs0 xs1) B :=
  H.agrees i arg2 harg2 arg5 harg5 arg6 harg6 _ _ _ _ (fun z => (congrFun (harg11.read_unread xs0) z).trans (h0 z))
    (fun z => (congrFun (harg12.read_unread xs1) z).trans (h1 z))

include h0 h1 H in
/-- The queries' gradient the point leaves. -/
theorem dq_val (y : S256x256.Idx) : out0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3 y = B.dq (y 0).val (y 1).val := by
  unfold out0_C_5
  rw [dq_store]
  refine (congrFun (View.read_writes_full VO0_5 _ inb_S256x256_S256x256_0_0 _ []) y).trans ?_
  exact (agrees i arg2 harg2 arg5 harg5 arg6 harg6 arg11 harg11 arg12 harg12 x0 x3 x4 xs0 xs1 kp vp h0 h1 B H).dq arg16.view y

include h0 h1 h2 H in
/-- What the point leaves in the accumulator. -/
theorem dk_val (y : S4608x256.Idx) : sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3 y = addW (i 1).val B.dk dk0 (y 0).val (y 1).val := by
  unfold sout0_C_2
  rw [dk_store]
  exact acc_over i arg13.view (harg13.unread xs2) (harg13.unread xs2) dk0 _ _ [] B.dk
    (fun z => (congrFun (harg13.read_unread xs2) z).trans (h2 z)) (fun z => (congrFun (harg13.read_unread xs2) z).trans (h2 z))
    (fun k l => (agrees i arg2 harg2 arg5 harg5 arg6 harg6 arg11 harg11 arg12 harg12 x0 x3 x4 xs0 xs1 kp vp h0 h1 B H).dk arg16.view _ k l) y

/-- The sweep's result: the accumulator's rows below the padding. -/
theorem dk_out_store : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3).2.1
    = [⟨Rect.unit ![0, 0] S4096x256.size inb_S4096x256_S4096x256_0_0, truncf (F := Ideal) .bf16 (View.readAt (Elt Ideal) arg13.view (Rect.unit (s := S4608x256) ![512, 0] S4096x256.size inb_S4608x256_S4096x256_512_0).toLoadRect
        (arg13.view.writes (Elt Ideal) (harg13.unread xs2) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3).2.2.2.2.2.2.1)) bitsLt_bf16_f32⟩] := by
  sl_kernel_rfl

include h0 h1 h2 H in
/-- The sweep's result. -/
theorem dk_out (y : S4096x256.Idx) : out0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3 y = addW (i 1).val B.dk dk0 (512 + (y 0).val) (y 1).val := by
  unfold out0_C_6
  rw [dk_out_store]
  refine (congrFun (View.read_writes_full VO0_6 _ inb_S4096x256_S4096x256_0_0 _ []) y).trans ?_
  exact low_rows arg13.view _ _ (dk_val c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xo8 xs0 xs1 xs2 xs3 hc0 hc1 hc2 kp vp dk0 h0 h1 h2 B H) inb_S4608x256_S4096x256_512_0 y

include h0 h1 h3 H in
/-- What the point leaves in the accumulator. -/
theorem dv_val (y : S4608x256.Idx) : sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3 y = addW (i 1).val B.dv dv0 (y 0).val (y 1).val := by
  unfold sout0_C_3
  rw [dv_store]
  exact acc_over i arg14.view (harg14.unread xs3) (harg14.unread xs3) dv0 _ _ [] B.dv
    (fun z => (congrFun (harg14.read_unread xs3) z).trans (h3 z)) (fun z => (congrFun (harg14.read_unread xs3) z).trans (h3 z))
    (fun k l => (agrees i arg2 harg2 arg5 harg5 arg6 harg6 arg11 harg11 arg12 harg12 x0 x3 x4 xs0 xs1 kp vp h0 h1 B H).dv arg15.view _ k l) y

/-- The sweep's result: the accumulator's rows below the padding. -/
theorem dv_out_store : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3).2.2.1
    = [⟨Rect.unit ![0, 0] S4096x256.size inb_S4096x256_S4096x256_0_0, truncf (F := Ideal) .bf16 (View.readAt (Elt Ideal) arg14.view (Rect.unit (s := S4608x256) ![512, 0] S4096x256.size inb_S4608x256_S4096x256_512_0).toLoadRect
        (arg14.view.writes (Elt Ideal) (harg14.unread xs3) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3).2.2.2.2.2.2.2.1)) bitsLt_bf16_f32⟩] := by
  sl_kernel_rfl

include h0 h1 h3 H in
/-- The sweep's result. -/
theorem dv_out (y : S4096x256.Idx) : out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo8 xs0 xs1 xs2 xs3 y = addW (i 1).val B.dv dv0 (512 + (y 0).val) (y 1).val := by
  unfold out0_C_7
  rw [dv_out_store]
  refine (congrFun (View.read_writes_full VO0_7 _ inb_S4096x256_S4096x256_0_0 _ []) y).trans ?_
  exact low_rows arg14.view _ _ (dv_val c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 xo8 xs0 xs1 xs2 xs3 hc0 hc1 hc2 kp vp dv0 h0 h1 h3 B H) inb_S4608x256_S4096x256_512_0 y

end Cert.KernelIdeal.Attn.PointC
-- ==== Proof.Sweep.lean ====
/-
  A sweep over a head block's query blocks: what the kernel carries from point to point, and what it leaves in its outputs.
-/
module

public import proofs.«01_k».proof.Proof.Blocks
public import proofs.«01_k».proof.Proof.CaseA
public import proofs.«01_k».proof.Proof.CaseB
public import proofs.«01_k».proof.Proof.CaseC

@[expose] public section

set_option maxRecDepth 16384

noncomputable section

namespace Cert.KernelIdeal.Attn

open Cert.KernelIdeal Cert.KernelIdeal.Gen Idealize.ShloMosaic Cert.Attn Idealize.ShloMosaic.TcCoe

/-- The windows' contributions up to query block `b`, added up. -/
def gather (u : ℕ → Fin 768 → ℕ → EReal) : ℕ → ℕ → ℕ → EReal
  | 0 => addW 0 (u 0) fun _ _ => 0
  | b + 1 => addW (b + 1) (u (b + 1)) (gather u b)

/-- Query block `b`'s contribution to the keys' gradient of head block `h`. -/
def uK (I : Inp) (h b : ℕ) : Fin 768 → ℕ → EReal := (blkOf I h ⟨b % 16, Nat.mod_lt _ (by decide)⟩).dk

/-- Query block `b`'s contribution to the values' gradient of head block `h`. -/
def uV (I : Inp) (h b : ℕ) : Fin 768 → ℕ → EReal := (blkOf I h ⟨b % 16, Nat.mod_lt _ (by decide)⟩).dv

variable (m : (l : Loc nD τ sig) → Buf (Elt Ideal) l) (c : Dev nD)

/-- What is carried after point `n`. -/
structure Held (n : ℕ) (hn : n < cfg0.N) : Prop where
  kp : ∀ z, (outsAt0 m c n hn).2.2.2.2.1 z = padRows (fun p l => (J m c).K p (256 * (n / 16) + l)) (z 0).val (z 1).val
  vp : ∀ z, (outsAt0 m c n hn).2.2.2.2.2.1 z = padRows (fun p l => (J m c).V p (256 * (n / 16) + l)) (z 0).val (z 1).val
  dk : ∀ z, (outsAt0 m c n hn).2.2.2.2.2.2.1 z = gather (uK (J m c) (n / 16)) (n % 16) (z 0).val (z 1).val
  dv : ∀ z, (outsAt0 m c n hn).2.2.2.2.2.2.2 z = gather (uV (J m c) (n / 16)) (n % 16) (z 0).val (z 1).val

/-! ## Point by point -/

variable (t : Fin cfg0.N)

theorem kp_A (h0 : t.val % 16 = 0) (h2 : ¬t.val % 16 = 15) : (outsAt0 m c t.val t.isLt).2.2.2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h0) (fun h => h2 ((hcond0_2 t).mp h)) (iblk m c 0 t) (iblk m c 1 t) (iblk m c 2 t) (iblk m c 3 t) (iblk m c 4 t) := by
  rw [outsAt0_A m c t h0 h0 h2]

theorem vp_A (h0 : t.val % 16 = 0) (h2 : ¬t.val % 16 = 15) : (outsAt0 m c t.val t.isLt).2.2.2.2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h0) (fun h => h2 ((hcond0_2 t).mp h)) (iblk m c 0 t) (iblk m c 1 t) (iblk m c 2 t) (iblk m c 3 t) (iblk m c 4 t) := by
  rw [outsAt0_A m c t h0 h0 h2]

theorem dk_A (h0 : t.val % 16 = 0) (h2 : ¬t.val % 16 = 15) : (outsAt0 m c t.val t.isLt).2.2.2.2.2.2.1 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h0) (fun h => h2 ((hcond0_2 t).mp h)) (iblk m c 0 t) (iblk m c 1 t) (iblk m c 2 t) (iblk m c 3 t) (iblk m c 4 t) := by
  rw [outsAt0_A m c t h0 h0 h2]

theorem dv_A (h0 : t.val % 16 = 0) (h2 : ¬t.val % 16 = 15) : (outsAt0 m c t.val t.isLt).2.2.2.2.2.2.2 = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h0) (fun h => h2 ((hcond0_2 t).mp h)) (iblk m c 0 t) (iblk m c 1 t) (iblk m c 2 t) (iblk m c 3 t) (iblk m c 4 t) := by
  rw [outsAt0_A m c t h0 h0 h2]

theorem dq_A (h0 : t.val % 16 = 0) (h2 : ¬t.val % 16 = 15) : (outsAt0 m c t.val t.isLt).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h0) (fun h => h2 ((hcond0_2 t).mp h)) (iblk m c 0 t) (iblk m c 1 t) (iblk m c 2 t) (iblk m c 3 t) (iblk m c 4 t) := by
  rw [outsAt0_A m c t h0 h0 h2]

theorem dk_B (h0 : ¬t.val % 16 = 0) (h2 : ¬t.val % 16 = 15) : (outsAt0 m c t.val t.isLt).2.2.2.2.2.2.1 = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h0 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_B m c t h0 h0 h2]

theorem dv_B (h0 : ¬t.val % 16 = 0) (h2 : ¬t.val % 16 = 15) : (outsAt0 m c t.val t.isLt).2.2.2.2.2.2.2 = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h0 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_B m c t h0 h0 h2]

theorem dq_B (h0 : ¬t.val % 16 = 0) (h2 : ¬t.val % 16 = 15) : (outsAt0 m c t.val t.isLt).1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h0 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_B m c t h0 h0 h2]

theorem kp_B (h0 : ¬t.val % 16 = 0) (h2 : ¬t.val % 16 = 15) : (outsAt0 m c t.val t.isLt).2.2.2.2.1 = (outsAt0 m c (t.val - 1) (Nat.lt_of_le_of_lt (Nat.sub_le _ _) t.isLt)).2.2.2.2.1 :=
  congrArg (fun p => p.2.2.2.2.1) (outsAt0_B m c t h0 h0 h2)

theorem vp_B (h0 : ¬t.val % 16 = 0) (h2 : ¬t.val % 16 = 15) : (outsAt0 m c t.val t.isLt).2.2.2.2.2.1 = (outsAt0 m c (t.val - 1) (Nat.lt_of_le_of_lt (Nat.sub_le _ _) t.isLt)).2.2.2.2.2.1 :=
  congrArg (fun p => p.2.2.2.2.2.1) (outsAt0_B m c t h0 h0 h2)

theorem dk_C (h0 : ¬t.val % 16 = 0) (h2 : t.val % 16 = 15) : (outsAt0 m c t.val t.isLt).2.2.2.2.2.2.1 = sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h0 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_C m c t h0 h0 h2]

theorem dv_C (h0 : ¬t.val % 16 = 0) (h2 : t.val % 16 = 15) : (outsAt0 m c t.val t.isLt).2.2.2.2.2.2.2 = sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h0 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_C m c t h0 h0 h2]

theorem dq_C (h0 : ¬t.val % 16 = 0) (h2 : t.val % 16 = 15) : (outsAt0 m c t.val t.isLt).1 = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h0 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_C m c t h0 h0 h2]

theorem dko_C (h0 : ¬t.val % 16 = 0) (h2 : t.val % 16 = 15) : (outsAt0 m c t.val t.isLt).2.1 = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h0 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_C m c t h0 h0 h2]

theorem dvo_C (h0 : ¬t.val % 16 = 0) (h2 : t.val % 16 = 15) : (outsAt0 m c t.val t.isLt).2.2.1 = out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h0 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := by
  rw [outsAt0_C m c t h0 h0 h2]

theorem kp_C (h0 : ¬t.val % 16 = 0) (h2 : t.val % 16 = 15) : (outsAt0 m c t.val t.isLt).2.2.2.2.1 = (outsAt0 m c (t.val - 1) (Nat.lt_of_le_of_lt (Nat.sub_le _ _) t.isLt)).2.2.2.2.1 :=
  congrArg (fun p => p.2.2.2.2.1) (outsAt0_C m c t h0 h0 h2)

theorem vp_C (h0 : ¬t.val % 16 = 0) (h2 : t.val % 16 = 15) : (outsAt0 m c t.val t.isLt).2.2.2.2.2.1 = (outsAt0 m c (t.val - 1) (Nat.lt_of_le_of_lt (Nat.sub_le _ _) t.isLt)).2.2.2.2.2.1 :=
  congrArg (fun p => p.2.2.2.2.2.1) (outsAt0_C m c t h0 h0 h2)

theorem uK_at : uK (J m c) (t.val / 16) (t.val % 16) = (blkAt m c t).dk := by
  unfold uK blkAt
  simp only [Nat.mod_mod]

theorem uV_at : uV (J m c) (t.val / 16) (t.val % 16) = (blkAt m c t).dv := by
  unfold uV blkAt
  simp only [Nat.mod_mod]

/-- One more point. -/
theorem gather_step (u : ℕ → Fin 768 → ℕ → EReal) (b : ℕ) (hb : ¬b = 0) : gather u b = addW b (u b) (gather u (b - 1)) := by
  match b, hb with
  | b + 1, _ => rfl

/-- The first point. -/
theorem gather_first (u : ℕ → Fin 768 → ℕ → EReal) (b : ℕ) (hb : b = 0) : gather u b = addW b (u b) fun _ _ => 0 := by
  subst hb
  rfl

theorem held_first (h0 : t.val % 16 = 0) (h2 : ¬t.val % 16 = 15) : Held m c t.val t.isLt where
  kp := fun z => (congrFun (kp_A m c t h0 h2) z).trans (PointA.kp_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) ((hcond0_0 t).mpr h0) ((hcond0_1 t).mpr h0) (fun h => h2 ((hcond0_2 t).mp h)) (fun p l => (J m c).K p (256 * (t.val / 16) + l)) (iblk1_at m c t) z)
  vp := fun z => (congrFun (vp_A m c t h0 h2) z).trans (PointA.vp_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) ((hcond0_0 t).mpr h0) ((hcond0_1 t).mpr h0) (fun h => h2 ((hcond0_2 t).mp h)) (fun p l => (J m c).V p (256 * (t.val / 16) + l)) (iblk2_at m c t) z)
  dk := fun z => (congrFun (dk_A m c t h0 h2) z).trans ((PointA.dk_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) ((hcond0_0 t).mpr h0) ((hcond0_1 t).mpr h0) (fun h => h2 ((hcond0_2 t).mp h)) (fun p l => (J m c).K p (256 * (t.val / 16) + l)) (fun p l => (J m c).V p (256 * (t.val / 16) + l)) (iblk1_at m c t) (iblk2_at m c t) (blkAt m c t) (fed m c t) z).trans (by
    rw [gather_first _ _ h0, uK_at, coord1 t]))
  dv := fun z => (congrFun (dv_A m c t h0 h2) z).trans ((PointA.dv_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) ((hcond0_0 t).mpr h0) ((hcond0_1 t).mpr h0) (fun h => h2 ((hcond0_2 t).mp h)) (fun p l => (J m c).K p (256 * (t.val / 16) + l)) (fun p l => (J m c).V p (256 * (t.val / 16) + l)) (iblk1_at m c t) (iblk2_at m c t) (blkAt m c t) (fed m c t) z).trans (by
    rw [gather_first _ _ h0, uV_at, coord1 t]))

/-- What the point before holds, over the head block of this one. -/
theorem before (h0 : ¬t.val % 16 = 0) (H : Held m c (t.val - 1) (Nat.lt_of_le_of_lt (Nat.sub_le _ _) t.isLt)) :
    (∀ z, (outsAt0 m c (t.val - 1) (Nat.lt_of_le_of_lt (Nat.sub_le _ _) t.isLt)).2.2.2.2.1 z = padRows (fun p l => (J m c).K p (256 * (t.val / 16) + l)) (z 0).val (z 1).val)
    ∧ (∀ z, (outsAt0 m c (t.val - 1) (Nat.lt_of_le_of_lt (Nat.sub_le _ _) t.isLt)).2.2.2.2.2.1 z = padRows (fun p l => (J m c).V p (256 * (t.val / 16) + l)) (z 0).val (z 1).val)
    ∧ (∀ z, (outsAt0 m c (t.val - 1) (Nat.lt_of_le_of_lt (Nat.sub_le _ _) t.isLt)).2.2.2.2.2.2.1 z = gather (uK (J m c) (t.val / 16)) (t.val % 16 - 1) (z 0).val (z 1).val)
    ∧ (∀ z, (outsAt0 m c (t.val - 1) (Nat.lt_of_le_of_lt (Nat.sub_le _ _) t.isLt)).2.2.2.2.2.2.2 z = gather (uV (J m c) (t.val / 16)) (t.val % 16 - 1) (z 0).val (z 1).val) := by
  have e : (t.val - 1) / 16 = t.val / 16 := by omega
  have e' : (t.val - 1) % 16 = t.val % 16 - 1 := by omega
  have h := H.kp
  have h' := H.vp
  have h3 := H.dk
  have h4 := H.dv
  rw [e] at h h' h3 h4
  rw [e'] at h3 h4
  exact ⟨h, h', h3, h4⟩

theorem held_B (h0 : ¬t.val % 16 = 0) (h2 : ¬t.val % 16 = 15) (H : Held m c (t.val - 1) (Nat.lt_of_le_of_lt (Nat.sub_le _ _) t.isLt)) : Held m c t.val t.isLt := by
  obtain ⟨hk, hv, hdk, hdv⟩ := before m c t h0 H
  exact
  { kp := fun z => (congrFun (kp_B m c t h0 h2) z).trans (hk z)
    vp := fun z => (congrFun (vp_B m c t h0 h2) z).trans (hv z)
    dk := fun z => (congrFun (dk_B m c t h0 h2) z).trans ((PointB.dk_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h0 ((hcond0_1 t).mp h)) (fun h => h2 ((hcond0_2 t).mp h)) _ _ _ hk hv hdk (blkAt m c t) (fed m c t) z).trans (by
      rw [gather_step _ _ h0, uK_at, coord1 t]))
    dv := fun z => (congrFun (dv_B m c t h0 h2) z).trans ((PointB.dv_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h0 ((hcond0_1 t).mp h)) (fun h => h2 ((hcond0_2 t).mp h)) _ _ _ hk hv hdv (blkAt m c t) (fed m c t) z).trans (by
      rw [gather_step _ _ h0, uV_at, coord1 t])) }

theorem held_C (h0 : ¬t.val % 16 = 0) (h2 : t.val % 16 = 15) (H : Held m c (t.val - 1) (Nat.lt_of_le_of_lt (Nat.sub_le _ _) t.isLt)) : Held m c t.val t.isLt := by
  obtain ⟨hk, hv, hdk, hdv⟩ := before m c t h0 H
  exact
  { kp := fun z => (congrFun (kp_C m c t h0 h2) z).trans (hk z)
    vp := fun z => (congrFun (vp_C m c t h0 h2) z).trans (hv z)
    dk := fun z => (congrFun (dk_C m c t h0 h2) z).trans ((PointC.dk_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h0 ((hcond0_1 t).mp h)) ((hcond0_2 t).mpr h2) _ _ _ hk hv hdk (blkAt m c t) (fed m c t) z).trans (by
      rw [gather_step _ _ h0, uK_at, coord1 t]))
    dv := fun z => (congrFun (dv_C m c t h0 h2) z).trans ((PointC.dv_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h0 ((hcond0_1 t).mp h)) ((hcond0_2 t).mpr h2) _ _ _ hk hv hdv (blkAt m c t) (fed m c t) z).trans (by
      rw [gather_step _ _ h0, uV_at, coord1 t])) }

/-- What is carried, after every point. -/
theorem held : ∀ (n : ℕ) (hn : n < cfg0.N), Held m c n hn := by
  intro n
  induction n with
  | zero => intro hn; exact held_first m c ⟨0, hn⟩ rfl (by show ¬(0 : ℕ) % 16 = 15; decide)
  | succ n ih =>
    intro hn
    by_cases h0 : (n + 1) % 16 = 0
    · exact held_first m c ⟨n + 1, hn⟩ h0 (by show ¬(n + 1) % 16 = 15; omega)
    · by_cases h2 : (n + 1) % 16 = 15
      · exact held_C m c ⟨n + 1, hn⟩ h0 h2 (ih _)
      · exact held_B m c ⟨n + 1, hn⟩ h0 h2 (ih _)

/-- The queries' gradient a point leaves. -/
theorem dq_out (y : S256x256.Idx) : (outsAt0 m c t.val t.isLt).1 y = (blkAt m c t).dq (y 0).val (y 1).val := by
  by_cases h0 : t.val % 16 = 0
  · have h2 : ¬t.val % 16 = 15 := by omega
    exact (congrFun (dq_A m c t h0 h2) y).trans (PointA.dq_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) ((hcond0_0 t).mpr h0) ((hcond0_1 t).mpr h0) (fun h => h2 ((hcond0_2 t).mp h)) (fun p l => (J m c).K p (256 * (t.val / 16) + l)) (fun p l => (J m c).V p (256 * (t.val / 16) + l)) (iblk1_at m c t) (iblk2_at m c t) (blkAt m c t) (fed m c t) y)
  · obtain ⟨hk, hv, -, -⟩ := before m c t h0 (held m c _ _)
    by_cases h2 : t.val % 16 = 15
    · exact (congrFun (dq_C m c t h0 h2) y).trans (PointC.dq_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h0 ((hcond0_1 t).mp h)) ((hcond0_2 t).mpr h2) _ _ hk hv (blkAt m c t) (fed m c t) y)
    · exact (congrFun (dq_B m c t h0 h2) y).trans (PointB.dq_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h0 ((hcond0_1 t).mp h)) (fun h => h2 ((hcond0_2 t).mp h)) _ _ hk hv (blkAt m c t) (fed m c t) y)

/-- The keys' gradient the last point of a sweep leaves. -/
theorem dk_out (h2 : t.val % 16 = 15) (y : S4096x256.Idx) :
    (outsAt0 m c t.val t.isLt).2.1 y = gather (uK (J m c) (t.val / 16)) 15 (512 + (y 0).val) (y 1).val := by
  have h0 : ¬t.val % 16 = 0 := by omega
  obtain ⟨hk, hv, hdk, -⟩ := before m c t h0 (held m c _ _)
  refine (congrFun (dko_C m c t h0 h2) y).trans ((PointC.dk_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h0 ((hcond0_1 t).mp h)) ((hcond0_2 t).mpr h2) _ _ _ hk hv hdk (blkAt m c t) (fed m c t) y).trans ?_)
  have e := gather_step (uK (J m c) (t.val / 16)) (t.val % 16) h0
  rw [uK_at] at e
  rw [coord1 t, ← e, h2]

/-- The values' gradient the last point of a sweep leaves. -/
theorem dv_out (h2 : t.val % 16 = 15) (y : S4096x256.Idx) :
    (outsAt0 m c t.val t.isLt).2.2.1 y = gather (uV (J m c) (t.val / 16)) 15 (512 + (y 0).val) (y 1).val := by
  have h0 : ¬t.val % 16 = 0 := by omega
  obtain ⟨hk, hv, -, hdv⟩ := before m c t h0 (held m c _ _)
  refine (congrFun (dvo_C m c t h0 h2) y).trans ((PointC.dv_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h0 ((hcond0_1 t).mp h)) ((hcond0_2 t).mpr h2) _ _ _ hk hv hdv (blkAt m c t) (fed m c t) y).trans ?_)
  have e := gather_step (uV (J m c) (t.val / 16)) (t.val % 16) h0
  rw [uV_at] at e
  rw [coord1 t, ← e, h2]

end Cert.KernelIdeal.Attn
-- ==== Proof.Whole.lean ====
/-
  From blocks to the whole sequence: a block's row is the sequence's, and the blocks' contributions add up to it.
-/
module

public import proofs.«01_k».proof.Proof.Sweep

@[expose] public section

noncomputable section

namespace Cert.KernelIdeal.Attn

open Cert.KernelIdeal Idealize.ShloMosaic Cert.Attn

/-- The windows' contributions added up. -/
theorem gather_sum (u : ℕ → Fin 768 → ℕ → EReal) (n p l : ℕ) :
    gather u n p l = ∑ b ∈ Finset.range (n + 1), if h : 256 * b ≤ p ∧ p < 256 * b + 768 then u b ⟨p - 256 * b, by omega⟩ l else 0 := by
  induction n with
  | zero => simp [gather, addW]
  | succ n ih =>
    rw [Finset.sum_range_succ, ← ih]
    rfl

variable (I : Inp) (h : ℕ) (b : Fin 16) (j r : ℕ) (hr : r < 256)

/-- The scores of a query over the padded keys. -/
def padScore (hd s q : ℕ) : EReal := if 512 ≤ q then I.score hd s (q - 512) else ⊥

/-- The weights' gradients of a query over the padded keys. -/
def padG (s q : ℕ) (hd : ℕ) : EReal := ∑ d : Fin 64, I.G s (64 * hd + d) * padRows I.V q (64 * hd + d)

theorem rel_shift (s t q k : ℕ) (e : s + k = t + q) : rel s t = rel q k := by
  unfold rel
  split_ifs <;> omega

include hr in
theorem seen_shift (k t : ℕ) (e : 256 * b.val + k = t + 512) :
    Seen (256 * b.val + r) t ↔ 64 * (r / 64) ≤ k ∧ k < 64 * (r / 64) + 576 := by
  have hb := b.isLt
  unfold Seen
  omega

include hr in
theorem score_row : (blkOf I h b).score j r = fun k : Fin 768 => padScore I (4 * h + j) (256 * b.val + r) (256 * b.val + k.val) := by
  funext k
  unfold Blk.score trow padScore
  show (if 512 ≤ 256 * b.val + k.val then _ else _) = _
  split_ifs with hk
  · have e : 256 * b.val + k.val = (256 * b.val + k.val - 512) + 512 := by omega
    have hs := seen_shift b r hr k.val (256 * b.val + k.val - 512) e
    unfold Inp.score
    show _ + biasB I (4 * h + j) r k.val = _
    unfold biasB
    by_cases hc : 64 * (r / 64) ≤ k.val ∧ k.val < 64 * (r / 64) + 576
    · rw [if_pos hc, if_pos (hs.mpr hc)]
      congr 1
      · unfold dot64
        rw [sum_mul_of_nonneg _ eighth_nonneg eighth_ne_top]
        refine Finset.sum_congr rfl fun d _ => ?_
        show I.Q (256 * b.val + r) (256 * h + (64 * j + d)) * eighth * padRows (fun p l => I.K p (256 * h + l)) (256 * b.val + k.val) (64 * j + d) = _
        unfold padRows
        dsimp only
        rw [if_neg (by omega), show 256 * h + (64 * j + d.val) = 64 * (4 * h + j) + d.val by ring, mul_right_comm]
      · rw [rel_shift (256 * b.val + r) (256 * b.val + k.val - 512) (512 + r) k.val (by omega)]
    · rw [if_neg hc, if_neg (fun h => hc (hs.mp h)), EReal.add_bot]
  · rfl

theorem g_row : (blkOf I h b).g j r = fun k : Fin 768 => padG I (256 * b.val + r) (256 * b.val + k.val) (4 * h + j) := by
  funext k
  unfold Blk.g padG
  refine Finset.sum_congr rfl fun d _ => ?_
  show I.G _ (256 * h + (64 * j + d)) * padRows (fun p l => I.V p (256 * h + l)) _ (64 * j + d) = _
  unfold padRows
  dsimp only
  rw [show 256 * h + (64 * j + d.val) = 64 * (4 * h + j) + d.val by ring]

include hr in
theorem outside (hd q : ℕ) (hq : ¬(512 ≤ q ∧ 256 * b.val ≤ q ∧ q < 256 * b.val + 768)) : padScore I hd (256 * b.val + r) q = ⊥ := by
  unfold padScore
  split_ifs with h5
  · unfold Inp.score
    rw [if_neg]
    unfold Seen
    omega
  · rfl

theorem score_pad (hd s : ℕ) : (fun t : Fin 4096 => I.score hd s t) = fun t : Fin 4096 => padScore I hd s (t + 512) := by
  funext t
  unfold padScore
  rw [if_pos (by omega), Nat.add_sub_cancel]

theorem g_pad (hd s : ℕ) : (fun t : Fin 4096 => dot64 I.G I.V hd s t) = fun t : Fin 4096 => padG I s (t + 512) hd := by
  funext t
  unfold padG dot64 padRows
  refine Finset.sum_congr rfl fun d _ => ?_
  rw [if_neg (by omega), Nat.add_sub_cancel]

include hr in
theorem P_row {k : Fin 768} {t : Fin 4096} (e : 256 * b.val + k.val = t.val + 512) :
    (blkOf I h b).P j r k = I.P (4 * h + j) (256 * b.val + r) t := by
  unfold Blk.P Inp.P
  rw [score_row I h b j r hr, score_pad]
  exact pr_window (a := 768) (b := 4096) (o := 256 * b.val) (p := 512) (by omega) (outside I b r hr (4 * h + j)) e

include hr in
theorem S_row {k : Fin 768} {t : Fin 4096} (e : 256 * b.val + k.val = t.val + 512) :
    (blkOf I h b).S j r k = I.DS (4 * h + j) (256 * b.val + r) t := by
  unfold Blk.S Inp.DS
  rw [score_row I h b j r hr, score_pad, g_row, g_pad]
  exact ds_window (a := 768) (b := 4096) (o := 256 * b.val) (p := 512) (G := fun q => padG I (256 * b.val + r) q (4 * h + j)) (by omega) (outside I b r hr (4 * h + j)) e

include hr in
theorem S_pad {k : Fin 768} (e : 256 * b.val + k.val < 512) : (blkOf I h b).S j r k = 0 := by
  unfold Blk.S
  refine ds_of_bot _ _ _ ?_
  rw [score_row I h b j r hr]
  exact outside I b r hr _ _ (by omega)

include hr in
theorem score_out (hd : ℕ) (t : Fin 4096) (ht : ¬(256 * b.val ≤ t.val + 512 ∧ t.val + 512 < 256 * b.val + 768)) : I.score hd (256 * b.val + r) t = ⊥ := by
  rw [congrFun (score_pad I hd (256 * b.val + r)) t]
  exact outside I b r hr hd _ (by omega)

include hr in
theorem DS_out (hd : ℕ) (t : Fin 4096) (ht : ¬(256 * b.val ≤ t.val + 512 ∧ t.val + 512 < 256 * b.val + 768)) : I.DS hd (256 * b.val + r) t = 0 := by
  unfold Inp.DS
  exact ds_of_bot (fun t : Fin 4096 => I.score hd (256 * b.val + r) t) _ t (score_out I b r hr hd t ht)

include hr in
theorem P_out (hd : ℕ) (t : Fin 4096) (ht : ¬(256 * b.val ≤ t.val + 512 ∧ t.val + 512 < 256 * b.val + 768)) : I.P hd (256 * b.val + r) t = 0 := by
  unfold Inp.P
  exact pr_of_bot (fun t : Fin 4096 => I.score hd (256 * b.val + r) t) t (score_out I b r hr hd t ht)

include hr in
/-- The queries' gradient of a block is the sequence's. -/
theorem dq_whole (l : ℕ) : (blkOf I h b).dq r l = I.dq (256 * b.val + r) (256 * h + l) := by
  unfold Blk.dq Inp.dq
  rw [mul_sum_of_nonneg _ eighth_nonneg eighth_ne_top, show (256 * h + l) / 64 = 4 * h + l / 64 by omega]
  have key := sum_window (a := 768) (b := 4096) (o := 256 * b.val) (p := 512) (by omega)
    (fun q => if hq : 512 ≤ q ∧ q < 4608 then I.DS (4 * h + l / 64) (256 * b.val + r) ⟨q - 512, by omega⟩ * eighth * I.K (q - 512) (256 * h + l) else 0)
    (fun q hq => by
      split_ifs with h5
      · rw [DS_out I b r hr _ ⟨q - 512, by omega⟩ (by simp only; omega), zero_mul, zero_mul]
      · rfl)
  refine (Finset.sum_congr rfl fun k _ => ?_).trans (key.trans (Finset.sum_congr rfl fun t _ => ?_))
  · have hb := b.isLt
    have hk := k.isLt
    split_ifs with h5
    · rw [S_row I h b (l / 64) r hr (t := ⟨256 * b.val + k.val - 512, by omega⟩) (by dsimp only; omega)]
      show eighth * (_ * padRows (fun p l => I.K p (256 * h + l)) (256 * b.val + k.val) l) = _
      unfold padRows
      rw [if_neg (by omega), ← mul_assoc, mul_comm eighth]
    · rw [S_pad I h b (l / 64) r hr (by omega), zero_mul, mul_zero]
  · have ht := t.isLt
    rw [dif_pos (by omega)]
    simp only [Nat.add_sub_cancel]

/-- A sum over the sequence, block by block. -/
theorem sum_blocks (f : ℕ → EReal) : ∑ b ∈ Finset.range 16, ∑ r : Fin 256, f (256 * b + r.val) = ∑ s : Fin 4096, f s.val := by
  rw [Finset.sum_range fun b => ∑ r : Fin 256, f (256 * b + r.val), ← Fintype.sum_prod_type (f := fun x : Fin 16 × Fin 256 => f (256 * x.1.val + x.2.val))]
  refine Fintype.sum_equiv (finProdFinEquiv (m := 16) (n := 256)) _ (fun s : Fin 4096 => f s.val) fun x => ?_
  show f _ = f (x.2.val + 256 * x.1.val)
  rw [Nat.add_comm]

/-- The keys' gradient of a head block is the sequence's. -/
theorem dk_whole (t : Fin 4096) (l : ℕ) : gather (uK I h) 15 (512 + t.val) l = I.dk t (256 * h + l) := by
  rw [gather_sum]
  unfold Inp.dk
  rw [← sum_blocks fun s => I.DS ((256 * h + l) / 64) s t * eighth * I.Q s (256 * h + l)]
  refine Finset.sum_congr rfl fun b hb => ?_
  have hb : b < 16 := Finset.mem_range.mp hb
  have ht := t.isLt
  rw [show (256 * h + l) / 64 = 4 * h + l / 64 by omega]
  split_ifs with hw
  · unfold uK
    simp only [Nat.mod_eq_of_lt hb]
    unfold Blk.dk
    refine Finset.sum_congr rfl fun r _ => ?_
    rw [S_row I h ⟨b, hb⟩ (l / 64) r.val r.isLt (t := t) (by dsimp only; omega), mul_assoc]
    exact congrArg _ (mul_comm _ _)
  · refine (Finset.sum_eq_zero fun r _ => ?_).symm
    rw [DS_out I ⟨b, hb⟩ r.val r.isLt _ t (by simp only; omega), zero_mul, zero_mul]

/-- The values' gradient of a head block is the sequence's. -/
theorem dv_whole (t : Fin 4096) (l : ℕ) : gather (uV I h) 15 (512 + t.val) l = I.dv t (256 * h + l) := by
  rw [gather_sum]
  unfold Inp.dv
  rw [← sum_blocks fun s => I.G s (256 * h + l) * I.P ((256 * h + l) / 64) s t]
  refine Finset.sum_congr rfl fun b hb => ?_
  have hb : b < 16 := Finset.mem_range.mp hb
  have ht := t.isLt
  rw [show (256 * h + l) / 64 = 4 * h + l / 64 by omega]
  split_ifs with hw
  · unfold uV
    simp only [Nat.mod_eq_of_lt hb]
    unfold Blk.dv
    refine Finset.sum_congr rfl fun r _ => ?_
    rw [P_row I h ⟨b, hb⟩ (l / 64) r.val r.isLt (t := t) (by dsimp only; omega)]
    exact mul_comm _ _
  · refine (Finset.sum_eq_zero fun r _ => ?_).symm
    rw [P_out I ⟨b, hb⟩ r.val r.isLt _ t (by simp only; omega), mul_zero]

end Cert.KernelIdeal.Attn
-- ==== Proof.Results.lean ====
/-
  The kernel's three results at an index.
-/
module

public import proofs.«01_k».proof.Proof.Whole
public import proofs.«01_k».proof.Proof.Gen.KernelIdeal.Value

@[expose] public section

noncomputable section

namespace Cert.KernelIdeal.Attn

open Cert.KernelIdeal Cert.KernelIdeal.Gen Cert.KernelIdeal.Value Idealize.ShloMosaic Idealize.ShloMosaic.TcCoe Cert.Attn

variable (m : (ℓ : Loc nD τ sig) → Buf (Elt Ideal) ℓ) (c : Dev nD)

/-- The queries' gradient. -/
theorem G5_at (i : S4096x1024.Idx) : G5 m c i = (J m c).dq (i 0).val (i 1).val := by
  have h0 : (i 0).val < 4096 := (i 0).isLt
  have h1 : (i 1).val < 1024 := (i 1).isLt
  have hN : cfg0.N = 64 := N_0
  have hp : pt5Of i = (i 0).val / 256 + 16 * ((i 1).val / 256) := by
    show 1 * ((i 0).val / 256 - 0) + 16 * ((i 1).val / 256 - 0) = _
    omega
  have ht : pt5Of i < cfg0.N := by rw [hp, hN]; omega
  unfold G5
  rw [dif_pos ht, ← outsAt0_sweep m c (pt5Of i) ht]
  rw [dq_out m c ⟨pt5Of i, ht⟩ (loc5Of i)]
  unfold blkAt
  have e1 : (⟨pt5Of i % 16, Nat.mod_lt _ (by decide)⟩ : Fin 16) = ⟨(i 0).val / 256, by omega⟩ := Fin.ext (by simp only [hp]; omega)
  have e2 : pt5Of i / 16 = (i 1).val / 256 := by rw [hp]; omega
  show (blkOf (J m c) (pt5Of i / 16) ⟨pt5Of i % 16, _⟩).dq ((i 0).val % 256) ((i 1).val % 256) = _
  rw [e1, e2, dq_whole _ _ _ _ (Nat.mod_lt _ (by decide))]
  congr 1
  · show 256 * ((i 0).val / 256) + (i 0).val % 256 = _
    omega
  · omega

theorem end_pt (i : S4096x1024.Idx) : 16 * run6Of i + 15 = 16 * ((i 1).val / 256) + 15 := by
  have h0 : (i 0).val < 4096 := (i 0).isLt
  show 16 * (4 * ((i 0).val / 4096 - 0) + 1 * ((i 1).val / 256 - 0)) + 15 = _
  omega

/-- The keys' gradient. -/
theorem G6_at (i : S4096x1024.Idx) : G6 m c i = (J m c).dk ⟨(i 0).val, (i 0).isLt⟩ (i 1).val := by
  have h0 : (i 0).val < 4096 := (i 0).isLt
  have h1 : (i 1).val < 1024 := (i 1).isLt
  have hN : cfg0.N = 64 := N_0
  have hp : pt6Of i = 16 * ((i 1).val / 256) + 15 := end_pt i
  have ht : pt6Of i < cfg0.N := by rw [hp, hN]; omega
  unfold G6
  rw [dif_pos ht, ← outsAt0_sweep m c (pt6Of i) ht]
  rw [dk_out m c ⟨pt6Of i, ht⟩ (by simp only [hp]; omega) (loc6Of i)]
  have e2 : pt6Of i / 16 = (i 1).val / 256 := by rw [hp]; omega
  show gather (uK (J m c) (pt6Of i / 16)) 15 (512 + (i 0).val % 4096) ((i 1).val % 256) = _
  rw [e2, Nat.mod_eq_of_lt h0, dk_whole _ _ ⟨(i 0).val, h0⟩]
  congr 1
  omega

/-- The values' gradient. -/
theorem G7_at (i : S4096x1024.Idx) : G7 m c i = (J m c).dv ⟨(i 0).val, (i 0).isLt⟩ (i 1).val := by
  have h0 : (i 0).val < 4096 := (i 0).isLt
  have h1 : (i 1).val < 1024 := (i 1).isLt
  have hN : cfg0.N = 64 := N_0
  have hp : pt7Of i = 16 * ((i 1).val / 256) + 15 := end_pt i
  have ht : pt7Of i < cfg0.N := by rw [hp, hN]; omega
  unfold G7
  rw [dif_pos ht, ← outsAt0_sweep m c (pt7Of i) ht]
  rw [dv_out m c ⟨pt7Of i, ht⟩ (by simp only [hp]; omega) (loc7Of i)]
  have e2 : pt7Of i / 16 = (i 1).val / 256 := by rw [hp]; omega
  show gather (uV (J m c) (pt7Of i / 16)) 15 (512 + (i 0).val % 4096) ((i 1).val % 256) = _
  rw [e2, Nat.mod_eq_of_lt h0, dv_whole _ _ ⟨(i 0).val, h0⟩]
  congr 1
  omega

end Cert.KernelIdeal.Attn
-- ==== Proof.Dr1Sweep.lean ====
/-
  The kernel that pulls a gradient back through a layer norm, over its grid: its results at an index.
-/
module

public import proofs.«01_k».proof.Proof.Dr1Value
public import proofs.«01_k».proof.Proof.Dr1Model
public import proofs.«01_k».proof.Proof.Gen.Kernel2Ideal.Value
public import Idealize.ShloMosaic.Lib.Tactic

@[expose] public section

set_option maxRecDepth 16384

noncomputable section

namespace Cert.Kernel2Ideal.Dr1

open Cert.Kernel2Ideal Cert.Kernel2Ideal.Gen Idealize.ShloMosaic Idealize.ShloMosaic.TcCoe

/-- A point's gradient of the norm's output, at an index. -/
theorem pay3_at (x0 : Vec Ideal S512x1024 .bf16) (x1 : Vec Ideal S1024x1024 .bf16) (x2 : Vec Ideal S512x2816 .bf16) (x3 : Vec Ideal S2816x1024 .bf16)
    (x4 : Vec Ideal S512x2816 .bf16) (x5 : Vec Ideal S2816x1024 .bf16) (x6 : Vec Ideal S512x1024 .f32) (r : Fin 512) (j : Fin 1024) :
    k0_pay3 (F := Ideal) x0 x1 x2 x3 x4 x5 x6 (ix2 r j)
      = (((∑ k : Fin 1024, x0 (ix2 r k) * x1 (ix2 j k)) + ∑ k : Fin 2816, x2 (ix2 r k) * x3 (ix2 k j)) + ∑ k : Fin 2816, x4 (ix2 r k) * x5 (ix2 k j))
        + Norm.alpha * x6 (ix2 r j) := by
  unfold k0_pay3
  pointwise
  rfl

variable (m : (l : Loc nD τ sig) → Buf (Elt Ideal) l) (c : Dev nD)

/-- The launch's arguments. -/
def J : Norm.Args where
  ds r k := (m ((c : Thread nD τ).loc main_arg0) : S4096x1024.Idx → EReal) (ix2 r k)
  dgate r k := (m ((c : Thread nD τ).loc main_arg1) : S4096x2816.Idx → EReal) (ix2 r k)
  dval r k := (m ((c : Thread nD τ).loc main_arg2) : S4096x2816.Idx → EReal) (ix2 r k)
  dz2 r k := (m ((c : Thread nD τ).loc main_arg3) : S4096x1024.Idx → EReal) (ix2 r k)
  wg r k := (m ((c : Thread nD τ).loc main_arg4) : S1024x1024.Idx → EReal) (ix2 r k)
  wu r k := (m ((c : Thread nD τ).loc main_arg5) : S1024x5632.Idx → EReal) (ix2 r k)
  z r k := (m ((c : Thread nD τ).loc main_arg6) : S4096x1024.Idx → EReal) (ix2 r k)
  g k := (m ((c : Thread nD τ).loc main_arg7) : S1024.Idx → EReal) (ix1 k)

theorem V0_term : (V m c main_v0 : S5632x1024.Idx → EReal)
    = transpose S5632x1024 [1, 0] (m ((c : Thread nD τ).loc main_arg5) : S1024x5632.Idx → EReal) transposes_S1024x5632_S5632x1024_1_0 := by
  sl_kernel_rfl

theorem V1_term : (V m c main_v1 : S5632x1024.Idx → EReal)
    = transpose S5632x1024 [1, 0] (m ((c : Thread nD τ).loc main_arg5) : S1024x5632.Idx → EReal) transposes_S1024x5632_S5632x1024_1_0 := by
  sl_kernel_rfl

theorem V2_term : (V m c main_v2 : S1x1024.Idx → EReal)
    = shapeCast S1x1024 (m ((c : Thread nD τ).loc main_arg7) : S1024.Idx → EReal) shapeCasts_S1024_S1x1024 := by
  sl_kernel_rfl

theorem V0_at (k : Fin 5632) (j : Fin 1024) : (V m c main_v0 : S5632x1024.Idx → EReal) (ix2 k j) = (J m c).wu j k := by
  rw [V0_term]
  pointwise
  rfl

theorem V1_at (k : Fin 5632) (j : Fin 1024) : (V m c main_v1 : S5632x1024.Idx → EReal) (ix2 k j) = (J m c).wu j k := by
  rw [V1_term]
  pointwise
  rfl

theorem V2_at (j : Fin 1024) : (V m c main_v2 : S1x1024.Idx → EReal) (ix2 0 j) = (J m c).g j := by
  rw [V2_term]
  pointwise
  rfl

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)
theorem place3 : ∀ t : Fin cfg0.N, win0_3.index t (0 : Fin 2) = 0 ∧ win0_3.index t (1 : Fin 2) = 0 :=
  (by decide +kernel : ∀ t : Fin grid0.N, _)
theorem place4 : ∀ t : Fin cfg0.N, win0_4.index t (0 : Fin 2) = t.val ∧ win0_4.index t (1 : Fin 2) = 0 :=
  (by decide +kernel : ∀ t : Fin grid0.N, _)
theorem place5 : ∀ t : Fin cfg0.N, win0_5.index t (0 : Fin 2) = 1 ∧ win0_5.index t (1 : Fin 2) = 0 :=
  (by decide +kernel : ∀ t : Fin grid0.N, _)
theorem place6 : ∀ t : Fin cfg0.N, win0_6.index t (0 : Fin 2) = t.val ∧ win0_6.index t (1 : Fin 2) = 0 :=
  (by decide +kernel : ∀ t : Fin grid0.N, _)
theorem place7 : ∀ t : Fin cfg0.N, win0_7.index t (0 : Fin 2) = t.val ∧ win0_7.index t (1 : Fin 2) = 0 :=
  (by decide +kernel : ∀ t : Fin grid0.N, _)
theorem place8 : ∀ t : Fin cfg0.N, win0_8.index t (0 : Fin 2) = 0 ∧ win0_8.index t (1 : Fin 2) = 0 :=
  (by decide +kernel : ∀ t : Fin grid0.N, _)
theorem place9 : ∀ t : Fin cfg0.N, win0_9.index t (0 : Fin 2) = t.val ∧ win0_9.index t (1 : Fin 2) = 0 :=
  (by decide +kernel : ∀ t : Fin grid0.N, _)
theorem place10 : ∀ t : Fin cfg0.N, win0_10.index t (0 : Fin 2) = t.val ∧ win0_10.index t (1 : Fin 2) = 0 :=
  (by decide +kernel : ∀ t : Fin grid0.N, _)
theorem place11 : ∀ t : Fin cfg0.N, win0_11.index t (0 : Fin 2) = 0 ∧ win0_11.index t (1 : Fin 2) = 0 :=
  (by decide +kernel : ∀ t : Fin grid0.N, _)
theorem place12 : ∀ t : Fin cfg0.N, win0_12.index t (0 : Fin 2) = 0 ∧ win0_12.index t (1 : Fin 2) = 0 :=
  (by decide +kernel : ∀ t : Fin grid0.N, _)

variable (t : Fin cfg0.N)

/-- A row of a point's block, in the array. -/
def row (r : Fin 512) : Fin 4096 := ⟨512 * t.val + r.val, by have := t.isLt; have hN : cfg0.N = 8 := N_0; omega⟩

theorem iblk0_at (r : Fin 512) (k : Fin 1024) : (iblk m c 0 t : S512x1024.Idx → EReal) (ix2 r k) = (J m c).ds (row t r) k := by
  obtain ⟨e0, e1⟩ := place0 t
  have hi : (((cfg0.win 0).blk t).view.emb (ix2 r k : S512x1024.Idx) : S4096x1024.Idx) = ix2 (row t r) k := by
    funext a
    match a with
    | ⟨0, _⟩ => exact Fin.ext (show win0_0.index t (0 : Fin 2) * 512 + 1 * r.val = 512 * t.val + r.val by rw [e0]; omega)
    | ⟨1, _⟩ => exact Fin.ext (show win0_0.index t (1 : Fin 2) * 1024 + 1 * k.val = k.val by rw [e1]; omega)
  exact (congrFun (V_main_arg0 m c) _).trans (congrArg (m ((c : Thread nD τ).loc main_arg0) : S4096x1024.Idx → EReal) hi)

theorem iblk1_at (r : Fin 1024) (k : Fin 1024) : (iblk m c 1 t : S1024x1024.Idx → EReal) (ix2 r k) = (J m c).wg r k := by
  obtain ⟨e0, e1⟩ := place1 t
  have hi : (((cfg0.win 1).blk t).view.emb (ix2 r k : S1024x1024.Idx) : S1024x1024.Idx) = ix2 r k := by
    funext a
    match a with
    | ⟨0, _⟩ => exact Fin.ext (show win0_1.index t (0 : Fin 2) * 1024 + 1 * r.val = r.val by rw [e0]; omega)
    | ⟨1, _⟩ => exact Fin.ext (show win0_1.index t (1 : Fin 2) * 1024 + 1 * k.val = k.val by rw [e1]; omega)
  exact (congrFun (V_main_arg4 m c) _).trans (congrArg (m ((c : Thread nD τ).loc main_arg4) : S1024x1024.Idx → EReal) hi)

theorem iblk2_at (r : Fin 512) (k : Fin 2816) : (iblk m c 2 t : S512x2816.Idx → EReal) (ix2 r k) = (J m c).dgate (row t r) k := by
  obtain ⟨e0, e1⟩ := place2 t
  have hi : (((cfg0.win 2).blk t).view.emb (ix2 r k : S512x2816.Idx) : S4096x2816.Idx) = ix2 (row t r) k := by
    funext a
    match a with
    | ⟨0, _⟩ => exact Fin.ext (show win0_2.index t (0 : Fin 2) * 512 + 1 * r.val = 512 * t.val + r.val by rw [e0]; omega)
    | ⟨1, _⟩ => exact Fin.ext (show win0_2.index t (1 : Fin 2) * 2816 + 1 * k.val = k.val by rw [e1]; omega)
  exact (congrFun (V_main_arg1 m c) _).trans (congrArg (m ((c : Thread nD τ).loc main_arg1) : S4096x2816.Idx → EReal) hi)

theorem iblk3_at (r : Fin 2816) (k : Fin 1024) : (iblk m c 3 t : S2816x1024.Idx → EReal) (ix2 r k) = (J m c).wu k ⟨r.val, by omega⟩ := by
  obtain ⟨e0, e1⟩ := place3 t
  have hi : (((cfg0.win 3).blk t).view.emb (ix2 r k : S2816x1024.Idx) : S5632x1024.Idx) = ix2 (⟨r.val, by omega⟩ : Fin 5632) k := by
    funext a
    match a with
    | ⟨0, _⟩ => exact Fin.ext (show win0_3.index t (0 : Fin 2) * 2816 + 1 * r.val = r.val by rw [e0]; omega)
    | ⟨1, _⟩ => exact Fin.ext (show win0_3.index t (1 : Fin 2) * 1024 + 1 * k.val = k.val by rw [e1]; omega)
  exact (congrArg (V m c main_v0 : S5632x1024.Idx → EReal) hi).trans (V0_at m c ⟨r.val, by omega⟩ k)

theorem iblk4_at (r : Fin 512) (k : Fin 2816) : (iblk m c 4 t : S512x2816.Idx → EReal) (ix2 r k) = (J m c).dval (row t r) k := by
  obtain ⟨e0, e1⟩ := place4 t
  have hi : (((cfg0.win 4).blk t).view.emb (ix2 r k : S512x2816.Idx) : S4096x2816.Idx) = ix2 (row t r) k := by
    funext a
    match a with
    | ⟨0, _⟩ => exact Fin.ext (show win0_4.index t (0 : Fin 2) * 512 + 1 * r.val = 512 * t.val + r.val by rw [e0]; omega)
    | ⟨1, _⟩ => exact Fin.ext (show win0_4.index t (1 : Fin 2) * 2816 + 1 * k.val = k.val by rw [e1]; omega)
  exact (congrFun (V_main_arg2 m c) _).trans (congrArg (m ((c : Thread nD τ).loc main_arg2) : S4096x2816.Idx → EReal) hi)

theorem iblk5_at (r : Fin 2816) (k : Fin 1024) : (iblk m c 5 t : S2816x1024.Idx → EReal) (ix2 r k) = (J m c).wu k ⟨2816 + r.val, by omega⟩ := by
  obtain ⟨e0, e1⟩ := place5 t
  have hi : (((cfg0.win 5).blk t).view.emb (ix2 r k : S2816x1024.Idx) : S5632x1024.Idx) = ix2 (⟨2816 + r.val, by omega⟩ : Fin 5632) k := by
    funext a
    match a with
    | ⟨0, _⟩ => exact Fin.ext (show win0_5.index t (0 : Fin 2) * 2816 + 1 * r.val = 2816 + r.val by rw [e0]; omega)
    | ⟨1, _⟩ => exact Fin.ext (show win0_5.index t (1 : Fin 2) * 1024 + 1 * k.val = k.val by rw [e1]; omega)
  exact (congrArg (V m c main_v1 : S5632x1024.Idx → EReal) hi).trans (V1_at m c ⟨2816 + r.val, by omega⟩ k)

theorem iblk6_at (r : Fin 512) (k : Fin 1024) : (iblk m c 6 t : S512x1024.Idx → EReal) (ix2 r k) = (J m c).dz2 (row t r) k := by
  obtain ⟨e0, e1⟩ := place6 t
  have hi : (((cfg0.win 6).blk t).view.emb (ix2 r k : S512x1024.Idx) : S4096x1024.Idx) = ix2 (row t r) k := by
    funext a
    match a with
    | ⟨0, _⟩ => exact Fin.ext (show win0_6.index t (0 : Fin 2) * 512 + 1 * r.val = 512 * t.val + r.val by rw [e0]; omega)
    | ⟨1, _⟩ => exact Fin.ext (show win0_6.index t (1 : Fin 2) * 1024 + 1 * k.val = k.val by rw [e1]; omega)
  exact (congrFun (V_main_arg3 m c) _).trans (congrArg (m ((c : Thread nD τ).loc main_arg3) : S4096x1024.Idx → EReal) hi)

theorem iblk7_at (r : Fin 512) (k : Fin 1024) : (iblk m c 7 t : S512x1024.Idx → EReal) (ix2 r k) = (J m c).z (row t r) k := by
  obtain ⟨e0, e1⟩ := place7 t
  have hi : (((cfg0.win 7).blk t).view.emb (ix2 r k : S512x1024.Idx) : S4096x1024.Idx) = ix2 (row t r) k := by
    funext a
    match a with
    | ⟨0, _⟩ => exact Fin.ext (show win0_7.index t (0 : Fin 2) * 512 + 1 * r.val = 512 * t.val + r.val by rw [e0]; omega)
    | ⟨1, _⟩ => exact Fin.ext (show win0_7.index t (1 : Fin 2) * 1024 + 1 * k.val = k.val by rw [e1]; omega)
  exact (congrFun (V_main_arg6 m c) _).trans (congrArg (m ((c : Thread nD τ).loc main_arg6) : S4096x1024.Idx → EReal) hi)

theorem iblk8_at (k : Fin 1024) : (iblk m c 8 t : S1x1024.Idx → EReal) (ix2 (0 : Fin 1) k) = (J m c).g k := by
  obtain ⟨e0, e1⟩ := place8 t
  have hi : (((cfg0.win 8).blk t).view.emb (ix2 (0 : Fin 1) k : S1x1024.Idx) : S1x1024.Idx) = ix2 (0 : Fin 1) k := by
    funext a
    match a with
    | ⟨0, _⟩ => exact Fin.ext (show win0_8.index t (0 : Fin 2) * 1 + 1 * ((0 : Fin 1) : Fin 1).val = 0 by rw [e0]; omega)
    | ⟨1, _⟩ => exact Fin.ext (show win0_8.index t (1 : Fin 2) * 1024 + 1 * k.val = k.val by rw [e1]; omega)
  exact (congrArg (V m c main_v2 : S1x1024.Idx → EReal) hi).trans (V2_at m c k)

/-- A point's gradient of the norm's output. -/
def bO : FVec Ideal S512x1024 .f32 :=
  k0_pay3 (F := Ideal) (iblk m c 0 t) (iblk m c 1 t) (iblk m c 2 t) (iblk m c 3 t) (iblk m c 4 t) (iblk m c 5 t) (iblk m c 6 t)

theorem bO_at (r : Fin 512) (j : Fin 1024) : bO m c t (ix2 r j) = (J m c).o (row t r) j := by
  unfold bO
  rw [pay3_at]
  unfold Norm.Args.o
  simp only [iblk0_at, iblk1_at, iblk2_at, iblk3_at, iblk4_at, iblk5_at, iblk6_at]

theorem dzV_at (y : S512x1024.Idx) : dzV (bO m c t) (iblk m c 7 t) (iblk m c 8 t) y
    = (J m c).dz (row t ⟨(y 0).val, (y 0).isLt⟩) ⟨(y 1).val, (y 1).isLt⟩ := by
  unfold dzV Norm.Args.dz
  simp only [bO_at, iblk7_at, iblk8_at]

/-- A row's part of the scales' gradient, by number. -/
def dgF (j : Fin 1024) (s : ℕ) : EReal := if h : s < 4096 then (J m c).o ⟨s, h⟩ j * Norm.xh ((J m c).z ⟨s, h⟩) j else 0

/-- A row's part of the shifts' gradient, by number. -/
def dbF (j : Fin 1024) (s : ℕ) : EReal := if h : s < 4096 then (J m c).o ⟨s, h⟩ j else 0

theorem dgV_at (j : Fin 1024) : dgV (bO m c t) (iblk m c 7 t) j = ∑ r : Fin 512, dgF m c j (512 * t.val + r.val) := by
  unfold dgV
  refine Finset.sum_congr rfl fun r _ => ?_
  unfold dgF
  rw [dif_pos (show 512 * t.val + r.val < 4096 from (row t r).isLt)]
  simp only [bO_at, iblk7_at]
  rfl

theorem dbV_at (j : Fin 1024) : dbV (bO m c t) j = ∑ r : Fin 512, dbF m c j (512 * t.val + r.val) := by
  unfold dbV
  refine Finset.sum_congr rfl fun r _ => ?_
  unfold dbF
  rw [dif_pos (show 512 * t.val + r.val < 4096 from (row t r).isLt), bO_at]
  rfl

/-! ## Point by point -/

theorem dz_A (h0 : t.val % 8 = 0) : (outsAt0 m c t.val t.isLt).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

theorem dz_B (h0 : ¬t.val % 8 = 0) : (outsAt0 m c t.val t.isLt).1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0]

theorem dzb_A (h0 : t.val % 8 = 0) : (outsAt0 m c t.val t.isLt).2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

theorem dzb_B (h0 : ¬t.val % 8 = 0) : (outsAt0 m c t.val t.isLt).2.1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0]

theorem dg_A (h0 : t.val % 8 = 0) : (outsAt0 m c t.val t.isLt).2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

theorem dg_B (h0 : ¬t.val % 8 = 0) : (outsAt0 m c t.val t.isLt).2.2.1 = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0]

theorem db_A (h0 : t.val % 8 = 0) : (outsAt0 m c t.val t.isLt).2.2.2 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

theorem db_B (h0 : ¬t.val % 8 = 0) : (outsAt0 m c t.val t.isLt).2.2.2 = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0]

theorem dz_out (y : S512x1024.Idx) : (outsAt0 m c t.val t.isLt).1 y = (J m c).dz (row t ⟨(y 0).val, (y 0).isLt⟩) ⟨(y 1).val, (y 1).isLt⟩ := by
  have e := dzV_at m c t y
  unfold bO at e
  by_cases h0 : t.val % 8 = 0
  · exact (congrFun (dz_A m c t h0) y).trans ((dz_val_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) ((hcond0_0 t).mpr h0) y).trans e)
  · exact (congrFun (dz_B m c t h0) y).trans ((dz_val_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 y).trans e)

theorem dzb_out (y : S512x1024.Idx) : (outsAt0 m c t.val t.isLt).2.1 y = (J m c).dz (row t ⟨(y 0).val, (y 0).isLt⟩) ⟨(y 1).val, (y 1).isLt⟩ := by
  have e := dzV_at m c t y
  unfold bO at e
  by_cases h0 : t.val % 8 = 0
  · exact (congrFun (dzb_A m c t h0) y).trans ((dzb_val_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) ((hcond0_0 t).mpr h0) y).trans e)
  · exact (congrFun (dzb_B m c t h0) y).trans ((dzb_val_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 y).trans e)

theorem dg_first (j : Fin 1024) (h0 : t.val % 8 = 0) : (outsAt0 m c t.val t.isLt).2.2.1 (ix2 0 j) = 0 + ∑ r : Fin 512, dgF m c j (512 * t.val + r.val) := by
  have e := dgV_at m c t j
  unfold bO at e
  exact (congrFun (dg_A m c t h0) (ix2 0 j)).trans ((dg_val_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) ((hcond0_0 t).mpr h0) j).trans (congrArg (0 + ·) e))

theorem dg_next (j : Fin 1024) (h0 : ¬t.val % 8 = 0) : (outsAt0 m c t.val t.isLt).2.2.1 (ix2 0 j)
    = (outsAt0 m c (t.val - 1) (Nat.lt_of_le_of_lt (Nat.sub_le _ _) t.isLt)).2.2.1 (ix2 0 j) + ∑ r : Fin 512, dgF m c j (512 * t.val + r.val) := by
  have e := dgV_at m c t j
  unfold bO at e
  exact (congrFun (dg_B m c t h0) (ix2 0 j)).trans ((dg_val_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 j).trans (congrArg ((outsAt0 m c (t.val - 1) (Nat.lt_of_le_of_lt (Nat.sub_le _ _) t.isLt)).2.2.1 (ix2 0 j) + ·) e))

theorem dg_out (j : Fin 1024) : ∀ (n : ℕ) (hn : n < cfg0.N), (outsAt0 m c n hn).2.2.1 (ix2 0 j) = ∑ b ∈ Finset.range (n + 1), ∑ r : Fin 512, dgF m c j (512 * b + r.val)
  | 0, hn => by
    rw [Finset.sum_range_one]
    exact (dg_first m c ⟨0, hn⟩ j rfl).trans (zero_add _)
  | n + 1, hn => by
    have hN : cfg0.N = 8 := N_0
    rw [Finset.sum_range_succ]
    refine (dg_next m c ⟨n + 1, hn⟩ j (by dsimp only; omega)).trans ?_
    exact congrArg (· + _) (dg_out j n _)

theorem db_first (j : Fin 1024) (h0 : t.val % 8 = 0) : (outsAt0 m c t.val t.isLt).2.2.2 (ix2 0 j) = 0 + ∑ r : Fin 512, dbF m c j (512 * t.val + r.val) := by
  have e := dbV_at m c t j
  unfold bO at e
  exact (congrFun (db_A m c t h0) (ix2 0 j)).trans ((db_val_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) ((hcond0_0 t).mpr h0) j).trans (congrArg (0 + ·) e))

theorem db_next (j : Fin 1024) (h0 : ¬t.val % 8 = 0) : (outsAt0 m c t.val t.isLt).2.2.2 (ix2 0 j)
    = (outsAt0 m c (t.val - 1) (Nat.lt_of_le_of_lt (Nat.sub_le _ _) t.isLt)).2.2.2 (ix2 0 j) + ∑ r : Fin 512, dbF m c j (512 * t.val + r.val) := by
  have e := dbV_at m c t j
  unfold bO at e
  exact (congrFun (db_B m c t h0) (ix2 0 j)).trans ((db_val_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2 j).trans (congrArg ((outsAt0 m c (t.val - 1) (Nat.lt_of_le_of_lt (Nat.sub_le _ _) t.isLt)).2.2.2 (ix2 0 j) + ·) e))

theorem db_out (j : Fin 1024) : ∀ (n : ℕ) (hn : n < cfg0.N), (outsAt0 m c n hn).2.2.2 (ix2 0 j) = ∑ b ∈ Finset.range (n + 1), ∑ r : Fin 512, dbF m c j (512 * b + r.val)
  | 0, hn => by
    rw [Finset.sum_range_one]
    exact (db_first m c ⟨0, hn⟩ j rfl).trans (zero_add _)
  | n + 1, hn => by
    have hN : cfg0.N = 8 := N_0
    rw [Finset.sum_range_succ]
    refine (db_next m c ⟨n + 1, hn⟩ j (by dsimp only; omega)).trans ?_
    exact congrArg (· + _) (db_out j n _)

theorem dg_last (j : Fin 1024) (h7 : t.val = 7) : (outsAt0 m c t.val t.isLt).2.2.1 (ix2 0 j) = (J m c).dg j := by
  rw [dg_out m c j t.val t.isLt, h7, Finset.sum_range fun b => ∑ r : Fin 512, dgF m c j (512 * b + r.val), sum_prod 8 512 (dgF m c j)]
  refine Finset.sum_congr rfl fun s _ => ?_
  unfold dgF
  rw [dif_pos s.isLt]

theorem db_last (j : Fin 1024) (h7 : t.val = 7) : (outsAt0 m c t.val t.isLt).2.2.2 (ix2 0 j) = (J m c).db j := by
  rw [db_out m c j t.val t.isLt, h7, Finset.sum_range fun b => ∑ r : Fin 512, dbF m c j (512 * b + r.val), sum_prod 8 512 (dbF m c j)]
  refine Finset.sum_congr rfl fun s _ => ?_
  unfold dbF
  rw [dif_pos s.isLt]

end Cert.Kernel2Ideal.Dr1

end
-- ==== Proof.Dr1Results.lean ====
/-
  The results of the kernel that pulls a gradient back through a layer norm, as whole arrays.
-/
module

public import proofs.«01_k».proof.Proof.Dr1Sweep

@[expose] public section

set_option maxRecDepth 16384

noncomputable section

namespace Cert.Kernel2Ideal.Dr1

open Cert.Kernel2Ideal Cert.Kernel2Ideal.Gen Cert.Kernel2Ideal.Value Idealize.ShloMosaic Idealize.ShloMosaic.TcCoe

variable (m : (l : Loc nD τ sig) → Buf (Elt Ideal) l) (c : Dev nD)

/-- The gradient of the norm's input, as an array. -/
def dzG (i : S4096x1024.Idx) : EReal := (J m c).dz ⟨(i 0).val, (i 0).isLt⟩ ⟨(i 1).val, (i 1).isLt⟩

/-- The gradient of its scales. -/
def dgG (i : S1x1024.Idx) : EReal := (J m c).dg ⟨(i 1).val, (i 1).isLt⟩

/-- The gradient of its shifts. -/
def dbG (i : S1x1024.Idx) : EReal := (J m c).db ⟨(i 1).val, (i 1).isLt⟩

theorem ix_one (y : S1x1024.Idx) : y = ix2 (0 : Fin 1) (⟨(y 1).val, (y 1).isLt⟩ : Fin 1024) := by
  funext a
  match a with
  | ⟨0, _⟩ => exact Fin.ext (by have h : (y 0).val < 1 := (y 0).isLt; show (y 0).val = 0; omega)
  | ⟨1, _⟩ => rfl

theorem dz_flushed (t : Fin cfg0.N) : (dats m 0 c).flushed 9 t = ((cfg0.win 9).blk t).view.read (Elt Ideal) (dzG m c) := by
  rw [flushed9]
  obtain ⟨e0, e1⟩ := place9 t
  funext y
  have hy0 : (y 0).val < 512 := (y 0).isLt
  have hy1 : (y 1).val < 1024 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 1024 + 1 * (y 1).val := rfl
  refine (dz_out m c t ((cfg0.win 9).xinj (grid0.coords t) y)).trans ?_
  refine congrArg₂ (J m c).dz (Fin.ext ?_) (Fin.ext ?_)
  · show 512 * t.val + (y 0).val = (((cfg0.win 9).blk t).view.emb y 0).val
    rw [hb0, e0]
    omega
  · show (y 1).val = (((cfg0.win 9).blk t).view.emb y 1).val
    rw [hb1, e1]
    omega

theorem dz_array : (dats m 0 c).arrAt 9 cfg0.N = dzG m c := by
  refine (dats m 0 c).arrAt_eq_of_cover 9 _ (fun t _ => dz_flushed m c t) fun i => ?_
  have h0 : (i 0).val < 4096 := (i 0).isLt
  have h1 : (i 1).val < 1024 := (i 1).isLt
  have hN : cfg0.N = 8 := N_0
  have ht : (i 0).val / 512 < cfg0.N := by omega
  refine ⟨⟨(i 0).val / 512, ht⟩, flush0_9 _, ?_⟩
  obtain ⟨e0, e1⟩ := place9 ⟨(i 0).val / 512, ht⟩
  show i ∈ ((View.whole main_v3_0).slice (win0_9.rect ⟨(i 0).val / 512, ht⟩)).set
  rw [View.set_slice_whole, Rect.mem_set_unit]
  intro a
  match a with
  | ⟨0, _⟩ =>
    show win0_9.index _ (0 : Fin 2) * 512 ≤ (i 0).val ∧ (i 0).val < win0_9.index _ (0 : Fin 2) * 512 + 512
    rw [e0]
    dsimp only
    omega
  | ⟨1, _⟩ =>
    show win0_9.index _ (1 : Fin 2) * 1024 ≤ (i 1).val ∧ (i 1).val < win0_9.index _ (1 : Fin 2) * 1024 + 1024
    rw [e1]
    omega

theorem dzb_flushed (t : Fin cfg0.N) : (dats m 0 c).flushed 10 t = ((cfg0.win 10).blk t).view.read (Elt Ideal) (dzG m c) := by
  rw [flushed10]
  obtain ⟨e0, e1⟩ := place10 t
  funext y
  have hy0 : (y 0).val < 512 := (y 0).isLt
  have hy1 : (y 1).val < 1024 := (y 1).isLt
  have hb0 : (((cfg0.win 10).blk t).view.emb y 0).val = win0_10.index t (0 : Fin 2) * 512 + 1 * (y 0).val := rfl
  have hb1 : (((cfg0.win 10).blk t).view.emb y 1).val = win0_10.index t (1 : Fin 2) * 1024 + 1 * (y 1).val := rfl
  refine (dzb_out m c t ((cfg0.win 10).xinj (grid0.coords t) y)).trans ?_
  refine congrArg₂ (J m c).dz (Fin.ext ?_) (Fin.ext ?_)
  · show 512 * t.val + (y 0).val = (((cfg0.win 10).blk t).view.emb y 0).val
    rw [hb0, e0]
    omega
  · show (y 1).val = (((cfg0.win 10).blk t).view.emb y 1).val
    rw [hb1, e1]
    omega

theorem dzb_array : (dats m 0 c).arrAt 10 cfg0.N = dzG m c := by
  refine (dats m 0 c).arrAt_eq_of_cover 10 _ (fun t _ => dzb_flushed m c t) fun i => ?_
  have h0 : (i 0).val < 4096 := (i 0).isLt
  have h1 : (i 1).val < 1024 := (i 1).isLt
  have hN : cfg0.N = 8 := N_0
  have ht : (i 0).val / 512 < cfg0.N := by omega
  refine ⟨⟨(i 0).val / 512, ht⟩, flush0_10 _, ?_⟩
  obtain ⟨e0, e1⟩ := place10 ⟨(i 0).val / 512, ht⟩
  show i ∈ ((View.whole main_v3_1).slice (win0_10.rect ⟨(i 0).val / 512, ht⟩)).set
  rw [View.set_slice_whole, Rect.mem_set_unit]
  intro a
  match a with
  | ⟨0, _⟩ =>
    show win0_10.index _ (0 : Fin 2) * 512 ≤ (i 0).val ∧ (i 0).val < win0_10.index _ (0 : Fin 2) * 512 + 512
    rw [e0]
    dsimp only
    omega
  | ⟨1, _⟩ =>
    show win0_10.index _ (1 : Fin 2) * 1024 ≤ (i 1).val ∧ (i 1).val < win0_10.index _ (1 : Fin 2) * 1024 + 1024
    rw [e1]
    omega

theorem dg_flushed (t : Fin cfg0.N) (hf : (cfg0.win 11).flush t = true) :
    (dats m 0 c).flushed 11 t = ((cfg0.win 11).blk t).view.read (Elt Ideal) (dgG m c) := by
  rw [flushed11]
  have h7 := (flush0_11 t).mp hf
  have hN : cfg0.N = 8 := N_0
  have ht := t.isLt
  have h7 : t.val = 7 := by omega
  obtain ⟨e0, e1⟩ := place11 t
  funext y
  have hy1 : (y 1).val < 1024 := (y 1).isLt
  have hb1 : (((cfg0.win 11).blk t).view.emb y 1).val = win0_11.index t (1 : Fin 2) * 1024 + 1 * (y 1).val := rfl
  have hx := ix_one ((cfg0.win 11).xinj (grid0.coords t) y)
  refine (congrArg (outsAt0 m c t.val t.isLt).2.2.1 hx).trans ((dg_last m c t _ h7).trans ?_)
  refine congrArg (J m c).dg (Fin.ext ?_)
  show (y 1).val = (((cfg0.win 11).blk t).view.emb y 1).val
  rw [hb1, e1]
  omega

theorem dg_array : (dats m 0 c).arrAt 11 cfg0.N = dgG m c := by
  refine (dats m 0 c).arrAt_eq_of_cover 11 _ (fun t hf => dg_flushed m c t hf) fun i => ?_
  have h0 : (i 0).val < 1 := (i 0).isLt
  have h1 : (i 1).val < 1024 := (i 1).isLt
  have hN : cfg0.N = 8 := N_0
  have ht : 7 < cfg0.N := by omega
  refine ⟨⟨7, ht⟩, (flush0_11 _).mpr rfl, ?_⟩
  obtain ⟨e0, e1⟩ := place11 ⟨7, ht⟩
  show i ∈ ((View.whole main_v3_2).slice (win0_11.rect ⟨7, ht⟩)).set
  rw [View.set_slice_whole, Rect.mem_set_unit]
  intro a
  match a with
  | ⟨0, _⟩ =>
    show win0_11.index _ (0 : Fin 2) * 1 ≤ (i 0).val ∧ (i 0).val < win0_11.index _ (0 : Fin 2) * 1 + 1
    rw [e0]
    omega
  | ⟨1, _⟩ =>
    show win0_11.index _ (1 : Fin 2) * 1024 ≤ (i 1).val ∧ (i 1).val < win0_11.index _ (1 : Fin 2) * 1024 + 1024
    rw [e1]
    omega

theorem db_flushed (t : Fin cfg0.N) (hf : (cfg0.win 12).flush t = true) :
    (dats m 0 c).flushed 12 t = ((cfg0.win 12).blk t).view.read (Elt Ideal) (dbG m c) := by
  rw [flushed12]
  have h7 := (flush0_12 t).mp hf
  have hN : cfg0.N = 8 := N_0
  have ht := t.isLt
  have h7 : t.val = 7 := by omega
  obtain ⟨e0, e1⟩ := place12 t
  funext y
  have hy1 : (y 1).val < 1024 := (y 1).isLt
  have hb1 : (((cfg0.win 12).blk t).view.emb y 1).val = win0_12.index t (1 : Fin 2) * 1024 + 1 * (y 1).val := rfl
  have hx := ix_one ((cfg0.win 12).xinj (grid0.coords t) y)
  refine (congrArg (outsAt0 m c t.val t.isLt).2.2.2 hx).trans ((db_last m c t _ h7).trans ?_)
  refine congrArg (J m c).db (Fin.ext ?_)
  show (y 1).val = (((cfg0.win 12).blk t).view.emb y 1).val
  rw [hb1, e1]
  omega

theorem db_array : (dats m 0 c).arrAt 12 cfg0.N = dbG m c := by
  refine (dats m 0 c).arrAt_eq_of_cover 12 _ (fun t hf => db_flushed m c t hf) fun i => ?_
  have h0 : (i 0).val < 1 := (i 0).isLt
  have h1 : (i 1).val < 1024 := (i 1).isLt
  have hN : cfg0.N = 8 := N_0
  have ht : 7 < cfg0.N := by omega
  refine ⟨⟨7, ht⟩, (flush0_12 _).mpr rfl, ?_⟩
  obtain ⟨e0, e1⟩ := place12 ⟨7, ht⟩
  show i ∈ ((View.whole main_v3_3).slice (win0_12.rect ⟨7, ht⟩)).set
  rw [View.set_slice_whole, Rect.mem_set_unit]
  intro a
  match a with
  | ⟨0, _⟩ =>
    show win0_12.index _ (0 : Fin 2) * 1 ≤ (i 0).val ∧ (i 0).val < win0_12.index _ (0 : Fin 2) * 1 + 1
    rw [e0]
    omega
  | ⟨1, _⟩ =>
    show win0_12.index _ (1 : Fin 2) * 1024 ≤ (i 1).val ∧ (i 1).val < win0_12.index _ (1 : Fin 2) * 1024 + 1024
    rw [e1]
    omega

end Cert.Kernel2Ideal.Dr1

end
-- ==== Proof.Dr1Ref.lean ====
/-
  The reference's four results at an index: the gradients of a layer norm's input, twice, of its scales and of its shifts.
-/
module

public import proofs.«01_k».proof.Proof.Dr1Model
public import proofs.«01_k».proof.Proof.Gen.Reference2Ideal.Read
public import Idealize.ShloMosaic.Lib.Pointwise

@[expose] public section

noncomputable section

namespace Cert.Reference2Ideal.Dr1

open Cert.Reference2Ideal Cert.Reference2Ideal.Gen Cert.Reference2Ideal.Read Idealize.ShloMosaic
open Cert.Norm

variable (x0 : (⟨S4096x1024, .bf16⟩ : BufTy).Contents (Elt Ideal)) (x1 x2 : (⟨S4096x2816, .bf16⟩ : BufTy).Contents (Elt Ideal))
  (x3 : (⟨S4096x1024, .f32⟩ : BufTy).Contents (Elt Ideal)) (x4 : (⟨S1024x1024, .bf16⟩ : BufTy).Contents (Elt Ideal))
  (x5 : (⟨S1024x5632, .bf16⟩ : BufTy).Contents (Elt Ideal)) (x6 : (⟨S4096x1024, .f32⟩ : BufTy).Contents (Elt Ideal))
  (x7 : (⟨S1024, .f32⟩ : BufTy).Contents (Elt Ideal))

/-- The arguments' entries. -/
def J : Norm.Args where
  ds r k := x0 (ix2 r k)
  dgate r k := x1 (ix2 r k)
  dval r k := x2 (ix2 r k)
  dz2 r k := x3 (ix2 r k)
  wg j k := x4 (ix2 j k)
  wu j k := x5 (ix2 j k)
  z r k := x6 (ix2 r k)
  g k := x7 (ix1 k)

theorem zero_plus (x : EReal) : (FloatOps.ofBits (F := Ideal) .f32 0x00000000#32 : EReal) + x = x :=
  (congrArg (· + x) Ideal.ofBits_zero_f32).trans (zero_add x)

theorem eta2 {a b : ℕ} (i : (Shape.mk 2 ![a, b]).Idx) : i = ix2 (⟨(i 0).val, (i 0).isLt⟩ : Fin a) (⟨(i 1).val, (i 1).isLt⟩ : Fin b) := by
  funext d
  match d with
  | ⟨0, _⟩ => rfl
  | ⟨1, _⟩ => rfl

theorem eta1 {a : ℕ} (i : (Shape.mk 1 ![a]).Idx) : i = ix1 (⟨(i 0).val, (i 0).isLt⟩ : Fin a) := by
  funext d
  match d with
  | ⟨0, _⟩ => rfl

/-! ## The rows of the norm's input -/

theorem z_at (i : S4096x1024.Idx) : x6 i = (J x0 x1 x2 x3 x4 x5 x6 x7).z ⟨(i 0).val, (i 0).isLt⟩ ⟨(i 1).val, (i 1).isLt⟩ := congrArg x6 (eta2 i)

theorem v3_at (i : S4096.Idx) : val_main_v3 (F := Ideal) x6 i = ∑ k, (J x0 x1 x2 x3 x4 x5 x6 x7).z ⟨(i 0).val, (i 0).isLt⟩ k := by
  rw [val_main_v3_apply, val_main_cst_0_apply]
  refine (zero_plus _).trans (Finset.sum_congr rfl fun k _ => ?_)
  exact z_at x0 x1 x2 x3 x4 x5 x6 x7 _

theorem v6_at (i : S4096x1.Idx) :
    val_main_v6 (F := Ideal) x6 i = Ideal.div (∑ k, (J x0 x1 x2 x3 x4 x5 x6 x7).z ⟨(i 0).val, (i 0).isLt⟩ k) N := by
  rw [val_main_v6_apply, val_main_v4_apply, val_main_v5_apply, val_main_cst_1_apply, v3_at x0 x1 x2 x3 x4 x5 x6 x7]
  rfl

theorem v8_at (i : S4096x1024.Idx) :
    val_main_v8 (F := Ideal) x6 i = zc ((J x0 x1 x2 x3 x4 x5 x6 x7).z ⟨(i 0).val, (i 0).isLt⟩) ⟨(i 1).val, (i 1).isLt⟩ := by
  rw [val_main_v8_apply, val_main_v7_apply, v6_at x0 x1 x2 x3 x4 x5 x6 x7, z_at x0 x1 x2 x3 x4 x5 x6 x7 i]
  rfl

theorem v17_at (i : S4096x1024.Idx) :
    val_main_v17 (F := Ideal) x6 i = zc ((J x0 x1 x2 x3 x4 x5 x6 x7).z ⟨(i 0).val, (i 0).isLt⟩) ⟨(i 1).val, (i 1).isLt⟩ := by
  rw [val_main_v17_apply, val_main_v16_apply, v6_at x0 x1 x2 x3 x4 x5 x6 x7, z_at x0 x1 x2 x3 x4 x5 x6 x7 i]
  rfl

theorem v12_at (i : S4096.Idx) : val_main_v12 (F := Ideal) x6 i
    = ∑ k, zc ((J x0 x1 x2 x3 x4 x5 x6 x7).z ⟨(i 0).val, (i 0).isLt⟩) k * zc ((J x0 x1 x2 x3 x4 x5 x6 x7).z ⟨(i 0).val, (i 0).isLt⟩) k := by
  rw [val_main_v12_apply, val_main_cst_3_apply]
  refine (zero_plus _).trans (Finset.sum_congr rfl fun k _ => ?_)
  rw [val_main_v9_apply, v8_at x0 x1 x2 x3 x4 x5 x6 x7]
  rfl

theorem v19_at (i : S4096x1.Idx) : val_main_v19 (F := Ideal) x6 i = var ((J x0 x1 x2 x3 x4 x5 x6 x7).z ⟨(i 0).val, (i 0).isLt⟩) := by
  rw [val_main_v19_apply, val_main_v15_apply, val_main_v13_apply, val_main_v14_apply, val_main_cst_4_apply, val_main_v18_apply,
    val_main_cst_5_apply, v12_at x0 x1 x2 x3 x4 x5 x6 x7]
  rfl

theorem v20_at (i : S4096x1.Idx) : val_main_v20 (F := Ideal) x6 i = rs ((J x0 x1 x2 x3 x4 x5 x6 x7).z ⟨(i 0).val, (i 0).isLt⟩) := by
  rw [val_main_v20_apply, v19_at x0 x1 x2 x3 x4 x5 x6 x7]
  rfl

theorem v23_at (i : S4096x1.Idx) : val_main_v23 (F := Ideal) x6 i
    = Ideal.ofBits .f32 0xBF000000#32 * Ideal.div (rs ((J x0 x1 x2 x3 x4 x5 x6 x7).z ⟨(i 0).val, (i 0).isLt⟩)) (var ((J x0 x1 x2 x3 x4 x5 x6 x7).z ⟨(i 0).val, (i 0).isLt⟩)) := by
  rw [val_main_v23_apply, val_main_v22_apply, val_main_cst_6_apply, val_main_v21_apply, v20_at x0 x1 x2 x3 x4 x5 x6 x7,
    v19_at x0 x1 x2 x3 x4 x5 x6 x7]
  rfl

theorem v25_at (i : S4096x1024.Idx) :
    val_main_v25 (F := Ideal) x6 i = xh ((J x0 x1 x2 x3 x4 x5 x6 x7).z ⟨(i 0).val, (i 0).isLt⟩) ⟨(i 1).val, (i 1).isLt⟩ := by
  rw [val_main_v25_apply, val_main_v24_apply, v17_at x0 x1 x2 x3 x4 x5 x6 x7, v20_at x0 x1 x2 x3 x4 x5 x6 x7]
  rfl

theorem v11_at (i : S4096x1024.Idx) : val_main_v11 (F := Ideal) x6 i
    = Ideal.ofBits .f32 0x40000000#32 * zc ((J x0 x1 x2 x3 x4 x5 x6 x7).z ⟨(i 0).val, (i 0).isLt⟩) ⟨(i 1).val, (i 1).isLt⟩ := by
  rw [val_main_v11_apply, val_main_v10_apply, val_main_cst_2_apply, v8_at x0 x1 x2 x3 x4 x5 x6 x7]
  rfl

/-! ## The gradient of the norm's output -/

theorem v41_at (i : S4096x1024.Idx) : val_main_v41 (F := Ideal) x0 x4 i
    = ∑ k, (J x0 x1 x2 x3 x4 x5 x6 x7).ds ⟨(i 0).val, (i 0).isLt⟩ k * (J x0 x1 x2 x3 x4 x5 x6 x7).wg ⟨(i 1).val, (i 1).isLt⟩ k := by
  rw [val_main_v41_apply]
  refine Finset.sum_congr rfl fun k _ => ?_
  rw [val_main_v38_apply, val_main_v1_apply]
  exact congrArg₂ (· * ·) (congrArg x0 (eta2 _)) (congrArg x4 (eta2 _))

theorem v45_left (i : S4096x5632.Idx) (h : (i 1).val < 2816) :
    val_main_v45 (F := Ideal) x1 x2 i = (J x0 x1 x2 x3 x4 x5 x6 x7).dgate ⟨(i 0).val, (i 0).isLt⟩ ⟨(i 1).val, h⟩ := by
  unfold val_main_v45
  refine (concatenate_pair_apply_left (s₁ := S4096x2816) (s₂ := S4096x2816) 1 _ _ _ i rfl
    (ix2 (⟨(i 0).val, (i 0).isLt⟩ : Fin 4096) (⟨(i 1).val, h⟩ : Fin 2816)) fun b => ?_).trans ?_
  · match b with
    | ⟨0, _⟩ => rfl
    | ⟨1, _⟩ => rfl
  · rw [val_main_v39_apply]
    rfl

theorem v45_right (i : S4096x5632.Idx) (k : Fin 2816) (h : (i 1).val = 2816 + k.val) :
    val_main_v45 (F := Ideal) x1 x2 i = (J x0 x1 x2 x3 x4 x5 x6 x7).dval ⟨(i 0).val, (i 0).isLt⟩ k := by
  unfold val_main_v45
  refine (concatenate_pair_apply_right (s₁ := S4096x2816) (s₂ := S4096x2816) 1 _ _ _ i rfl rfl
    (ix2 (⟨(i 0).val, (i 0).isLt⟩ : Fin 4096) k) (fun b hb => ?_) ?_).trans ?_
  · match b with
    | ⟨0, _⟩ => rfl
    | ⟨1, _⟩ => exact absurd rfl hb
  · show k.val + 2816 = (i 1).val
    omega
  · rw [val_main_v40_apply]
    rfl

theorem v46_at (i : S4096x1024.Idx) : val_main_v46 (F := Ideal) x1 x2 x5 i
    = (∑ k : Fin 2816, (J x0 x1 x2 x3 x4 x5 x6 x7).dgate ⟨(i 0).val, (i 0).isLt⟩ k * (J x0 x1 x2 x3 x4 x5 x6 x7).wu ⟨(i 1).val, (i 1).isLt⟩ ⟨k.val, by omega⟩)
      + ∑ k : Fin 2816, (J x0 x1 x2 x3 x4 x5 x6 x7).dval ⟨(i 0).val, (i 0).isLt⟩ k * (J x0 x1 x2 x3 x4 x5 x6 x7).wu ⟨(i 1).val, (i 1).isLt⟩ ⟨2816 + k.val, by omega⟩ := by
  rw [val_main_v46_apply]
  refine (Fin.sum_univ_add (a := 2816) (b := 2816) _).trans (congrArg₂ (· + ·) ?_ ?_)
  · refine Finset.sum_congr rfl fun k _ => ?_
    rw [v45_left x0 x1 x2 x3 x4 x5 x6 x7 _ (show k.val < 2816 from k.isLt), val_main_v2_apply]
    exact congrArg₂ (· * ·) rfl (congrArg x5 (eta2 _))
  · refine Finset.sum_congr rfl fun k _ => ?_
    rw [v45_right x0 x1 x2 x3 x4 x5 x6 x7 _ k (show 2816 + k.val = 2816 + k.val from rfl), val_main_v2_apply]
    exact congrArg₂ (· * ·) rfl (congrArg x5 (eta2 _))

theorem v47_at (i : S4096x1024.Idx) : val_main_v47 (F := Ideal) x0 x1 x2 x3 x4 x5 i
    = (J x0 x1 x2 x3 x4 x5 x6 x7).o ⟨(i 0).val, (i 0).isLt⟩ ⟨(i 1).val, (i 1).isLt⟩ := by
  rw [val_main_v47_apply, val_main_v44_apply, v41_at x0 x1 x2 x3 x4 x5 x6 x7, v46_at x0 x1 x2 x3 x4 x5 x6 x7, val_main_v43_apply,
    val_main_v42_apply, val_main_cst_8_apply, eta2 i]
  unfold Args.o
  have e (a b d e : EReal) : (a + b) + (d + e) = ((a + d) + e) + b := by
    rw [add_assoc a b, add_left_comm b, add_assoc a d, add_assoc a, ← add_assoc, add_assoc, add_comm b]
    simp only [add_assoc, add_comm, add_left_comm]
  exact e _ _ _ _

/-- The row that reaches the normalised row. -/
abbrev row (r : Fin 4096) : Fin 1024 → EReal := fun k => (J x0 x1 x2 x3 x4 x5 x6 x7).o r k * (J x0 x1 x2 x3 x4 x5 x6 x7).g k

theorem v55_at (i : S4096x1024.Idx) : val_main_v55 (F := Ideal) x0 x1 x2 x3 x4 x5 x7 i
    = row x0 x1 x2 x3 x4 x5 x6 x7 ⟨(i 0).val, (i 0).isLt⟩ ⟨(i 1).val, (i 1).isLt⟩ := by
  rw [val_main_v55_apply, v47_at x0 x1 x2 x3 x4 x5 x6 x7, val_main_v54_apply, val_main_v26_apply]
  exact congrArg₂ (· * ·) rfl (congrArg x7 (eta1 _))

/-! ## The gradients of the scales and of the shifts -/

theorem v50_at (i : S1024.Idx) : val_main_v50 (F := Ideal) x0 x1 x2 x3 x4 x5 i = (J x0 x1 x2 x3 x4 x5 x6 x7).db ⟨(i 0).val, (i 0).isLt⟩ := by
  rw [val_main_v50_apply, val_main_cst_10_apply, zero_plus, Fin.sum_univ_one, val_main_v49_apply, val_main_v48_apply,
    val_main_cst_9_apply, zero_plus]
  refine Finset.sum_congr rfl fun k _ => ?_
  rw [v47_at x0 x1 x2 x3 x4 x5 x6 x7]
  exact congrArg ((J x0 x1 x2 x3 x4 x5 x6 x7).o _) (Fin.ext (by show 0 * 1024 + (i 0).val = (i 0).val; omega))

theorem v83_at (i : S1x1024.Idx) : val_main_v83 (F := Ideal) x0 x1 x2 x3 x4 x5 i = (J x0 x1 x2 x3 x4 x5 x6 x7).db ⟨(i 1).val, (i 1).isLt⟩ := by
  rw [val_main_v83_apply, v50_at x0 x1 x2 x3 x4 x5 x6 x7]
  have h0 : (i 0).val < 1 := (i 0).isLt
  exact congrArg (J x0 x1 x2 x3 x4 x5 x6 x7).db (Fin.ext (by show (i 0).val * 1024 + (i 1).val = (i 1).val; omega))

theorem v56_at (i : S1024.Idx) : val_main_v56 (F := Ideal) x0 x1 x2 x3 x4 x5 x6 i = (J x0 x1 x2 x3 x4 x5 x6 x7).dg ⟨(i 0).val, (i 0).isLt⟩ := by
  rw [val_main_v56_apply, val_main_cst_12_apply, zero_plus, Fin.sum_univ_one, val_main_v53_apply, val_main_v52_apply,
    val_main_cst_11_apply, zero_plus]
  refine Finset.sum_congr rfl fun k _ => ?_
  rw [val_main_v51_apply, v47_at x0 x1 x2 x3 x4 x5 x6 x7, v25_at x0 x1 x2 x3 x4 x5 x6 x7]
  have e : (⟨0 * 1024 + (i 0).val, by have h : (i 0).val < 1024 := (i 0).isLt; show 0 * 1024 + (i 0).val < 1024; omega⟩ : Fin 1024) = ⟨(i 0).val, (i 0).isLt⟩ :=
    Fin.ext (by show 0 * 1024 + (i 0).val = (i 0).val; omega)
  refine (mul_comm _ _).trans ?_
  exact congrArg (fun j => (J x0 x1 x2 x3 x4 x5 x6 x7).o k j * xh ((J x0 x1 x2 x3 x4 x5 x6 x7).z k) j) e

theorem v82_at (i : S1x1024.Idx) : val_main_v82 (F := Ideal) x0 x1 x2 x3 x4 x5 x6 i = (J x0 x1 x2 x3 x4 x5 x6 x7).dg ⟨(i 1).val, (i 1).isLt⟩ := by
  rw [val_main_v82_apply, v56_at x0 x1 x2 x3 x4 x5 x6 x7]
  have h0 : (i 0).val < 1 := (i 0).isLt
  exact congrArg (J x0 x1 x2 x3 x4 x5 x6 x7).dg (Fin.ext (by show (i 0).val * 1024 + (i 1).val = (i 1).val; omega))

/-! ## The gradient of the norm's input -/

theorem v58_at (i : S4096.Idx) : val_main_v58 (F := Ideal) x0 x1 x2 x3 x4 x5 x6 x7 i
    = ∑ k, zc ((J x0 x1 x2 x3 x4 x5 x6 x7).z ⟨(i 0).val, (i 0).isLt⟩) k * row x0 x1 x2 x3 x4 x5 x6 x7 ⟨(i 0).val, (i 0).isLt⟩ k := by
  rw [val_main_v58_apply, val_main_cst_13_apply]
  refine (zero_plus _).trans (Finset.sum_congr rfl fun k _ => ?_)
  rw [val_main_v57_apply, v17_at x0 x1 x2 x3 x4 x5 x6 x7, v55_at x0 x1 x2 x3 x4 x5 x6 x7]
  rfl

theorem col_lt (i : S4096x1.Idx) : (i 0).val * 1 + (i 1).val = (i 0).val := by
  have h1 : (i 1).val < 1 := (i 1).isLt
  omega

theorem v61_at (i : S4096x1024.Idx) : val_main_v61 (F := Ideal) x0 x1 x2 x3 x4 x5 x6 x7 i
    = row x0 x1 x2 x3 x4 x5 x6 x7 ⟨(i 0).val, (i 0).isLt⟩ ⟨(i 1).val, (i 1).isLt⟩ * rs ((J x0 x1 x2 x3 x4 x5 x6 x7).z ⟨(i 0).val, (i 0).isLt⟩) := by
  rw [val_main_v61_apply, v55_at x0 x1 x2 x3 x4 x5 x6 x7, val_main_v60_apply, v20_at x0 x1 x2 x3 x4 x5 x6 x7]
  rfl

theorem v67_at (i : S4096x1.Idx) : val_main_v67 (F := Ideal) x0 x1 x2 x3 x4 x5 x6 x7 i
    = Ideal.div ((∑ k, zc ((J x0 x1 x2 x3 x4 x5 x6 x7).z ⟨(i 0).val, (i 0).isLt⟩) k * row x0 x1 x2 x3 x4 x5 x6 x7 ⟨(i 0).val, (i 0).isLt⟩ k)
      * (Ideal.ofBits .f32 0xBF000000#32 * Ideal.div (rs ((J x0 x1 x2 x3 x4 x5 x6 x7).z ⟨(i 0).val, (i 0).isLt⟩)) (var ((J x0 x1 x2 x3 x4 x5 x6 x7).z ⟨(i 0).val, (i 0).isLt⟩)))) N := by
  rw [val_main_v67_apply, val_main_v66_apply, val_main_cst_15_apply, val_main_v62_apply, val_main_v59_apply,
    v58_at x0 x1 x2 x3 x4 x5 x6 x7, v23_at x0 x1 x2 x3 x4 x5 x6 x7]
  have e : (⟨(i 0).val * 1 + (i 1).val, by have := (i 0).isLt; rw [col_lt i]; exact this⟩ : Fin 4096) = ⟨(i 0).val, (i 0).isLt⟩ :=
    Fin.ext (col_lt i)
  exact congrArg (fun r : Fin 4096 => Ideal.div ((∑ k, zc ((J x0 x1 x2 x3 x4 x5 x6 x7).z r) k * row x0 x1 x2 x3 x4 x5 x6 x7 r k)
      * (Ideal.ofBits .f32 0xBF000000#32 * Ideal.div (rs ((J x0 x1 x2 x3 x4 x5 x6 x7).z ⟨(i 0).val, (i 0).isLt⟩)) (var ((J x0 x1 x2 x3 x4 x5 x6 x7).z ⟨(i 0).val, (i 0).isLt⟩)))) N) e

theorem v70_at (i : S4096x1024.Idx) : val_main_v70 (F := Ideal) x0 x1 x2 x3 x4 x5 x6 x7 i
    = viaVar (row x0 x1 x2 x3 x4 x5 x6 x7 ⟨(i 0).val, (i 0).isLt⟩) ((J x0 x1 x2 x3 x4 x5 x6 x7).z ⟨(i 0).val, (i 0).isLt⟩) ⟨(i 1).val, (i 1).isLt⟩ := by
  rw [val_main_v70_apply, val_main_v69_apply, val_main_v68_apply, val_main_cst_16_apply, zero_plus, Fin.sum_univ_one,
    v67_at x0 x1 x2 x3 x4 x5 x6 x7, v11_at x0 x1 x2 x3 x4 x5 x6 x7]
  rfl

theorem v64_at (i : S4096.Idx) : val_main_v64 (F := Ideal) x0 x1 x2 x3 x4 x5 x6 x7 i
    = ∑ k, -(row x0 x1 x2 x3 x4 x5 x6 x7 ⟨(i 0).val, (i 0).isLt⟩ k * rs ((J x0 x1 x2 x3 x4 x5 x6 x7).z ⟨(i 0).val, (i 0).isLt⟩)) := by
  rw [val_main_v64_apply, val_main_cst_14_apply]
  refine (zero_plus _).trans (Finset.sum_congr rfl fun k _ => ?_)
  rw [val_main_v63_apply, v61_at x0 x1 x2 x3 x4 x5 x6 x7]
  rfl

theorem v72_at (i : S4096.Idx) : val_main_v72 (F := Ideal) x0 x1 x2 x3 x4 x5 x6 x7 i
    = ∑ k, -viaVar (row x0 x1 x2 x3 x4 x5 x6 x7 ⟨(i 0).val, (i 0).isLt⟩) ((J x0 x1 x2 x3 x4 x5 x6 x7).z ⟨(i 0).val, (i 0).isLt⟩) k := by
  rw [val_main_v72_apply, val_main_cst_17_apply]
  refine (zero_plus _).trans (Finset.sum_congr rfl fun k _ => ?_)
  rw [val_main_v71_apply, v70_at x0 x1 x2 x3 x4 x5 x6 x7]
  rfl

theorem v79_at (i : S4096x1024.Idx) : val_main_v79 (F := Ideal) x0 x1 x2 x3 x4 x5 x6 x7 i
    = Ideal.div ((∑ k, -(row x0 x1 x2 x3 x4 x5 x6 x7 ⟨(i 0).val, (i 0).isLt⟩ k * rs ((J x0 x1 x2 x3 x4 x5 x6 x7).z ⟨(i 0).val, (i 0).isLt⟩)))
      + ∑ k, -viaVar (row x0 x1 x2 x3 x4 x5 x6 x7 ⟨(i 0).val, (i 0).isLt⟩) ((J x0 x1 x2 x3 x4 x5 x6 x7).z ⟨(i 0).val, (i 0).isLt⟩) k) N := by
  rw [val_main_v79_apply, val_main_v78_apply, val_main_cst_19_apply, zero_plus, Fin.sum_univ_one, val_main_v77_apply,
    val_main_v76_apply, val_main_cst_18_apply, val_main_v75_apply, val_main_v65_apply, val_main_v73_apply,
    v64_at x0 x1 x2 x3 x4 x5 x6 x7, v72_at x0 x1 x2 x3 x4 x5 x6 x7]
  have e : (⟨(i 0).val * 1 + 0, by have h : (i 0).val < 4096 := (i 0).isLt; show (i 0).val * 1 + 0 < 4096; omega⟩ : Fin 4096) = ⟨(i 0).val, (i 0).isLt⟩ :=
    Fin.ext (by show (i 0).val * 1 + 0 = (i 0).val; omega)
  exact congrArg (fun r : Fin 4096 => Ideal.div ((∑ k, -(row x0 x1 x2 x3 x4 x5 x6 x7 r k * rs ((J x0 x1 x2 x3 x4 x5 x6 x7).z r)))
      + ∑ k, -viaVar (row x0 x1 x2 x3 x4 x5 x6 x7 r) ((J x0 x1 x2 x3 x4 x5 x6 x7).z r) k) N) e

theorem v80_at (i : S4096x1024.Idx) : val_main_v80 (F := Ideal) x0 x1 x2 x3 x4 x5 x6 x7 i
    = dzChain (row x0 x1 x2 x3 x4 x5 x6 x7 ⟨(i 0).val, (i 0).isLt⟩) ((J x0 x1 x2 x3 x4 x5 x6 x7).z ⟨(i 0).val, (i 0).isLt⟩) ⟨(i 1).val, (i 1).isLt⟩ := by
  rw [val_main_v80_apply, val_main_v74_apply, v61_at x0 x1 x2 x3 x4 x5 x6 x7, v70_at x0 x1 x2 x3 x4 x5 x6 x7,
    v79_at x0 x1 x2 x3 x4 x5 x6 x7]
  rfl

/-! ## Finite arguments -/

variable (h0 : ∀ i, ∃ a : ℝ, x0 i = a) (h1 : ∀ i, ∃ a : ℝ, x1 i = a) (h2 : ∀ i, ∃ a : ℝ, x2 i = a) (h3 : ∀ i, ∃ a : ℝ, x3 i = a)
  (h4 : ∀ i, ∃ a : ℝ, x4 i = a) (h5 : ∀ i, ∃ a : ℝ, x5 i = a) (h7 : ∀ i, ∃ a : ℝ, x7 i = a)

theorem mul_real {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

theorem add_real {x y : EReal} (hx : ∃ a : ℝ, x = a) (hy : ∃ a : ℝ, y = a) : ∃ a : ℝ, x + y = a := by
  obtain ⟨a, rfl⟩ := hx
  obtain ⟨b, rfl⟩ := hy
  exact ⟨a + b, (EReal.coe_add a b).symm⟩

theorem sum_real {n : ℕ} {f : Fin n → EReal} (h : ∀ k, ∃ a : ℝ, f k = a) : ∃ a : ℝ, ∑ k, f k = a := by
  choose a ha using h
  exact ⟨∑ k, a k, (Finset.sum_congr rfl fun k _ => ha k).trans (sum_coe _ a)⟩

theorem alpha_real : ∃ a : ℝ, alpha = a := by
  unfold alpha
  simp [Ideal.ofBits, Ideal.ieee]
  exact ⟨_, (EReal.coe_mul _ _).symm⟩

include h0 h1 h2 h3 h4 h5 h7 in
theorem row_real (r : Fin 4096) (k : Fin 1024) : ∃ a : ℝ, row x0 x1 x2 x3 x4 x5 x6 x7 r k = a := by
  refine mul_real ?_ (h7 _)
  unfold Args.o
  exact add_real (add_real (add_real (sum_real fun k => mul_real (h0 _) (h4 _)) (sum_real fun k => mul_real (h1 _) (h5 _)))
    (sum_real fun k => mul_real (h2 _) (h5 _))) (mul_real alpha_real (h3 _))

include h0 h1 h2 h3 h4 h5 h7 in
theorem dz_at (i : S4096x1024.Idx) : val_main_v80 (F := Ideal) x0 x1 x2 x3 x4 x5 x6 x7 i
    = (J x0 x1 x2 x3 x4 x5 x6 x7).dz ⟨(i 0).val, (i 0).isLt⟩ ⟨(i 1).val, (i 1).isLt⟩ := by
  rw [v80_at]
  choose a ha using row_real x0 x1 x2 x3 x4 x5 x6 x7 h0 h1 h2 h3 h4 h5 h7 ⟨(i 0).val, (i 0).isLt⟩
  exact (dz_eq_chain _ _ a ha _).symm

end Cert.Reference2Ideal.Dr1

end
-- ==== Proof.Dr1Claims.lean ====
/-
  The claims about the gradients pulled back through a layer norm: the frames, and the kernel's four results equal to the reference's
  where the precondition's arguments are finite.
-/
module

public import proofs.«01_k».proof.Defs
public import proofs.«01_k».proof.Proof.Gen.Kernel2Ideal.Value
public import proofs.«01_k».proof.Proof.Gen.Reference2Ideal.Run
public import proofs.«01_k».proof.Proof.Dr1Results
public import proofs.«01_k».proof.Proof.Dr1Ref
public import Idealize.ShloMosaic.Lib.Quiescent
public import Idealize.ShloMosaic.Lib.Tactic

@[expose] public section

noncomputable section

namespace Cert.Dr1

open Idealize.ShloMosaic Idealize.ShloMosaic.StableHlo Idealize.SL.Sem

/-- The kernel's side conditions are its idealization's: one text, two names. -/
theorem facts_Kernel2 : Cert.Kernel2.Facts := by
  have h := Cert.Kernel2Ideal.Gen.facts₀
  cases h
  refine { toFacts₀ := ?_ }
  constructor <;> assumption

theorem facts_pre : Cert.Pre_finite_gradients.Facts := by
  constructor <;> decide

/-- Where a magnitude is below infinity at every index, every entry is real. -/
theorem real_of_mask {s : Shape} {φ : FTy} (x : FVec Ideal s φ) (k : s.Idx → EReal) (hk : ∀ i, k i = ⊤)
    (h : (fun i => Ideal.cmp .olt (max (x i : EReal) (-x i)) (k i)) = fun _ => 1#1) (i : s.Idx) : ∃ a : ℝ, (x i : EReal) = a := by
  have hi := congrFun h i
  simp only [hk, Ideal.cmp] at hi
  have hlt : max (x i : EReal) (-x i) < ⊤ := by
    by_contra hn
    simp [hn] at hi
  have ht : (x i : EReal) ≠ ⊤ := fun e => by simp [e] at hlt
  have hb : (x i : EReal) ≠ ⊥ := fun e => by simp [e] at hlt
  exact ⟨(x i : EReal).toReal, (EReal.coe_toReal ht hb).symm⟩

theorem inf_eq : Ideal.ofBits .f32 0x7F800000#32 = ⊤ := by simp [Ideal.ofBits, Ideal.ieee]

/-! ## The frames -/

theorem frame_Kernel2 : Cert.quiescent_Kernel2 (hKernel2 := facts_Kernel2) := fun m g _ => by
  refine cast ?_ (Cert.Kernel2Ideal.Gen.frame (F := Bits) m g)
  sl_kernel_rfl

theorem frame_Kernel2Ideal : Cert.quiescent_Kernel2Ideal := fun m g _ => Cert.Kernel2Ideal.Gen.frame (F := Ideal) m g

theorem frame_Kernel2Ideal_pre : Cert.quiescent_Kernel2Ideal_pre_finite_gradients (hPre_finite_gradients := facts_pre) :=
  fun m g _ => Cert.Kernel2Ideal.Gen.frame (F := Ideal) m g

theorem frame_Reference2Ideal : Cert.quiescent_Reference2Ideal := fun m g _ =>
  (θ_run _ _ _).mono (fun r h => ⟨fun c => (h c).2.2.2.2, Idealize.ShloMosaic.sem_eq_zero_of_no_sems (by decide) r.2⟩)
    (Cert.Reference2Ideal.Value.run m g)

theorem frame_Reference2Ideal_pre : Cert.quiescent_Reference2Ideal_pre_finite_gradients (hPre_finite_gradients := facts_pre) :=
  fun m g _ => frame_Reference2Ideal m g trivial

/-! ## The results -/

theorem algebraic : Cert.algebraic_Kernel2Ideal_Reference2Ideal_pre_finite_gradients (hPre_finite_gradients := facts_pre) := by
  intro m g m' g' hpre hagree
  refine ⟨fun c => Cert.Kernel2Ideal.Dr1.dzG m c, fun c => Cert.Kernel2Ideal.Dr1.dzG m c, fun c => Cert.Kernel2Ideal.Dr1.dgG m c,
    fun c => Cert.Kernel2Ideal.Dr1.dbG m c, ?_, ?_⟩
  · refine (θ_run _ _ _).mono (fun r h c => ?_) (Cert.Kernel2Ideal.Value.run_blocks m g)
    obtain ⟨h0, h1, h2, h3, k⟩ := h c
    exact ⟨h0.trans (Cert.Kernel2Ideal.Dr1.dz_array m c), h1.trans (Cert.Kernel2Ideal.Dr1.dzb_array m c),
      h2.trans (Cert.Kernel2Ideal.Dr1.dg_array m c), h3.trans (Cert.Kernel2Ideal.Dr1.db_array m c), k⟩
  · refine (θ_run _ _ _).mono (fun r h c => ?_) (Cert.Reference2Ideal.Value.run m' g')
    obtain ⟨h0, h1, h2, h3, k⟩ := h c
    obtain ⟨p0, p1, p2, p3, p4, p5, p7⟩ := hpre c
    obtain ⟨a0, a1, a2, a3, a4, a5, a6, a7⟩ := hagree c
    rw [Cert.Reference2Ideal.Read.val_main_v80_eq, a0, a1, a2, a3, a4, a5, a6, a7] at h0
    rw [Cert.Reference2Ideal.Read.val_main_v81_eq, a0, a1, a2, a3, a4, a5, a6, a7] at h1
    have e0 : ∀ i, _ = _ := Cert.Reference2Ideal.Dr1.dz_at _ _ _ _ _ _ (m ((c.tc : Thread Cert.Kernel2Ideal.nD Cert.Kernel2Ideal.τ).loc Cert.Kernel2Ideal.main_arg6)) _
      (real_of_mask _ _ (fun _ => inf_eq) p0) (real_of_mask _ _ (fun _ => inf_eq) p1) (real_of_mask _ _ (fun _ => inf_eq) p2)
      (real_of_mask _ _ (fun _ => inf_eq) p3) (real_of_mask _ _ (fun _ => inf_eq) p4) (real_of_mask _ _ (fun _ => inf_eq) p5)
      (real_of_mask _ _ (fun _ => inf_eq) p7)
    refine ⟨h0.trans (funext fun i => (e0 i).trans rfl), h1.trans (funext fun i => ?_), ?_, ?_, k⟩
    · exact (Cert.Reference2Ideal.Read.val_main_v81_apply _ _ _ _ _ _ _ _ i).trans ((e0 i).trans rfl)
    · refine (h2.trans (Cert.Reference2Ideal.Read.val_main_v82_eq _ _ _ _ _ _ _)).trans (funext fun i => ?_)
      rw [a0, a1, a2, a3, a4, a5, a6]
      exact (Cert.Reference2Ideal.Dr1.v82_at _ _ _ _ _ _ _ (m ((c.tc : Thread Cert.Kernel2Ideal.nD Cert.Kernel2Ideal.τ).loc Cert.Kernel2Ideal.main_arg7)) i).trans rfl
    · refine (h3.trans (Cert.Reference2Ideal.Read.val_main_v83_eq _ _ _ _ _ _)).trans (funext fun i => ?_)
      rw [a0, a1, a2, a3, a4, a5]
      exact (Cert.Reference2Ideal.Dr1.v83_at _ _ _ _ _ _ (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) i).trans rfl

end Cert.Dr1

end
-- ==== Proof.lean ====
/-
  The claims about the backward pass of the banded attention: the frames, the idealization, and the gradients of the
  queries, the keys and the values equal to the reference's. Then the same of the call that pulls three projections' gradients back
  through the layer norm before them.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.RefValue
public import proofs.«01_k».proof.Proof.Wgrad3
public import proofs.«01_k».proof.Proof.Wgrad4
public import proofs.«01_k».proof.Proof.Rows5
public import proofs.«01_k».proof.Proof.Wgrad6
public import proofs.«01_k».proof.Proof.Rows8
public import proofs.«01_k».proof.Proof.Rows9
public import proofs.«01_k».proof.Proof.Rows10
public import proofs.«01_k».proof.Proof.Rows11
public import proofs.«01_k».proof.Proof.Rows12
public import proofs.«01_k».proof.Proof.Wgrad13
public import proofs.«01_k».proof.Proof.Wgrad14
public import proofs.«01_k».proof.Proof.Wgrad15
public import proofs.«01_k».proof.Proof.Rows16
public import proofs.«01_k».proof.Proof.Rows17
public import proofs.«01_k».proof.Proof.ProjLn19
public import proofs.«01_k».proof.Proof.ProjLn20
public import proofs.«01_k».proof.Proof.Wgrad21
public import proofs.«01_k».proof.Proof.Results
public import proofs.«01_k».proof.Proof.Dr1Claims
public import Idealize.ShloMosaic.Adequacy
public import Idealize.ShloMosaic.Init
public import Idealize.ShloMosaic.Lib.Quiescent

@[expose] public section

noncomputable section

namespace Cert.Proof

open Idealize.ShloMosaic Idealize.ShloMosaic.StableHlo Idealize.SL.Sem

theorem frame_Kernel : Cert.quiescent_Kernel := fun m g _ => Cert.Kernel.Gen.frame m g

theorem frame_KernelIdeal : Cert.quiescent_KernelIdeal := fun m g _ => Cert.KernelIdeal.Gen.frame m g

theorem frame_ReferenceIdeal : Cert.quiescent_ReferenceIdeal := fun m g _ =>
  (θ_run _ _ _).mono (fun r h => ⟨fun c => (h c).2.2.2, Idealize.ShloMosaic.sem_eq_zero_of_no_sems (by decide) r.2⟩)
    (Cert.ReferenceIdeal.Value.run m g)

theorem preserves : Cert.preserves_Kernel_KernelIdeal := IdealRules.named_const.statement Cert.KernelIdeal.κ "mask" .f32 0xF149F2CA#32 ⊥ rfl

theorem algebraic : Cert.algebraic_KernelIdeal_ReferenceIdeal := by
  intro m g m' g' _ hagree
  refine ⟨Cert.KernelIdeal.Value.G5 m, Cert.KernelIdeal.Value.G6 m, Cert.KernelIdeal.Value.G7 m, ?_, ?_⟩
  · exact (θ_run _ _ _).mono (fun r h c => ⟨(h c).1, (h c).2.1, (h c).2.2.1, (h c).2.2.2.2.1, (h c).2.2.2.2.2.1, (h c).2.2.2.2.2.2⟩)
      (Cert.KernelIdeal.Value.run m g)
  · refine (θ_run _ _ _).mono (fun r h c => ?_) (Cert.ReferenceIdeal.Value.run m' g')
    obtain ⟨h0, h1, h2, k0, k1, k2⟩ := h c
    obtain ⟨a0, a1, a2⟩ := hagree c
    have eJ : Cert.Attn.inp (launchContents m' c (Proc.devRef .tc Cert.ReferenceIdeal.main_arg0))
        (launchContents m' c (Proc.devRef .tc Cert.ReferenceIdeal.main_arg1))
        (launchContents m' c (Proc.devRef .tc Cert.ReferenceIdeal.main_arg2)) = Cert.KernelIdeal.Attn.J m c := by
      unfold Cert.KernelIdeal.Attn.J
      exact congr (congr (congrArg Cert.Attn.inp a0) a1) a2
    refine ⟨?_, ?_, ?_, k0, k1, k2⟩
    · refine (h0.trans (Cert.ReferenceIdeal.Read.val_main_v94_eq _)).trans (funext fun i => ?_)
      rw [Cert.ReferenceIdeal.Attn.dq_at, Cert.KernelIdeal.Attn.G5_at]
      exact congrArg (fun I : Cert.Attn.Inp => I.dq (i 0).val (i 1).val) eJ
    · refine (h1.trans (Cert.ReferenceIdeal.Read.val_main_v95_eq _)).trans (funext fun i => ?_)
      rw [Cert.ReferenceIdeal.Attn.dk_at, Cert.KernelIdeal.Attn.G6_at]
      exact congrArg (fun I : Cert.Attn.Inp => I.dk ⟨(i 0).val, (i 0).isLt⟩ (i 1).val) eJ
    · refine (h2.trans (Cert.ReferenceIdeal.Read.val_main_v96_eq _)).trans (funext fun i => ?_)
      rw [Cert.ReferenceIdeal.Attn.dv_at, Cert.KernelIdeal.Attn.G7_at]
      exact congrArg (fun I : Cert.Attn.Inp => I.dv ⟨(i 0).val, (i 0).isLt⟩ (i 1).val) eJ

theorem claim : Cert.Claim := ⟨Cert.Kernel.Gen.facts, Cert.KernelIdeal.Gen.facts, Cert.ReferenceIdeal.Gen.facts,
  Cert.Dr1.facts_Kernel2, Cert.Kernel2Ideal.Gen.facts, Cert.Reference2Ideal.Gen.facts,
  Cert.Wgrad3.facts_Kernel3, Cert.Kernel3Ideal.Gen.facts, Cert.Reference3Ideal.Gen.facts,
  Cert.Wgrad4.facts_Kernel4, Cert.Kernel4Ideal.Gen.facts, Cert.Reference4Ideal.Gen.facts,
  Cert.Rows5.facts_Kernel5, Cert.Kernel5Ideal.Gen.facts, Cert.Reference5Ideal.Gen.facts,
  Cert.Wgrad6.facts_Kernel6, Cert.Kernel6Ideal.Gen.facts, Cert.Reference6Ideal.Gen.facts,
  Cert.Rows8.facts_Kernel8, Cert.Kernel8Ideal.Gen.facts, Cert.Reference8Ideal.Gen.facts,
  Cert.Rows9.facts_Kernel9, Cert.Kernel9Ideal.Gen.facts, Cert.Reference9Ideal.Gen.facts,
  Cert.Rows10.facts_Kernel10, Cert.Kernel10Ideal.Gen.facts, Cert.Reference10Ideal.Gen.facts,
  Cert.Rows11.facts_Kernel11, Cert.Kernel11Ideal.Gen.facts, Cert.Reference11Ideal.Gen.facts,
  Cert.Rows12.facts_Kernel12, Cert.Kernel12Ideal.Gen.facts, Cert.Reference12Ideal.Gen.facts,
  Cert.Wgrad13.facts_Kernel13, Cert.Kernel13Ideal.Gen.facts, Cert.Reference13Ideal.Gen.facts,
  Cert.Wgrad14.facts_Kernel14, Cert.Kernel14Ideal.Gen.facts, Cert.Reference14Ideal.Gen.facts,
  Cert.Wgrad15.facts_Kernel15, Cert.Kernel15Ideal.Gen.facts, Cert.Reference15Ideal.Gen.facts,
  Cert.Rows16.facts_Kernel16, Cert.Kernel16Ideal.Gen.facts, Cert.Reference16Ideal.Gen.facts,
  Cert.Rows17.facts_Kernel17, Cert.Kernel17Ideal.Gen.facts, Cert.Reference17Ideal.Gen.facts,
  Cert.ProjLn19.facts_Kernel19, Cert.Kernel19Ideal.Gen.facts, Cert.Reference19Ideal.Gen.facts,
  Cert.ProjLn20.facts_Kernel20, Cert.Kernel20Ideal.Gen.facts, Cert.Reference20Ideal.Gen.facts,
  Cert.Wgrad21.facts_Kernel21, Cert.Kernel21Ideal.Gen.facts, Cert.Reference21Ideal.Gen.facts,
  Cert.Dr1.facts_pre,
  frame_Kernel, frame_KernelIdeal, frame_ReferenceIdeal,
  Cert.Dr1.frame_Kernel2, Cert.Dr1.frame_Kernel2Ideal, Cert.Dr1.frame_Kernel2Ideal_pre,
  Cert.Dr1.frame_Reference2Ideal, Cert.Dr1.frame_Reference2Ideal_pre,
  Cert.Wgrad3.frame_Kernel3, Cert.Wgrad3.frame_Kernel3Ideal, Cert.Wgrad3.frame_Reference3Ideal,
  Cert.Wgrad4.frame_Kernel4, Cert.Wgrad4.frame_Kernel4Ideal, Cert.Wgrad4.frame_Reference4Ideal,
  Cert.Rows5.frame_Kernel5, Cert.Rows5.frame_Kernel5Ideal, Cert.Rows5.frame_Reference5Ideal,
  Cert.Wgrad6.frame_Kernel6, Cert.Wgrad6.frame_Kernel6Ideal, Cert.Wgrad6.frame_Reference6Ideal,
  Cert.Rows8.frame_Kernel8, Cert.Rows8.frame_Kernel8Ideal, Cert.Rows8.frame_Reference8Ideal,
  Cert.Rows9.frame_Kernel9, Cert.Rows9.frame_Kernel9Ideal, Cert.Rows9.frame_Reference9Ideal,
  Cert.Rows10.frame_Kernel10, Cert.Rows10.frame_Kernel10Ideal, Cert.Rows10.frame_Reference10Ideal,
  Cert.Rows11.frame_Kernel11, Cert.Rows11.frame_Kernel11Ideal, Cert.Rows11.frame_Reference11Ideal,
  Cert.Rows12.frame_Kernel12, Cert.Rows12.frame_Kernel12Ideal, Cert.Rows12.frame_Reference12Ideal,
  Cert.Wgrad13.frame_Kernel13, Cert.Wgrad13.frame_Kernel13Ideal, Cert.Wgrad13.frame_Reference13Ideal,
  Cert.Wgrad14.frame_Kernel14, Cert.Wgrad14.frame_Kernel14Ideal, Cert.Wgrad14.frame_Reference14Ideal,
  Cert.Wgrad15.frame_Kernel15, Cert.Wgrad15.frame_Kernel15Ideal, Cert.Wgrad15.frame_Reference15Ideal,
  Cert.Rows16.frame_Kernel16, Cert.Rows16.frame_Kernel16Ideal, Cert.Rows16.frame_Reference16Ideal,
  Cert.Rows17.frame_Kernel17, Cert.Rows17.frame_Kernel17Ideal, Cert.Rows17.frame_Reference17Ideal,
  Cert.ProjLn19.frame_Kernel19, Cert.ProjLn19.frame_Kernel19Ideal, Cert.ProjLn19.frame_Reference19Ideal,
  Cert.ProjLn20.frame_Kernel20, Cert.ProjLn20.frame_Kernel20Ideal, Cert.ProjLn20.frame_Reference20Ideal,
  Cert.Wgrad21.frame_Kernel21, Cert.Wgrad21.frame_Kernel21Ideal, Cert.Wgrad21.frame_Reference21Ideal,
  preserves, algebraic, trivial, Cert.Dr1.algebraic,
  trivial, Cert.Wgrad3.algebraic,
  trivial, Cert.Wgrad4.algebraic,
  trivial, Cert.Rows5.algebraic,
  trivial, Cert.Wgrad6.algebraic,
  trivial, Cert.Rows8.algebraic,
  trivial, Cert.Rows9.algebraic,
  trivial, Cert.Rows10.algebraic,
  trivial, Cert.Rows11.algebraic,
  trivial, Cert.Rows12.algebraic,
  trivial, Cert.Wgrad13.algebraic,
  trivial, Cert.Wgrad14.algebraic,
  trivial, Cert.Wgrad15.algebraic,
  trivial, Cert.Rows16.algebraic,
  trivial, Cert.Rows17.algebraic,
  trivial, Cert.ProjLn19.algebraic,
  trivial, Cert.ProjLn20.algebraic,
  trivial, Cert.Wgrad21.algebraic⟩

end Cert.Proof

end
